-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Vote [hPre_vote_pre : Cert.Pre_vote_pre.Facts] (m : (ℓ : Loc Cert.Vote.nD Cert.Vote.τ Cert.Vote.sig) → Buf (Elt Bits) ℓ) : Prop :=
  ∀ c : Dev Cert.Vote.nD,
    (Cert.Pre_vote_pre.fn (F := Bits) (m ((c.tc : Thread Cert.Vote.nD Cert.Vote.τ).loc Cert.Vote.main_arg0)) (m ((c.tc : Thread Cert.Vote.nD Cert.Vote.τ).loc Cert.Vote.main_arg1)) (m ((c.tc : Thread Cert.Vote.nD Cert.Vote.τ).loc Cert.Vote.main_arg2)) (m ((c.tc : Thread Cert.Vote.nD Cert.Vote.τ).loc Cert.Vote.main_arg3))) = (fun _ => 1#1)

def Pre_VoteReference [hPre_vote_pre : Cert.Pre_vote_pre.Facts] (m : (ℓ : Loc Cert.VoteReference.nD Cert.VoteReference.τ Cert.VoteReference.sig) → Buf (Elt Bits) ℓ) : Prop :=
  ∀ c : Dev Cert.VoteReference.nD,
    (Cert.Pre_vote_pre.fn (F := Bits) (m ((c.tc : Thread Cert.VoteReference.nD Cert.VoteReference.τ).loc Cert.VoteReference.main_arg0)) (m ((c.tc : Thread Cert.VoteReference.nD Cert.VoteReference.τ).loc Cert.VoteReference.main_arg1)) (m ((c.tc : Thread Cert.VoteReference.nD Cert.VoteReference.τ).loc Cert.VoteReference.main_arg2)) (m ((c.tc : Thread Cert.VoteReference.nD Cert.VoteReference.τ).loc Cert.VoteReference.main_arg3))) = (fun _ => 1#1)

def Pre_Dist (m : (ℓ : Loc Cert.Dist.nD Cert.Dist.τ Cert.Dist.sig) → Buf (Elt Bits) ℓ) : Prop :=
  True

def Pre_DistIdeal (m : (ℓ : Loc Cert.DistIdeal.nD Cert.DistIdeal.τ Cert.DistIdeal.sig) → Buf (Elt Ideal) ℓ) : Prop :=
  True

def Pre_DistReferenceIdeal (m : (ℓ : Loc Cert.DistReferenceIdeal.nD Cert.DistReferenceIdeal.τ Cert.DistReferenceIdeal.sig) → Buf (Elt Ideal) ℓ) : Prop :=
  True

def Pre_Select [hPre_select_pre : Cert.Pre_select_pre.Facts] (m : (ℓ : Loc Cert.Select.nD Cert.Select.τ Cert.Select.sig) → Buf (Elt Bits) ℓ) : Prop :=
  ∀ c : Dev Cert.Select.nD,
    (Cert.Pre_select_pre.fn (F := Bits) (m ((c.tc : Thread Cert.Select.nD Cert.Select.τ).loc Cert.Select.main_arg0))) = (fun _ => 1#1)

def Pre_SelectIdeal [hPre_select_pre : Cert.Pre_select_pre.Facts] (m : (ℓ : Loc Cert.SelectIdeal.nD Cert.SelectIdeal.τ Cert.SelectIdeal.sig) → Buf (Elt Ideal) ℓ) : Prop :=
  ∀ c : Dev Cert.SelectIdeal.nD,
    (Cert.Pre_select_pre.fn (F := Ideal) (m ((c.tc : Thread Cert.SelectIdeal.nD Cert.SelectIdeal.τ).loc Cert.SelectIdeal.main_arg0))) = (fun _ => 1#1)

def Pre_SelectReferenceIdeal [hPre_select_pre : Cert.Pre_select_pre.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_select_pre.fn (F := Ideal) (m ((c.tc : Thread Cert.SelectReferenceIdeal.nD Cert.SelectReferenceIdeal.τ).loc Cert.SelectReferenceIdeal.main_arg0))) = (fun _ => 1#1)

def Pre_Thresh (m : (ℓ : Loc Cert.Thresh.nD Cert.Thresh.τ Cert.Thresh.sig) → Buf (Elt Bits) ℓ) : Prop :=
  True

def Pre_Thresh_thresh_pre [hPre_thresh_pre : Cert.Pre_thresh_pre.Facts] (m : (ℓ : Loc Cert.Thresh.nD Cert.Thresh.τ Cert.Thresh.sig) → Buf (Elt Bits) ℓ) : Prop :=
  ∀ c : Dev Cert.Thresh.nD,
    (Cert.Pre_thresh_pre.fn (F := Bits) (m ((c.tc : Thread Cert.Thresh.nD Cert.Thresh.τ).loc Cert.Thresh.main_arg0)) (m ((c.tc : Thread Cert.Thresh.nD Cert.Thresh.τ).loc Cert.Thresh.main_arg1))) = (fun _ => 1#1)

def Pre_ThreshReference (m : (ℓ : Loc Cert.ThreshReference.nD Cert.ThreshReference.τ Cert.ThreshReference.sig) → Buf (Elt Bits) ℓ) : Prop :=
  True

def Pre_ThreshReference_thresh_pre [hPre_thresh_pre : Cert.Pre_thresh_pre.Facts] (m : (ℓ : Loc Cert.ThreshReference.nD Cert.ThreshReference.τ Cert.ThreshReference.sig) → Buf (Elt Bits) ℓ) : Prop :=
  ∀ c : Dev Cert.ThreshReference.nD,
    (Cert.Pre_thresh_pre.fn (F := Bits) (m ((c.tc : Thread Cert.ThreshReference.nD Cert.ThreshReference.τ).loc Cert.ThreshReference.main_arg0)) (m ((c.tc : Thread Cert.ThreshReference.nD Cert.ThreshReference.τ).loc Cert.ThreshReference.main_arg1))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Vote [hVote : Cert.Vote.Facts] [hPre_vote_pre : Cert.Pre_vote_pre.Facts] : Prop :=
  ∀ (m : (ℓ : Loc Cert.Vote.nD Cert.Vote.τ Cert.Vote.sig) → Buf (Elt Bits) ℓ) (g : Dev Cert.Vote.nD → PrngReg), Pre_Vote m →
    θ_run (Cert.Vote.defs (F := Bits)) (Cert.Vote.threads (F := Bits)) ⟨m, fun _ => 0, g⟩ (fun r => (∀ c : Dev Cert.Vote.nD,
      r.2.mem ((c.tc : Thread Cert.Vote.nD Cert.Vote.τ).loc Cert.Vote.main_arg0) = m ((c.tc : Thread Cert.Vote.nD Cert.Vote.τ).loc Cert.Vote.main_arg0)
      ∧ r.2.mem ((c.tc : Thread Cert.Vote.nD Cert.Vote.τ).loc Cert.Vote.main_arg1) = m ((c.tc : Thread Cert.Vote.nD Cert.Vote.τ).loc Cert.Vote.main_arg1)
      ∧ r.2.mem ((c.tc : Thread Cert.Vote.nD Cert.Vote.τ).loc Cert.Vote.main_arg2) = m ((c.tc : Thread Cert.Vote.nD Cert.Vote.τ).loc Cert.Vote.main_arg2)
      ∧ r.2.mem ((c.tc : Thread Cert.Vote.nD Cert.Vote.τ).loc Cert.Vote.main_arg3) = m ((c.tc : Thread Cert.Vote.nD Cert.Vote.τ).loc Cert.Vote.main_arg3))
      ∧ r.2.sem = fun _ => 0)

def quiescent_VoteReference [hVoteReference : Cert.VoteReference.Facts] [hPre_vote_pre : Cert.Pre_vote_pre.Facts] : Prop :=
  ∀ (m : (ℓ : Loc Cert.VoteReference.nD Cert.VoteReference.τ Cert.VoteReference.sig) → Buf (Elt Bits) ℓ) (g : Dev Cert.VoteReference.nD → PrngReg), Pre_VoteReference m →
    θ_run (Cert.VoteReference.defs (F := Bits)) (onTc (τ := Cert.VoteReference.τ) (Cert.VoteReference.main (F := Bits))) ⟨m, fun _ => 0, g⟩ (fun r => (∀ c : Dev Cert.VoteReference.nD,
      r.2.mem ((c.tc : Thread Cert.VoteReference.nD Cert.VoteReference.τ).loc Cert.VoteReference.main_arg0) = m ((c.tc : Thread Cert.VoteReference.nD Cert.VoteReference.τ).loc Cert.VoteReference.main_arg0)
      ∧ r.2.mem ((c.tc : Thread Cert.VoteReference.nD Cert.VoteReference.τ).loc Cert.VoteReference.main_arg1) = m ((c.tc : Thread Cert.VoteReference.nD Cert.VoteReference.τ).loc Cert.VoteReference.main_arg1)
      ∧ r.2.mem ((c.tc : Thread Cert.VoteReference.nD Cert.VoteReference.τ).loc Cert.VoteReference.main_arg2) = m ((c.tc : Thread Cert.VoteReference.nD Cert.VoteReference.τ).loc Cert.VoteReference.main_arg2)
      ∧ r.2.mem ((c.tc : Thread Cert.VoteReference.nD Cert.VoteReference.τ).loc Cert.VoteReference.main_arg3) = m ((c.tc : Thread Cert.VoteReference.nD Cert.VoteReference.τ).loc Cert.VoteReference.main_arg3))
      ∧ r.2.sem = fun _ => 0)

def quiescent_Dist [hDist : Cert.Dist.Facts] : Prop :=
  ∀ (m : (ℓ : Loc Cert.Dist.nD Cert.Dist.τ Cert.Dist.sig) → Buf (Elt Bits) ℓ) (g : Dev Cert.Dist.nD → PrngReg), Pre_Dist m →
    θ_run (Cert.Dist.defs (F := Bits)) (onTc (τ := Cert.Dist.τ) (Cert.Dist.main (F := Bits))) ⟨m, fun _ => 0, g⟩ (fun r => (∀ c : Dev Cert.Dist.nD,
      r.2.mem ((c.tc : Thread Cert.Dist.nD Cert.Dist.τ).loc Cert.Dist.main_arg0) = m ((c.tc : Thread Cert.Dist.nD Cert.Dist.τ).loc Cert.Dist.main_arg0)
      ∧ r.2.mem ((c.tc : Thread Cert.Dist.nD Cert.Dist.τ).loc Cert.Dist.main_arg1) = m ((c.tc : Thread Cert.Dist.nD Cert.Dist.τ).loc Cert.Dist.main_arg1))
      ∧ r.2.sem = fun _ => 0)

def quiescent_DistIdeal [hDistIdeal : Cert.DistIdeal.Facts] : Prop :=
  ∀ (m : (ℓ : Loc Cert.DistIdeal.nD Cert.DistIdeal.τ Cert.DistIdeal.sig) → Buf (Elt Ideal) ℓ) (g : Dev Cert.DistIdeal.nD → PrngReg), Pre_DistIdeal m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ r.2.sem = fun _ => 0)

def quiescent_DistReferenceIdeal [hDistReferenceIdeal : Cert.DistReferenceIdeal.Facts] : Prop :=
  ∀ (m : (ℓ : Loc Cert.DistReferenceIdeal.nD Cert.DistReferenceIdeal.τ Cert.DistReferenceIdeal.sig) → Buf (Elt Ideal) ℓ) (g : Dev Cert.DistReferenceIdeal.nD → PrngReg), Pre_DistReferenceIdeal m →
    θ_run (Cert.DistReferenceIdeal.defs (F := Ideal)) (onTc (τ := Cert.DistReferenceIdeal.τ) (Cert.DistReferenceIdeal.main (F := Ideal))) ⟨m, fun _ => 0, g⟩ (fun r => (∀ c : Dev Cert.DistReferenceIdeal.nD,
      r.2.mem ((c.tc : Thread Cert.DistReferenceIdeal.nD Cert.DistReferenceIdeal.τ).loc Cert.DistReferenceIdeal.main_arg0) = m ((c.tc : Thread Cert.DistReferenceIdeal.nD Cert.DistReferenceIdeal.τ).loc Cert.DistReferenceIdeal.main_arg0)
      ∧ r.2.mem ((c.tc : Thread Cert.DistReferenceIdeal.nD Cert.DistReferenceIdeal.τ).loc Cert.DistReferenceIdeal.main_arg1) = m ((c.tc : Thread Cert.DistReferenceIdeal.nD Cert.DistReferenceIdeal.τ).loc Cert.DistReferenceIdeal.main_arg1))
      ∧ r.2.sem = fun _ => 0)

def quiescent_Select [hSelect : Cert.Select.Facts] [hPre_select_pre : Cert.Pre_select_pre.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] [hPre_select_pre : Cert.Pre_select_pre.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] [hPre_select_pre : Cert.Pre_select_pre.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_Thresh [hThresh : Cert.Thresh.Facts] : Prop :=
  ∀ (m : (ℓ : Loc Cert.Thresh.nD Cert.Thresh.τ Cert.Thresh.sig) → Buf (Elt Bits) ℓ) (g : Dev Cert.Thresh.nD → PrngReg), Pre_Thresh m →
    θ_run (Cert.Thresh.defs (F := Bits)) (onTc (τ := Cert.Thresh.τ) (Cert.Thresh.main (F := Bits))) ⟨m, fun _ => 0, g⟩ (fun r => (∀ c : Dev Cert.Thresh.nD,
      r.2.mem ((c.tc : Thread Cert.Thresh.nD Cert.Thresh.τ).loc Cert.Thresh.main_arg0) = m ((c.tc : Thread Cert.Thresh.nD Cert.Thresh.τ).loc Cert.Thresh.main_arg0)
      ∧ r.2.mem ((c.tc : Thread Cert.Thresh.nD Cert.Thresh.τ).loc Cert.Thresh.main_arg1) = m ((c.tc : Thread Cert.Thresh.nD Cert.Thresh.τ).loc Cert.Thresh.main_arg1))
      ∧ r.2.sem = fun _ => 0)

def quiescent_Thresh_pre_thresh_pre [hThresh : Cert.Thresh.Facts] [hPre_thresh_pre : Cert.Pre_thresh_pre.Facts] : Prop :=
  ∀ (m : (ℓ : Loc Cert.Thresh.nD Cert.Thresh.τ Cert.Thresh.sig) → Buf (Elt Bits) ℓ) (g : Dev Cert.Thresh.nD → PrngReg), Pre_Thresh_thresh_pre m →
    θ_run (Cert.Thresh.defs (F := Bits)) (onTc (τ := Cert.Thresh.τ) (Cert.Thresh.main (F := Bits))) ⟨m, fun _ => 0, g⟩ (fun r => (∀ c : Dev Cert.Thresh.nD,
      r.2.mem ((c.tc : Thread Cert.Thresh.nD Cert.Thresh.τ).loc Cert.Thresh.main_arg0) = m ((c.tc : Thread Cert.Thresh.nD Cert.Thresh.τ).loc Cert.Thresh.main_arg0)
      ∧ r.2.mem ((c.tc : Thread Cert.Thresh.nD Cert.Thresh.τ).loc Cert.Thresh.main_arg1) = m ((c.tc : Thread Cert.Thresh.nD Cert.Thresh.τ).loc Cert.Thresh.main_arg1))
      ∧ r.2.sem = fun _ => 0)

def quiescent_ThreshReference [hThreshReference : Cert.ThreshReference.Facts] : Prop :=
  ∀ (m : (ℓ : Loc Cert.ThreshReference.nD Cert.ThreshReference.τ Cert.ThreshReference.sig) → Buf (Elt Bits) ℓ) (g : Dev Cert.ThreshReference.nD → PrngReg), Pre_ThreshReference m →
    θ_run (Cert.ThreshReference.defs (F := Bits)) (onTc (τ := Cert.ThreshReference.τ) (Cert.ThreshReference.main (F := Bits))) ⟨m, fun _ => 0, g⟩ (fun r => (∀ c : Dev Cert.ThreshReference.nD,
      r.2.mem ((c.tc : Thread Cert.ThreshReference.nD Cert.ThreshReference.τ).loc Cert.ThreshReference.main_arg0) = m ((c.tc : Thread Cert.ThreshReference.nD Cert.ThreshReference.τ).loc Cert.ThreshReference.main_arg0)
      ∧ r.2.mem ((c.tc : Thread Cert.ThreshReference.nD Cert.ThreshReference.τ).loc Cert.ThreshReference.main_arg1) = m ((c.tc : Thread Cert.ThreshReference.nD Cert.ThreshReference.τ).loc Cert.ThreshReference.main_arg1))
      ∧ r.2.sem = fun _ => 0)

def quiescent_ThreshReference_pre_thresh_pre [hThreshReference : Cert.ThreshReference.Facts] [hPre_thresh_pre : Cert.Pre_thresh_pre.Facts] : Prop :=
  ∀ (m : (ℓ : Loc Cert.ThreshReference.nD Cert.ThreshReference.τ Cert.ThreshReference.sig) → Buf (Elt Bits) ℓ) (g : Dev Cert.ThreshReference.nD → PrngReg), Pre_ThreshReference_thresh_pre m →
    θ_run (Cert.ThreshReference.defs (F := Bits)) (onTc (τ := Cert.ThreshReference.τ) (Cert.ThreshReference.main (F := Bits))) ⟨m, fun _ => 0, g⟩ (fun r => (∀ c : Dev Cert.ThreshReference.nD,
      r.2.mem ((c.tc : Thread Cert.ThreshReference.nD Cert.ThreshReference.τ).loc Cert.ThreshReference.main_arg0) = m ((c.tc : Thread Cert.ThreshReference.nD Cert.ThreshReference.τ).loc Cert.ThreshReference.main_arg0)
      ∧ r.2.mem ((c.tc : Thread Cert.ThreshReference.nD Cert.ThreshReference.τ).loc Cert.ThreshReference.main_arg1) = m ((c.tc : Thread Cert.ThreshReference.nD Cert.ThreshReference.τ).loc Cert.ThreshReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Vote_VoteReference [hVote : Cert.Vote.Facts] [hVoteReference : Cert.VoteReference.Facts] [hPre_vote_pre : Cert.Pre_vote_pre.Facts] : Prop :=
  ∀ (m : (ℓ : Loc Cert.Vote.nD Cert.Vote.τ Cert.Vote.sig) → Buf (Elt Bits) ℓ) (g : Dev Cert.Vote.nD → PrngReg)
    (m' : (ℓ : Loc Cert.VoteReference.nD Cert.VoteReference.τ Cert.VoteReference.sig) → Buf (Elt Bits) ℓ) (g' : Dev Cert.VoteReference.nD → PrngReg), Pre_Vote m →
    (∀ c : Dev Cert.Vote.nD,
      m' ((c.tc : Thread Cert.VoteReference.nD Cert.VoteReference.τ).loc Cert.VoteReference.main_arg0) = m ((c.tc : Thread Cert.Vote.nD Cert.Vote.τ).loc Cert.Vote.main_arg0)
      ∧ m' ((c.tc : Thread Cert.VoteReference.nD Cert.VoteReference.τ).loc Cert.VoteReference.main_arg1) = m ((c.tc : Thread Cert.Vote.nD Cert.Vote.τ).loc Cert.Vote.main_arg1)
      ∧ m' ((c.tc : Thread Cert.VoteReference.nD Cert.VoteReference.τ).loc Cert.VoteReference.main_arg2) = m ((c.tc : Thread Cert.Vote.nD Cert.Vote.τ).loc Cert.Vote.main_arg2)
      ∧ m' ((c.tc : Thread Cert.VoteReference.nD Cert.VoteReference.τ).loc Cert.VoteReference.main_arg3) = m ((c.tc : Thread Cert.Vote.nD Cert.Vote.τ).loc Cert.Vote.main_arg3)) →
    ∃ (v0 : (c : Dev Cert.Vote.nD) → Buf (Elt Bits) ((c.tc : Thread Cert.Vote.nD Cert.Vote.τ).loc Cert.Vote.main_v0)),
      θ_run (Cert.Vote.defs (F := Bits)) (Cert.Vote.threads (F := Bits)) ⟨m, fun _ => 0, g⟩ (fun r => ∀ c : Dev Cert.Vote.nD,
          r.2.mem ((c.tc : Thread Cert.Vote.nD Cert.Vote.τ).loc Cert.Vote.main_v0) = v0 c
          ∧ r.2.mem ((c.tc : Thread Cert.Vote.nD Cert.Vote.τ).loc Cert.Vote.main_arg0) = m ((c.tc : Thread Cert.Vote.nD Cert.Vote.τ).loc Cert.Vote.main_arg0)
          ∧ r.2.mem ((c.tc : Thread Cert.Vote.nD Cert.Vote.τ).loc Cert.Vote.main_arg1) = m ((c.tc : Thread Cert.Vote.nD Cert.Vote.τ).loc Cert.Vote.main_arg1)
          ∧ r.2.mem ((c.tc : Thread Cert.Vote.nD Cert.Vote.τ).loc Cert.Vote.main_arg2) = m ((c.tc : Thread Cert.Vote.nD Cert.Vote.τ).loc Cert.Vote.main_arg2)
          ∧ r.2.mem ((c.tc : Thread Cert.Vote.nD Cert.Vote.τ).loc Cert.Vote.main_arg3) = m ((c.tc : Thread Cert.Vote.nD Cert.Vote.τ).loc Cert.Vote.main_arg3))
      ∧ θ_run (Cert.VoteReference.defs (F := Bits)) (onTc (τ := Cert.VoteReference.τ) (Cert.VoteReference.main (F := Bits))) ⟨m', fun _ => 0, g'⟩ (fun r => ∀ c : Dev Cert.VoteReference.nD,
          r.2.mem ((c.tc : Thread Cert.VoteReference.nD Cert.VoteReference.τ).loc Cert.VoteReference.main_v31) = v0 c
          ∧ r.2.mem ((c.tc : Thread Cert.VoteReference.nD Cert.VoteReference.τ).loc Cert.VoteReference.main_arg0) = m' ((c.tc : Thread Cert.VoteReference.nD Cert.VoteReference.τ).loc Cert.VoteReference.main_arg0)
          ∧ r.2.mem ((c.tc : Thread Cert.VoteReference.nD Cert.VoteReference.τ).loc Cert.VoteReference.main_arg1) = m' ((c.tc : Thread Cert.VoteReference.nD Cert.VoteReference.τ).loc Cert.VoteReference.main_arg1)
          ∧ r.2.mem ((c.tc : Thread Cert.VoteReference.nD Cert.VoteReference.τ).loc Cert.VoteReference.main_arg2) = m' ((c.tc : Thread Cert.VoteReference.nD Cert.VoteReference.τ).loc Cert.VoteReference.main_arg2)
          ∧ r.2.mem ((c.tc : Thread Cert.VoteReference.nD Cert.VoteReference.τ).loc Cert.VoteReference.main_arg3) = m' ((c.tc : Thread Cert.VoteReference.nD Cert.VoteReference.τ).loc Cert.VoteReference.main_arg3))

def preserves_Dist_DistIdeal : Prop :=
  True

def algebraic_DistIdeal_DistReferenceIdeal [hDistIdeal : Cert.DistIdeal.Facts] [hDistReferenceIdeal : Cert.DistReferenceIdeal.Facts] : Prop :=
  ∀ (m : (ℓ : Loc Cert.DistIdeal.nD Cert.DistIdeal.τ Cert.DistIdeal.sig) → Buf (Elt Ideal) ℓ) (g : Dev Cert.DistIdeal.nD → PrngReg)
    (m' : (ℓ : Loc Cert.DistReferenceIdeal.nD Cert.DistReferenceIdeal.τ Cert.DistReferenceIdeal.sig) → Buf (Elt Ideal) ℓ) (g' : Dev Cert.DistReferenceIdeal.nD → PrngReg), Pre_DistIdeal m →
    (∀ c : Dev Cert.DistIdeal.nD,
      m' ((c.tc : Thread Cert.DistReferenceIdeal.nD Cert.DistReferenceIdeal.τ).loc Cert.DistReferenceIdeal.main_arg0) = m ((c.tc : Thread Cert.DistIdeal.nD Cert.DistIdeal.τ).loc Cert.DistIdeal.main_arg0)
      ∧ m' ((c.tc : Thread Cert.DistReferenceIdeal.nD Cert.DistReferenceIdeal.τ).loc Cert.DistReferenceIdeal.main_arg1) = m ((c.tc : Thread Cert.DistIdeal.nD Cert.DistIdeal.τ).loc Cert.DistIdeal.main_arg1)) →
    ∃ (v0 : (c : Dev Cert.DistIdeal.nD) → Buf (Elt Ideal) ((c.tc : Thread Cert.DistIdeal.nD Cert.DistIdeal.τ).loc Cert.DistIdeal.main_v2_0)) (v1 : (c : Dev Cert.DistIdeal.nD) → Buf (Elt Ideal) ((c.tc : Thread Cert.DistIdeal.nD Cert.DistIdeal.τ).loc Cert.DistIdeal.main_v2_1)),
      θ_run (Cert.DistIdeal.defs (F := Ideal)) (onTc (τ := Cert.DistIdeal.τ) (Cert.DistIdeal.main (F := Ideal))) ⟨m, fun _ => 0, g⟩ (fun r => ∀ c : Dev Cert.DistIdeal.nD,
          r.2.mem ((c.tc : Thread Cert.DistIdeal.nD Cert.DistIdeal.τ).loc Cert.DistIdeal.main_v2_0) = v0 c
          ∧ r.2.mem ((c.tc : Thread Cert.DistIdeal.nD Cert.DistIdeal.τ).loc Cert.DistIdeal.main_v2_1) = v1 c
          ∧ r.2.mem ((c.tc : Thread Cert.DistIdeal.nD Cert.DistIdeal.τ).loc Cert.DistIdeal.main_arg0) = m ((c.tc : Thread Cert.DistIdeal.nD Cert.DistIdeal.τ).loc Cert.DistIdeal.main_arg0)
          ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ θ_run (Cert.DistReferenceIdeal.defs (F := Ideal)) (onTc (τ := Cert.DistReferenceIdeal.τ) (Cert.DistReferenceIdeal.main (F := Ideal))) ⟨m', fun _ => 0, g'⟩ (fun r => ∀ c : Dev Cert.DistReferenceIdeal.nD,
          r.2.mem ((c.tc : Thread Cert.DistReferenceIdeal.nD Cert.DistReferenceIdeal.τ).loc Cert.DistReferenceIdeal.main_v14) = v0 c
          ∧ r.2.mem ((c.tc : Thread Cert.DistReferenceIdeal.nD Cert.DistReferenceIdeal.τ).loc Cert.DistReferenceIdeal.main_v18) = v1 c
          ∧ r.2.mem ((c.tc : Thread Cert.DistReferenceIdeal.nD Cert.DistReferenceIdeal.τ).loc Cert.DistReferenceIdeal.main_arg0) = m' ((c.tc : Thread Cert.DistReferenceIdeal.nD Cert.DistReferenceIdeal.τ).loc Cert.DistReferenceIdeal.main_arg0)
          ∧ r.2.mem ((c.tc : Thread Cert.DistReferenceIdeal.nD Cert.DistReferenceIdeal.τ).loc Cert.DistReferenceIdeal.main_arg1) = m' ((c.tc : Thread Cert.DistReferenceIdeal.nD Cert.DistReferenceIdeal.τ).loc Cert.DistReferenceIdeal.main_arg1))

def preserves_Select_SelectIdeal : Prop :=
  True

def algebraic_SelectIdeal_SelectReferenceIdeal [hSelectIdeal : Cert.SelectIdeal.Facts] [hSelectReferenceIdeal : Cert.SelectReferenceIdeal.Facts] [hPre_select_pre : Cert.Pre_select_pre.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)) (v2 : (c : Dev Cert.SelectIdeal.nD) → Buf (Elt Ideal) ((c.tc : Thread Cert.SelectIdeal.nD Cert.SelectIdeal.τ).loc Cert.SelectIdeal.main_v0_2)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_v0_2) = v2 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v6) = v0 c
          ∧ r.2.mem ((c.tc : Thread Cert.SelectReferenceIdeal.nD Cert.SelectReferenceIdeal.τ).loc Cert.SelectReferenceIdeal.main_indices) = v1 c
          ∧ r.2.mem ((c.tc : Thread Cert.SelectReferenceIdeal.nD Cert.SelectReferenceIdeal.τ).loc Cert.SelectReferenceIdeal.main_v7) = v2 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def bitexact_Thresh_ThreshReference_pre_thresh_pre [hThresh : Cert.Thresh.Facts] [hThreshReference : Cert.ThreshReference.Facts] [hPre_thresh_pre : Cert.Pre_thresh_pre.Facts] : Prop :=
  ∀ (m : (ℓ : Loc Cert.Thresh.nD Cert.Thresh.τ Cert.Thresh.sig) → Buf (Elt Bits) ℓ) (g : Dev Cert.Thresh.nD → PrngReg)
    (m' : (ℓ : Loc Cert.ThreshReference.nD Cert.ThreshReference.τ Cert.ThreshReference.sig) → Buf (Elt Bits) ℓ) (g' : Dev Cert.ThreshReference.nD → PrngReg), Pre_Thresh_thresh_pre m →
    (∀ c : Dev Cert.Thresh.nD,
      m' ((c.tc : Thread Cert.ThreshReference.nD Cert.ThreshReference.τ).loc Cert.ThreshReference.main_arg0) = m ((c.tc : Thread Cert.Thresh.nD Cert.Thresh.τ).loc Cert.Thresh.main_arg0)
      ∧ m' ((c.tc : Thread Cert.ThreshReference.nD Cert.ThreshReference.τ).loc Cert.ThreshReference.main_arg1) = m ((c.tc : Thread Cert.Thresh.nD Cert.Thresh.τ).loc Cert.Thresh.main_arg1)) →
    ∃ (v0 : (c : Dev Cert.Thresh.nD) → Buf (Elt Bits) ((c.tc : Thread Cert.Thresh.nD Cert.Thresh.τ).loc Cert.Thresh.main_v0_0)) (v1 : (c : Dev Cert.Thresh.nD) → Buf (Elt Bits) ((c.tc : Thread Cert.Thresh.nD Cert.Thresh.τ).loc Cert.Thresh.main_v0_1)),
      θ_run (Cert.Thresh.defs (F := Bits)) (onTc (τ := Cert.Thresh.τ) (Cert.Thresh.main (F := Bits))) ⟨m, fun _ => 0, g⟩ (fun r => ∀ c : Dev Cert.Thresh.nD,
          r.2.mem ((c.tc : Thread Cert.Thresh.nD Cert.Thresh.τ).loc Cert.Thresh.main_v0_0) = v0 c
          ∧ r.2.mem ((c.tc : Thread Cert.Thresh.nD Cert.Thresh.τ).loc Cert.Thresh.main_v0_1) = v1 c
          ∧ r.2.mem ((c.tc : Thread Cert.Thresh.nD Cert.Thresh.τ).loc Cert.Thresh.main_arg0) = m ((c.tc : Thread Cert.Thresh.nD Cert.Thresh.τ).loc Cert.Thresh.main_arg0)
          ∧ r.2.mem ((c.tc : Thread Cert.Thresh.nD Cert.Thresh.τ).loc Cert.Thresh.main_arg1) = m ((c.tc : Thread Cert.Thresh.nD Cert.Thresh.τ).loc Cert.Thresh.main_arg1))
      ∧ θ_run (Cert.ThreshReference.defs (F := Bits)) (onTc (τ := Cert.ThreshReference.τ) (Cert.ThreshReference.main (F := Bits))) ⟨m', fun _ => 0, g'⟩ (fun r => ∀ c : Dev Cert.ThreshReference.nD,
          r.2.mem ((c.tc : Thread Cert.ThreshReference.nD Cert.ThreshReference.τ).loc Cert.ThreshReference.main_v11) = v0 c
          ∧ r.2.mem ((c.tc : Thread Cert.ThreshReference.nD Cert.ThreshReference.τ).loc Cert.ThreshReference.main_v12) = v1 c
          ∧ r.2.mem ((c.tc : Thread Cert.ThreshReference.nD Cert.ThreshReference.τ).loc Cert.ThreshReference.main_arg0) = m' ((c.tc : Thread Cert.ThreshReference.nD Cert.ThreshReference.τ).loc Cert.ThreshReference.main_arg0)
          ∧ r.2.mem ((c.tc : Thread Cert.ThreshReference.nD Cert.ThreshReference.τ).loc Cert.ThreshReference.main_arg1) = m' ((c.tc : Thread Cert.ThreshReference.nD Cert.ThreshReference.τ).loc Cert.ThreshReference.main_arg1))

def Claim : Prop :=
  ∃ (hKernel : Cert.Kernel.Facts) (hKernelIdeal : Cert.KernelIdeal.Facts) (hReferenceIdeal : Cert.ReferenceIdeal.Facts) (hVote : Cert.Vote.Facts) (hVoteReference : Cert.VoteReference.Facts) (hDist : Cert.Dist.Facts) (hDistIdeal : Cert.DistIdeal.Facts) (hDistReferenceIdeal : Cert.DistReferenceIdeal.Facts) (hSelect : Cert.Select.Facts) (hSelectIdeal : Cert.SelectIdeal.Facts) (hSelectReferenceIdeal : Cert.SelectReferenceIdeal.Facts) (hThresh : Cert.Thresh.Facts) (hThreshReference : Cert.ThreshReference.Facts) (hPre_pre : Cert.Pre_pre.Facts) (hPre_vote_pre : Cert.Pre_vote_pre.Facts) (hPre_select_pre : Cert.Pre_select_pre.Facts) (hPre_thresh_pre : Cert.Pre_thresh_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ quiescent_Vote (hVote := hVote) (hPre_vote_pre := hPre_vote_pre)
    ∧ quiescent_VoteReference (hVoteReference := hVoteReference) (hPre_vote_pre := hPre_vote_pre)
    ∧ quiescent_Dist (hDist := hDist)
    ∧ quiescent_DistIdeal (hDistIdeal := hDistIdeal)
    ∧ quiescent_DistReferenceIdeal (hDistReferenceIdeal := hDistReferenceIdeal)
    ∧ quiescent_Select (hSelect := hSelect) (hPre_select_pre := hPre_select_pre)
    ∧ quiescent_SelectIdeal (hSelectIdeal := hSelectIdeal) (hPre_select_pre := hPre_select_pre)
    ∧ quiescent_SelectReferenceIdeal (hSelectReferenceIdeal := hSelectReferenceIdeal) (hPre_select_pre := hPre_select_pre)
    ∧ quiescent_Thresh (hThresh := hThresh)
    ∧ quiescent_Thresh_pre_thresh_pre (hThresh := hThresh) (hPre_thresh_pre := hPre_thresh_pre)
    ∧ quiescent_ThreshReference (hThreshReference := hThreshReference)
    ∧ quiescent_ThreshReference_pre_thresh_pre (hThreshReference := hThreshReference) (hPre_thresh_pre := hPre_thresh_pre)
    ∧ preserves_Kernel_KernelIdeal
    ∧ algebraic_KernelIdeal_ReferenceIdeal (hKernelIdeal := hKernelIdeal) (hReferenceIdeal := hReferenceIdeal) (hPre_pre := hPre_pre)
    ∧ bitexact_Vote_VoteReference (hVote := hVote) (hVoteReference := hVoteReference) (hPre_vote_pre := hPre_vote_pre)
    ∧ preserves_Dist_DistIdeal
    ∧ algebraic_DistIdeal_DistReferenceIdeal (hDistIdeal := hDistIdeal) (hDistReferenceIdeal := hDistReferenceIdeal)
    ∧ preserves_Select_SelectIdeal
    ∧ algebraic_SelectIdeal_SelectReferenceIdeal (hSelectIdeal := hSelectIdeal) (hSelectReferenceIdeal := hSelectReferenceIdeal) (hPre_select_pre := hPre_select_pre)
    ∧ bitexact_Thresh_ThreshReference_pre_thresh_pre (hThresh := hThresh) (hThreshReference := hThreshReference) (hPre_thresh_pre := hPre_thresh_pre)
-- ==== Pre_pre.lean ====
abbrev S802816x128 : Shape := ⟨2, ![802816, 128]⟩
abbrev S784x128 : Shape := ⟨2, ![784, 128]⟩
abbrev S33792 : Shape := ⟨1, ![33792]⟩
abbrev S_ : Shape := ⟨0, ![]⟩

class Facts : Prop where
  bcast_S_S33792 : S_.BroadcastsInDim S33792 (![] : Fin 0 → Fin S33792.rank)
  reducesTo_S33792_S_d0 : S33792.ReducesTo [0] S_
  h_S_ : 0 < S_.numel

variable [Facts]

def fn {F : FTy → Type} [FloatOps F] (main_arg0 : FVec F S802816x128 .f32) (main_arg1 : IVec S784x128 32) (main_arg2 : IVec S33792 32) (main_arg3 : IVec S33792 32) : IVec S_ 1 :=
  let main_c : IVec S_ 32 := constantI S_ 32 0#32
  let main_v0 : IVec S33792 32 := broadcastInDim S33792 ![] bcast_S_S33792 main_c
  let main_v1 : IVec S33792 1 := cmpi .sge main_arg2 main_v0
  let main_c_0 : IVec S_ 1 := constantI S_ 1 1#1
  let main_v2 : IVec S_ 1 := (fun x v => Host.reduce IntOp.andi x v reducesTo_S33792_S_d0 h_S_) main_v1 main_c_0
  let main_c_1 : IVec S_ 32 := constantI S_ 32 802816#32
  let main_v3 : IVec S33792 32 := broadcastInDim S33792 ![] bcast_S_S33792 main_c_1
  let main_v4 : IVec S33792 1 := cmpi .slt main_arg2 main_v3
  let main_c_2 : IVec S_ 1 := constantI S_ 1 1#1
  let main_v5 : IVec S_ 1 := (fun x v => Host.reduce IntOp.andi x v reducesTo_S33792_S_d0 h_S_) main_v4 main_c_2
  let main_v6 : IVec S_ 1 := andi main_v2 main_v5
  let main_c_3 : IVec S_ 32 := constantI S_ 32 0#32
  let main_v7 : IVec S33792 32 := broadcastInDim S33792 ![] bcast_S_S33792 main_c_3
  let main_v8 : IVec S33792 1 := cmpi .sge main_arg3 main_v7
  let main_c_4 : IVec S_ 1 := constantI S_ 1 1#1
  let main_v9 : IVec S_ 1 := (fun x v => Host.reduce IntOp.andi x v reducesTo_S33792_S_d0 h_S_) main_v8 main_c_4
  let main_v10 : IVec S_ 1 := andi main_v6 main_v9
  let main_c_5 : IVec S_ 32 := constantI S_ 32 784#32
  let main_v11 : IVec S33792 32 := broadcastInDim S33792 ![] bcast_S_S33792 main_c_5
  let main_v12 : IVec S33792 1 := cmpi .slt main_arg3 main_v11
  let main_c_6 : IVec S_ 1 := constantI S_ 1 1#1
  let main_v13 : IVec S_ 1 := (fun x v => Host.reduce IntOp.andi x v reducesTo_S33792_S_d0 h_S_) main_v12 main_c_6
  let main_v14 : IVec S_ 1 := andi main_v10 main_v13
  main_v14
-- ==== Pre_select_pre.lean ====
abbrev S1024x784 : Shape := ⟨2, ![1024, 784]⟩
abbrev S_ : Shape := ⟨0, ![]⟩
abbrev S1024 : Shape := ⟨1, ![1024]⟩

class Facts : Prop where
  bcast_S_S1024x784 : S_.BroadcastsInDim S1024x784 (![] : Fin 0 → Fin S1024x784.rank)
  natLt_1_32 : 1 < 32
  reducesTo_S1024x784_S1024_d1 : S1024x784.ReducesTo [1] S1024
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x784 .f32) : IVec S_ 1 :=
  let main_cst : FVec F S_ .f32 := constant S_ .f32 0x7F800000#32
  let main_v0 : FVec F S1024x784 .f32 := broadcastInDim S1024x784 ![] bcast_S_S1024x784 main_cst
  let main_v1 : IVec S1024x784 1 := cmpf .olt main_arg0 main_v0
  let main_v2 : IVec S1024x784 32 := (extui 32 · natLt_1_32) main_v1
  let main_c : IVec S_ 32 := constantI S_ 32 0#32
  let main_v3 : IVec S1024 32 := (fun x v => Host.reduce IntOp.addi x v reducesTo_S1024x784_S1024_d1 h_S_) main_v2 main_c
  let main_c_0 : IVec S_ 32 := constantI S_ 32 33#32
  let main_v4 : IVec S1024 32 := broadcastInDim S1024 ![] bcast_S_S1024 main_c_0
  let main_v5 : IVec S1024 1 := cmpi .sge main_v3 main_v4
  let main_c_1 : IVec S_ 1 := constantI S_ 1 1#1
  let main_v6 : IVec S_ 1 := (fun x v => Host.reduce IntOp.andi x v reducesTo_S1024_S_d0 h_S_) main_v5 main_c_1
  main_v6
-- ==== Pre_thresh_pre.lean ====
abbrev S1024x4224 : Shape := ⟨2, ![1024, 4224]⟩
abbrev S1024x33 : Shape := ⟨2, ![1024, 33]⟩
abbrev S1024x1 : Shape := ⟨2, ![1024, 1]⟩
abbrev S_ : Shape := ⟨0, ![]⟩
abbrev S1024 : Shape := ⟨1, ![1024]⟩

class Facts : Prop where
  slices_S1024x33_S1024x1_0_0 : S1024x33.Slices ![0, 0] S1024x1
  slices_S1024x33_S1024x1_0_32 : S1024x33.Slices ![0, 32] S1024x1
  bcast_S_S1024x4224 : S_.BroadcastsInDim S1024x4224 (![] : Fin 0 → Fin S1024x4224.rank)
  bcast_S_S1024x1 : S_.BroadcastsInDim S1024x1 (![] : Fin 0 → Fin S1024x1.rank)
  reducesTo_S1024x1_S_d0_1 : S1024x1.ReducesTo [0, 1] S_
  h_S_ : 0 < S_.numel
  bcast_S1024x1_S1024x4224_0_1 : S1024x1.BroadcastsInDim S1024x4224 (![0, 1] : Fin 2 → Fin S1024x4224.rank)
  reducesTo_S1024x4224_S_d0_1 : S1024x4224.ReducesTo [0, 1] S_
  natLt_1_32 : 1 < 32
  reducesTo_S1024x4224_S1024_d1 : S1024x4224.ReducesTo [1] S1024
  bcast_S_S1024 : S_.BroadcastsInDim S1024 (![] : Fin 0 → Fin S1024.rank)
  reducesTo_S1024_S_d0 : S1024.ReducesTo [0] S_

variable [Facts]

def fn_where {F : FTy → Type} [BitOps F] (arg0 : IVec S1024x4224 1) (arg1 : IVec S1024x4224 32) (arg2 : IVec S1024x4224 32) : IVec S1024x4224 32 :=
  let v0 : IVec S1024x4224 32 := select arg0 arg1 arg2
  v0

def fn_where_0 {F : FTy → Type} [BitOps F] (arg0 : IVec S1024x1 1) (arg1 : IVec S1024x1 32) (arg2 : IVec S1024x1 32) : IVec S1024x1 32 :=
  let v0 : IVec S1024x1 32 := select arg0 arg1 arg2
  v0

def fn_part2 {F : FTy → Type} [BitOps F] (main_v30 : IVec S_ 1) (main_v34 : IVec S1024 32) (main_c_11 : IVec S_ 32) : IVec S_ 1 :=
  let main_v35 : IVec S1024 32 := broadcastInDim S1024 ![] bcast_S_S1024 main_c_11
  let main_v36 : IVec S1024 1 := cmpi .sge main_v34 main_v35
  let main_c_12 : IVec S_ 1 := constantI S_ 1 1#1
  let main_v37 : IVec S_ 1 := (fun x v => Host.reduce IntOp.andi x v reducesTo_S1024_S_d0 h_S_) main_v36 main_c_12
  let main_v38 : IVec S_ 1 := andi main_v30 main_v37
  main_v38

def fn_part1 {F : FTy → Type} [BitOps F] (main_v4 : IVec S1024x1 32) (main_v9 : IVec S1024x4224 32) (main_v14 : IVec S1024x1 32) (main_v16 : IVec S1024x1 1) (main_v17 : IVec S1024x1 32) : IVec S_ 1 :=
  let main_v18 : IVec S1024x1 32 := xori main_v4 main_v17
  let main_v19 : IVec S1024x1 32 := fn_where_0 (F := F) main_v16 main_v4 main_v18
  let main_c_5 : IVec S_ 32 := constantI S_ 32 2147483648#32
  let main_v20 : IVec S1024x1 32 := broadcastInDim S1024x1 ![] bcast_S_S1024x1 main_c_5
  let main_v21 : IVec S1024x1 1 := cmpi .sgt main_v14 main_v20
  let main_c_6 : IVec S_ 1 := constantI S_ 1 1#1
  let main_v22 : IVec S_ 1 := (fun x v => Host.reduce IntOp.andi x v reducesTo_S1024x1_S_d0_1 h_S_) main_v21 main_c_6
  let main_c_7 : IVec S_ 32 := constantI S_ 32 1900671690#32
  let main_v23 : IVec S1024x1 32 := broadcastInDim S1024x1 ![] bcast_S_S1024x1 main_c_7
  let main_v24 : IVec S1024x1 1 := cmpi .sle main_v14 main_v23
  let main_c_8 : IVec S_ 1 := constantI S_ 1 1#1
  let main_v25 : IVec S_ 1 := (fun x v => Host.reduce IntOp.andi x v reducesTo_S1024x1_S_d0_1 h_S_) main_v24 main_c_8
  let main_v26 : IVec S_ 1 := andi main_v22 main_v25
  let main_v27 : IVec S1024x4224 32 := broadcastInDim S1024x4224 ![0, 1] bcast_S1024x1_S1024x4224_0_1 main_v14
  let main_v28 : IVec S1024x4224 1 := cmpi .sle main_v27 main_v9
  let main_c_9 : IVec S_ 1 := constantI S_ 1 1#1
  let main_v29 : IVec S_ 1 := (fun x v => Host.reduce IntOp.andi x v reducesTo_S1024x4224_S_d0_1 h_S_) main_v28 main_c_9
  let main_v30 : IVec S_ 1 := andi main_v26 main_v29
  let main_v31 : IVec S1024x4224 32 := broadcastInDim S1024x4224 ![0, 1] bcast_S1024x1_S1024x4224_0_1 main_v19
  let main_v32 : IVec S1024x4224 1 := cmpi .sle main_v9 main_v31
  let main_v33 : IVec S1024x4224 32 := (extui 32 · natLt_1_32) main_v32
  let main_c_10 : IVec S_ 32 := constantI S_ 32 0#32
  let main_v34 : IVec S1024 32 := (fun x v => Host.reduce IntOp.addi x v reducesTo_S1024x4224_S1024_d1 h_S_) main_v33 main_c_10
  let main_c_11 : IVec S_ 32 := constantI S_ 32 33#32
  fn_part2 (F := F) main_v30 main_v34 main_c_11

def fn {F : FTy → Type} [BitOps F] (main_arg0 : FVec F S1024x4224 .f32) (main_arg1 : FVec F S1024x33 .f32) : IVec S_ 1 :=
  let main_v0 : IVec S1024x4224 32 := bitcastToInt main_arg0
  let main_v1 : FVec F S1024x1 .f32 := (extractStridedSlice S1024x1 ![0, 0] · slices_S1024x33_S1024x1_0_0) main_arg1
  let main_v2 : IVec S1024x1 32 := bitcastToInt main_v1
  let main_v3 : FVec F S1024x1 .f32 := (extractStridedSlice S1024x1 ![0, 32] · slices_S1024x33_S1024x1_0_32) main_arg1
  let main_v4 : IVec S1024x1 32 := bitcastToInt main_v3
  let main_c : IVec S_ 32 := constantI S_ 32 0#32
  let main_v5 : IVec S1024x4224 32 := broadcastInDim S1024x4224 ![] bcast_S_S1024x4224 main_c
  let main_v6 : IVec S1024x4224 1 := cmpi .sge main_v0 main_v5
  let main_c_0 : IVec S_ 32 := constantI S_ 32 2147483647#32
  let main_v7 : IVec S1024x4224 32 := broadcastInDim S1024x4224 ![] bcast_S_S1024x4224 main_c_0
  let main_v8 : IVec S1024x4224 32 := xori main_v0 main_v7
  let main_v9 : IVec S1024x4224 32 := fn_where (F := F) main_v6 main_v0 main_v8
  let main_c_1 : IVec S_ 32 := constantI S_ 32 0#32
  let main_v10 : IVec S1024x1 32 := broadcastInDim S1024x1 ![] bcast_S_S1024x1 main_c_1
  let main_v11 : IVec S1024x1 1 := cmpi .sge main_v2 main_v10
  let main_c_2 : IVec S_ 32 := constantI S_ 32 2147483647#32
  let main_v12 : IVec S1024x1 32 := broadcastInDim S1024x1 ![] bcast_S_S1024x1 main_c_2
  let main_v13 : IVec S1024x1 32 := xori main_v2 main_v12
  let main_v14 : IVec S1024x1 32 := fn_where_0 (F := F) main_v11 main_v2 main_v13
  let main_c_3 : IVec S_ 32 := constantI S_ 32 0#32
  let main_v15 : IVec S1024x1 32 := broadcastInDim S1024x1 ![] bcast_S_S1024x1 main_c_3
  let main_v16 : IVec S1024x1 1 := cmpi .sge main_v4 main_v15
  let main_c_4 : IVec S_ 32 := constantI S_ 32 2147483647#32
  let main_v17 : IVec S1024x1 32 := broadcastInDim S1024x1 ![] bcast_S_S1024x1 main_c_4
  fn_part1 (F := F) main_v4 main_v9 main_v14 main_v16 main_v17
-- ==== Pre_vote_pre.lean ====
abbrev S4325376 : Shape := ⟨1, ![4325376]⟩
abbrev S16384 : Shape := ⟨1, ![16384]⟩
abbrev S_ : Shape := ⟨0, ![]⟩
abbrev S1024x16 : Shape := ⟨2, ![1024, 16]⟩
abbrev S1024x1 : Shape := ⟨2, ![1024, 1]⟩

class Facts : Prop where
  bcast_S_S4325376 : S_.BroadcastsInDim S4325376 (![] : Fin 0 → Fin S4325376.rank)
  reducesTo_S4325376_S_d0 : S4325376.ReducesTo [0] S_
  h_S_ : 0 < S_.numel
  shapeCasts_S16384_S1024x16 : S16384.ShapeCasts S1024x16
  slices_S1024x16_S1024x1_0_0 : S1024x16.Slices ![0, 0] S1024x1
  bcast_S1024x1_S1024x16_0_1 : S1024x1.BroadcastsInDim S1024x16 (![0, 1] : Fin 2 → Fin S1024x16.rank)
  reducesTo_S1024x16_S_d0_1 : S1024x16.ReducesTo [0, 1] S_

variable [Facts]

def fn_part1 {F : FTy → Type} [FloatOps F] (main_v13 : IVec S_ 1) (main_v18 : IVec S1024x16 1) : IVec S_ 1 :=
  let main_c_4 : IVec S_ 1 := constantI S_ 1 1#1
  let main_v19 : IVec S_ 1 := (fun x v => Host.reduce IntOp.andi x v reducesTo_S1024x16_S_d0_1 h_S_) main_v18 main_c_4
  let main_v20 : IVec S_ 1 := andi main_v13 main_v19
  main_v20

def fn {F : FTy → Type} [FloatOps F] (main_arg0 : FVec F S4325376 .f32) (main_arg1 : IVec S4325376 32) (main_arg2 : IVec S16384 32) (main_arg3 : IVec S16384 32) : IVec S_ 1 :=
  let main_c : IVec S_ 32 := constantI S_ 32 0#32
  let main_v0 : IVec S4325376 32 := broadcastInDim S4325376 ![] bcast_S_S4325376 main_c
  let main_v1 : IVec S4325376 1 := cmpi .sge main_arg1 main_v0
  let main_c_0 : IVec S_ 1 := constantI S_ 1 1#1
  let main_v2 : IVec S_ 1 := (fun x v => Host.reduce IntOp.andi x v reducesTo_S4325376_S_d0 h_S_) main_v1 main_c_0
  let main_c_1 : IVec S_ 32 := constantI S_ 32 1000#32
  let main_v3 : IVec S4325376 32 := broadcastInDim S4325376 ![] bcast_S_S4325376 main_c_1
  let main_v4 : IVec S4325376 1 := cmpi .slt main_arg1 main_v3
  let main_c_2 : IVec S_ 1 := constantI S_ 1 1#1
  let main_v5 : IVec S_ 1 := (fun x v => Host.reduce IntOp.andi x v reducesTo_S4325376_S_d0 h_S_) main_v4 main_c_2
  let main_v6 : IVec S_ 1 := andi main_v2 main_v5
  let main_v7 : IVec S1024x16 32 := shapeCast S1024x16 main_arg2 shapeCasts_S16384_S1024x16
  let main_v8 : IVec S1024x16 32 := shapeCast S1024x16 main_arg2 shapeCasts_S16384_S1024x16
  let main_v9 : IVec S1024x1 32 := (extractStridedSlice S1024x1 ![0, 0] · slices_S1024x16_S1024x1_0_0) main_v8
  let main_v10 : IVec S1024x16 32 := broadcastInDim S1024x16 ![0, 1] bcast_S1024x1_S1024x16_0_1 main_v9
  let main_v11 : IVec S1024x16 1 := cmpi .eq main_v7 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v6 main_v12
  let main_v14 : IVec S1024x16 32 := shapeCast S1024x16 main_arg3 shapeCasts_S16384_S1024x16
  let main_v15 : IVec S1024x16 32 := shapeCast S1024x16 main_arg3 shapeCasts_S16384_S1024x16
  let main_v16 : IVec S1024x1 32 := (extractStridedSlice S1024x1 ![0, 0] · slices_S1024x16_S1024x1_0_0) main_v15
  let main_v17 : IVec S1024x16 32 := broadcastInDim S1024x16 ![0, 1] bcast_S1024x1_S1024x16_0_1 main_v16
  let main_v18 : IVec S1024x16 1 := cmpi .eq main_v14 main_v17
  fn_part1 (F := F) main_v13 main_v18
-- ==== Kernel.lean ====
abbrev S802816x128 : Shape := ⟨2, ![802816, 128]⟩
abbrev S784x128 : Shape := ⟨2, ![784, 128]⟩
abbrev S33792 : Shape := ⟨1, ![33792]⟩
abbrev S33792x128 : Shape := ⟨2, ![33792, 128]⟩
abbrev S96 : Shape := ⟨1, ![96]⟩
abbrev S96x128 : Shape := ⟨2, ![96, 128]⟩
abbrev S_ : Shape := ⟨0, ![]⟩

abbrev nBuf : Table → Nat
  | .hbm => 6
  | .local .scVector .vmem => 12
  | _ => 0

abbrev bufTy : (tb : Table) → Fin (nBuf tb) → BufTy
  | .hbm, ⟨0, _⟩ => ⟨S802816x128, .f32⟩
  | .hbm, ⟨1, _⟩ => ⟨S784x128, .i32⟩
  | .hbm, ⟨2, _⟩ => ⟨S33792, .i32⟩
  | .hbm, ⟨3, _⟩ => ⟨S33792, .i32⟩
  | .hbm, ⟨4, _⟩ => ⟨S33792x128, .f32⟩
  | .hbm, ⟨5, _⟩ => ⟨S33792x128, .i32⟩
  | .local .scVector .vmem, ⟨0, _⟩ => ⟨S96, .i32⟩
  | .local .scVector .vmem, ⟨1, _⟩ => ⟨S96, .i32⟩
  | .local .scVector .vmem, ⟨2, _⟩ => ⟨S96, .i32⟩
  | .local .scVector .vmem, ⟨3, _⟩ => ⟨S96, .i32⟩
  | .local .scVector .vmem, ⟨4, _⟩ => ⟨S96, .i32⟩
  | .local .scVector .vmem, ⟨5, _⟩ => ⟨S96, .i32⟩
  | .local .scVector .vmem, ⟨6, _⟩ => ⟨S96x128, .f32⟩
  | .local .scVector .vmem, ⟨7, _⟩ => ⟨S96x128, .f32⟩
  | .local .scVector .vmem, ⟨8, _⟩ => ⟨S96x128, .f32⟩
  | .local .scVector .vmem, ⟨9, _⟩ => ⟨S96x128, .i32⟩
  | .local .scVector .vmem, ⟨10, _⟩ => ⟨S96x128, .i32⟩
  | .local .scVector .vmem, ⟨11, _⟩ => ⟨S96x128, .i32⟩
  | _, _ => ⟨S802816x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1056_i32 : BitVec 32 := 1056#32
  let v2 : BitVec 32 := Scalar.muli v1 c1056_i32
  let v3 : BitVec 32 := Scalar.addi v2 c0_i32
  ![v3.toNat]
def k0_off2 (i : grid0.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1056_i32 : BitVec 32 := 1056#32
  let v2 : BitVec 32 := Scalar.muli v1 c1056_i32
  let v36 : BitVec 32 := Scalar.addi v2 c0_i32_12
  let c0_i32_17 : BitVec 32 := 0#32
  ![v36.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S802816x128 : Shape := ⟨2, ![802816, 128]⟩
abbrev S784x128 : Shape := ⟨2, ![784, 128]⟩
abbrev S33792 : Shape := ⟨1, ![33792]⟩
abbrev S_ : Shape := ⟨0, ![]⟩
abbrev S33792x1 : Shape := ⟨2, ![33792, 1]⟩
abbrev S1 : Shape := ⟨1, ![1]⟩
abbrev S1x1 : Shape := ⟨2, ![1, 1]⟩
abbrev S33792x128 : Shape := ⟨2, ![33792, 128]⟩

abbrev nBuf : Space → Nat
  | .hbm => 50
  | .vmem => 0
  | .smem => 0
  | _ => 0

abbrev bufTy : (tb : Table) → Fin (tcTables nBuf tb) → BufTy
  | .hbm, ⟨0, _⟩ => ⟨S802816x128, .f32⟩
  | .hbm, ⟨1, _⟩ => ⟨S784x128, .i32⟩
  | .hbm, ⟨2, _⟩ => ⟨S33792, .i32⟩
  | .hbm, ⟨3, _⟩ => ⟨S33792, .i32⟩
  | .hbm, ⟨4, _⟩ => ⟨S_, .i32⟩
  | .hbm, ⟨5, _⟩ => ⟨S33792, .i32⟩
  | .hbm, ⟨6, _⟩ => ⟨S33792, .i1⟩
  | .hbm, ⟨7, _⟩ => ⟨S_, .i32⟩
  | .hbm, ⟨8, _⟩ => ⟨S33792, .i32⟩
  | .hbm, ⟨9, _⟩ => ⟨S33792, .i32⟩
  | .hbm, ⟨10, _⟩ => ⟨S33792, .i32⟩
  | .hbm, ⟨11, _⟩ => ⟨S33792x1, .i32⟩
  | .hbm, ⟨12, _⟩ => ⟨S1, .i32⟩
  | .hbm, ⟨13, _⟩ => ⟨S_, .i32⟩
  | .hbm, ⟨14, _⟩ => ⟨S33792x1, .i32⟩
  | .hbm, ⟨15, _⟩ => ⟨S33792x1, .i1⟩
  | .hbm, ⟨16, _⟩ => ⟨S1x1, .i32⟩
  | .hbm, ⟨17, _⟩ => ⟨S33792x1, .i32⟩
  | .hbm, ⟨18, _⟩ => ⟨S33792x1, .i1⟩
  | .hbm, ⟨19, _⟩ => ⟨S33792x1, .i1⟩
  | .hbm, ⟨20, _⟩ => ⟨S_, .i1⟩
  | .hbm, ⟨21, _⟩ => ⟨S33792, .i1⟩
  | .hbm, ⟨22, _⟩ => ⟨S33792x128, .f32⟩
  | .hbm, ⟨23, _⟩ => ⟨S33792x128, .i1⟩
  | .hbm, ⟨24, _⟩ => ⟨S_, .f32⟩
  | .hbm, ⟨25, _⟩ => ⟨S33792x128, .f32⟩
  | .hbm, ⟨26, _⟩ => ⟨S33792x128, .f32⟩
  | .hbm, ⟨27, _⟩ => ⟨S_, .i32⟩
  | .hbm, ⟨28, _⟩ => ⟨S33792, .i32⟩
  | .hbm, ⟨29, _⟩ => ⟨S33792, .i1⟩
  | .hbm, ⟨30, _⟩ => ⟨S_, .i32⟩
  | .hbm, ⟨31, _⟩ => ⟨S33792, .i32⟩
  | .hbm, ⟨32, _⟩ => ⟨S33792, .i32⟩
  | .hbm, ⟨33, _⟩ => ⟨S33792, .i32⟩
  | .hbm, ⟨34, _⟩ => ⟨S33792x1, .i32⟩
  | .hbm, ⟨35, _⟩ => ⟨S1, .i32⟩
  | .hbm, ⟨36, _⟩ => ⟨S_, .i32⟩
  | .hbm, ⟨37, _⟩ => ⟨S33792x1, .i32⟩
  | .hbm, ⟨38, _⟩ => ⟨S33792x1, .i1⟩
  | .hbm, ⟨39, _⟩ => ⟨S1x1, .i32⟩
  | .hbm, ⟨40, _⟩ => ⟨S33792x1, .i32⟩
  | .hbm, ⟨41, _⟩ => ⟨S33792x1, .i1⟩
  | .hbm, ⟨42, _⟩ => ⟨S33792x1, .i1⟩
  | .hbm, ⟨43, _⟩ => ⟨S_, .i1⟩
  | .hbm, ⟨44, _⟩ => ⟨S33792, .i1⟩
  | .hbm, ⟨45, _⟩ => ⟨S33792x128, .i32⟩
  | .hbm, ⟨46, _⟩ => ⟨S33792x128, .i1⟩
  | .hbm, ⟨47, _⟩ => ⟨S_, .i32⟩
  | .hbm, ⟨48, _⟩ => ⟨S33792x128, .i32⟩
  | .hbm, ⟨49, _⟩ => ⟨S33792x128, .i32⟩
  | _, _ => ⟨S802816x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_c_4 : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Vote.lean ====
abbrev S4325376 : Shape := ⟨1, ![4325376]⟩
abbrev S16384 : Shape := ⟨1, ![16384]⟩
abbrev S1024000 : Shape := ⟨1, ![1024000]⟩
abbrev S16896 : Shape := ⟨1, ![16896]⟩
abbrev S512 : Shape := ⟨1, ![512]⟩
abbrev S4000 : Shape := ⟨1, ![4000]⟩
abbrev S_ : Shape := ⟨0, ![]⟩
abbrev S16 : Shape := ⟨1, ![16]⟩

abbrev nBuf : Table → Nat
  | .hbm => 5
  | .local .scVector .vmem => 8
  | _ => 0

abbrev bufTy : (tb : Table) → Fin (nBuf tb) → BufTy
  | .hbm, ⟨0, _⟩ => ⟨S4325376, .f32⟩
  | .hbm, ⟨1, _⟩ => ⟨S4325376, .i32⟩
  | .hbm, ⟨2, _⟩ => ⟨S16384, .i32⟩
  | .hbm, ⟨3, _⟩ => ⟨S16384, .i32⟩
  | .hbm, ⟨4, _⟩ => ⟨S1024000, .f32⟩
  | .local .scVector .vmem, ⟨0, _⟩ => ⟨S16896, .f32⟩
  | .local .scVector .vmem, ⟨1, _⟩ => ⟨S16896, .f32⟩
  | .local .scVector .vmem, ⟨2, _⟩ => ⟨S16896, .i32⟩
  | .local .scVector .vmem, ⟨3, _⟩ => ⟨S16896, .i32⟩
  | .local .scVector .vmem, ⟨4, _⟩ => ⟨S512, .i32⟩
  | .local .scVector .vmem, ⟨5, _⟩ => ⟨S512, .i32⟩
  | .local .scVector .vmem, ⟨6, _⟩ => ⟨S4000, .f32⟩
  | .local .scVector .vmem, ⟨7, _⟩ => ⟨S4000, .f32⟩
  | _, _ => ⟨S4325376, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v6 : BitVec 32 := Scalar.muli v2 c16_i32
  ![v6.toNat]
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v8 : BitVec 32 := Scalar.addi v2 c0_i32
  let c4224_i32 : BitVec 32 := 4224#32
  let v9 : BitVec 32 := Scalar.muli v8 c4224_i32
  ![v9.toNat]
@[reducible] def k0_t1_loop : Scf.Loop 32 :=
  let c0_i32_4 : BitVec 32 := 0#32
  let c250_i32 : BitVec 32 := 250#32
  let v24 : BitVec 32 := Scalar.addi c0_i32_4 c250_i32
  let c1_i32 : BitVec 32 := 1#32
  ⟨c0_i32_4, v24, c1_i32⟩
def k0_off3 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c16_i32_294 : BitVec 32 := 16#32
  let v296 : BitVec 32 := Scalar.muli arg21 c16_i32_294
  let v297 : Index := Scalar.indexCast v296
  ![v297.toNat]
@[reducible] def k0_t2_loop : Scf.Loop 32 :=
  let c0_i32_8 : BitVec 32 := 0#32
  let c33_i32 : BitVec 32 := 33#32
  let v28 : BitVec 32 := Scalar.addi c0_i32_8 c33_i32
  let c1_i32_9 : BitVec 32 := 1#32
  ⟨c0_i32_8, v28, c1_i32_9⟩
def k0_off4 (k0_t2 : Fin k0_t2_loop.trips) : Fin 1 → Nat :=
  let c0_i32_295 : BitVec 32 := 0#32
  let c0_i32_8 : BitVec 32 := 0#32
  let c1_i32_9 : BitVec 32 := 1#32
  let arg21 : BitVec 32 := Scf.iv c0_i32_8 c1_i32_9 k0_t2
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk1 (v318 : IVec S16 32) : Prop :=
  (∀ a x, ((![v318] : Fin 1 → IVec S16 32) a x).toNat < S4000.size a)
theorem k0_idx1_inb : ∀ (v318 : IVec S16 32) (k0_hw1 : k0_chk1 v318), ∀ a x, ((![v318] : Fin 1 → IVec S16 32) a x).toNat < S4000.size a := fun v318 k0_hw1 => k0_hw1
def k0_off5 (k0_t2 : Fin k0_t2_loop.trips) : Fin 1 → Nat :=
  let c0_i32_301 : BitVec 32 := 0#32
  let c0_i32_8 : BitVec 32 := 0#32
  let c1_i32_9 : BitVec 32 := 1#32
  let arg21 : BitVec 32 := Scf.iv c0_i32_8 c1_i32_9 k0_t2
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk2 (v341 : IVec S16 32) : Prop :=
  (∀ a x, ((![v341] : Fin 1 → IVec S16 32) a x).toNat < S4000.size a)
theorem k0_idx2_inb : ∀ (v341 : IVec S16 32) (k0_hw2 : k0_chk2 v341), ∀ a x, ((![v341] : Fin 1 → IVec S16 32) a x).toNat < S4000.size a := fun v341 k0_hw2 => k0_hw2
def k0_off6 (k0_t2 : Fin k0_t2_loop.trips) : Fin 1 → Nat :=
  let c0_i32_308 : BitVec 32 := 0#32
  let c0_i32_8 : BitVec 32 := 0#32
  let c1_i32_9 : BitVec 32 := 1#32
  let arg21 : BitVec 32 := Scf.iv c0_i32_8 c1_i32_9 k0_t2
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk3 (v364 : IVec S16 32) : Prop :=
  (∀ a x, ((![v364] : Fin 1 → IVec S16 32) a x).toNat < S4000.size a)
theorem k0_idx3_inb : ∀ (v364 : IVec S16 32) (k0_hw3 : k0_chk3 v364), ∀ a x, ((![v364] : Fin 1 → IVec S16 32) a x).toNat < S4000.size a := fun v364 k0_hw3 => k0_hw3
def k0_off7 (k0_t2 : Fin k0_t2_loop.trips) : Fin 1 → Nat :=
  let c0_i32_314 : BitVec 32 := 0#32
  let c0_i32_8 : BitVec 32 := 0#32
  let c1_i32_9 : BitVec 32 := 1#32
  let arg21 : BitVec 32 := Scf.iv c0_i32_8 c1_i32_9 k0_t2
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk4 (v387 : IVec S16 32) : Prop :=
  (∀ a x, ((![v387] : Fin 1 → IVec S16 32) a x).toNat < S4000.size a)
theorem k0_idx4_inb : ∀ (v387 : IVec S16 32) (k0_hw4 : k0_chk4 v387), ∀ a x, ((![v387] : Fin 1 → IVec S16 32) a x).toNat < S4000.size a := fun v387 k0_hw4 => k0_hw4
def k0_off8 (k0_t2 : Fin k0_t2_loop.trips) : Fin 1 → Nat :=
  let c0_i32_320 : BitVec 32 := 0#32
  let c0_i32_8 : BitVec 32 := 0#32
  let c1_i32_9 : BitVec 32 := 1#32
  let arg21 : BitVec 32 := Scf.iv c0_i32_8 c1_i32_9 k0_t2
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk5 (v410 : IVec S16 32) : Prop :=
  (∀ a x, ((![v410] : Fin 1 → IVec S16 32) a x).toNat < S4000.size a)
theorem k0_idx5_inb : ∀ (v410 : IVec S16 32) (k0_hw5 : k0_chk5 v410), ∀ a x, ((![v410] : Fin 1 → IVec S16 32) a x).toNat < S4000.size a := fun v410 k0_hw5 => k0_hw5
def k0_off9 (k0_t2 : Fin k0_t2_loop.trips) : Fin 1 → Nat :=
  let c0_i32_326 : BitVec 32 := 0#32
  let c0_i32_8 : BitVec 32 := 0#32
  let c1_i32_9 : BitVec 32 := 1#32
  let arg21 : BitVec 32 := Scf.iv c0_i32_8 c1_i32_9 k0_t2
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk6 (v433 : IVec S16 32) : Prop :=
  (∀ a x, ((![v433] : Fin 1 → IVec S16 32) a x).toNat < S4000.size a)
theorem k0_idx6_inb : ∀ (v433 : IVec S16 32) (k0_hw6 : k0_chk6 v433), ∀ a x, ((![v433] : Fin 1 → IVec S16 32) a x).toNat < S4000.size a := fun v433 k0_hw6 => k0_hw6
def k0_off10 (k0_t2 : Fin k0_t2_loop.trips) : Fin 1 → Nat :=
  let c0_i32_332 : BitVec 32 := 0#32
  let c0_i32_8 : BitVec 32 := 0#32
  let c1_i32_9 : BitVec 32 := 1#32
  let arg21 : BitVec 32 := Scf.iv c0_i32_8 c1_i32_9 k0_t2
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk7 (v456 : IVec S16 32) : Prop :=
  (∀ a x, ((![v456] : Fin 1 → IVec S16 32) a x).toNat < S4000.size a)
theorem k0_idx7_inb : ∀ (v456 : IVec S16 32) (k0_hw7 : k0_chk7 v456), ∀ a x, ((![v456] : Fin 1 → IVec S16 32) a x).toNat < S4000.size a := fun v456 k0_hw7 => k0_hw7
def k0_off11 (k0_t2 : Fin k0_t2_loop.trips) : Fin 1 → Nat :=
  let c0_i32_338 : BitVec 32 := 0#32
  let c0_i32_8 : BitVec 32 := 0#32
  let c1_i32_9 : BitVec 32 := 1#32
  let arg21 : BitVec 32 := Scf.iv c0_i32_8 c1_i32_9 k0_t2
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk8 (v479 : IVec S16 32) : Prop :=
  (∀ a x, ((![v479] : Fin 1 → IVec S16 32) a x).toNat < S4000.size a)
theorem k0_idx8_inb : ∀ (v479 : IVec S16 32) (k0_hw8 : k0_chk8 v479), ∀ a x, ((![v479] : Fin 1 → IVec S16 32) a x).toNat < S4000.size a := fun v479 k0_hw8 => k0_hw8
@[reducible] def k0_t3_loop : Scf.Loop 32 :=
  let c0_i32_13 : BitVec 32 := 0#32
  let c33_i32_14 : BitVec 32 := 33#32
  let v32 : BitVec 32 := Scalar.addi c0_i32_13 c33_i32_14
  let c1_i32_15 : BitVec 32 := 1#32
  ⟨c0_i32_13, v32, c1_i32_15⟩
def k0_off12 (k0_t3 : Fin k0_t3_loop.trips) : Fin 1 → Nat :=
  let c4224_i32_295 : BitVec 32 := 4224#32
  let c0_i32_13 : BitVec 32 := 0#32
  let c1_i32_15 : BitVec 32 := 1#32
  let arg21 : BitVec 32 := Scf.iv c0_i32_13 c1_i32_15 k0_t3
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk9 (v318 : IVec S16 32) : Prop :=
  (∀ a x, ((![v318] : Fin 1 → IVec S16 32) a x).toNat < S4000.size a)
theorem k0_idx9_inb : ∀ (v318 : IVec S16 32) (k0_hw9 : k0_chk9 v318), ∀ a x, ((![v318] : Fin 1 → IVec S16 32) a x).toNat < S4000.size a := fun v318 k0_hw9 => k0_hw9
def k0_off13 (k0_t3 : Fin k0_t3_loop.trips) : Fin 1 → Nat :=
  let c4224_i32_301 : BitVec 32 := 4224#32
  let c0_i32_13 : BitVec 32 := 0#32
  let c1_i32_15 : BitVec 32 := 1#32
  let arg21 : BitVec 32 := Scf.iv c0_i32_13 c1_i32_15 k0_t3
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk10 (v341 : IVec S16 32) : Prop :=
  (∀ a x, ((![v341] : Fin 1 → IVec S16 32) a x).toNat < S4000.size a)
theorem k0_idx10_inb : ∀ (v341 : IVec S16 32) (k0_hw10 : k0_chk10 v341), ∀ a x, ((![v341] : Fin 1 → IVec S16 32) a x).toNat < S4000.size a := fun v341 k0_hw10 => k0_hw10
def k0_off14 (k0_t3 : Fin k0_t3_loop.trips) : Fin 1 → Nat :=
  let c4224_i32_308 : BitVec 32 := 4224#32
  let c0_i32_13 : BitVec 32 := 0#32
  let c1_i32_15 : BitVec 32 := 1#32
  let arg21 : BitVec 32 := Scf.iv c0_i32_13 c1_i32_15 k0_t3
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk11 (v364 : IVec S16 32) : Prop :=
  (∀ a x, ((![v364] : Fin 1 → IVec S16 32) a x).toNat < S4000.size a)
theorem k0_idx11_inb : ∀ (v364 : IVec S16 32) (k0_hw11 : k0_chk11 v364), ∀ a x, ((![v364] : Fin 1 → IVec S16 32) a x).toNat < S4000.size a := fun v364 k0_hw11 => k0_hw11
def k0_off15 (k0_t3 : Fin k0_t3_loop.trips) : Fin 1 → Nat :=
  let c4224_i32_314 : BitVec 32 := 4224#32
  let c0_i32_13 : BitVec 32 := 0#32
  let c1_i32_15 : BitVec 32 := 1#32
  let arg21 : BitVec 32 := Scf.iv c0_i32_13 c1_i32_15 k0_t3
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk12 (v387 : IVec S16 32) : Prop :=
  (∀ a x, ((![v387] : Fin 1 → IVec S16 32) a x).toNat < S4000.size a)
theorem k0_idx12_inb : ∀ (v387 : IVec S16 32) (k0_hw12 : k0_chk12 v387), ∀ a x, ((![v387] : Fin 1 → IVec S16 32) a x).toNat < S4000.size a := fun v387 k0_hw12 => k0_hw12
def k0_off16 (k0_t3 : Fin k0_t3_loop.trips) : Fin 1 → Nat :=
  let c4224_i32_320 : BitVec 32 := 4224#32
  let c0_i32_13 : BitVec 32 := 0#32
  let c1_i32_15 : BitVec 32 := 1#32
  let arg21 : BitVec 32 := Scf.iv c0_i32_13 c1_i32_15 k0_t3
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk13 (v410 : IVec S16 32) : Prop :=
  (∀ a x, ((![v410] : Fin 1 → IVec S16 32) a x).toNat < S4000.size a)
theorem k0_idx13_inb : ∀ (v410 : IVec S16 32) (k0_hw13 : k0_chk13 v410), ∀ a x, ((![v410] : Fin 1 → IVec S16 32) a x).toNat < S4000.size a := fun v410 k0_hw13 => k0_hw13
def k0_off17 (k0_t3 : Fin k0_t3_loop.trips) : Fin 1 → Nat :=
  let c4224_i32_326 : BitVec 32 := 4224#32
  let c0_i32_13 : BitVec 32 := 0#32
  let c1_i32_15 : BitVec 32 := 1#32
  let arg21 : BitVec 32 := Scf.iv c0_i32_13 c1_i32_15 k0_t3
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk14 (v433 : IVec S16 32) : Prop :=
  (∀ a x, ((![v433] : Fin 1 → IVec S16 32) a x).toNat < S4000.size a)
theorem k0_idx14_inb : ∀ (v433 : IVec S16 32) (k0_hw14 : k0_chk14 v433), ∀ a x, ((![v433] : Fin 1 → IVec S16 32) a x).toNat < S4000.size a := fun v433 k0_hw14 => k0_hw14
def k0_off18 (k0_t3 : Fin k0_t3_loop.trips) : Fin 1 → Nat :=
  let c4224_i32_332 : BitVec 32 := 4224#32
  let c0_i32_13 : BitVec 32 := 0#32
  let c1_i32_15 : BitVec 32 := 1#32
  let arg21 : BitVec 32 := Scf.iv c0_i32_13 c1_i32_15 k0_t3
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk15 (v456 : IVec S16 32) : Prop :=
  (∀ a x, ((![v456] : Fin 1 → IVec S16 32) a x).toNat < S4000.size a)
theorem k0_idx15_inb : ∀ (v456 : IVec S16 32) (k0_hw15 : k0_chk15 v456), ∀ a x, ((![v456] : Fin 1 → IVec S16 32) a x).toNat < S4000.size a := fun v456 k0_hw15 => k0_hw15
def k0_off19 (k0_t3 : Fin k0_t3_loop.trips) : Fin 1 → Nat :=
  let c4224_i32_338 : BitVec 32 := 4224#32
  let c0_i32_13 : BitVec 32 := 0#32
  let c1_i32_15 : BitVec 32 := 1#32
  let arg21 : BitVec 32 := Scf.iv c0_i32_13 c1_i32_15 k0_t3
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk16 (v479 : IVec S16 32) : Prop :=
  (∀ a x, ((![v479] : Fin 1 → IVec S16 32) a x).toNat < S4000.size a)
theorem k0_idx16_inb : ∀ (v479 : IVec S16 32) (k0_hw16 : k0_chk16 v479), ∀ a x, ((![v479] : Fin 1 → IVec S16 32) a x).toNat < S4000.size a := fun v479 k0_hw16 => k0_hw16
@[reducible] def k0_t4_loop : Scf.Loop 32 :=
  let c0_i32_19 : BitVec 32 := 0#32
  let c33_i32_20 : BitVec 32 := 33#32
  let v36 : BitVec 32 := Scalar.addi c0_i32_19 c33_i32_20
  let c1_i32_21 : BitVec 32 := 1#32
  ⟨c0_i32_19, v36, c1_i32_21⟩
def k0_off20 (k0_t4 : Fin k0_t4_loop.trips) : Fin 1 → Nat :=
  let c8448_i32 : BitVec 32 := 8448#32
  let c0_i32_19 : BitVec 32 := 0#32
  let c1_i32_21 : BitVec 32 := 1#32
  let arg21 : BitVec 32 := Scf.iv c0_i32_19 c1_i32_21 k0_t4
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk17 (v318 : IVec S16 32) : Prop :=
  (∀ a x, ((![v318] : Fin 1 → IVec S16 32) a x).toNat < S4000.size a)
theorem k0_idx17_inb : ∀ (v318 : IVec S16 32) (k0_hw17 : k0_chk17 v318), ∀ a x, ((![v318] : Fin 1 → IVec S16 32) a x).toNat < S4000.size a := fun v318 k0_hw17 => k0_hw17
def k0_off21 (k0_t4 : Fin k0_t4_loop.trips) : Fin 1 → Nat :=
  let c8448_i32_299 : BitVec 32 := 8448#32
  let c0_i32_19 : BitVec 32 := 0#32
  let c1_i32_21 : BitVec 32 := 1#32
  let arg21 : BitVec 32 := Scf.iv c0_i32_19 c1_i32_21 k0_t4
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk18 (v341 : IVec S16 32) : Prop :=
  (∀ a x, ((![v341] : Fin 1 → IVec S16 32) a x).toNat < S4000.size a)
theorem k0_idx18_inb : ∀ (v341 : IVec S16 32) (k0_hw18 : k0_chk18 v341), ∀ a x, ((![v341] : Fin 1 → IVec S16 32) a x).toNat < S4000.size a := fun v341 k0_hw18 => k0_hw18
def k0_off22 (k0_t4 : Fin k0_t4_loop.trips) : Fin 1 → Nat :=
  let c8448_i32_306 : BitVec 32 := 8448#32
  let c0_i32_19 : BitVec 32 := 0#32
  let c1_i32_21 : BitVec 32 := 1#32
  let arg21 : BitVec 32 := Scf.iv c0_i32_19 c1_i32_21 k0_t4
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk19 (v364 : IVec S16 32) : Prop :=
  (∀ a x, ((![v364] : Fin 1 → IVec S16 32) a x).toNat < S4000.size a)
theorem k0_idx19_inb : ∀ (v364 : IVec S16 32) (k0_hw19 : k0_chk19 v364), ∀ a x, ((![v364] : Fin 1 → IVec S16 32) a x).toNat < S4000.size a := fun v364 k0_hw19 => k0_hw19
def k0_off23 (k0_t4 : Fin k0_t4_loop.trips) : Fin 1 → Nat :=
  let c8448_i32_312 : BitVec 32 := 8448#32
  let c0_i32_19 : BitVec 32 := 0#32
  let c1_i32_21 : BitVec 32 := 1#32
  let arg21 : BitVec 32 := Scf.iv c0_i32_19 c1_i32_21 k0_t4
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk20 (v387 : IVec S16 32) : Prop :=
  (∀ a x, ((![v387] : Fin 1 → IVec S16 32) a x).toNat < S4000.size a)
theorem k0_idx20_inb : ∀ (v387 : IVec S16 32) (k0_hw20 : k0_chk20 v387), ∀ a x, ((![v387] : Fin 1 → IVec S16 32) a x).toNat < S4000.size a := fun v387 k0_hw20 => k0_hw20
def k0_off24 (k0_t4 : Fin k0_t4_loop.trips) : Fin 1 → Nat :=
  let c8448_i32_318 : BitVec 32 := 8448#32
  let c0_i32_19 : BitVec 32 := 0#32
  let c1_i32_21 : BitVec 32 := 1#32
  let arg21 : BitVec 32 := Scf.iv c0_i32_19 c1_i32_21 k0_t4
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk21 (v410 : IVec S16 32) : Prop :=
  (∀ a x, ((![v410] : Fin 1 → IVec S16 32) a x).toNat < S4000.size a)
theorem k0_idx21_inb : ∀ (v410 : IVec S16 32) (k0_hw21 : k0_chk21 v410), ∀ a x, ((![v410] : Fin 1 → IVec S16 32) a x).toNat < S4000.size a := fun v410 k0_hw21 => k0_hw21
def k0_off25 (k0_t4 : Fin k0_t4_loop.trips) : Fin 1 → Nat :=
  let c8448_i32_324 : BitVec 32 := 8448#32
  let c0_i32_19 : BitVec 32 := 0#32
  let c1_i32_21 : BitVec 32 := 1#32
  let arg21 : BitVec 32 := Scf.iv c0_i32_19 c1_i32_21 k0_t4
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk22 (v433 : IVec S16 32) : Prop :=
  (∀ a x, ((![v433] : Fin 1 → IVec S16 32) a x).toNat < S4000.size a)
theorem k0_idx22_inb : ∀ (v433 : IVec S16 32) (k0_hw22 : k0_chk22 v433), ∀ a x, ((![v433] : Fin 1 → IVec S16 32) a x).toNat < S4000.size a := fun v433 k0_hw22 => k0_hw22
def k0_off26 (k0_t4 : Fin k0_t4_loop.trips) : Fin 1 → Nat :=
  let c8448_i32_330 : BitVec 32 := 8448#32
  let c0_i32_19 : BitVec 32 := 0#32
  let c1_i32_21 : BitVec 32 := 1#32
  let arg21 : BitVec 32 := Scf.iv c0_i32_19 c1_i32_21 k0_t4
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk23 (v456 : IVec S16 32) : Prop :=
  (∀ a x, ((![v456] : Fin 1 → IVec S16 32) a x).toNat < S4000.size a)
theorem k0_idx23_inb : ∀ (v456 : IVec S16 32) (k0_hw23 : k0_chk23 v456), ∀ a x, ((![v456] : Fin 1 → IVec S16 32) a x).toNat < S4000.size a := fun v456 k0_hw23 => k0_hw23
def k0_off27 (k0_t4 : Fin k0_t4_loop.trips) : Fin 1 → Nat :=
  let c8448_i32_336 : BitVec 32 := 8448#32
  let c0_i32_19 : BitVec 32 := 0#32
  let c1_i32_21 : BitVec 32 := 1#32
  let arg21 : BitVec 32 := Scf.iv c0_i32_19 c1_i32_21 k0_t4
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk24 (v479 : IVec S16 32) : Prop :=
  (∀ a x, ((![v479] : Fin 1 → IVec S16 32) a x).toNat < S4000.size a)
theorem k0_idx24_inb : ∀ (v479 : IVec S16 32) (k0_hw24 : k0_chk24 v479), ∀ a x, ((![v479] : Fin 1 → IVec S16 32) a x).toNat < S4000.size a := fun v479 k0_hw24 => k0_hw24
@[reducible] def k0_t5_loop : Scf.Loop 32 :=
  let c0_i32_25 : BitVec 32 := 0#32
  let c33_i32_26 : BitVec 32 := 33#32
  let v40 : BitVec 32 := Scalar.addi c0_i32_25 c33_i32_26
  let c1_i32_27 : BitVec 32 := 1#32
  ⟨c0_i32_25, v40, c1_i32_27⟩
def k0_off28 (k0_t5 : Fin k0_t5_loop.trips) : Fin 1 → Nat :=
  let c12672_i32 : BitVec 32 := 12672#32
  let c0_i32_25 : BitVec 32 := 0#32
  let c1_i32_27 : BitVec 32 := 1#32
  let arg21 : BitVec 32 := Scf.iv c0_i32_25 c1_i32_27 k0_t5
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk25 (v318 : IVec S16 32) : Prop :=
  (∀ a x, ((![v318] : Fin 1 → IVec S16 32) a x).toNat < S4000.size a)
theorem k0_idx25_inb : ∀ (v318 : IVec S16 32) (k0_hw25 : k0_chk25 v318), ∀ a x, ((![v318] : Fin 1 → IVec S16 32) a x).toNat < S4000.size a := fun v318 k0_hw25 => k0_hw25
def k0_off29 (k0_t5 : Fin k0_t5_loop.trips) : Fin 1 → Nat :=
  let c12672_i32_299 : BitVec 32 := 12672#32
  let c0_i32_25 : BitVec 32 := 0#32
  let c1_i32_27 : BitVec 32 := 1#32
  let arg21 : BitVec 32 := Scf.iv c0_i32_25 c1_i32_27 k0_t5
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk26 (v341 : IVec S16 32) : Prop :=
  (∀ a x, ((![v341] : Fin 1 → IVec S16 32) a x).toNat < S4000.size a)
theorem k0_idx26_inb : ∀ (v341 : IVec S16 32) (k0_hw26 : k0_chk26 v341), ∀ a x, ((![v341] : Fin 1 → IVec S16 32) a x).toNat < S4000.size a := fun v341 k0_hw26 => k0_hw26
def k0_off30 (k0_t5 : Fin k0_t5_loop.trips) : Fin 1 → Nat :=
  let c12672_i32_306 : BitVec 32 := 12672#32
  let c0_i32_25 : BitVec 32 := 0#32
  let c1_i32_27 : BitVec 32 := 1#32
  let arg21 : BitVec 32 := Scf.iv c0_i32_25 c1_i32_27 k0_t5
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk27 (v364 : IVec S16 32) : Prop :=
  (∀ a x, ((![v364] : Fin 1 → IVec S16 32) a x).toNat < S4000.size a)
theorem k0_idx27_inb : ∀ (v364 : IVec S16 32) (k0_hw27 : k0_chk27 v364), ∀ a x, ((![v364] : Fin 1 → IVec S16 32) a x).toNat < S4000.size a := fun v364 k0_hw27 => k0_hw27
def k0_off31 (k0_t5 : Fin k0_t5_loop.trips) : Fin 1 → Nat :=
  let c12672_i32_312 : BitVec 32 := 12672#32
  let c0_i32_25 : BitVec 32 := 0#32
  let c1_i32_27 : BitVec 32 := 1#32
  let arg21 : BitVec 32 := Scf.iv c0_i32_25 c1_i32_27 k0_t5
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk28 (v387 : IVec S16 32) : Prop :=
  (∀ a x, ((![v387] : Fin 1 → IVec S16 32) a x).toNat < S4000.size a)
theorem k0_idx28_inb : ∀ (v387 : IVec S16 32) (k0_hw28 : k0_chk28 v387), ∀ a x, ((![v387] : Fin 1 → IVec S16 32) a x).toNat < S4000.size a := fun v387 k0_hw28 => k0_hw28
def k0_off32 (k0_t5 : Fin k0_t5_loop.trips) : Fin 1 → Nat :=
  let c12672_i32_318 : BitVec 32 := 12672#32
  let c0_i32_25 : BitVec 32 := 0#32
  let c1_i32_27 : BitVec 32 := 1#32
  let arg21 : BitVec 32 := Scf.iv c0_i32_25 c1_i32_27 k0_t5
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk29 (v410 : IVec S16 32) : Prop :=
  (∀ a x, ((![v410] : Fin 1 → IVec S16 32) a x).toNat < S4000.size a)
theorem k0_idx29_inb : ∀ (v410 : IVec S16 32) (k0_hw29 : k0_chk29 v410), ∀ a x, ((![v410] : Fin 1 → IVec S16 32) a x).toNat < S4000.size a := fun v410 k0_hw29 => k0_hw29
def k0_off33 (k0_t5 : Fin k0_t5_loop.trips) : Fin 1 → Nat :=
  let c12672_i32_324 : BitVec 32 := 12672#32
  let c0_i32_25 : BitVec 32 := 0#32
  let c1_i32_27 : BitVec 32 := 1#32
  let arg21 : BitVec 32 := Scf.iv c0_i32_25 c1_i32_27 k0_t5
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk30 (v433 : IVec S16 32) : Prop :=
  (∀ a x, ((![v433] : Fin 1 → IVec S16 32) a x).toNat < S4000.size a)
theorem k0_idx30_inb : ∀ (v433 : IVec S16 32) (k0_hw30 : k0_chk30 v433), ∀ a x, ((![v433] : Fin 1 → IVec S16 32) a x).toNat < S4000.size a := fun v433 k0_hw30 => k0_hw30
def k0_off34 (k0_t5 : Fin k0_t5_loop.trips) : Fin 1 → Nat :=
  let c12672_i32_330 : BitVec 32 := 12672#32
  let c0_i32_25 : BitVec 32 := 0#32
  let c1_i32_27 : BitVec 32 := 1#32
  let arg21 : BitVec 32 := Scf.iv c0_i32_25 c1_i32_27 k0_t5
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk31 (v456 : IVec S16 32) : Prop :=
  (∀ a x, ((![v456] : Fin 1 → IVec S16 32) a x).toNat < S4000.size a)
theorem k0_idx31_inb : ∀ (v456 : IVec S16 32) (k0_hw31 : k0_chk31 v456), ∀ a x, ((![v456] : Fin 1 → IVec S16 32) a x).toNat < S4000.size a := fun v456 k0_hw31 => k0_hw31
def k0_off35 (k0_t5 : Fin k0_t5_loop.trips) : Fin 1 → Nat :=
  let c12672_i32_336 : BitVec 32 := 12672#32
  let c0_i32_25 : BitVec 32 := 0#32
  let c1_i32_27 : BitVec 32 := 1#32
  let arg21 : BitVec 32 := Scf.iv c0_i32_25 c1_i32_27 k0_t5
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk32 (v479 : IVec S16 32) : Prop :=
  (∀ a x, ((![v479] : Fin 1 → IVec S16 32) a x).toNat < S4000.size a)
theorem k0_idx32_inb : ∀ (v479 : IVec S16 32) (k0_hw32 : k0_chk32 v479), ∀ a x, ((![v479] : Fin 1 → IVec S16 32) a x).toNat < S4000.size a := fun v479 k0_hw32 => k0_hw32
@[reducible] def k0_t6_loop : Scf.Loop 32 :=
  let c0_i32_30 : BitVec 32 := 0#32
  let c250_i32_31 : BitVec 32 := 250#32
  let v42 : BitVec 32 := Scalar.addi c0_i32_30 c250_i32_31
  let c1_i32_32 : BitVec 32 := 1#32
  ⟨c0_i32_30, v42, c1_i32_32⟩
def k0_off36 (k0_t6 : Fin k0_t6_loop.trips) : Fin 1 → Nat :=
  let c0_i32_30 : BitVec 32 := 0#32
  let c1_i32_32 : BitVec 32 := 1#32
  let arg21 : BitVec 32 := Scf.iv c0_i32_30 c1_i32_32 k0_t6
  let c16_i32_294 : BitVec 32 := 16#32
  let v296 : BitVec 32 := Scalar.muli arg21 c16_i32_294
  let v297 : Index := Scalar.indexCast v296
  ![v297.toNat]
def k0_off37 (i : grid0.Coords) (c0_i32_34 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v44 : BitVec 32 := Scalar.addi v2 c0_i32_34
  let c1000_i32 : BitVec 32 := 1000#32
  let v45 : BitVec 32 := Scalar.muli v44 c1000_i32
  ![v45.toNat]
@[reducible] def k0_t7_loop : Scf.Loop 32 :=
  let c0_i32_37 : BitVec 32 := 0#32
  let c250_i32_38 : BitVec 32 := 250#32
  let v58 : BitVec 32 := Scalar.addi c0_i32_37 c250_i32_38
  let c1_i32_39 : BitVec 32 := 1#32
  ⟨c0_i32_37, v58, c1_i32_39⟩
def k0_off38 (k0_t7 : Fin k0_t7_loop.trips) : Fin 1 → Nat :=
  let c0_i32_37 : BitVec 32 := 0#32
  let c1_i32_39 : BitVec 32 := 1#32
  let arg21 : BitVec 32 := Scf.iv c0_i32_37 c1_i32_39 k0_t7
  let c16_i32_294 : BitVec 32 := 16#32
  let v296 : BitVec 32 := Scalar.muli arg21 c16_i32_294
  let v297 : Index := Scalar.indexCast v296
  ![v297.toNat]
@[reducible] def k0_t8_loop : Scf.Loop 32 :=
  let c0_i32_43 : BitVec 32 := 0#32
  let c33_i32_44 : BitVec 32 := 33#32
  let v62 : BitVec 32 := Scalar.addi c0_i32_43 c33_i32_44
  let c1_i32_45 : BitVec 32 := 1#32
  ⟨c0_i32_43, v62, c1_i32_45⟩
def k0_off39 (k0_t8 : Fin k0_t8_loop.trips) : Fin 1 → Nat :=
  let c0_i32_295 : BitVec 32 := 0#32
  let c0_i32_43 : BitVec 32 := 0#32
  let c1_i32_45 : BitVec 32 := 1#32
  let arg21 : BitVec 32 := Scf.iv c0_i32_43 c1_i32_45 k0_t8
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk33 (v318 : IVec S16 32) : Prop :=
  (∀ a x, ((![v318] : Fin 1 → IVec S16 32) a x).toNat < S4000.size a)
theorem k0_idx33_inb : ∀ (v318 : IVec S16 32) (k0_hw33 : k0_chk33 v318), ∀ a x, ((![v318] : Fin 1 → IVec S16 32) a x).toNat < S4000.size a := fun v318 k0_hw33 => k0_hw33
def k0_off40 (k0_t8 : Fin k0_t8_loop.trips) : Fin 1 → Nat :=
  let c0_i32_301 : BitVec 32 := 0#32
  let c0_i32_43 : BitVec 32 := 0#32
  let c1_i32_45 : BitVec 32 := 1#32
  let arg21 : BitVec 32 := Scf.iv c0_i32_43 c1_i32_45 k0_t8
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk34 (v341 : IVec S16 32) : Prop :=
  (∀ a x, ((![v341] : Fin 1 → IVec S16 32) a x).toNat < S4000.size a)
theorem k0_idx34_inb : ∀ (v341 : IVec S16 32) (k0_hw34 : k0_chk34 v341), ∀ a x, ((![v341] : Fin 1 → IVec S16 32) a x).toNat < S4000.size a := fun v341 k0_hw34 => k0_hw34
def k0_off41 (k0_t8 : Fin k0_t8_loop.trips) : Fin 1 → Nat :=
  let c0_i32_308 : BitVec 32 := 0#32
  let c0_i32_43 : BitVec 32 := 0#32
  let c1_i32_45 : BitVec 32 := 1#32
  let arg21 : BitVec 32 := Scf.iv c0_i32_43 c1_i32_45 k0_t8
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk35 (v364 : IVec S16 32) : Prop :=
  (∀ a x, ((![v364] : Fin 1 → IVec S16 32) a x).toNat < S4000.size a)
theorem k0_idx35_inb : ∀ (v364 : IVec S16 32) (k0_hw35 : k0_chk35 v364), ∀ a x, ((![v364] : Fin 1 → IVec S16 32) a x).toNat < S4000.size a := fun v364 k0_hw35 => k0_hw35
def k0_off42 (k0_t8 : Fin k0_t8_loop.trips) : Fin 1 → Nat :=
  let c0_i32_314 : BitVec 32 := 0#32
  let c0_i32_43 : BitVec 32 := 0#32
  let c1_i32_45 : BitVec 32 := 1#32
  let arg21 : BitVec 32 := Scf.iv c0_i32_43 c1_i32_45 k0_t8
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk36 (v387 : IVec S16 32) : Prop :=
  (∀ a x, ((![v387] : Fin 1 → IVec S16 32) a x).toNat < S4000.size a)
theorem k0_idx36_inb : ∀ (v387 : IVec S16 32) (k0_hw36 : k0_chk36 v387), ∀ a x, ((![v387] : Fin 1 → IVec S16 32) a x).toNat < S4000.size a := fun v387 k0_hw36 => k0_hw36
def k0_off43 (k0_t8 : Fin k0_t8_loop.trips) : Fin 1 → Nat :=
  let c0_i32_320 : BitVec 32 := 0#32
  let c0_i32_43 : BitVec 32 := 0#32
  let c1_i32_45 : BitVec 32 := 1#32
  let arg21 : BitVec 32 := Scf.iv c0_i32_43 c1_i32_45 k0_t8
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk37 (v410 : IVec S16 32) : Prop :=
  (∀ a x, ((![v410] : Fin 1 → IVec S16 32) a x).toNat < S4000.size a)
theorem k0_idx37_inb : ∀ (v410 : IVec S16 32) (k0_hw37 : k0_chk37 v410), ∀ a x, ((![v410] : Fin 1 → IVec S16 32) a x).toNat < S4000.size a := fun v410 k0_hw37 => k0_hw37
def k0_off44 (k0_t8 : Fin k0_t8_loop.trips) : Fin 1 → Nat :=
  let c0_i32_326 : BitVec 32 := 0#32
  let c0_i32_43 : BitVec 32 := 0#32
  let c1_i32_45 : BitVec 32 := 1#32
  let arg21 : BitVec 32 := Scf.iv c0_i32_43 c1_i32_45 k0_t8
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk38 (v433 : IVec S16 32) : Prop :=
  (∀ a x, ((![v433] : Fin 1 → IVec S16 32) a x).toNat < S4000.size a)
theorem k0_idx38_inb : ∀ (v433 : IVec S16 32) (k0_hw38 : k0_chk38 v433), ∀ a x, ((![v433] : Fin 1 → IVec S16 32) a x).toNat < S4000.size a := fun v433 k0_hw38 => k0_hw38
def k0_off45 (k0_t8 : Fin k0_t8_loop.trips) : Fin 1 → Nat :=
  let c0_i32_332 : BitVec 32 := 0#32
  let c0_i32_43 : BitVec 32 := 0#32
  let c1_i32_45 : BitVec 32 := 1#32
  let arg21 : BitVec 32 := Scf.iv c0_i32_43 c1_i32_45 k0_t8
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk39 (v456 : IVec S16 32) : Prop :=
  (∀ a x, ((![v456] : Fin 1 → IVec S16 32) a x).toNat < S4000.size a)
theorem k0_idx39_inb : ∀ (v456 : IVec S16 32) (k0_hw39 : k0_chk39 v456), ∀ a x, ((![v456] : Fin 1 → IVec S16 32) a x).toNat < S4000.size a := fun v456 k0_hw39 => k0_hw39
def k0_off46 (k0_t8 : Fin k0_t8_loop.trips) : Fin 1 → Nat :=
  let c0_i32_338 : BitVec 32 := 0#32
  let c0_i32_43 : BitVec 32 := 0#32
  let c1_i32_45 : BitVec 32 := 1#32
  let arg21 : BitVec 32 := Scf.iv c0_i32_43 c1_i32_45 k0_t8
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk40 (v479 : IVec S16 32) : Prop :=
  (∀ a x, ((![v479] : Fin 1 → IVec S16 32) a x).toNat < S4000.size a)
theorem k0_idx40_inb : ∀ (v479 : IVec S16 32) (k0_hw40 : k0_chk40 v479), ∀ a x, ((![v479] : Fin 1 → IVec S16 32) a x).toNat < S4000.size a := fun v479 k0_hw40 => k0_hw40
@[reducible] def k0_t9_loop : Scf.Loop 32 :=
  let c0_i32_49 : BitVec 32 := 0#32
  let c33_i32_50 : BitVec 32 := 33#32
  let v66 : BitVec 32 := Scalar.addi c0_i32_49 c33_i32_50
  let c1_i32_51 : BitVec 32 := 1#32
  ⟨c0_i32_49, v66, c1_i32_51⟩
def k0_off47 (k0_t9 : Fin k0_t9_loop.trips) : Fin 1 → Nat :=
  let c4224_i32_295 : BitVec 32 := 4224#32
  let c0_i32_49 : BitVec 32 := 0#32
  let c1_i32_51 : BitVec 32 := 1#32
  let arg21 : BitVec 32 := Scf.iv c0_i32_49 c1_i32_51 k0_t9
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk41 (v318 : IVec S16 32) : Prop :=
  (∀ a x, ((![v318] : Fin 1 → IVec S16 32) a x).toNat < S4000.size a)
theorem k0_idx41_inb : ∀ (v318 : IVec S16 32) (k0_hw41 : k0_chk41 v318), ∀ a x, ((![v318] : Fin 1 → IVec S16 32) a x).toNat < S4000.size a := fun v318 k0_hw41 => k0_hw41
def k0_off48 (k0_t9 : Fin k0_t9_loop.trips) : Fin 1 → Nat :=
  let c4224_i32_301 : BitVec 32 := 4224#32
  let c0_i32_49 : BitVec 32 := 0#32
  let c1_i32_51 : BitVec 32 := 1#32
  let arg21 : BitVec 32 := Scf.iv c0_i32_49 c1_i32_51 k0_t9
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk42 (v341 : IVec S16 32) : Prop :=
  (∀ a x, ((![v341] : Fin 1 → IVec S16 32) a x).toNat < S4000.size a)
theorem k0_idx42_inb : ∀ (v341 : IVec S16 32) (k0_hw42 : k0_chk42 v341), ∀ a x, ((![v341] : Fin 1 → IVec S16 32) a x).toNat < S4000.size a := fun v341 k0_hw42 => k0_hw42
def k0_off49 (k0_t9 : Fin k0_t9_loop.trips) : Fin 1 → Nat :=
  let c4224_i32_308 : BitVec 32 := 4224#32
  let c0_i32_49 : BitVec 32 := 0#32
  let c1_i32_51 : BitVec 32 := 1#32
  let arg21 : BitVec 32 := Scf.iv c0_i32_49 c1_i32_51 k0_t9
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk43 (v364 : IVec S16 32) : Prop :=
  (∀ a x, ((![v364] : Fin 1 → IVec S16 32) a x).toNat < S4000.size a)
theorem k0_idx43_inb : ∀ (v364 : IVec S16 32) (k0_hw43 : k0_chk43 v364), ∀ a x, ((![v364] : Fin 1 → IVec S16 32) a x).toNat < S4000.size a := fun v364 k0_hw43 => k0_hw43
def k0_off50 (k0_t9 : Fin k0_t9_loop.trips) : Fin 1 → Nat :=
  let c4224_i32_314 : BitVec 32 := 4224#32
  let c0_i32_49 : BitVec 32 := 0#32
  let c1_i32_51 : BitVec 32 := 1#32
  let arg21 : BitVec 32 := Scf.iv c0_i32_49 c1_i32_51 k0_t9
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk44 (v387 : IVec S16 32) : Prop :=
  (∀ a x, ((![v387] : Fin 1 → IVec S16 32) a x).toNat < S4000.size a)
theorem k0_idx44_inb : ∀ (v387 : IVec S16 32) (k0_hw44 : k0_chk44 v387), ∀ a x, ((![v387] : Fin 1 → IVec S16 32) a x).toNat < S4000.size a := fun v387 k0_hw44 => k0_hw44
def k0_off51 (k0_t9 : Fin k0_t9_loop.trips) : Fin 1 → Nat :=
  let c4224_i32_320 : BitVec 32 := 4224#32
  let c0_i32_49 : BitVec 32 := 0#32
  let c1_i32_51 : BitVec 32 := 1#32
  let arg21 : BitVec 32 := Scf.iv c0_i32_49 c1_i32_51 k0_t9
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk45 (v410 : IVec S16 32) : Prop :=
  (∀ a x, ((![v410] : Fin 1 → IVec S16 32) a x).toNat < S4000.size a)
theorem k0_idx45_inb : ∀ (v410 : IVec S16 32) (k0_hw45 : k0_chk45 v410), ∀ a x, ((![v410] : Fin 1 → IVec S16 32) a x).toNat < S4000.size a := fun v410 k0_hw45 => k0_hw45
def k0_off52 (k0_t9 : Fin k0_t9_loop.trips) : Fin 1 → Nat :=
  let c4224_i32_326 : BitVec 32 := 4224#32
  let c0_i32_49 : BitVec 32 := 0#32
  let c1_i32_51 : BitVec 32 := 1#32
  let arg21 : BitVec 32 := Scf.iv c0_i32_49 c1_i32_51 k0_t9
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk46 (v433 : IVec S16 32) : Prop :=
  (∀ a x, ((![v433] : Fin 1 → IVec S16 32) a x).toNat < S4000.size a)
theorem k0_idx46_inb : ∀ (v433 : IVec S16 32) (k0_hw46 : k0_chk46 v433), ∀ a x, ((![v433] : Fin 1 → IVec S16 32) a x).toNat < S4000.size a := fun v433 k0_hw46 => k0_hw46
def k0_off53 (k0_t9 : Fin k0_t9_loop.trips) : Fin 1 → Nat :=
  let c4224_i32_332 : BitVec 32 := 4224#32
  let c0_i32_49 : BitVec 32 := 0#32
  let c1_i32_51 : BitVec 32 := 1#32
  let arg21 : BitVec 32 := Scf.iv c0_i32_49 c1_i32_51 k0_t9
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk47 (v456 : IVec S16 32) : Prop :=
  (∀ a x, ((![v456] : Fin 1 → IVec S16 32) a x).toNat < S4000.size a)
theorem k0_idx47_inb : ∀ (v456 : IVec S16 32) (k0_hw47 : k0_chk47 v456), ∀ a x, ((![v456] : Fin 1 → IVec S16 32) a x).toNat < S4000.size a := fun v456 k0_hw47 => k0_hw47
def k0_off54 (k0_t9 : Fin k0_t9_loop.trips) : Fin 1 → Nat :=
  let c4224_i32_338 : BitVec 32 := 4224#32
  let c0_i32_49 : BitVec 32 := 0#32
  let c1_i32_51 : BitVec 32 := 1#32
  let arg21 : BitVec 32 := Scf.iv c0_i32_49 c1_i32_51 k0_t9
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk48 (v479 : IVec S16 32) : Prop :=
  (∀ a x, ((![v479] : Fin 1 → IVec S16 32) a x).toNat < S4000.size a)
theorem k0_idx48_inb : ∀ (v479 : IVec S16 32) (k0_hw48 : k0_chk48 v479), ∀ a x, ((![v479] : Fin 1 → IVec S16 32) a x).toNat < S4000.size a := fun v479 k0_hw48 => k0_hw48
@[reducible] def k0_t10_loop : Scf.Loop 32 :=
  let c0_i32_55 : BitVec 32 := 0#32
  let c33_i32_56 : BitVec 32 := 33#32
  let v70 : BitVec 32 := Scalar.addi c0_i32_55 c33_i32_56
  let c1_i32_57 : BitVec 32 := 1#32
  ⟨c0_i32_55, v70, c1_i32_57⟩
def k0_off55 (k0_t10 : Fin k0_t10_loop.trips) : Fin 1 → Nat :=
  let c8448_i32 : BitVec 32 := 8448#32
  let c0_i32_55 : BitVec 32 := 0#32
  let c1_i32_57 : BitVec 32 := 1#32
  let arg21 : BitVec 32 := Scf.iv c0_i32_55 c1_i32_57 k0_t10
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk49 (v318 : IVec S16 32) : Prop :=
  (∀ a x, ((![v318] : Fin 1 → IVec S16 32) a x).toNat < S4000.size a)
theorem k0_idx49_inb : ∀ (v318 : IVec S16 32) (k0_hw49 : k0_chk49 v318), ∀ a x, ((![v318] : Fin 1 → IVec S16 32) a x).toNat < S4000.size a := fun v318 k0_hw49 => k0_hw49
def k0_off56 (k0_t10 : Fin k0_t10_loop.trips) : Fin 1 → Nat :=
  let c8448_i32_299 : BitVec 32 := 8448#32
  let c0_i32_55 : BitVec 32 := 0#32
  let c1_i32_57 : BitVec 32 := 1#32
  let arg21 : BitVec 32 := Scf.iv c0_i32_55 c1_i32_57 k0_t10
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk50 (v341 : IVec S16 32) : Prop :=
  (∀ a x, ((![v341] : Fin 1 → IVec S16 32) a x).toNat < S4000.size a)
theorem k0_idx50_inb : ∀ (v341 : IVec S16 32) (k0_hw50 : k0_chk50 v341), ∀ a x, ((![v341] : Fin 1 → IVec S16 32) a x).toNat < S4000.size a := fun v341 k0_hw50 => k0_hw50
def k0_off57 (k0_t10 : Fin k0_t10_loop.trips) : Fin 1 → Nat :=
  let c8448_i32_306 : BitVec 32 := 8448#32
  let c0_i32_55 : BitVec 32 := 0#32
  let c1_i32_57 : BitVec 32 := 1#32
  let arg21 : BitVec 32 := Scf.iv c0_i32_55 c1_i32_57 k0_t10
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk51 (v364 : IVec S16 32) : Prop :=
  (∀ a x, ((![v364] : Fin 1 → IVec S16 32) a x).toNat < S4000.size a)
theorem k0_idx51_inb : ∀ (v364 : IVec S16 32) (k0_hw51 : k0_chk51 v364), ∀ a x, ((![v364] : Fin 1 → IVec S16 32) a x).toNat < S4000.size a := fun v364 k0_hw51 => k0_hw51
def k0_off58 (k0_t10 : Fin k0_t10_loop.trips) : Fin 1 → Nat :=
  let c8448_i32_312 : BitVec 32 := 8448#32
  let c0_i32_55 : BitVec 32 := 0#32
  let c1_i32_57 : BitVec 32 := 1#32
  let arg21 : BitVec 32 := Scf.iv c0_i32_55 c1_i32_57 k0_t10
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk52 (v387 : IVec S16 32) : Prop :=
  (∀ a x, ((![v387] : Fin 1 → IVec S16 32) a x).toNat < S4000.size a)
theorem k0_idx52_inb : ∀ (v387 : IVec S16 32) (k0_hw52 : k0_chk52 v387), ∀ a x, ((![v387] : Fin 1 → IVec S16 32) a x).toNat < S4000.size a := fun v387 k0_hw52 => k0_hw52
def k0_off59 (k0_t10 : Fin k0_t10_loop.trips) : Fin 1 → Nat :=
  let c8448_i32_318 : BitVec 32 := 8448#32
  let c0_i32_55 : BitVec 32 := 0#32
  let c1_i32_57 : BitVec 32 := 1#32
  let arg21 : BitVec 32 := Scf.iv c0_i32_55 c1_i32_57 k0_t10
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk53 (v410 : IVec S16 32) : Prop :=
  (∀ a x, ((![v410] : Fin 1 → IVec S16 32) a x).toNat < S4000.size a)
theorem k0_idx53_inb : ∀ (v410 : IVec S16 32) (k0_hw53 : k0_chk53 v410), ∀ a x, ((![v410] : Fin 1 → IVec S16 32) a x).toNat < S4000.size a := fun v410 k0_hw53 => k0_hw53
def k0_off60 (k0_t10 : Fin k0_t10_loop.trips) : Fin 1 → Nat :=
  let c8448_i32_324 : BitVec 32 := 8448#32
  let c0_i32_55 : BitVec 32 := 0#32
  let c1_i32_57 : BitVec 32 := 1#32
  let arg21 : BitVec 32 := Scf.iv c0_i32_55 c1_i32_57 k0_t10
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk54 (v433 : IVec S16 32) : Prop :=
  (∀ a x, ((![v433] : Fin 1 → IVec S16 32) a x).toNat < S4000.size a)
theorem k0_idx54_inb : ∀ (v433 : IVec S16 32) (k0_hw54 : k0_chk54 v433), ∀ a x, ((![v433] : Fin 1 → IVec S16 32) a x).toNat < S4000.size a := fun v433 k0_hw54 => k0_hw54
def k0_off61 (k0_t10 : Fin k0_t10_loop.trips) : Fin 1 → Nat :=
  let c8448_i32_330 : BitVec 32 := 8448#32
  let c0_i32_55 : BitVec 32 := 0#32
  let c1_i32_57 : BitVec 32 := 1#32
  let arg21 : BitVec 32 := Scf.iv c0_i32_55 c1_i32_57 k0_t10
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk55 (v456 : IVec S16 32) : Prop :=
  (∀ a x, ((![v456] : Fin 1 → IVec S16 32) a x).toNat < S4000.size a)
theorem k0_idx55_inb : ∀ (v456 : IVec S16 32) (k0_hw55 : k0_chk55 v456), ∀ a x, ((![v456] : Fin 1 → IVec S16 32) a x).toNat < S4000.size a := fun v456 k0_hw55 => k0_hw55
def k0_off62 (k0_t10 : Fin k0_t10_loop.trips) : Fin 1 → Nat :=
  let c8448_i32_336 : BitVec 32 := 8448#32
  let c0_i32_55 : BitVec 32 := 0#32
  let c1_i32_57 : BitVec 32 := 1#32
  let arg21 : BitVec 32 := Scf.iv c0_i32_55 c1_i32_57 k0_t10
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk56 (v479 : IVec S16 32) : Prop :=
  (∀ a x, ((![v479] : Fin 1 → IVec S16 32) a x).toNat < S4000.size a)
theorem k0_idx56_inb : ∀ (v479 : IVec S16 32) (k0_hw56 : k0_chk56 v479), ∀ a x, ((![v479] : Fin 1 → IVec S16 32) a x).toNat < S4000.size a := fun v479 k0_hw56 => k0_hw56
@[reducible] def k0_t11_loop : Scf.Loop 32 :=
  let c0_i32_61 : BitVec 32 := 0#32
  let c33_i32_62 : BitVec 32 := 33#32
  let v74 : BitVec 32 := Scalar.addi c0_i32_61 c33_i32_62
  let c1_i32_63 : BitVec 32 := 1#32
  ⟨c0_i32_61, v74, c1_i32_63⟩
def k0_off63 (k0_t11 : Fin k0_t11_loop.trips) : Fin 1 → Nat :=
  let c12672_i32 : BitVec 32 := 12672#32
  let c0_i32_61 : BitVec 32 := 0#32
  let c1_i32_63 : BitVec 32 := 1#32
  let arg21 : BitVec 32 := Scf.iv c0_i32_61 c1_i32_63 k0_t11
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk57 (v318 : IVec S16 32) : Prop :=
  (∀ a x, ((![v318] : Fin 1 → IVec S16 32) a x).toNat < S4000.size a)
theorem k0_idx57_inb : ∀ (v318 : IVec S16 32) (k0_hw57 : k0_chk57 v318), ∀ a x, ((![v318] : Fin 1 → IVec S16 32) a x).toNat < S4000.size a := fun v318 k0_hw57 => k0_hw57
def k0_off64 (k0_t11 : Fin k0_t11_loop.trips) : Fin 1 → Nat :=
  let c12672_i32_299 : BitVec 32 := 12672#32
  let c0_i32_61 : BitVec 32 := 0#32
  let c1_i32_63 : BitVec 32 := 1#32
  let arg21 : BitVec 32 := Scf.iv c0_i32_61 c1_i32_63 k0_t11
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk58 (v341 : IVec S16 32) : Prop :=
  (∀ a x, ((![v341] : Fin 1 → IVec S16 32) a x).toNat < S4000.size a)
theorem k0_idx58_inb : ∀ (v341 : IVec S16 32) (k0_hw58 : k0_chk58 v341), ∀ a x, ((![v341] : Fin 1 → IVec S16 32) a x).toNat < S4000.size a := fun v341 k0_hw58 => k0_hw58
def k0_off65 (k0_t11 : Fin k0_t11_loop.trips) : Fin 1 → Nat :=
  let c12672_i32_306 : BitVec 32 := 12672#32
  let c0_i32_61 : BitVec 32 := 0#32
  let c1_i32_63 : BitVec 32 := 1#32
  let arg21 : BitVec 32 := Scf.iv c0_i32_61 c1_i32_63 k0_t11
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk59 (v364 : IVec S16 32) : Prop :=
  (∀ a x, ((![v364] : Fin 1 → IVec S16 32) a x).toNat < S4000.size a)
theorem k0_idx59_inb : ∀ (v364 : IVec S16 32) (k0_hw59 : k0_chk59 v364), ∀ a x, ((![v364] : Fin 1 → IVec S16 32) a x).toNat < S4000.size a := fun v364 k0_hw59 => k0_hw59
def k0_off66 (k0_t11 : Fin k0_t11_loop.trips) : Fin 1 → Nat :=
  let c12672_i32_312 : BitVec 32 := 12672#32
  let c0_i32_61 : BitVec 32 := 0#32
  let c1_i32_63 : BitVec 32 := 1#32
  let arg21 : BitVec 32 := Scf.iv c0_i32_61 c1_i32_63 k0_t11
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk60 (v387 : IVec S16 32) : Prop :=
  (∀ a x, ((![v387] : Fin 1 → IVec S16 32) a x).toNat < S4000.size a)
theorem k0_idx60_inb : ∀ (v387 : IVec S16 32) (k0_hw60 : k0_chk60 v387), ∀ a x, ((![v387] : Fin 1 → IVec S16 32) a x).toNat < S4000.size a := fun v387 k0_hw60 => k0_hw60
def k0_off67 (k0_t11 : Fin k0_t11_loop.trips) : Fin 1 → Nat :=
  let c12672_i32_318 : BitVec 32 := 12672#32
  let c0_i32_61 : BitVec 32 := 0#32
  let c1_i32_63 : BitVec 32 := 1#32
  let arg21 : BitVec 32 := Scf.iv c0_i32_61 c1_i32_63 k0_t11
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk61 (v410 : IVec S16 32) : Prop :=
  (∀ a x, ((![v410] : Fin 1 → IVec S16 32) a x).toNat < S4000.size a)
theorem k0_idx61_inb : ∀ (v410 : IVec S16 32) (k0_hw61 : k0_chk61 v410), ∀ a x, ((![v410] : Fin 1 → IVec S16 32) a x).toNat < S4000.size a := fun v410 k0_hw61 => k0_hw61
def k0_off68 (k0_t11 : Fin k0_t11_loop.trips) : Fin 1 → Nat :=
  let c12672_i32_324 : BitVec 32 := 12672#32
  let c0_i32_61 : BitVec 32 := 0#32
  let c1_i32_63 : BitVec 32 := 1#32
  let arg21 : BitVec 32 := Scf.iv c0_i32_61 c1_i32_63 k0_t11
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk62 (v433 : IVec S16 32) : Prop :=
  (∀ a x, ((![v433] : Fin 1 → IVec S16 32) a x).toNat < S4000.size a)
theorem k0_idx62_inb : ∀ (v433 : IVec S16 32) (k0_hw62 : k0_chk62 v433), ∀ a x, ((![v433] : Fin 1 → IVec S16 32) a x).toNat < S4000.size a := fun v433 k0_hw62 => k0_hw62
def k0_off69 (k0_t11 : Fin k0_t11_loop.trips) : Fin 1 → Nat :=
  let c12672_i32_330 : BitVec 32 := 12672#32
  let c0_i32_61 : BitVec 32 := 0#32
  let c1_i32_63 : BitVec 32 := 1#32
  let arg21 : BitVec 32 := Scf.iv c0_i32_61 c1_i32_63 k0_t11
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk63 (v456 : IVec S16 32) : Prop :=
  (∀ a x, ((![v456] : Fin 1 → IVec S16 32) a x).toNat < S4000.size a)
theorem k0_idx63_inb : ∀ (v456 : IVec S16 32) (k0_hw63 : k0_chk63 v456), ∀ a x, ((![v456] : Fin 1 → IVec S16 32) a x).toNat < S4000.size a := fun v456 k0_hw63 => k0_hw63
def k0_off70 (k0_t11 : Fin k0_t11_loop.trips) : Fin 1 → Nat :=
  let c12672_i32_336 : BitVec 32 := 12672#32
  let c0_i32_61 : BitVec 32 := 0#32
  let c1_i32_63 : BitVec 32 := 1#32
  let arg21 : BitVec 32 := Scf.iv c0_i32_61 c1_i32_63 k0_t11
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk64 (v479 : IVec S16 32) : Prop :=
  (∀ a x, ((![v479] : Fin 1 → IVec S16 32) a x).toNat < S4000.size a)
theorem k0_idx64_inb : ∀ (v479 : IVec S16 32) (k0_hw64 : k0_chk64 v479), ∀ a x, ((![v479] : Fin 1 → IVec S16 32) a x).toNat < S4000.size a := fun v479 k0_hw64 => k0_hw64
@[reducible] def k0_t12_loop : Scf.Loop 32 :=
  let c0_i32_66 : BitVec 32 := 0#32
  let c250_i32_67 : BitVec 32 := 250#32
  let v76 : BitVec 32 := Scalar.addi c0_i32_66 c250_i32_67
  let c1_i32_68 : BitVec 32 := 1#32
  ⟨c0_i32_66, v76, c1_i32_68⟩
def k0_off71 (k0_t12 : Fin k0_t12_loop.trips) : Fin 1 → Nat :=
  let c0_i32_66 : BitVec 32 := 0#32
  let c1_i32_68 : BitVec 32 := 1#32
  let arg21 : BitVec 32 := Scf.iv c0_i32_66 c1_i32_68 k0_t12
  let c16_i32_294 : BitVec 32 := 16#32
  let v296 : BitVec 32 := Scalar.muli arg21 c16_i32_294
  let v297 : Index := Scalar.indexCast v296
  ![v297.toNat]
@[reducible] def k0_t13_loop : Scf.Loop 32 :=
  let c0_i32_74 : BitVec 32 := 0#32
  let c250_i32_75 : BitVec 32 := 250#32
  let v94 : BitVec 32 := Scalar.addi c0_i32_74 c250_i32_75
  let c1_i32_76 : BitVec 32 := 1#32
  ⟨c0_i32_74, v94, c1_i32_76⟩
def k0_off72 (k0_t13 : Fin k0_t13_loop.trips) : Fin 1 → Nat :=
  let c0_i32_74 : BitVec 32 := 0#32
  let c1_i32_76 : BitVec 32 := 1#32
  let arg21 : BitVec 32 := Scf.iv c0_i32_74 c1_i32_76 k0_t13
  let c16_i32_294 : BitVec 32 := 16#32
  let v296 : BitVec 32 := Scalar.muli arg21 c16_i32_294
  let v297 : Index := Scalar.indexCast v296
  ![v297.toNat]
@[reducible] def k0_t14_loop : Scf.Loop 32 :=
  let c0_i32_80 : BitVec 32 := 0#32
  let c33_i32_81 : BitVec 32 := 33#32
  let v98 : BitVec 32 := Scalar.addi c0_i32_80 c33_i32_81
  let c1_i32_82 : BitVec 32 := 1#32
  ⟨c0_i32_80, v98, c1_i32_82⟩
def k0_off73 (k0_t14 : Fin k0_t14_loop.trips) : Fin 1 → Nat :=
  let c0_i32_295 : BitVec 32 := 0#32
  let c0_i32_80 : BitVec 32 := 0#32
  let c1_i32_82 : BitVec 32 := 1#32
  let arg21 : BitVec 32 := Scf.iv c0_i32_80 c1_i32_82 k0_t14
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk65 (v318 : IVec S16 32) : Prop :=
  (∀ a x, ((![v318] : Fin 1 → IVec S16 32) a x).toNat < S4000.size a)
theorem k0_idx65_inb : ∀ (v318 : IVec S16 32) (k0_hw65 : k0_chk65 v318), ∀ a x, ((![v318] : Fin 1 → IVec S16 32) a x).toNat < S4000.size a := fun v318 k0_hw65 => k0_hw65
def k0_off74 (k0_t14 : Fin k0_t14_loop.trips) : Fin 1 → Nat :=
  let c0_i32_301 : BitVec 32 := 0#32
  let c0_i32_80 : BitVec 32 := 0#32
  let c1_i32_82 : BitVec 32 := 1#32
  let arg21 : BitVec 32 := Scf.iv c0_i32_80 c1_i32_82 k0_t14
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk66 (v341 : IVec S16 32) : Prop :=
  (∀ a x, ((![v341] : Fin 1 → IVec S16 32) a x).toNat < S4000.size a)
theorem k0_idx66_inb : ∀ (v341 : IVec S16 32) (k0_hw66 : k0_chk66 v341), ∀ a x, ((![v341] : Fin 1 → IVec S16 32) a x).toNat < S4000.size a := fun v341 k0_hw66 => k0_hw66
def k0_off75 (k0_t14 : Fin k0_t14_loop.trips) : Fin 1 → Nat :=
  let c0_i32_308 : BitVec 32 := 0#32
  let c0_i32_80 : BitVec 32 := 0#32
  let c1_i32_82 : BitVec 32 := 1#32
  let arg21 : BitVec 32 := Scf.iv c0_i32_80 c1_i32_82 k0_t14
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk67 (v364 : IVec S16 32) : Prop :=
  (∀ a x, ((![v364] : Fin 1 → IVec S16 32) a x).toNat < S4000.size a)
theorem k0_idx67_inb : ∀ (v364 : IVec S16 32) (k0_hw67 : k0_chk67 v364), ∀ a x, ((![v364] : Fin 1 → IVec S16 32) a x).toNat < S4000.size a := fun v364 k0_hw67 => k0_hw67
def k0_off76 (k0_t14 : Fin k0_t14_loop.trips) : Fin 1 → Nat :=
  let c0_i32_314 : BitVec 32 := 0#32
  let c0_i32_80 : BitVec 32 := 0#32
  let c1_i32_82 : BitVec 32 := 1#32
  let arg21 : BitVec 32 := Scf.iv c0_i32_80 c1_i32_82 k0_t14
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk68 (v387 : IVec S16 32) : Prop :=
  (∀ a x, ((![v387] : Fin 1 → IVec S16 32) a x).toNat < S4000.size a)
theorem k0_idx68_inb : ∀ (v387 : IVec S16 32) (k0_hw68 : k0_chk68 v387), ∀ a x, ((![v387] : Fin 1 → IVec S16 32) a x).toNat < S4000.size a := fun v387 k0_hw68 => k0_hw68
def k0_off77 (k0_t14 : Fin k0_t14_loop.trips) : Fin 1 → Nat :=
  let c0_i32_320 : BitVec 32 := 0#32
  let c0_i32_80 : BitVec 32 := 0#32
  let c1_i32_82 : BitVec 32 := 1#32
  let arg21 : BitVec 32 := Scf.iv c0_i32_80 c1_i32_82 k0_t14
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk69 (v410 : IVec S16 32) : Prop :=
  (∀ a x, ((![v410] : Fin 1 → IVec S16 32) a x).toNat < S4000.size a)
theorem k0_idx69_inb : ∀ (v410 : IVec S16 32) (k0_hw69 : k0_chk69 v410), ∀ a x, ((![v410] : Fin 1 → IVec S16 32) a x).toNat < S4000.size a := fun v410 k0_hw69 => k0_hw69
def k0_off78 (k0_t14 : Fin k0_t14_loop.trips) : Fin 1 → Nat :=
  let c0_i32_326 : BitVec 32 := 0#32
  let c0_i32_80 : BitVec 32 := 0#32
  let c1_i32_82 : BitVec 32 := 1#32
  let arg21 : BitVec 32 := Scf.iv c0_i32_80 c1_i32_82 k0_t14
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk70 (v433 : IVec S16 32) : Prop :=
  (∀ a x, ((![v433] : Fin 1 → IVec S16 32) a x).toNat < S4000.size a)
theorem k0_idx70_inb : ∀ (v433 : IVec S16 32) (k0_hw70 : k0_chk70 v433), ∀ a x, ((![v433] : Fin 1 → IVec S16 32) a x).toNat < S4000.size a := fun v433 k0_hw70 => k0_hw70
def k0_off79 (k0_t14 : Fin k0_t14_loop.trips) : Fin 1 → Nat :=
  let c0_i32_332 : BitVec 32 := 0#32
  let c0_i32_80 : BitVec 32 := 0#32
  let c1_i32_82 : BitVec 32 := 1#32
  let arg21 : BitVec 32 := Scf.iv c0_i32_80 c1_i32_82 k0_t14
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk71 (v456 : IVec S16 32) : Prop :=
  (∀ a x, ((![v456] : Fin 1 → IVec S16 32) a x).toNat < S4000.size a)
theorem k0_idx71_inb : ∀ (v456 : IVec S16 32) (k0_hw71 : k0_chk71 v456), ∀ a x, ((![v456] : Fin 1 → IVec S16 32) a x).toNat < S4000.size a := fun v456 k0_hw71 => k0_hw71
def k0_off80 (k0_t14 : Fin k0_t14_loop.trips) : Fin 1 → Nat :=
  let c0_i32_338 : BitVec 32 := 0#32
  let c0_i32_80 : BitVec 32 := 0#32
  let c1_i32_82 : BitVec 32 := 1#32
  let arg21 : BitVec 32 := Scf.iv c0_i32_80 c1_i32_82 k0_t14
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk72 (v479 : IVec S16 32) : Prop :=
  (∀ a x, ((![v479] : Fin 1 → IVec S16 32) a x).toNat < S4000.size a)
theorem k0_idx72_inb : ∀ (v479 : IVec S16 32) (k0_hw72 : k0_chk72 v479), ∀ a x, ((![v479] : Fin 1 → IVec S16 32) a x).toNat < S4000.size a := fun v479 k0_hw72 => k0_hw72
@[reducible] def k0_t15_loop : Scf.Loop 32 :=
  let c0_i32_86 : BitVec 32 := 0#32
  let c33_i32_87 : BitVec 32 := 33#32
  let v102 : BitVec 32 := Scalar.addi c0_i32_86 c33_i32_87
  let c1_i32_88 : BitVec 32 := 1#32
  ⟨c0_i32_86, v102, c1_i32_88⟩
def k0_off81 (k0_t15 : Fin k0_t15_loop.trips) : Fin 1 → Nat :=
  let c4224_i32_295 : BitVec 32 := 4224#32
  let c0_i32_86 : BitVec 32 := 0#32
  let c1_i32_88 : BitVec 32 := 1#32
  let arg21 : BitVec 32 := Scf.iv c0_i32_86 c1_i32_88 k0_t15
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk73 (v318 : IVec S16 32) : Prop :=
  (∀ a x, ((![v318] : Fin 1 → IVec S16 32) a x).toNat < S4000.size a)
theorem k0_idx73_inb : ∀ (v318 : IVec S16 32) (k0_hw73 : k0_chk73 v318), ∀ a x, ((![v318] : Fin 1 → IVec S16 32) a x).toNat < S4000.size a := fun v318 k0_hw73 => k0_hw73
def k0_off82 (k0_t15 : Fin k0_t15_loop.trips) : Fin 1 → Nat :=
  let c4224_i32_301 : BitVec 32 := 4224#32
  let c0_i32_86 : BitVec 32 := 0#32
  let c1_i32_88 : BitVec 32 := 1#32
  let arg21 : BitVec 32 := Scf.iv c0_i32_86 c1_i32_88 k0_t15
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk74 (v341 : IVec S16 32) : Prop :=
  (∀ a x, ((![v341] : Fin 1 → IVec S16 32) a x).toNat < S4000.size a)
theorem k0_idx74_inb : ∀ (v341 : IVec S16 32) (k0_hw74 : k0_chk74 v341), ∀ a x, ((![v341] : Fin 1 → IVec S16 32) a x).toNat < S4000.size a := fun v341 k0_hw74 => k0_hw74
def k0_off83 (k0_t15 : Fin k0_t15_loop.trips) : Fin 1 → Nat :=
  let c4224_i32_308 : BitVec 32 := 4224#32
  let c0_i32_86 : BitVec 32 := 0#32
  let c1_i32_88 : BitVec 32 := 1#32
  let arg21 : BitVec 32 := Scf.iv c0_i32_86 c1_i32_88 k0_t15
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk75 (v364 : IVec S16 32) : Prop :=
  (∀ a x, ((![v364] : Fin 1 → IVec S16 32) a x).toNat < S4000.size a)
theorem k0_idx75_inb : ∀ (v364 : IVec S16 32) (k0_hw75 : k0_chk75 v364), ∀ a x, ((![v364] : Fin 1 → IVec S16 32) a x).toNat < S4000.size a := fun v364 k0_hw75 => k0_hw75
def k0_off84 (k0_t15 : Fin k0_t15_loop.trips) : Fin 1 → Nat :=
  let c4224_i32_314 : BitVec 32 := 4224#32
  let c0_i32_86 : BitVec 32 := 0#32
  let c1_i32_88 : BitVec 32 := 1#32
  let arg21 : BitVec 32 := Scf.iv c0_i32_86 c1_i32_88 k0_t15
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk76 (v387 : IVec S16 32) : Prop :=
  (∀ a x, ((![v387] : Fin 1 → IVec S16 32) a x).toNat < S4000.size a)
theorem k0_idx76_inb : ∀ (v387 : IVec S16 32) (k0_hw76 : k0_chk76 v387), ∀ a x, ((![v387] : Fin 1 → IVec S16 32) a x).toNat < S4000.size a := fun v387 k0_hw76 => k0_hw76
def k0_off85 (k0_t15 : Fin k0_t15_loop.trips) : Fin 1 → Nat :=
  let c4224_i32_320 : BitVec 32 := 4224#32
  let c0_i32_86 : BitVec 32 := 0#32
  let c1_i32_88 : BitVec 32 := 1#32
  let arg21 : BitVec 32 := Scf.iv c0_i32_86 c1_i32_88 k0_t15
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk77 (v410 : IVec S16 32) : Prop :=
  (∀ a x, ((![v410] : Fin 1 → IVec S16 32) a x).toNat < S4000.size a)
theorem k0_idx77_inb : ∀ (v410 : IVec S16 32) (k0_hw77 : k0_chk77 v410), ∀ a x, ((![v410] : Fin 1 → IVec S16 32) a x).toNat < S4000.size a := fun v410 k0_hw77 => k0_hw77
def k0_off86 (k0_t15 : Fin k0_t15_loop.trips) : Fin 1 → Nat :=
  let c4224_i32_326 : BitVec 32 := 4224#32
  let c0_i32_86 : BitVec 32 := 0#32
  let c1_i32_88 : BitVec 32 := 1#32
  let arg21 : BitVec 32 := Scf.iv c0_i32_86 c1_i32_88 k0_t15
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk78 (v433 : IVec S16 32) : Prop :=
  (∀ a x, ((![v433] : Fin 1 → IVec S16 32) a x).toNat < S4000.size a)
theorem k0_idx78_inb : ∀ (v433 : IVec S16 32) (k0_hw78 : k0_chk78 v433), ∀ a x, ((![v433] : Fin 1 → IVec S16 32) a x).toNat < S4000.size a := fun v433 k0_hw78 => k0_hw78
def k0_off87 (k0_t15 : Fin k0_t15_loop.trips) : Fin 1 → Nat :=
  let c4224_i32_332 : BitVec 32 := 4224#32
  let c0_i32_86 : BitVec 32 := 0#32
  let c1_i32_88 : BitVec 32 := 1#32
  let arg21 : BitVec 32 := Scf.iv c0_i32_86 c1_i32_88 k0_t15
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk79 (v456 : IVec S16 32) : Prop :=
  (∀ a x, ((![v456] : Fin 1 → IVec S16 32) a x).toNat < S4000.size a)
theorem k0_idx79_inb : ∀ (v456 : IVec S16 32) (k0_hw79 : k0_chk79 v456), ∀ a x, ((![v456] : Fin 1 → IVec S16 32) a x).toNat < S4000.size a := fun v456 k0_hw79 => k0_hw79
def k0_off88 (k0_t15 : Fin k0_t15_loop.trips) : Fin 1 → Nat :=
  let c4224_i32_338 : BitVec 32 := 4224#32
  let c0_i32_86 : BitVec 32 := 0#32
  let c1_i32_88 : BitVec 32 := 1#32
  let arg21 : BitVec 32 := Scf.iv c0_i32_86 c1_i32_88 k0_t15
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk80 (v479 : IVec S16 32) : Prop :=
  (∀ a x, ((![v479] : Fin 1 → IVec S16 32) a x).toNat < S4000.size a)
theorem k0_idx80_inb : ∀ (v479 : IVec S16 32) (k0_hw80 : k0_chk80 v479), ∀ a x, ((![v479] : Fin 1 → IVec S16 32) a x).toNat < S4000.size a := fun v479 k0_hw80 => k0_hw80
@[reducible] def k0_t16_loop : Scf.Loop 32 :=
  let c0_i32_92 : BitVec 32 := 0#32
  let c33_i32_93 : BitVec 32 := 33#32
  let v106 : BitVec 32 := Scalar.addi c0_i32_92 c33_i32_93
  let c1_i32_94 : BitVec 32 := 1#32
  ⟨c0_i32_92, v106, c1_i32_94⟩
def k0_off89 (k0_t16 : Fin k0_t16_loop.trips) : Fin 1 → Nat :=
  let c8448_i32 : BitVec 32 := 8448#32
  let c0_i32_92 : BitVec 32 := 0#32
  let c1_i32_94 : BitVec 32 := 1#32
  let arg21 : BitVec 32 := Scf.iv c0_i32_92 c1_i32_94 k0_t16
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk81 (v318 : IVec S16 32) : Prop :=
  (∀ a x, ((![v318] : Fin 1 → IVec S16 32) a x).toNat < S4000.size a)
theorem k0_idx81_inb : ∀ (v318 : IVec S16 32) (k0_hw81 : k0_chk81 v318), ∀ a x, ((![v318] : Fin 1 → IVec S16 32) a x).toNat < S4000.size a := fun v318 k0_hw81 => k0_hw81
def k0_off90 (k0_t16 : Fin k0_t16_loop.trips) : Fin 1 → Nat :=
  let c8448_i32_299 : BitVec 32 := 8448#32
  let c0_i32_92 : BitVec 32 := 0#32
  let c1_i32_94 : BitVec 32 := 1#32
  let arg21 : BitVec 32 := Scf.iv c0_i32_92 c1_i32_94 k0_t16
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk82 (v341 : IVec S16 32) : Prop :=
  (∀ a x, ((![v341] : Fin 1 → IVec S16 32) a x).toNat < S4000.size a)
theorem k0_idx82_inb : ∀ (v341 : IVec S16 32) (k0_hw82 : k0_chk82 v341), ∀ a x, ((![v341] : Fin 1 → IVec S16 32) a x).toNat < S4000.size a := fun v341 k0_hw82 => k0_hw82
def k0_off91 (k0_t16 : Fin k0_t16_loop.trips) : Fin 1 → Nat :=
  let c8448_i32_306 : BitVec 32 := 8448#32
  let c0_i32_92 : BitVec 32 := 0#32
  let c1_i32_94 : BitVec 32 := 1#32
  let arg21 : BitVec 32 := Scf.iv c0_i32_92 c1_i32_94 k0_t16
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk83 (v364 : IVec S16 32) : Prop :=
  (∀ a x, ((![v364] : Fin 1 → IVec S16 32) a x).toNat < S4000.size a)
theorem k0_idx83_inb : ∀ (v364 : IVec S16 32) (k0_hw83 : k0_chk83 v364), ∀ a x, ((![v364] : Fin 1 → IVec S16 32) a x).toNat < S4000.size a := fun v364 k0_hw83 => k0_hw83
def k0_off92 (k0_t16 : Fin k0_t16_loop.trips) : Fin 1 → Nat :=
  let c8448_i32_312 : BitVec 32 := 8448#32
  let c0_i32_92 : BitVec 32 := 0#32
  let c1_i32_94 : BitVec 32 := 1#32
  let arg21 : BitVec 32 := Scf.iv c0_i32_92 c1_i32_94 k0_t16
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk84 (v387 : IVec S16 32) : Prop :=
  (∀ a x, ((![v387] : Fin 1 → IVec S16 32) a x).toNat < S4000.size a)
theorem k0_idx84_inb : ∀ (v387 : IVec S16 32) (k0_hw84 : k0_chk84 v387), ∀ a x, ((![v387] : Fin 1 → IVec S16 32) a x).toNat < S4000.size a := fun v387 k0_hw84 => k0_hw84
def k0_off93 (k0_t16 : Fin k0_t16_loop.trips) : Fin 1 → Nat :=
  let c8448_i32_318 : BitVec 32 := 8448#32
  let c0_i32_92 : BitVec 32 := 0#32
  let c1_i32_94 : BitVec 32 := 1#32
  let arg21 : BitVec 32 := Scf.iv c0_i32_92 c1_i32_94 k0_t16
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk85 (v410 : IVec S16 32) : Prop :=
  (∀ a x, ((![v410] : Fin 1 → IVec S16 32) a x).toNat < S4000.size a)
theorem k0_idx85_inb : ∀ (v410 : IVec S16 32) (k0_hw85 : k0_chk85 v410), ∀ a x, ((![v410] : Fin 1 → IVec S16 32) a x).toNat < S4000.size a := fun v410 k0_hw85 => k0_hw85
def k0_off94 (k0_t16 : Fin k0_t16_loop.trips) : Fin 1 → Nat :=
  let c8448_i32_324 : BitVec 32 := 8448#32
  let c0_i32_92 : BitVec 32 := 0#32
  let c1_i32_94 : BitVec 32 := 1#32
  let arg21 : BitVec 32 := Scf.iv c0_i32_92 c1_i32_94 k0_t16
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk86 (v433 : IVec S16 32) : Prop :=
  (∀ a x, ((![v433] : Fin 1 → IVec S16 32) a x).toNat < S4000.size a)
theorem k0_idx86_inb : ∀ (v433 : IVec S16 32) (k0_hw86 : k0_chk86 v433), ∀ a x, ((![v433] : Fin 1 → IVec S16 32) a x).toNat < S4000.size a := fun v433 k0_hw86 => k0_hw86
def k0_off95 (k0_t16 : Fin k0_t16_loop.trips) : Fin 1 → Nat :=
  let c8448_i32_330 : BitVec 32 := 8448#32
  let c0_i32_92 : BitVec 32 := 0#32
  let c1_i32_94 : BitVec 32 := 1#32
  let arg21 : BitVec 32 := Scf.iv c0_i32_92 c1_i32_94 k0_t16
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk87 (v456 : IVec S16 32) : Prop :=
  (∀ a x, ((![v456] : Fin 1 → IVec S16 32) a x).toNat < S4000.size a)
theorem k0_idx87_inb : ∀ (v456 : IVec S16 32) (k0_hw87 : k0_chk87 v456), ∀ a x, ((![v456] : Fin 1 → IVec S16 32) a x).toNat < S4000.size a := fun v456 k0_hw87 => k0_hw87
def k0_off96 (k0_t16 : Fin k0_t16_loop.trips) : Fin 1 → Nat :=
  let c8448_i32_336 : BitVec 32 := 8448#32
  let c0_i32_92 : BitVec 32 := 0#32
  let c1_i32_94 : BitVec 32 := 1#32
  let arg21 : BitVec 32 := Scf.iv c0_i32_92 c1_i32_94 k0_t16
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk88 (v479 : IVec S16 32) : Prop :=
  (∀ a x, ((![v479] : Fin 1 → IVec S16 32) a x).toNat < S4000.size a)
theorem k0_idx88_inb : ∀ (v479 : IVec S16 32) (k0_hw88 : k0_chk88 v479), ∀ a x, ((![v479] : Fin 1 → IVec S16 32) a x).toNat < S4000.size a := fun v479 k0_hw88 => k0_hw88
@[reducible] def k0_t17_loop : Scf.Loop 32 :=
  let c0_i32_98 : BitVec 32 := 0#32
  let c33_i32_99 : BitVec 32 := 33#32
  let v110 : BitVec 32 := Scalar.addi c0_i32_98 c33_i32_99
  let c1_i32_100 : BitVec 32 := 1#32
  ⟨c0_i32_98, v110, c1_i32_100⟩
def k0_off97 (k0_t17 : Fin k0_t17_loop.trips) : Fin 1 → Nat :=
  let c12672_i32 : BitVec 32 := 12672#32
  let c0_i32_98 : BitVec 32 := 0#32
  let c1_i32_100 : BitVec 32 := 1#32
  let arg21 : BitVec 32 := Scf.iv c0_i32_98 c1_i32_100 k0_t17
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk89 (v318 : IVec S16 32) : Prop :=
  (∀ a x, ((![v318] : Fin 1 → IVec S16 32) a x).toNat < S4000.size a)
theorem k0_idx89_inb : ∀ (v318 : IVec S16 32) (k0_hw89 : k0_chk89 v318), ∀ a x, ((![v318] : Fin 1 → IVec S16 32) a x).toNat < S4000.size a := fun v318 k0_hw89 => k0_hw89
def k0_off98 (k0_t17 : Fin k0_t17_loop.trips) : Fin 1 → Nat :=
  let c12672_i32_299 : BitVec 32 := 12672#32
  let c0_i32_98 : BitVec 32 := 0#32
  let c1_i32_100 : BitVec 32 := 1#32
  let arg21 : BitVec 32 := Scf.iv c0_i32_98 c1_i32_100 k0_t17
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk90 (v341 : IVec S16 32) : Prop :=
  (∀ a x, ((![v341] : Fin 1 → IVec S16 32) a x).toNat < S4000.size a)
theorem k0_idx90_inb : ∀ (v341 : IVec S16 32) (k0_hw90 : k0_chk90 v341), ∀ a x, ((![v341] : Fin 1 → IVec S16 32) a x).toNat < S4000.size a := fun v341 k0_hw90 => k0_hw90
def k0_off99 (k0_t17 : Fin k0_t17_loop.trips) : Fin 1 → Nat :=
  let c12672_i32_306 : BitVec 32 := 12672#32
  let c0_i32_98 : BitVec 32 := 0#32
  let c1_i32_100 : BitVec 32 := 1#32
  let arg21 : BitVec 32 := Scf.iv c0_i32_98 c1_i32_100 k0_t17
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk91 (v364 : IVec S16 32) : Prop :=
  (∀ a x, ((![v364] : Fin 1 → IVec S16 32) a x).toNat < S4000.size a)
theorem k0_idx91_inb : ∀ (v364 : IVec S16 32) (k0_hw91 : k0_chk91 v364), ∀ a x, ((![v364] : Fin 1 → IVec S16 32) a x).toNat < S4000.size a := fun v364 k0_hw91 => k0_hw91
def k0_off100 (k0_t17 : Fin k0_t17_loop.trips) : Fin 1 → Nat :=
  let c12672_i32_312 : BitVec 32 := 12672#32
  let c0_i32_98 : BitVec 32 := 0#32
  let c1_i32_100 : BitVec 32 := 1#32
  let arg21 : BitVec 32 := Scf.iv c0_i32_98 c1_i32_100 k0_t17
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk92 (v387 : IVec S16 32) : Prop :=
  (∀ a x, ((![v387] : Fin 1 → IVec S16 32) a x).toNat < S4000.size a)
theorem k0_idx92_inb : ∀ (v387 : IVec S16 32) (k0_hw92 : k0_chk92 v387), ∀ a x, ((![v387] : Fin 1 → IVec S16 32) a x).toNat < S4000.size a := fun v387 k0_hw92 => k0_hw92
def k0_off101 (k0_t17 : Fin k0_t17_loop.trips) : Fin 1 → Nat :=
  let c12672_i32_318 : BitVec 32 := 12672#32
  let c0_i32_98 : BitVec 32 := 0#32
  let c1_i32_100 : BitVec 32 := 1#32
  let arg21 : BitVec 32 := Scf.iv c0_i32_98 c1_i32_100 k0_t17
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk93 (v410 : IVec S16 32) : Prop :=
  (∀ a x, ((![v410] : Fin 1 → IVec S16 32) a x).toNat < S4000.size a)
theorem k0_idx93_inb : ∀ (v410 : IVec S16 32) (k0_hw93 : k0_chk93 v410), ∀ a x, ((![v410] : Fin 1 → IVec S16 32) a x).toNat < S4000.size a := fun v410 k0_hw93 => k0_hw93
def k0_off102 (k0_t17 : Fin k0_t17_loop.trips) : Fin 1 → Nat :=
  let c12672_i32_324 : BitVec 32 := 12672#32
  let c0_i32_98 : BitVec 32 := 0#32
  let c1_i32_100 : BitVec 32 := 1#32
  let arg21 : BitVec 32 := Scf.iv c0_i32_98 c1_i32_100 k0_t17
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk94 (v433 : IVec S16 32) : Prop :=
  (∀ a x, ((![v433] : Fin 1 → IVec S16 32) a x).toNat < S4000.size a)
theorem k0_idx94_inb : ∀ (v433 : IVec S16 32) (k0_hw94 : k0_chk94 v433), ∀ a x, ((![v433] : Fin 1 → IVec S16 32) a x).toNat < S4000.size a := fun v433 k0_hw94 => k0_hw94
def k0_off103 (k0_t17 : Fin k0_t17_loop.trips) : Fin 1 → Nat :=
  let c12672_i32_330 : BitVec 32 := 12672#32
  let c0_i32_98 : BitVec 32 := 0#32
  let c1_i32_100 : BitVec 32 := 1#32
  let arg21 : BitVec 32 := Scf.iv c0_i32_98 c1_i32_100 k0_t17
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk95 (v456 : IVec S16 32) : Prop :=
  (∀ a x, ((![v456] : Fin 1 → IVec S16 32) a x).toNat < S4000.size a)
theorem k0_idx95_inb : ∀ (v456 : IVec S16 32) (k0_hw95 : k0_chk95 v456), ∀ a x, ((![v456] : Fin 1 → IVec S16 32) a x).toNat < S4000.size a := fun v456 k0_hw95 => k0_hw95
def k0_off104 (k0_t17 : Fin k0_t17_loop.trips) : Fin 1 → Nat :=
  let c12672_i32_336 : BitVec 32 := 12672#32
  let c0_i32_98 : BitVec 32 := 0#32
  let c1_i32_100 : BitVec 32 := 1#32
  let arg21 : BitVec 32 := Scf.iv c0_i32_98 c1_i32_100 k0_t17
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk96 (v479 : IVec S16 32) : Prop :=
  (∀ a x, ((![v479] : Fin 1 → IVec S16 32) a x).toNat < S4000.size a)
theorem k0_idx96_inb : ∀ (v479 : IVec S16 32) (k0_hw96 : k0_chk96 v479), ∀ a x, ((![v479] : Fin 1 → IVec S16 32) a x).toNat < S4000.size a := fun v479 k0_hw96 => k0_hw96
@[reducible] def k0_t18_loop : Scf.Loop 32 :=
  let c0_i32_103 : BitVec 32 := 0#32
  let c250_i32_104 : BitVec 32 := 250#32
  let v112 : BitVec 32 := Scalar.addi c0_i32_103 c250_i32_104
  let c1_i32_105 : BitVec 32 := 1#32
  ⟨c0_i32_103, v112, c1_i32_105⟩
def k0_off105 (k0_t18 : Fin k0_t18_loop.trips) : Fin 1 → Nat :=
  let c0_i32_103 : BitVec 32 := 0#32
  let c1_i32_105 : BitVec 32 := 1#32
  let arg21 : BitVec 32 := Scf.iv c0_i32_103 c1_i32_105 k0_t18
  let c16_i32_294 : BitVec 32 := 16#32
  let v296 : BitVec 32 := Scalar.muli arg21 c16_i32_294
  let v297 : Index := Scalar.indexCast v296
  ![v297.toNat]
@[reducible] def k0_t19_loop : Scf.Loop 32 :=
  let c0_i32_112 : BitVec 32 := 0#32
  let c250_i32_113 : BitVec 32 := 250#32
  let v130 : BitVec 32 := Scalar.addi c0_i32_112 c250_i32_113
  let c1_i32_114 : BitVec 32 := 1#32
  ⟨c0_i32_112, v130, c1_i32_114⟩
def k0_off106 (k0_t19 : Fin k0_t19_loop.trips) : Fin 1 → Nat :=
  let c0_i32_112 : BitVec 32 := 0#32
  let c1_i32_114 : BitVec 32 := 1#32
  let arg21 : BitVec 32 := Scf.iv c0_i32_112 c1_i32_114 k0_t19
  let c16_i32_294 : BitVec 32 := 16#32
  let v296 : BitVec 32 := Scalar.muli arg21 c16_i32_294
  let v297 : Index := Scalar.indexCast v296
  ![v297.toNat]
@[reducible] def k0_t20_loop : Scf.Loop 32 :=
  let c0_i32_118 : BitVec 32 := 0#32
  let c33_i32_119 : BitVec 32 := 33#32
  let v134 : BitVec 32 := Scalar.addi c0_i32_118 c33_i32_119
  let c1_i32_120 : BitVec 32 := 1#32
  ⟨c0_i32_118, v134, c1_i32_120⟩
def k0_off107 (k0_t20 : Fin k0_t20_loop.trips) : Fin 1 → Nat :=
  let c0_i32_295 : BitVec 32 := 0#32
  let c0_i32_118 : BitVec 32 := 0#32
  let c1_i32_120 : BitVec 32 := 1#32
  let arg21 : BitVec 32 := Scf.iv c0_i32_118 c1_i32_120 k0_t20
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk97 (v318 : IVec S16 32) : Prop :=
  (∀ a x, ((![v318] : Fin 1 → IVec S16 32) a x).toNat < S4000.size a)
theorem k0_idx97_inb : ∀ (v318 : IVec S16 32) (k0_hw97 : k0_chk97 v318), ∀ a x, ((![v318] : Fin 1 → IVec S16 32) a x).toNat < S4000.size a := fun v318 k0_hw97 => k0_hw97
def k0_off108 (k0_t20 : Fin k0_t20_loop.trips) : Fin 1 → Nat :=
  let c0_i32_301 : BitVec 32 := 0#32
  let c0_i32_118 : BitVec 32 := 0#32
  let c1_i32_120 : BitVec 32 := 1#32
  let arg21 : BitVec 32 := Scf.iv c0_i32_118 c1_i32_120 k0_t20
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk98 (v341 : IVec S16 32) : Prop :=
  (∀ a x, ((![v341] : Fin 1 → IVec S16 32) a x).toNat < S4000.size a)
theorem k0_idx98_inb : ∀ (v341 : IVec S16 32) (k0_hw98 : k0_chk98 v341), ∀ a x, ((![v341] : Fin 1 → IVec S16 32) a x).toNat < S4000.size a := fun v341 k0_hw98 => k0_hw98
def k0_off109 (k0_t20 : Fin k0_t20_loop.trips) : Fin 1 → Nat :=
  let c0_i32_308 : BitVec 32 := 0#32
  let c0_i32_118 : BitVec 32 := 0#32
  let c1_i32_120 : BitVec 32 := 1#32
  let arg21 : BitVec 32 := Scf.iv c0_i32_118 c1_i32_120 k0_t20
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk99 (v364 : IVec S16 32) : Prop :=
  (∀ a x, ((![v364] : Fin 1 → IVec S16 32) a x).toNat < S4000.size a)
theorem k0_idx99_inb : ∀ (v364 : IVec S16 32) (k0_hw99 : k0_chk99 v364), ∀ a x, ((![v364] : Fin 1 → IVec S16 32) a x).toNat < S4000.size a := fun v364 k0_hw99 => k0_hw99
def k0_off110 (k0_t20 : Fin k0_t20_loop.trips) : Fin 1 → Nat :=
  let c0_i32_314 : BitVec 32 := 0#32
  let c0_i32_118 : BitVec 32 := 0#32
  let c1_i32_120 : BitVec 32 := 1#32
  let arg21 : BitVec 32 := Scf.iv c0_i32_118 c1_i32_120 k0_t20
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk100 (v387 : IVec S16 32) : Prop :=
  (∀ a x, ((![v387] : Fin 1 → IVec S16 32) a x).toNat < S4000.size a)
theorem k0_idx100_inb : ∀ (v387 : IVec S16 32) (k0_hw100 : k0_chk100 v387), ∀ a x, ((![v387] : Fin 1 → IVec S16 32) a x).toNat < S4000.size a := fun v387 k0_hw100 => k0_hw100
def k0_off111 (k0_t20 : Fin k0_t20_loop.trips) : Fin 1 → Nat :=
  let c0_i32_320 : BitVec 32 := 0#32
  let c0_i32_118 : BitVec 32 := 0#32
  let c1_i32_120 : BitVec 32 := 1#32
  let arg21 : BitVec 32 := Scf.iv c0_i32_118 c1_i32_120 k0_t20
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk101 (v410 : IVec S16 32) : Prop :=
  (∀ a x, ((![v410] : Fin 1 → IVec S16 32) a x).toNat < S4000.size a)
theorem k0_idx101_inb : ∀ (v410 : IVec S16 32) (k0_hw101 : k0_chk101 v410), ∀ a x, ((![v410] : Fin 1 → IVec S16 32) a x).toNat < S4000.size a := fun v410 k0_hw101 => k0_hw101
def k0_off112 (k0_t20 : Fin k0_t20_loop.trips) : Fin 1 → Nat :=
  let c0_i32_326 : BitVec 32 := 0#32
  let c0_i32_118 : BitVec 32 := 0#32
  let c1_i32_120 : BitVec 32 := 1#32
  let arg21 : BitVec 32 := Scf.iv c0_i32_118 c1_i32_120 k0_t20
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk102 (v433 : IVec S16 32) : Prop :=
  (∀ a x, ((![v433] : Fin 1 → IVec S16 32) a x).toNat < S4000.size a)
theorem k0_idx102_inb : ∀ (v433 : IVec S16 32) (k0_hw102 : k0_chk102 v433), ∀ a x, ((![v433] : Fin 1 → IVec S16 32) a x).toNat < S4000.size a := fun v433 k0_hw102 => k0_hw102
def k0_off113 (k0_t20 : Fin k0_t20_loop.trips) : Fin 1 → Nat :=
  let c0_i32_332 : BitVec 32 := 0#32
  let c0_i32_118 : BitVec 32 := 0#32
  let c1_i32_120 : BitVec 32 := 1#32
  let arg21 : BitVec 32 := Scf.iv c0_i32_118 c1_i32_120 k0_t20
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk103 (v456 : IVec S16 32) : Prop :=
  (∀ a x, ((![v456] : Fin 1 → IVec S16 32) a x).toNat < S4000.size a)
theorem k0_idx103_inb : ∀ (v456 : IVec S16 32) (k0_hw103 : k0_chk103 v456), ∀ a x, ((![v456] : Fin 1 → IVec S16 32) a x).toNat < S4000.size a := fun v456 k0_hw103 => k0_hw103
def k0_off114 (k0_t20 : Fin k0_t20_loop.trips) : Fin 1 → Nat :=
  let c0_i32_338 : BitVec 32 := 0#32
  let c0_i32_118 : BitVec 32 := 0#32
  let c1_i32_120 : BitVec 32 := 1#32
  let arg21 : BitVec 32 := Scf.iv c0_i32_118 c1_i32_120 k0_t20
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk104 (v479 : IVec S16 32) : Prop :=
  (∀ a x, ((![v479] : Fin 1 → IVec S16 32) a x).toNat < S4000.size a)
theorem k0_idx104_inb : ∀ (v479 : IVec S16 32) (k0_hw104 : k0_chk104 v479), ∀ a x, ((![v479] : Fin 1 → IVec S16 32) a x).toNat < S4000.size a := fun v479 k0_hw104 => k0_hw104
@[reducible] def k0_t21_loop : Scf.Loop 32 :=
  let c0_i32_124 : BitVec 32 := 0#32
  let c33_i32_125 : BitVec 32 := 33#32
  let v138 : BitVec 32 := Scalar.addi c0_i32_124 c33_i32_125
  let c1_i32_126 : BitVec 32 := 1#32
  ⟨c0_i32_124, v138, c1_i32_126⟩
def k0_off115 (k0_t21 : Fin k0_t21_loop.trips) : Fin 1 → Nat :=
  let c4224_i32_295 : BitVec 32 := 4224#32
  let c0_i32_124 : BitVec 32 := 0#32
  let c1_i32_126 : BitVec 32 := 1#32
  let arg21 : BitVec 32 := Scf.iv c0_i32_124 c1_i32_126 k0_t21
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk105 (v318 : IVec S16 32) : Prop :=
  (∀ a x, ((![v318] : Fin 1 → IVec S16 32) a x).toNat < S4000.size a)
theorem k0_idx105_inb : ∀ (v318 : IVec S16 32) (k0_hw105 : k0_chk105 v318), ∀ a x, ((![v318] : Fin 1 → IVec S16 32) a x).toNat < S4000.size a := fun v318 k0_hw105 => k0_hw105
def k0_off116 (k0_t21 : Fin k0_t21_loop.trips) : Fin 1 → Nat :=
  let c4224_i32_301 : BitVec 32 := 4224#32
  let c0_i32_124 : BitVec 32 := 0#32
  let c1_i32_126 : BitVec 32 := 1#32
  let arg21 : BitVec 32 := Scf.iv c0_i32_124 c1_i32_126 k0_t21
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk106 (v341 : IVec S16 32) : Prop :=
  (∀ a x, ((![v341] : Fin 1 → IVec S16 32) a x).toNat < S4000.size a)
theorem k0_idx106_inb : ∀ (v341 : IVec S16 32) (k0_hw106 : k0_chk106 v341), ∀ a x, ((![v341] : Fin 1 → IVec S16 32) a x).toNat < S4000.size a := fun v341 k0_hw106 => k0_hw106
def k0_off117 (k0_t21 : Fin k0_t21_loop.trips) : Fin 1 → Nat :=
  let c4224_i32_308 : BitVec 32 := 4224#32
  let c0_i32_124 : BitVec 32 := 0#32
  let c1_i32_126 : BitVec 32 := 1#32
  let arg21 : BitVec 32 := Scf.iv c0_i32_124 c1_i32_126 k0_t21
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk107 (v364 : IVec S16 32) : Prop :=
  (∀ a x, ((![v364] : Fin 1 → IVec S16 32) a x).toNat < S4000.size a)
theorem k0_idx107_inb : ∀ (v364 : IVec S16 32) (k0_hw107 : k0_chk107 v364), ∀ a x, ((![v364] : Fin 1 → IVec S16 32) a x).toNat < S4000.size a := fun v364 k0_hw107 => k0_hw107
def k0_off118 (k0_t21 : Fin k0_t21_loop.trips) : Fin 1 → Nat :=
  let c4224_i32_314 : BitVec 32 := 4224#32
  let c0_i32_124 : BitVec 32 := 0#32
  let c1_i32_126 : BitVec 32 := 1#32
  let arg21 : BitVec 32 := Scf.iv c0_i32_124 c1_i32_126 k0_t21
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk108 (v387 : IVec S16 32) : Prop :=
  (∀ a x, ((![v387] : Fin 1 → IVec S16 32) a x).toNat < S4000.size a)
theorem k0_idx108_inb : ∀ (v387 : IVec S16 32) (k0_hw108 : k0_chk108 v387), ∀ a x, ((![v387] : Fin 1 → IVec S16 32) a x).toNat < S4000.size a := fun v387 k0_hw108 => k0_hw108
def k0_off119 (k0_t21 : Fin k0_t21_loop.trips) : Fin 1 → Nat :=
  let c4224_i32_320 : BitVec 32 := 4224#32
  let c0_i32_124 : BitVec 32 := 0#32
  let c1_i32_126 : BitVec 32 := 1#32
  let arg21 : BitVec 32 := Scf.iv c0_i32_124 c1_i32_126 k0_t21
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk109 (v410 : IVec S16 32) : Prop :=
  (∀ a x, ((![v410] : Fin 1 → IVec S16 32) a x).toNat < S4000.size a)
theorem k0_idx109_inb : ∀ (v410 : IVec S16 32) (k0_hw109 : k0_chk109 v410), ∀ a x, ((![v410] : Fin 1 → IVec S16 32) a x).toNat < S4000.size a := fun v410 k0_hw109 => k0_hw109
def k0_off120 (k0_t21 : Fin k0_t21_loop.trips) : Fin 1 → Nat :=
  let c4224_i32_326 : BitVec 32 := 4224#32
  let c0_i32_124 : BitVec 32 := 0#32
  let c1_i32_126 : BitVec 32 := 1#32
  let arg21 : BitVec 32 := Scf.iv c0_i32_124 c1_i32_126 k0_t21
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk110 (v433 : IVec S16 32) : Prop :=
  (∀ a x, ((![v433] : Fin 1 → IVec S16 32) a x).toNat < S4000.size a)
theorem k0_idx110_inb : ∀ (v433 : IVec S16 32) (k0_hw110 : k0_chk110 v433), ∀ a x, ((![v433] : Fin 1 → IVec S16 32) a x).toNat < S4000.size a := fun v433 k0_hw110 => k0_hw110
def k0_off121 (k0_t21 : Fin k0_t21_loop.trips) : Fin 1 → Nat :=
  let c4224_i32_332 : BitVec 32 := 4224#32
  let c0_i32_124 : BitVec 32 := 0#32
  let c1_i32_126 : BitVec 32 := 1#32
  let arg21 : BitVec 32 := Scf.iv c0_i32_124 c1_i32_126 k0_t21
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk111 (v456 : IVec S16 32) : Prop :=
  (∀ a x, ((![v456] : Fin 1 → IVec S16 32) a x).toNat < S4000.size a)
theorem k0_idx111_inb : ∀ (v456 : IVec S16 32) (k0_hw111 : k0_chk111 v456), ∀ a x, ((![v456] : Fin 1 → IVec S16 32) a x).toNat < S4000.size a := fun v456 k0_hw111 => k0_hw111
def k0_off122 (k0_t21 : Fin k0_t21_loop.trips) : Fin 1 → Nat :=
  let c4224_i32_338 : BitVec 32 := 4224#32
  let c0_i32_124 : BitVec 32 := 0#32
  let c1_i32_126 : BitVec 32 := 1#32
  let arg21 : BitVec 32 := Scf.iv c0_i32_124 c1_i32_126 k0_t21
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk112 (v479 : IVec S16 32) : Prop :=
  (∀ a x, ((![v479] : Fin 1 → IVec S16 32) a x).toNat < S4000.size a)
theorem k0_idx112_inb : ∀ (v479 : IVec S16 32) (k0_hw112 : k0_chk112 v479), ∀ a x, ((![v479] : Fin 1 → IVec S16 32) a x).toNat < S4000.size a := fun v479 k0_hw112 => k0_hw112
@[reducible] def k0_t22_loop : Scf.Loop 32 :=
  let c0_i32_130 : BitVec 32 := 0#32
  let c33_i32_131 : BitVec 32 := 33#32
  let v142 : BitVec 32 := Scalar.addi c0_i32_130 c33_i32_131
  let c1_i32_132 : BitVec 32 := 1#32
  ⟨c0_i32_130, v142, c1_i32_132⟩
def k0_off123 (k0_t22 : Fin k0_t22_loop.trips) : Fin 1 → Nat :=
  let c8448_i32 : BitVec 32 := 8448#32
  let c0_i32_130 : BitVec 32 := 0#32
  let c1_i32_132 : BitVec 32 := 1#32
  let arg21 : BitVec 32 := Scf.iv c0_i32_130 c1_i32_132 k0_t22
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk113 (v318 : IVec S16 32) : Prop :=
  (∀ a x, ((![v318] : Fin 1 → IVec S16 32) a x).toNat < S4000.size a)
theorem k0_idx113_inb : ∀ (v318 : IVec S16 32) (k0_hw113 : k0_chk113 v318), ∀ a x, ((![v318] : Fin 1 → IVec S16 32) a x).toNat < S4000.size a := fun v318 k0_hw113 => k0_hw113
def k0_off124 (k0_t22 : Fin k0_t22_loop.trips) : Fin 1 → Nat :=
  let c8448_i32_299 : BitVec 32 := 8448#32
  let c0_i32_130 : BitVec 32 := 0#32
  let c1_i32_132 : BitVec 32 := 1#32
  let arg21 : BitVec 32 := Scf.iv c0_i32_130 c1_i32_132 k0_t22
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk114 (v341 : IVec S16 32) : Prop :=
  (∀ a x, ((![v341] : Fin 1 → IVec S16 32) a x).toNat < S4000.size a)
theorem k0_idx114_inb : ∀ (v341 : IVec S16 32) (k0_hw114 : k0_chk114 v341), ∀ a x, ((![v341] : Fin 1 → IVec S16 32) a x).toNat < S4000.size a := fun v341 k0_hw114 => k0_hw114
def k0_off125 (k0_t22 : Fin k0_t22_loop.trips) : Fin 1 → Nat :=
  let c8448_i32_306 : BitVec 32 := 8448#32
  let c0_i32_130 : BitVec 32 := 0#32
  let c1_i32_132 : BitVec 32 := 1#32
  let arg21 : BitVec 32 := Scf.iv c0_i32_130 c1_i32_132 k0_t22
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk115 (v364 : IVec S16 32) : Prop :=
  (∀ a x, ((![v364] : Fin 1 → IVec S16 32) a x).toNat < S4000.size a)
theorem k0_idx115_inb : ∀ (v364 : IVec S16 32) (k0_hw115 : k0_chk115 v364), ∀ a x, ((![v364] : Fin 1 → IVec S16 32) a x).toNat < S4000.size a := fun v364 k0_hw115 => k0_hw115
def k0_off126 (k0_t22 : Fin k0_t22_loop.trips) : Fin 1 → Nat :=
  let c8448_i32_312 : BitVec 32 := 8448#32
  let c0_i32_130 : BitVec 32 := 0#32
  let c1_i32_132 : BitVec 32 := 1#32
  let arg21 : BitVec 32 := Scf.iv c0_i32_130 c1_i32_132 k0_t22
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk116 (v387 : IVec S16 32) : Prop :=
  (∀ a x, ((![v387] : Fin 1 → IVec S16 32) a x).toNat < S4000.size a)
theorem k0_idx116_inb : ∀ (v387 : IVec S16 32) (k0_hw116 : k0_chk116 v387), ∀ a x, ((![v387] : Fin 1 → IVec S16 32) a x).toNat < S4000.size a := fun v387 k0_hw116 => k0_hw116
def k0_off127 (k0_t22 : Fin k0_t22_loop.trips) : Fin 1 → Nat :=
  let c8448_i32_318 : BitVec 32 := 8448#32
  let c0_i32_130 : BitVec 32 := 0#32
  let c1_i32_132 : BitVec 32 := 1#32
  let arg21 : BitVec 32 := Scf.iv c0_i32_130 c1_i32_132 k0_t22
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk117 (v410 : IVec S16 32) : Prop :=
  (∀ a x, ((![v410] : Fin 1 → IVec S16 32) a x).toNat < S4000.size a)
theorem k0_idx117_inb : ∀ (v410 : IVec S16 32) (k0_hw117 : k0_chk117 v410), ∀ a x, ((![v410] : Fin 1 → IVec S16 32) a x).toNat < S4000.size a := fun v410 k0_hw117 => k0_hw117
def k0_off128 (k0_t22 : Fin k0_t22_loop.trips) : Fin 1 → Nat :=
  let c8448_i32_324 : BitVec 32 := 8448#32
  let c0_i32_130 : BitVec 32 := 0#32
  let c1_i32_132 : BitVec 32 := 1#32
  let arg21 : BitVec 32 := Scf.iv c0_i32_130 c1_i32_132 k0_t22
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk118 (v433 : IVec S16 32) : Prop :=
  (∀ a x, ((![v433] : Fin 1 → IVec S16 32) a x).toNat < S4000.size a)
theorem k0_idx118_inb : ∀ (v433 : IVec S16 32) (k0_hw118 : k0_chk118 v433), ∀ a x, ((![v433] : Fin 1 → IVec S16 32) a x).toNat < S4000.size a := fun v433 k0_hw118 => k0_hw118
def k0_off129 (k0_t22 : Fin k0_t22_loop.trips) : Fin 1 → Nat :=
  let c8448_i32_330 : BitVec 32 := 8448#32
  let c0_i32_130 : BitVec 32 := 0#32
  let c1_i32_132 : BitVec 32 := 1#32
  let arg21 : BitVec 32 := Scf.iv c0_i32_130 c1_i32_132 k0_t22
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk119 (v456 : IVec S16 32) : Prop :=
  (∀ a x, ((![v456] : Fin 1 → IVec S16 32) a x).toNat < S4000.size a)
theorem k0_idx119_inb : ∀ (v456 : IVec S16 32) (k0_hw119 : k0_chk119 v456), ∀ a x, ((![v456] : Fin 1 → IVec S16 32) a x).toNat < S4000.size a := fun v456 k0_hw119 => k0_hw119
def k0_off130 (k0_t22 : Fin k0_t22_loop.trips) : Fin 1 → Nat :=
  let c8448_i32_336 : BitVec 32 := 8448#32
  let c0_i32_130 : BitVec 32 := 0#32
  let c1_i32_132 : BitVec 32 := 1#32
  let arg21 : BitVec 32 := Scf.iv c0_i32_130 c1_i32_132 k0_t22
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk120 (v479 : IVec S16 32) : Prop :=
  (∀ a x, ((![v479] : Fin 1 → IVec S16 32) a x).toNat < S4000.size a)
theorem k0_idx120_inb : ∀ (v479 : IVec S16 32) (k0_hw120 : k0_chk120 v479), ∀ a x, ((![v479] : Fin 1 → IVec S16 32) a x).toNat < S4000.size a := fun v479 k0_hw120 => k0_hw120
@[reducible] def k0_t23_loop : Scf.Loop 32 :=
  let c0_i32_136 : BitVec 32 := 0#32
  let c33_i32_137 : BitVec 32 := 33#32
  let v146 : BitVec 32 := Scalar.addi c0_i32_136 c33_i32_137
  let c1_i32_138 : BitVec 32 := 1#32
  ⟨c0_i32_136, v146, c1_i32_138⟩
def k0_off131 (k0_t23 : Fin k0_t23_loop.trips) : Fin 1 → Nat :=
  let c12672_i32 : BitVec 32 := 12672#32
  let c0_i32_136 : BitVec 32 := 0#32
  let c1_i32_138 : BitVec 32 := 1#32
  let arg21 : BitVec 32 := Scf.iv c0_i32_136 c1_i32_138 k0_t23
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk121 (v318 : IVec S16 32) : Prop :=
  (∀ a x, ((![v318] : Fin 1 → IVec S16 32) a x).toNat < S4000.size a)
theorem k0_idx121_inb : ∀ (v318 : IVec S16 32) (k0_hw121 : k0_chk121 v318), ∀ a x, ((![v318] : Fin 1 → IVec S16 32) a x).toNat < S4000.size a := fun v318 k0_hw121 => k0_hw121
def k0_off132 (k0_t23 : Fin k0_t23_loop.trips) : Fin 1 → Nat :=
  let c12672_i32_299 : BitVec 32 := 12672#32
  let c0_i32_136 : BitVec 32 := 0#32
  let c1_i32_138 : BitVec 32 := 1#32
  let arg21 : BitVec 32 := Scf.iv c0_i32_136 c1_i32_138 k0_t23
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk122 (v341 : IVec S16 32) : Prop :=
  (∀ a x, ((![v341] : Fin 1 → IVec S16 32) a x).toNat < S4000.size a)
theorem k0_idx122_inb : ∀ (v341 : IVec S16 32) (k0_hw122 : k0_chk122 v341), ∀ a x, ((![v341] : Fin 1 → IVec S16 32) a x).toNat < S4000.size a := fun v341 k0_hw122 => k0_hw122
def k0_off133 (k0_t23 : Fin k0_t23_loop.trips) : Fin 1 → Nat :=
  let c12672_i32_306 : BitVec 32 := 12672#32
  let c0_i32_136 : BitVec 32 := 0#32
  let c1_i32_138 : BitVec 32 := 1#32
  let arg21 : BitVec 32 := Scf.iv c0_i32_136 c1_i32_138 k0_t23
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk123 (v364 : IVec S16 32) : Prop :=
  (∀ a x, ((![v364] : Fin 1 → IVec S16 32) a x).toNat < S4000.size a)
theorem k0_idx123_inb : ∀ (v364 : IVec S16 32) (k0_hw123 : k0_chk123 v364), ∀ a x, ((![v364] : Fin 1 → IVec S16 32) a x).toNat < S4000.size a := fun v364 k0_hw123 => k0_hw123
def k0_off134 (k0_t23 : Fin k0_t23_loop.trips) : Fin 1 → Nat :=
  let c12672_i32_312 : BitVec 32 := 12672#32
  let c0_i32_136 : BitVec 32 := 0#32
  let c1_i32_138 : BitVec 32 := 1#32
  let arg21 : BitVec 32 := Scf.iv c0_i32_136 c1_i32_138 k0_t23
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk124 (v387 : IVec S16 32) : Prop :=
  (∀ a x, ((![v387] : Fin 1 → IVec S16 32) a x).toNat < S4000.size a)
theorem k0_idx124_inb : ∀ (v387 : IVec S16 32) (k0_hw124 : k0_chk124 v387), ∀ a x, ((![v387] : Fin 1 → IVec S16 32) a x).toNat < S4000.size a := fun v387 k0_hw124 => k0_hw124
def k0_off135 (k0_t23 : Fin k0_t23_loop.trips) : Fin 1 → Nat :=
  let c12672_i32_318 : BitVec 32 := 12672#32
  let c0_i32_136 : BitVec 32 := 0#32
  let c1_i32_138 : BitVec 32 := 1#32
  let arg21 : BitVec 32 := Scf.iv c0_i32_136 c1_i32_138 k0_t23
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk125 (v410 : IVec S16 32) : Prop :=
  (∀ a x, ((![v410] : Fin 1 → IVec S16 32) a x).toNat < S4000.size a)
theorem k0_idx125_inb : ∀ (v410 : IVec S16 32) (k0_hw125 : k0_chk125 v410), ∀ a x, ((![v410] : Fin 1 → IVec S16 32) a x).toNat < S4000.size a := fun v410 k0_hw125 => k0_hw125
def k0_off136 (k0_t23 : Fin k0_t23_loop.trips) : Fin 1 → Nat :=
  let c12672_i32_324 : BitVec 32 := 12672#32
  let c0_i32_136 : BitVec 32 := 0#32
  let c1_i32_138 : BitVec 32 := 1#32
  let arg21 : BitVec 32 := Scf.iv c0_i32_136 c1_i32_138 k0_t23
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk126 (v433 : IVec S16 32) : Prop :=
  (∀ a x, ((![v433] : Fin 1 → IVec S16 32) a x).toNat < S4000.size a)
theorem k0_idx126_inb : ∀ (v433 : IVec S16 32) (k0_hw126 : k0_chk126 v433), ∀ a x, ((![v433] : Fin 1 → IVec S16 32) a x).toNat < S4000.size a := fun v433 k0_hw126 => k0_hw126
def k0_off137 (k0_t23 : Fin k0_t23_loop.trips) : Fin 1 → Nat :=
  let c12672_i32_330 : BitVec 32 := 12672#32
  let c0_i32_136 : BitVec 32 := 0#32
  let c1_i32_138 : BitVec 32 := 1#32
  let arg21 : BitVec 32 := Scf.iv c0_i32_136 c1_i32_138 k0_t23
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk127 (v456 : IVec S16 32) : Prop :=
  (∀ a x, ((![v456] : Fin 1 → IVec S16 32) a x).toNat < S4000.size a)
theorem k0_idx127_inb : ∀ (v456 : IVec S16 32) (k0_hw127 : k0_chk127 v456), ∀ a x, ((![v456] : Fin 1 → IVec S16 32) a x).toNat < S4000.size a := fun v456 k0_hw127 => k0_hw127
def k0_off138 (k0_t23 : Fin k0_t23_loop.trips) : Fin 1 → Nat :=
  let c12672_i32_336 : BitVec 32 := 12672#32
  let c0_i32_136 : BitVec 32 := 0#32
  let c1_i32_138 : BitVec 32 := 1#32
  let arg21 : BitVec 32 := Scf.iv c0_i32_136 c1_i32_138 k0_t23
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk128 (v479 : IVec S16 32) : Prop :=
  (∀ a x, ((![v479] : Fin 1 → IVec S16 32) a x).toNat < S4000.size a)
theorem k0_idx128_inb : ∀ (v479 : IVec S16 32) (k0_hw128 : k0_chk128 v479), ∀ a x, ((![v479] : Fin 1 → IVec S16 32) a x).toNat < S4000.size a := fun v479 k0_hw128 => k0_hw128
@[reducible] def k0_t24_loop : Scf.Loop 32 :=
  let c0_i32_141 : BitVec 32 := 0#32
  let c250_i32_142 : BitVec 32 := 250#32
  let v148 : BitVec 32 := Scalar.addi c0_i32_141 c250_i32_142
  let c1_i32_143 : BitVec 32 := 1#32
  ⟨c0_i32_141, v148, c1_i32_143⟩
def k0_off139 (k0_t24 : Fin k0_t24_loop.trips) : Fin 1 → Nat :=
  let c0_i32_141 : BitVec 32 := 0#32
  let c1_i32_143 : BitVec 32 := 1#32
  let arg21 : BitVec 32 := Scf.iv c0_i32_141 c1_i32_143 k0_t24
  let c16_i32_294 : BitVec 32 := 16#32
  let v296 : BitVec 32 := Scalar.muli arg21 c16_i32_294
  let v297 : Index := Scalar.indexCast v296
  ![v297.toNat]
@[reducible] def k0_t25_loop : Scf.Loop 32 :=
  let c0_i32_149 : BitVec 32 := 0#32
  let c250_i32_150 : BitVec 32 := 250#32
  let v166 : BitVec 32 := Scalar.addi c0_i32_149 c250_i32_150
  let c1_i32_151 : BitVec 32 := 1#32
  ⟨c0_i32_149, v166, c1_i32_151⟩
def k0_off140 (k0_t25 : Fin k0_t25_loop.trips) : Fin 1 → Nat :=
  let c0_i32_149 : BitVec 32 := 0#32
  let c1_i32_151 : BitVec 32 := 1#32
  let arg21 : BitVec 32 := Scf.iv c0_i32_149 c1_i32_151 k0_t25
  let c16_i32_294 : BitVec 32 := 16#32
  let v296 : BitVec 32 := Scalar.muli arg21 c16_i32_294
  let v297 : Index := Scalar.indexCast v296
  ![v297.toNat]
@[reducible] def k0_t26_loop : Scf.Loop 32 :=
  let c0_i32_155 : BitVec 32 := 0#32
  let c33_i32_156 : BitVec 32 := 33#32
  let v170 : BitVec 32 := Scalar.addi c0_i32_155 c33_i32_156
  let c1_i32_157 : BitVec 32 := 1#32
  ⟨c0_i32_155, v170, c1_i32_157⟩
def k0_off141 (k0_t26 : Fin k0_t26_loop.trips) : Fin 1 → Nat :=
  let c0_i32_295 : BitVec 32 := 0#32
  let c0_i32_155 : BitVec 32 := 0#32
  let c1_i32_157 : BitVec 32 := 1#32
  let arg21 : BitVec 32 := Scf.iv c0_i32_155 c1_i32_157 k0_t26
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk129 (v318 : IVec S16 32) : Prop :=
  (∀ a x, ((![v318] : Fin 1 → IVec S16 32) a x).toNat < S4000.size a)
theorem k0_idx129_inb : ∀ (v318 : IVec S16 32) (k0_hw129 : k0_chk129 v318), ∀ a x, ((![v318] : Fin 1 → IVec S16 32) a x).toNat < S4000.size a := fun v318 k0_hw129 => k0_hw129
def k0_off142 (k0_t26 : Fin k0_t26_loop.trips) : Fin 1 → Nat :=
  let c0_i32_301 : BitVec 32 := 0#32
  let c0_i32_155 : BitVec 32 := 0#32
  let c1_i32_157 : BitVec 32 := 1#32
  let arg21 : BitVec 32 := Scf.iv c0_i32_155 c1_i32_157 k0_t26
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk130 (v341 : IVec S16 32) : Prop :=
  (∀ a x, ((![v341] : Fin 1 → IVec S16 32) a x).toNat < S4000.size a)
theorem k0_idx130_inb : ∀ (v341 : IVec S16 32) (k0_hw130 : k0_chk130 v341), ∀ a x, ((![v341] : Fin 1 → IVec S16 32) a x).toNat < S4000.size a := fun v341 k0_hw130 => k0_hw130
def k0_off143 (k0_t26 : Fin k0_t26_loop.trips) : Fin 1 → Nat :=
  let c0_i32_308 : BitVec 32 := 0#32
  let c0_i32_155 : BitVec 32 := 0#32
  let c1_i32_157 : BitVec 32 := 1#32
  let arg21 : BitVec 32 := Scf.iv c0_i32_155 c1_i32_157 k0_t26
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk131 (v364 : IVec S16 32) : Prop :=
  (∀ a x, ((![v364] : Fin 1 → IVec S16 32) a x).toNat < S4000.size a)
theorem k0_idx131_inb : ∀ (v364 : IVec S16 32) (k0_hw131 : k0_chk131 v364), ∀ a x, ((![v364] : Fin 1 → IVec S16 32) a x).toNat < S4000.size a := fun v364 k0_hw131 => k0_hw131
def k0_off144 (k0_t26 : Fin k0_t26_loop.trips) : Fin 1 → Nat :=
  let c0_i32_314 : BitVec 32 := 0#32
  let c0_i32_155 : BitVec 32 := 0#32
  let c1_i32_157 : BitVec 32 := 1#32
  let arg21 : BitVec 32 := Scf.iv c0_i32_155 c1_i32_157 k0_t26
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk132 (v387 : IVec S16 32) : Prop :=
  (∀ a x, ((![v387] : Fin 1 → IVec S16 32) a x).toNat < S4000.size a)
theorem k0_idx132_inb : ∀ (v387 : IVec S16 32) (k0_hw132 : k0_chk132 v387), ∀ a x, ((![v387] : Fin 1 → IVec S16 32) a x).toNat < S4000.size a := fun v387 k0_hw132 => k0_hw132
def k0_off145 (k0_t26 : Fin k0_t26_loop.trips) : Fin 1 → Nat :=
  let c0_i32_320 : BitVec 32 := 0#32
  let c0_i32_155 : BitVec 32 := 0#32
  let c1_i32_157 : BitVec 32 := 1#32
  let arg21 : BitVec 32 := Scf.iv c0_i32_155 c1_i32_157 k0_t26
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk133 (v410 : IVec S16 32) : Prop :=
  (∀ a x, ((![v410] : Fin 1 → IVec S16 32) a x).toNat < S4000.size a)
theorem k0_idx133_inb : ∀ (v410 : IVec S16 32) (k0_hw133 : k0_chk133 v410), ∀ a x, ((![v410] : Fin 1 → IVec S16 32) a x).toNat < S4000.size a := fun v410 k0_hw133 => k0_hw133
def k0_off146 (k0_t26 : Fin k0_t26_loop.trips) : Fin 1 → Nat :=
  let c0_i32_326 : BitVec 32 := 0#32
  let c0_i32_155 : BitVec 32 := 0#32
  let c1_i32_157 : BitVec 32 := 1#32
  let arg21 : BitVec 32 := Scf.iv c0_i32_155 c1_i32_157 k0_t26
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk134 (v433 : IVec S16 32) : Prop :=
  (∀ a x, ((![v433] : Fin 1 → IVec S16 32) a x).toNat < S4000.size a)
theorem k0_idx134_inb : ∀ (v433 : IVec S16 32) (k0_hw134 : k0_chk134 v433), ∀ a x, ((![v433] : Fin 1 → IVec S16 32) a x).toNat < S4000.size a := fun v433 k0_hw134 => k0_hw134
def k0_off147 (k0_t26 : Fin k0_t26_loop.trips) : Fin 1 → Nat :=
  let c0_i32_332 : BitVec 32 := 0#32
  let c0_i32_155 : BitVec 32 := 0#32
  let c1_i32_157 : BitVec 32 := 1#32
  let arg21 : BitVec 32 := Scf.iv c0_i32_155 c1_i32_157 k0_t26
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk135 (v456 : IVec S16 32) : Prop :=
  (∀ a x, ((![v456] : Fin 1 → IVec S16 32) a x).toNat < S4000.size a)
theorem k0_idx135_inb : ∀ (v456 : IVec S16 32) (k0_hw135 : k0_chk135 v456), ∀ a x, ((![v456] : Fin 1 → IVec S16 32) a x).toNat < S4000.size a := fun v456 k0_hw135 => k0_hw135
def k0_off148 (k0_t26 : Fin k0_t26_loop.trips) : Fin 1 → Nat :=
  let c0_i32_338 : BitVec 32 := 0#32
  let c0_i32_155 : BitVec 32 := 0#32
  let c1_i32_157 : BitVec 32 := 1#32
  let arg21 : BitVec 32 := Scf.iv c0_i32_155 c1_i32_157 k0_t26
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk136 (v479 : IVec S16 32) : Prop :=
  (∀ a x, ((![v479] : Fin 1 → IVec S16 32) a x).toNat < S4000.size a)
theorem k0_idx136_inb : ∀ (v479 : IVec S16 32) (k0_hw136 : k0_chk136 v479), ∀ a x, ((![v479] : Fin 1 → IVec S16 32) a x).toNat < S4000.size a := fun v479 k0_hw136 => k0_hw136
@[reducible] def k0_t27_loop : Scf.Loop 32 :=
  let c0_i32_161 : BitVec 32 := 0#32
  let c33_i32_162 : BitVec 32 := 33#32
  let v174 : BitVec 32 := Scalar.addi c0_i32_161 c33_i32_162
  let c1_i32_163 : BitVec 32 := 1#32
  ⟨c0_i32_161, v174, c1_i32_163⟩
def k0_off149 (k0_t27 : Fin k0_t27_loop.trips) : Fin 1 → Nat :=
  let c4224_i32_295 : BitVec 32 := 4224#32
  let c0_i32_161 : BitVec 32 := 0#32
  let c1_i32_163 : BitVec 32 := 1#32
  let arg21 : BitVec 32 := Scf.iv c0_i32_161 c1_i32_163 k0_t27
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk137 (v318 : IVec S16 32) : Prop :=
  (∀ a x, ((![v318] : Fin 1 → IVec S16 32) a x).toNat < S4000.size a)
theorem k0_idx137_inb : ∀ (v318 : IVec S16 32) (k0_hw137 : k0_chk137 v318), ∀ a x, ((![v318] : Fin 1 → IVec S16 32) a x).toNat < S4000.size a := fun v318 k0_hw137 => k0_hw137
def k0_off150 (k0_t27 : Fin k0_t27_loop.trips) : Fin 1 → Nat :=
  let c4224_i32_301 : BitVec 32 := 4224#32
  let c0_i32_161 : BitVec 32 := 0#32
  let c1_i32_163 : BitVec 32 := 1#32
  let arg21 : BitVec 32 := Scf.iv c0_i32_161 c1_i32_163 k0_t27
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk138 (v341 : IVec S16 32) : Prop :=
  (∀ a x, ((![v341] : Fin 1 → IVec S16 32) a x).toNat < S4000.size a)
theorem k0_idx138_inb : ∀ (v341 : IVec S16 32) (k0_hw138 : k0_chk138 v341), ∀ a x, ((![v341] : Fin 1 → IVec S16 32) a x).toNat < S4000.size a := fun v341 k0_hw138 => k0_hw138
def k0_off151 (k0_t27 : Fin k0_t27_loop.trips) : Fin 1 → Nat :=
  let c4224_i32_308 : BitVec 32 := 4224#32
  let c0_i32_161 : BitVec 32 := 0#32
  let c1_i32_163 : BitVec 32 := 1#32
  let arg21 : BitVec 32 := Scf.iv c0_i32_161 c1_i32_163 k0_t27
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk139 (v364 : IVec S16 32) : Prop :=
  (∀ a x, ((![v364] : Fin 1 → IVec S16 32) a x).toNat < S4000.size a)
theorem k0_idx139_inb : ∀ (v364 : IVec S16 32) (k0_hw139 : k0_chk139 v364), ∀ a x, ((![v364] : Fin 1 → IVec S16 32) a x).toNat < S4000.size a := fun v364 k0_hw139 => k0_hw139
def k0_off152 (k0_t27 : Fin k0_t27_loop.trips) : Fin 1 → Nat :=
  let c4224_i32_314 : BitVec 32 := 4224#32
  let c0_i32_161 : BitVec 32 := 0#32
  let c1_i32_163 : BitVec 32 := 1#32
  let arg21 : BitVec 32 := Scf.iv c0_i32_161 c1_i32_163 k0_t27
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk140 (v387 : IVec S16 32) : Prop :=
  (∀ a x, ((![v387] : Fin 1 → IVec S16 32) a x).toNat < S4000.size a)
theorem k0_idx140_inb : ∀ (v387 : IVec S16 32) (k0_hw140 : k0_chk140 v387), ∀ a x, ((![v387] : Fin 1 → IVec S16 32) a x).toNat < S4000.size a := fun v387 k0_hw140 => k0_hw140
def k0_off153 (k0_t27 : Fin k0_t27_loop.trips) : Fin 1 → Nat :=
  let c4224_i32_320 : BitVec 32 := 4224#32
  let c0_i32_161 : BitVec 32 := 0#32
  let c1_i32_163 : BitVec 32 := 1#32
  let arg21 : BitVec 32 := Scf.iv c0_i32_161 c1_i32_163 k0_t27
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk141 (v410 : IVec S16 32) : Prop :=
  (∀ a x, ((![v410] : Fin 1 → IVec S16 32) a x).toNat < S4000.size a)
theorem k0_idx141_inb : ∀ (v410 : IVec S16 32) (k0_hw141 : k0_chk141 v410), ∀ a x, ((![v410] : Fin 1 → IVec S16 32) a x).toNat < S4000.size a := fun v410 k0_hw141 => k0_hw141
def k0_off154 (k0_t27 : Fin k0_t27_loop.trips) : Fin 1 → Nat :=
  let c4224_i32_326 : BitVec 32 := 4224#32
  let c0_i32_161 : BitVec 32 := 0#32
  let c1_i32_163 : BitVec 32 := 1#32
  let arg21 : BitVec 32 := Scf.iv c0_i32_161 c1_i32_163 k0_t27
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk142 (v433 : IVec S16 32) : Prop :=
  (∀ a x, ((![v433] : Fin 1 → IVec S16 32) a x).toNat < S4000.size a)
theorem k0_idx142_inb : ∀ (v433 : IVec S16 32) (k0_hw142 : k0_chk142 v433), ∀ a x, ((![v433] : Fin 1 → IVec S16 32) a x).toNat < S4000.size a := fun v433 k0_hw142 => k0_hw142
def k0_off155 (k0_t27 : Fin k0_t27_loop.trips) : Fin 1 → Nat :=
  let c4224_i32_332 : BitVec 32 := 4224#32
  let c0_i32_161 : BitVec 32 := 0#32
  let c1_i32_163 : BitVec 32 := 1#32
  let arg21 : BitVec 32 := Scf.iv c0_i32_161 c1_i32_163 k0_t27
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk143 (v456 : IVec S16 32) : Prop :=
  (∀ a x, ((![v456] : Fin 1 → IVec S16 32) a x).toNat < S4000.size a)
theorem k0_idx143_inb : ∀ (v456 : IVec S16 32) (k0_hw143 : k0_chk143 v456), ∀ a x, ((![v456] : Fin 1 → IVec S16 32) a x).toNat < S4000.size a := fun v456 k0_hw143 => k0_hw143
def k0_off156 (k0_t27 : Fin k0_t27_loop.trips) : Fin 1 → Nat :=
  let c4224_i32_338 : BitVec 32 := 4224#32
  let c0_i32_161 : BitVec 32 := 0#32
  let c1_i32_163 : BitVec 32 := 1#32
  let arg21 : BitVec 32 := Scf.iv c0_i32_161 c1_i32_163 k0_t27
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk144 (v479 : IVec S16 32) : Prop :=
  (∀ a x, ((![v479] : Fin 1 → IVec S16 32) a x).toNat < S4000.size a)
theorem k0_idx144_inb : ∀ (v479 : IVec S16 32) (k0_hw144 : k0_chk144 v479), ∀ a x, ((![v479] : Fin 1 → IVec S16 32) a x).toNat < S4000.size a := fun v479 k0_hw144 => k0_hw144
@[reducible] def k0_t28_loop : Scf.Loop 32 :=
  let c0_i32_167 : BitVec 32 := 0#32
  let c33_i32_168 : BitVec 32 := 33#32
  let v178 : BitVec 32 := Scalar.addi c0_i32_167 c33_i32_168
  let c1_i32_169 : BitVec 32 := 1#32
  ⟨c0_i32_167, v178, c1_i32_169⟩
def k0_off157 (k0_t28 : Fin k0_t28_loop.trips) : Fin 1 → Nat :=
  let c8448_i32 : BitVec 32 := 8448#32
  let c0_i32_167 : BitVec 32 := 0#32
  let c1_i32_169 : BitVec 32 := 1#32
  let arg21 : BitVec 32 := Scf.iv c0_i32_167 c1_i32_169 k0_t28
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk145 (v318 : IVec S16 32) : Prop :=
  (∀ a x, ((![v318] : Fin 1 → IVec S16 32) a x).toNat < S4000.size a)
theorem k0_idx145_inb : ∀ (v318 : IVec S16 32) (k0_hw145 : k0_chk145 v318), ∀ a x, ((![v318] : Fin 1 → IVec S16 32) a x).toNat < S4000.size a := fun v318 k0_hw145 => k0_hw145
def k0_off158 (k0_t28 : Fin k0_t28_loop.trips) : Fin 1 → Nat :=
  let c8448_i32_299 : BitVec 32 := 8448#32
  let c0_i32_167 : BitVec 32 := 0#32
  let c1_i32_169 : BitVec 32 := 1#32
  let arg21 : BitVec 32 := Scf.iv c0_i32_167 c1_i32_169 k0_t28
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk146 (v341 : IVec S16 32) : Prop :=
  (∀ a x, ((![v341] : Fin 1 → IVec S16 32) a x).toNat < S4000.size a)
theorem k0_idx146_inb : ∀ (v341 : IVec S16 32) (k0_hw146 : k0_chk146 v341), ∀ a x, ((![v341] : Fin 1 → IVec S16 32) a x).toNat < S4000.size a := fun v341 k0_hw146 => k0_hw146
def k0_off159 (k0_t28 : Fin k0_t28_loop.trips) : Fin 1 → Nat :=
  let c8448_i32_306 : BitVec 32 := 8448#32
  let c0_i32_167 : BitVec 32 := 0#32
  let c1_i32_169 : BitVec 32 := 1#32
  let arg21 : BitVec 32 := Scf.iv c0_i32_167 c1_i32_169 k0_t28
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk147 (v364 : IVec S16 32) : Prop :=
  (∀ a x, ((![v364] : Fin 1 → IVec S16 32) a x).toNat < S4000.size a)
theorem k0_idx147_inb : ∀ (v364 : IVec S16 32) (k0_hw147 : k0_chk147 v364), ∀ a x, ((![v364] : Fin 1 → IVec S16 32) a x).toNat < S4000.size a := fun v364 k0_hw147 => k0_hw147
def k0_off160 (k0_t28 : Fin k0_t28_loop.trips) : Fin 1 → Nat :=
  let c8448_i32_312 : BitVec 32 := 8448#32
  let c0_i32_167 : BitVec 32 := 0#32
  let c1_i32_169 : BitVec 32 := 1#32
  let arg21 : BitVec 32 := Scf.iv c0_i32_167 c1_i32_169 k0_t28
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk148 (v387 : IVec S16 32) : Prop :=
  (∀ a x, ((![v387] : Fin 1 → IVec S16 32) a x).toNat < S4000.size a)
theorem k0_idx148_inb : ∀ (v387 : IVec S16 32) (k0_hw148 : k0_chk148 v387), ∀ a x, ((![v387] : Fin 1 → IVec S16 32) a x).toNat < S4000.size a := fun v387 k0_hw148 => k0_hw148
def k0_off161 (k0_t28 : Fin k0_t28_loop.trips) : Fin 1 → Nat :=
  let c8448_i32_318 : BitVec 32 := 8448#32
  let c0_i32_167 : BitVec 32 := 0#32
  let c1_i32_169 : BitVec 32 := 1#32
  let arg21 : BitVec 32 := Scf.iv c0_i32_167 c1_i32_169 k0_t28
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk149 (v410 : IVec S16 32) : Prop :=
  (∀ a x, ((![v410] : Fin 1 → IVec S16 32) a x).toNat < S4000.size a)
theorem k0_idx149_inb : ∀ (v410 : IVec S16 32) (k0_hw149 : k0_chk149 v410), ∀ a x, ((![v410] : Fin 1 → IVec S16 32) a x).toNat < S4000.size a := fun v410 k0_hw149 => k0_hw149
def k0_off162 (k0_t28 : Fin k0_t28_loop.trips) : Fin 1 → Nat :=
  let c8448_i32_324 : BitVec 32 := 8448#32
  let c0_i32_167 : BitVec 32 := 0#32
  let c1_i32_169 : BitVec 32 := 1#32
  let arg21 : BitVec 32 := Scf.iv c0_i32_167 c1_i32_169 k0_t28
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk150 (v433 : IVec S16 32) : Prop :=
  (∀ a x, ((![v433] : Fin 1 → IVec S16 32) a x).toNat < S4000.size a)
theorem k0_idx150_inb : ∀ (v433 : IVec S16 32) (k0_hw150 : k0_chk150 v433), ∀ a x, ((![v433] : Fin 1 → IVec S16 32) a x).toNat < S4000.size a := fun v433 k0_hw150 => k0_hw150
def k0_off163 (k0_t28 : Fin k0_t28_loop.trips) : Fin 1 → Nat :=
  let c8448_i32_330 : BitVec 32 := 8448#32
  let c0_i32_167 : BitVec 32 := 0#32
  let c1_i32_169 : BitVec 32 := 1#32
  let arg21 : BitVec 32 := Scf.iv c0_i32_167 c1_i32_169 k0_t28
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk151 (v456 : IVec S16 32) : Prop :=
  (∀ a x, ((![v456] : Fin 1 → IVec S16 32) a x).toNat < S4000.size a)
theorem k0_idx151_inb : ∀ (v456 : IVec S16 32) (k0_hw151 : k0_chk151 v456), ∀ a x, ((![v456] : Fin 1 → IVec S16 32) a x).toNat < S4000.size a := fun v456 k0_hw151 => k0_hw151
def k0_off164 (k0_t28 : Fin k0_t28_loop.trips) : Fin 1 → Nat :=
  let c8448_i32_336 : BitVec 32 := 8448#32
  let c0_i32_167 : BitVec 32 := 0#32
  let c1_i32_169 : BitVec 32 := 1#32
  let arg21 : BitVec 32 := Scf.iv c0_i32_167 c1_i32_169 k0_t28
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk152 (v479 : IVec S16 32) : Prop :=
  (∀ a x, ((![v479] : Fin 1 → IVec S16 32) a x).toNat < S4000.size a)
theorem k0_idx152_inb : ∀ (v479 : IVec S16 32) (k0_hw152 : k0_chk152 v479), ∀ a x, ((![v479] : Fin 1 → IVec S16 32) a x).toNat < S4000.size a := fun v479 k0_hw152 => k0_hw152
@[reducible] def k0_t29_loop : Scf.Loop 32 :=
  let c0_i32_173 : BitVec 32 := 0#32
  let c33_i32_174 : BitVec 32 := 33#32
  let v182 : BitVec 32 := Scalar.addi c0_i32_173 c33_i32_174
  let c1_i32_175 : BitVec 32 := 1#32
  ⟨c0_i32_173, v182, c1_i32_175⟩
def k0_off165 (k0_t29 : Fin k0_t29_loop.trips) : Fin 1 → Nat :=
  let c12672_i32 : BitVec 32 := 12672#32
  let c0_i32_173 : BitVec 32 := 0#32
  let c1_i32_175 : BitVec 32 := 1#32
  let arg21 : BitVec 32 := Scf.iv c0_i32_173 c1_i32_175 k0_t29
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk153 (v318 : IVec S16 32) : Prop :=
  (∀ a x, ((![v318] : Fin 1 → IVec S16 32) a x).toNat < S4000.size a)
theorem k0_idx153_inb : ∀ (v318 : IVec S16 32) (k0_hw153 : k0_chk153 v318), ∀ a x, ((![v318] : Fin 1 → IVec S16 32) a x).toNat < S4000.size a := fun v318 k0_hw153 => k0_hw153
def k0_off166 (k0_t29 : Fin k0_t29_loop.trips) : Fin 1 → Nat :=
  let c12672_i32_299 : BitVec 32 := 12672#32
  let c0_i32_173 : BitVec 32 := 0#32
  let c1_i32_175 : BitVec 32 := 1#32
  let arg21 : BitVec 32 := Scf.iv c0_i32_173 c1_i32_175 k0_t29
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk154 (v341 : IVec S16 32) : Prop :=
  (∀ a x, ((![v341] : Fin 1 → IVec S16 32) a x).toNat < S4000.size a)
theorem k0_idx154_inb : ∀ (v341 : IVec S16 32) (k0_hw154 : k0_chk154 v341), ∀ a x, ((![v341] : Fin 1 → IVec S16 32) a x).toNat < S4000.size a := fun v341 k0_hw154 => k0_hw154
def k0_off167 (k0_t29 : Fin k0_t29_loop.trips) : Fin 1 → Nat :=
  let c12672_i32_306 : BitVec 32 := 12672#32
  let c0_i32_173 : BitVec 32 := 0#32
  let c1_i32_175 : BitVec 32 := 1#32
  let arg21 : BitVec 32 := Scf.iv c0_i32_173 c1_i32_175 k0_t29
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk155 (v364 : IVec S16 32) : Prop :=
  (∀ a x, ((![v364] : Fin 1 → IVec S16 32) a x).toNat < S4000.size a)
theorem k0_idx155_inb : ∀ (v364 : IVec S16 32) (k0_hw155 : k0_chk155 v364), ∀ a x, ((![v364] : Fin 1 → IVec S16 32) a x).toNat < S4000.size a := fun v364 k0_hw155 => k0_hw155
def k0_off168 (k0_t29 : Fin k0_t29_loop.trips) : Fin 1 → Nat :=
  let c12672_i32_312 : BitVec 32 := 12672#32
  let c0_i32_173 : BitVec 32 := 0#32
  let c1_i32_175 : BitVec 32 := 1#32
  let arg21 : BitVec 32 := Scf.iv c0_i32_173 c1_i32_175 k0_t29
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk156 (v387 : IVec S16 32) : Prop :=
  (∀ a x, ((![v387] : Fin 1 → IVec S16 32) a x).toNat < S4000.size a)
theorem k0_idx156_inb : ∀ (v387 : IVec S16 32) (k0_hw156 : k0_chk156 v387), ∀ a x, ((![v387] : Fin 1 → IVec S16 32) a x).toNat < S4000.size a := fun v387 k0_hw156 => k0_hw156
def k0_off169 (k0_t29 : Fin k0_t29_loop.trips) : Fin 1 → Nat :=
  let c12672_i32_318 : BitVec 32 := 12672#32
  let c0_i32_173 : BitVec 32 := 0#32
  let c1_i32_175 : BitVec 32 := 1#32
  let arg21 : BitVec 32 := Scf.iv c0_i32_173 c1_i32_175 k0_t29
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk157 (v410 : IVec S16 32) : Prop :=
  (∀ a x, ((![v410] : Fin 1 → IVec S16 32) a x).toNat < S4000.size a)
theorem k0_idx157_inb : ∀ (v410 : IVec S16 32) (k0_hw157 : k0_chk157 v410), ∀ a x, ((![v410] : Fin 1 → IVec S16 32) a x).toNat < S4000.size a := fun v410 k0_hw157 => k0_hw157
def k0_off170 (k0_t29 : Fin k0_t29_loop.trips) : Fin 1 → Nat :=
  let c12672_i32_324 : BitVec 32 := 12672#32
  let c0_i32_173 : BitVec 32 := 0#32
  let c1_i32_175 : BitVec 32 := 1#32
  let arg21 : BitVec 32 := Scf.iv c0_i32_173 c1_i32_175 k0_t29
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk158 (v433 : IVec S16 32) : Prop :=
  (∀ a x, ((![v433] : Fin 1 → IVec S16 32) a x).toNat < S4000.size a)
theorem k0_idx158_inb : ∀ (v433 : IVec S16 32) (k0_hw158 : k0_chk158 v433), ∀ a x, ((![v433] : Fin 1 → IVec S16 32) a x).toNat < S4000.size a := fun v433 k0_hw158 => k0_hw158
def k0_off171 (k0_t29 : Fin k0_t29_loop.trips) : Fin 1 → Nat :=
  let c12672_i32_330 : BitVec 32 := 12672#32
  let c0_i32_173 : BitVec 32 := 0#32
  let c1_i32_175 : BitVec 32 := 1#32
  let arg21 : BitVec 32 := Scf.iv c0_i32_173 c1_i32_175 k0_t29
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk159 (v456 : IVec S16 32) : Prop :=
  (∀ a x, ((![v456] : Fin 1 → IVec S16 32) a x).toNat < S4000.size a)
theorem k0_idx159_inb : ∀ (v456 : IVec S16 32) (k0_hw159 : k0_chk159 v456), ∀ a x, ((![v456] : Fin 1 → IVec S16 32) a x).toNat < S4000.size a := fun v456 k0_hw159 => k0_hw159
def k0_off172 (k0_t29 : Fin k0_t29_loop.trips) : Fin 1 → Nat :=
  let c12672_i32_336 : BitVec 32 := 12672#32
  let c0_i32_173 : BitVec 32 := 0#32
  let c1_i32_175 : BitVec 32 := 1#32
  let arg21 : BitVec 32 := Scf.iv c0_i32_173 c1_i32_175 k0_t29
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk160 (v479 : IVec S16 32) : Prop :=
  (∀ a x, ((![v479] : Fin 1 → IVec S16 32) a x).toNat < S4000.size a)
theorem k0_idx160_inb : ∀ (v479 : IVec S16 32) (k0_hw160 : k0_chk160 v479), ∀ a x, ((![v479] : Fin 1 → IVec S16 32) a x).toNat < S4000.size a := fun v479 k0_hw160 => k0_hw160
@[reducible] def k0_t30_loop : Scf.Loop 32 :=
  let c0_i32_178 : BitVec 32 := 0#32
  let c250_i32_179 : BitVec 32 := 250#32
  let v184 : BitVec 32 := Scalar.addi c0_i32_178 c250_i32_179
  let c1_i32_180 : BitVec 32 := 1#32
  ⟨c0_i32_178, v184, c1_i32_180⟩
def k0_off173 (k0_t30 : Fin k0_t30_loop.trips) : Fin 1 → Nat :=
  let c0_i32_178 : BitVec 32 := 0#32
  let c1_i32_180 : BitVec 32 := 1#32
  let arg21 : BitVec 32 := Scf.iv c0_i32_178 c1_i32_180 k0_t30
  let c16_i32_294 : BitVec 32 := 16#32
  let v296 : BitVec 32 := Scalar.muli arg21 c16_i32_294
  let v297 : Index := Scalar.indexCast v296
  ![v297.toNat]
@[reducible] def k0_t31_loop : Scf.Loop 32 :=
  let c0_i32_186 : BitVec 32 := 0#32
  let c250_i32_187 : BitVec 32 := 250#32
  let v202 : BitVec 32 := Scalar.addi c0_i32_186 c250_i32_187
  let c1_i32_188 : BitVec 32 := 1#32
  ⟨c0_i32_186, v202, c1_i32_188⟩
def k0_off174 (k0_t31 : Fin k0_t31_loop.trips) : Fin 1 → Nat :=
  let c0_i32_186 : BitVec 32 := 0#32
  let c1_i32_188 : BitVec 32 := 1#32
  let arg21 : BitVec 32 := Scf.iv c0_i32_186 c1_i32_188 k0_t31
  let c16_i32_294 : BitVec 32 := 16#32
  let v296 : BitVec 32 := Scalar.muli arg21 c16_i32_294
  let v297 : Index := Scalar.indexCast v296
  ![v297.toNat]
@[reducible] def k0_t32_loop : Scf.Loop 32 :=
  let c0_i32_192 : BitVec 32 := 0#32
  let c33_i32_193 : BitVec 32 := 33#32
  let v206 : BitVec 32 := Scalar.addi c0_i32_192 c33_i32_193
  let c1_i32_194 : BitVec 32 := 1#32
  ⟨c0_i32_192, v206, c1_i32_194⟩
def k0_off175 (k0_t32 : Fin k0_t32_loop.trips) : Fin 1 → Nat :=
  let c0_i32_295 : BitVec 32 := 0#32
  let c0_i32_192 : BitVec 32 := 0#32
  let c1_i32_194 : BitVec 32 := 1#32
  let arg21 : BitVec 32 := Scf.iv c0_i32_192 c1_i32_194 k0_t32
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk161 (v318 : IVec S16 32) : Prop :=
  (∀ a x, ((![v318] : Fin 1 → IVec S16 32) a x).toNat < S4000.size a)
theorem k0_idx161_inb : ∀ (v318 : IVec S16 32) (k0_hw161 : k0_chk161 v318), ∀ a x, ((![v318] : Fin 1 → IVec S16 32) a x).toNat < S4000.size a := fun v318 k0_hw161 => k0_hw161
def k0_off176 (k0_t32 : Fin k0_t32_loop.trips) : Fin 1 → Nat :=
  let c0_i32_301 : BitVec 32 := 0#32
  let c0_i32_192 : BitVec 32 := 0#32
  let c1_i32_194 : BitVec 32 := 1#32
  let arg21 : BitVec 32 := Scf.iv c0_i32_192 c1_i32_194 k0_t32
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk162 (v341 : IVec S16 32) : Prop :=
  (∀ a x, ((![v341] : Fin 1 → IVec S16 32) a x).toNat < S4000.size a)
theorem k0_idx162_inb : ∀ (v341 : IVec S16 32) (k0_hw162 : k0_chk162 v341), ∀ a x, ((![v341] : Fin 1 → IVec S16 32) a x).toNat < S4000.size a := fun v341 k0_hw162 => k0_hw162
def k0_off177 (k0_t32 : Fin k0_t32_loop.trips) : Fin 1 → Nat :=
  let c0_i32_308 : BitVec 32 := 0#32
  let c0_i32_192 : BitVec 32 := 0#32
  let c1_i32_194 : BitVec 32 := 1#32
  let arg21 : BitVec 32 := Scf.iv c0_i32_192 c1_i32_194 k0_t32
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk163 (v364 : IVec S16 32) : Prop :=
  (∀ a x, ((![v364] : Fin 1 → IVec S16 32) a x).toNat < S4000.size a)
theorem k0_idx163_inb : ∀ (v364 : IVec S16 32) (k0_hw163 : k0_chk163 v364), ∀ a x, ((![v364] : Fin 1 → IVec S16 32) a x).toNat < S4000.size a := fun v364 k0_hw163 => k0_hw163
def k0_off178 (k0_t32 : Fin k0_t32_loop.trips) : Fin 1 → Nat :=
  let c0_i32_314 : BitVec 32 := 0#32
  let c0_i32_192 : BitVec 32 := 0#32
  let c1_i32_194 : BitVec 32 := 1#32
  let arg21 : BitVec 32 := Scf.iv c0_i32_192 c1_i32_194 k0_t32
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk164 (v387 : IVec S16 32) : Prop :=
  (∀ a x, ((![v387] : Fin 1 → IVec S16 32) a x).toNat < S4000.size a)
theorem k0_idx164_inb : ∀ (v387 : IVec S16 32) (k0_hw164 : k0_chk164 v387), ∀ a x, ((![v387] : Fin 1 → IVec S16 32) a x).toNat < S4000.size a := fun v387 k0_hw164 => k0_hw164
def k0_off179 (k0_t32 : Fin k0_t32_loop.trips) : Fin 1 → Nat :=
  let c0_i32_320 : BitVec 32 := 0#32
  let c0_i32_192 : BitVec 32 := 0#32
  let c1_i32_194 : BitVec 32 := 1#32
  let arg21 : BitVec 32 := Scf.iv c0_i32_192 c1_i32_194 k0_t32
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk165 (v410 : IVec S16 32) : Prop :=
  (∀ a x, ((![v410] : Fin 1 → IVec S16 32) a x).toNat < S4000.size a)
theorem k0_idx165_inb : ∀ (v410 : IVec S16 32) (k0_hw165 : k0_chk165 v410), ∀ a x, ((![v410] : Fin 1 → IVec S16 32) a x).toNat < S4000.size a := fun v410 k0_hw165 => k0_hw165
def k0_off180 (k0_t32 : Fin k0_t32_loop.trips) : Fin 1 → Nat :=
  let c0_i32_326 : BitVec 32 := 0#32
  let c0_i32_192 : BitVec 32 := 0#32
  let c1_i32_194 : BitVec 32 := 1#32
  let arg21 : BitVec 32 := Scf.iv c0_i32_192 c1_i32_194 k0_t32
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk166 (v433 : IVec S16 32) : Prop :=
  (∀ a x, ((![v433] : Fin 1 → IVec S16 32) a x).toNat < S4000.size a)
theorem k0_idx166_inb : ∀ (v433 : IVec S16 32) (k0_hw166 : k0_chk166 v433), ∀ a x, ((![v433] : Fin 1 → IVec S16 32) a x).toNat < S4000.size a := fun v433 k0_hw166 => k0_hw166
def k0_off181 (k0_t32 : Fin k0_t32_loop.trips) : Fin 1 → Nat :=
  let c0_i32_332 : BitVec 32 := 0#32
  let c0_i32_192 : BitVec 32 := 0#32
  let c1_i32_194 : BitVec 32 := 1#32
  let arg21 : BitVec 32 := Scf.iv c0_i32_192 c1_i32_194 k0_t32
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk167 (v456 : IVec S16 32) : Prop :=
  (∀ a x, ((![v456] : Fin 1 → IVec S16 32) a x).toNat < S4000.size a)
theorem k0_idx167_inb : ∀ (v456 : IVec S16 32) (k0_hw167 : k0_chk167 v456), ∀ a x, ((![v456] : Fin 1 → IVec S16 32) a x).toNat < S4000.size a := fun v456 k0_hw167 => k0_hw167
def k0_off182 (k0_t32 : Fin k0_t32_loop.trips) : Fin 1 → Nat :=
  let c0_i32_338 : BitVec 32 := 0#32
  let c0_i32_192 : BitVec 32 := 0#32
  let c1_i32_194 : BitVec 32 := 1#32
  let arg21 : BitVec 32 := Scf.iv c0_i32_192 c1_i32_194 k0_t32
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk168 (v479 : IVec S16 32) : Prop :=
  (∀ a x, ((![v479] : Fin 1 → IVec S16 32) a x).toNat < S4000.size a)
theorem k0_idx168_inb : ∀ (v479 : IVec S16 32) (k0_hw168 : k0_chk168 v479), ∀ a x, ((![v479] : Fin 1 → IVec S16 32) a x).toNat < S4000.size a := fun v479 k0_hw168 => k0_hw168
@[reducible] def k0_t33_loop : Scf.Loop 32 :=
  let c0_i32_198 : BitVec 32 := 0#32
  let c33_i32_199 : BitVec 32 := 33#32
  let v210 : BitVec 32 := Scalar.addi c0_i32_198 c33_i32_199
  let c1_i32_200 : BitVec 32 := 1#32
  ⟨c0_i32_198, v210, c1_i32_200⟩
def k0_off183 (k0_t33 : Fin k0_t33_loop.trips) : Fin 1 → Nat :=
  let c4224_i32_295 : BitVec 32 := 4224#32
  let c0_i32_198 : BitVec 32 := 0#32
  let c1_i32_200 : BitVec 32 := 1#32
  let arg21 : BitVec 32 := Scf.iv c0_i32_198 c1_i32_200 k0_t33
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk169 (v318 : IVec S16 32) : Prop :=
  (∀ a x, ((![v318] : Fin 1 → IVec S16 32) a x).toNat < S4000.size a)
theorem k0_idx169_inb : ∀ (v318 : IVec S16 32) (k0_hw169 : k0_chk169 v318), ∀ a x, ((![v318] : Fin 1 → IVec S16 32) a x).toNat < S4000.size a := fun v318 k0_hw169 => k0_hw169
def k0_off184 (k0_t33 : Fin k0_t33_loop.trips) : Fin 1 → Nat :=
  let c4224_i32_301 : BitVec 32 := 4224#32
  let c0_i32_198 : BitVec 32 := 0#32
  let c1_i32_200 : BitVec 32 := 1#32
  let arg21 : BitVec 32 := Scf.iv c0_i32_198 c1_i32_200 k0_t33
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk170 (v341 : IVec S16 32) : Prop :=
  (∀ a x, ((![v341] : Fin 1 → IVec S16 32) a x).toNat < S4000.size a)
theorem k0_idx170_inb : ∀ (v341 : IVec S16 32) (k0_hw170 : k0_chk170 v341), ∀ a x, ((![v341] : Fin 1 → IVec S16 32) a x).toNat < S4000.size a := fun v341 k0_hw170 => k0_hw170
def k0_off185 (k0_t33 : Fin k0_t33_loop.trips) : Fin 1 → Nat :=
  let c4224_i32_308 : BitVec 32 := 4224#32
  let c0_i32_198 : BitVec 32 := 0#32
  let c1_i32_200 : BitVec 32 := 1#32
  let arg21 : BitVec 32 := Scf.iv c0_i32_198 c1_i32_200 k0_t33
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk171 (v364 : IVec S16 32) : Prop :=
  (∀ a x, ((![v364] : Fin 1 → IVec S16 32) a x).toNat < S4000.size a)
theorem k0_idx171_inb : ∀ (v364 : IVec S16 32) (k0_hw171 : k0_chk171 v364), ∀ a x, ((![v364] : Fin 1 → IVec S16 32) a x).toNat < S4000.size a := fun v364 k0_hw171 => k0_hw171
def k0_off186 (k0_t33 : Fin k0_t33_loop.trips) : Fin 1 → Nat :=
  let c4224_i32_314 : BitVec 32 := 4224#32
  let c0_i32_198 : BitVec 32 := 0#32
  let c1_i32_200 : BitVec 32 := 1#32
  let arg21 : BitVec 32 := Scf.iv c0_i32_198 c1_i32_200 k0_t33
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk172 (v387 : IVec S16 32) : Prop :=
  (∀ a x, ((![v387] : Fin 1 → IVec S16 32) a x).toNat < S4000.size a)
theorem k0_idx172_inb : ∀ (v387 : IVec S16 32) (k0_hw172 : k0_chk172 v387), ∀ a x, ((![v387] : Fin 1 → IVec S16 32) a x).toNat < S4000.size a := fun v387 k0_hw172 => k0_hw172
def k0_off187 (k0_t33 : Fin k0_t33_loop.trips) : Fin 1 → Nat :=
  let c4224_i32_320 : BitVec 32 := 4224#32
  let c0_i32_198 : BitVec 32 := 0#32
  let c1_i32_200 : BitVec 32 := 1#32
  let arg21 : BitVec 32 := Scf.iv c0_i32_198 c1_i32_200 k0_t33
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk173 (v410 : IVec S16 32) : Prop :=
  (∀ a x, ((![v410] : Fin 1 → IVec S16 32) a x).toNat < S4000.size a)
theorem k0_idx173_inb : ∀ (v410 : IVec S16 32) (k0_hw173 : k0_chk173 v410), ∀ a x, ((![v410] : Fin 1 → IVec S16 32) a x).toNat < S4000.size a := fun v410 k0_hw173 => k0_hw173
def k0_off188 (k0_t33 : Fin k0_t33_loop.trips) : Fin 1 → Nat :=
  let c4224_i32_326 : BitVec 32 := 4224#32
  let c0_i32_198 : BitVec 32 := 0#32
  let c1_i32_200 : BitVec 32 := 1#32
  let arg21 : BitVec 32 := Scf.iv c0_i32_198 c1_i32_200 k0_t33
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk174 (v433 : IVec S16 32) : Prop :=
  (∀ a x, ((![v433] : Fin 1 → IVec S16 32) a x).toNat < S4000.size a)
theorem k0_idx174_inb : ∀ (v433 : IVec S16 32) (k0_hw174 : k0_chk174 v433), ∀ a x, ((![v433] : Fin 1 → IVec S16 32) a x).toNat < S4000.size a := fun v433 k0_hw174 => k0_hw174
def k0_off189 (k0_t33 : Fin k0_t33_loop.trips) : Fin 1 → Nat :=
  let c4224_i32_332 : BitVec 32 := 4224#32
  let c0_i32_198 : BitVec 32 := 0#32
  let c1_i32_200 : BitVec 32 := 1#32
  let arg21 : BitVec 32 := Scf.iv c0_i32_198 c1_i32_200 k0_t33
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk175 (v456 : IVec S16 32) : Prop :=
  (∀ a x, ((![v456] : Fin 1 → IVec S16 32) a x).toNat < S4000.size a)
theorem k0_idx175_inb : ∀ (v456 : IVec S16 32) (k0_hw175 : k0_chk175 v456), ∀ a x, ((![v456] : Fin 1 → IVec S16 32) a x).toNat < S4000.size a := fun v456 k0_hw175 => k0_hw175
def k0_off190 (k0_t33 : Fin k0_t33_loop.trips) : Fin 1 → Nat :=
  let c4224_i32_338 : BitVec 32 := 4224#32
  let c0_i32_198 : BitVec 32 := 0#32
  let c1_i32_200 : BitVec 32 := 1#32
  let arg21 : BitVec 32 := Scf.iv c0_i32_198 c1_i32_200 k0_t33
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk176 (v479 : IVec S16 32) : Prop :=
  (∀ a x, ((![v479] : Fin 1 → IVec S16 32) a x).toNat < S4000.size a)
theorem k0_idx176_inb : ∀ (v479 : IVec S16 32) (k0_hw176 : k0_chk176 v479), ∀ a x, ((![v479] : Fin 1 → IVec S16 32) a x).toNat < S4000.size a := fun v479 k0_hw176 => k0_hw176
@[reducible] def k0_t34_loop : Scf.Loop 32 :=
  let c0_i32_204 : BitVec 32 := 0#32
  let c33_i32_205 : BitVec 32 := 33#32
  let v214 : BitVec 32 := Scalar.addi c0_i32_204 c33_i32_205
  let c1_i32_206 : BitVec 32 := 1#32
  ⟨c0_i32_204, v214, c1_i32_206⟩
def k0_off191 (k0_t34 : Fin k0_t34_loop.trips) : Fin 1 → Nat :=
  let c8448_i32 : BitVec 32 := 8448#32
  let c0_i32_204 : BitVec 32 := 0#32
  let c1_i32_206 : BitVec 32 := 1#32
  let arg21 : BitVec 32 := Scf.iv c0_i32_204 c1_i32_206 k0_t34
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk177 (v318 : IVec S16 32) : Prop :=
  (∀ a x, ((![v318] : Fin 1 → IVec S16 32) a x).toNat < S4000.size a)
theorem k0_idx177_inb : ∀ (v318 : IVec S16 32) (k0_hw177 : k0_chk177 v318), ∀ a x, ((![v318] : Fin 1 → IVec S16 32) a x).toNat < S4000.size a := fun v318 k0_hw177 => k0_hw177
def k0_off192 (k0_t34 : Fin k0_t34_loop.trips) : Fin 1 → Nat :=
  let c8448_i32_299 : BitVec 32 := 8448#32
  let c0_i32_204 : BitVec 32 := 0#32
  let c1_i32_206 : BitVec 32 := 1#32
  let arg21 : BitVec 32 := Scf.iv c0_i32_204 c1_i32_206 k0_t34
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk178 (v341 : IVec S16 32) : Prop :=
  (∀ a x, ((![v341] : Fin 1 → IVec S16 32) a x).toNat < S4000.size a)
theorem k0_idx178_inb : ∀ (v341 : IVec S16 32) (k0_hw178 : k0_chk178 v341), ∀ a x, ((![v341] : Fin 1 → IVec S16 32) a x).toNat < S4000.size a := fun v341 k0_hw178 => k0_hw178
def k0_off193 (k0_t34 : Fin k0_t34_loop.trips) : Fin 1 → Nat :=
  let c8448_i32_306 : BitVec 32 := 8448#32
  let c0_i32_204 : BitVec 32 := 0#32
  let c1_i32_206 : BitVec 32 := 1#32
  let arg21 : BitVec 32 := Scf.iv c0_i32_204 c1_i32_206 k0_t34
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk179 (v364 : IVec S16 32) : Prop :=
  (∀ a x, ((![v364] : Fin 1 → IVec S16 32) a x).toNat < S4000.size a)
theorem k0_idx179_inb : ∀ (v364 : IVec S16 32) (k0_hw179 : k0_chk179 v364), ∀ a x, ((![v364] : Fin 1 → IVec S16 32) a x).toNat < S4000.size a := fun v364 k0_hw179 => k0_hw179
def k0_off194 (k0_t34 : Fin k0_t34_loop.trips) : Fin 1 → Nat :=
  let c8448_i32_312 : BitVec 32 := 8448#32
  let c0_i32_204 : BitVec 32 := 0#32
  let c1_i32_206 : BitVec 32 := 1#32
  let arg21 : BitVec 32 := Scf.iv c0_i32_204 c1_i32_206 k0_t34
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk180 (v387 : IVec S16 32) : Prop :=
  (∀ a x, ((![v387] : Fin 1 → IVec S16 32) a x).toNat < S4000.size a)
theorem k0_idx180_inb : ∀ (v387 : IVec S16 32) (k0_hw180 : k0_chk180 v387), ∀ a x, ((![v387] : Fin 1 → IVec S16 32) a x).toNat < S4000.size a := fun v387 k0_hw180 => k0_hw180
def k0_off195 (k0_t34 : Fin k0_t34_loop.trips) : Fin 1 → Nat :=
  let c8448_i32_318 : BitVec 32 := 8448#32
  let c0_i32_204 : BitVec 32 := 0#32
  let c1_i32_206 : BitVec 32 := 1#32
  let arg21 : BitVec 32 := Scf.iv c0_i32_204 c1_i32_206 k0_t34
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk181 (v410 : IVec S16 32) : Prop :=
  (∀ a x, ((![v410] : Fin 1 → IVec S16 32) a x).toNat < S4000.size a)
theorem k0_idx181_inb : ∀ (v410 : IVec S16 32) (k0_hw181 : k0_chk181 v410), ∀ a x, ((![v410] : Fin 1 → IVec S16 32) a x).toNat < S4000.size a := fun v410 k0_hw181 => k0_hw181
def k0_off196 (k0_t34 : Fin k0_t34_loop.trips) : Fin 1 → Nat :=
  let c8448_i32_324 : BitVec 32 := 8448#32
  let c0_i32_204 : BitVec 32 := 0#32
  let c1_i32_206 : BitVec 32 := 1#32
  let arg21 : BitVec 32 := Scf.iv c0_i32_204 c1_i32_206 k0_t34
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk182 (v433 : IVec S16 32) : Prop :=
  (∀ a x, ((![v433] : Fin 1 → IVec S16 32) a x).toNat < S4000.size a)
theorem k0_idx182_inb : ∀ (v433 : IVec S16 32) (k0_hw182 : k0_chk182 v433), ∀ a x, ((![v433] : Fin 1 → IVec S16 32) a x).toNat < S4000.size a := fun v433 k0_hw182 => k0_hw182
def k0_off197 (k0_t34 : Fin k0_t34_loop.trips) : Fin 1 → Nat :=
  let c8448_i32_330 : BitVec 32 := 8448#32
  let c0_i32_204 : BitVec 32 := 0#32
  let c1_i32_206 : BitVec 32 := 1#32
  let arg21 : BitVec 32 := Scf.iv c0_i32_204 c1_i32_206 k0_t34
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk183 (v456 : IVec S16 32) : Prop :=
  (∀ a x, ((![v456] : Fin 1 → IVec S16 32) a x).toNat < S4000.size a)
theorem k0_idx183_inb : ∀ (v456 : IVec S16 32) (k0_hw183 : k0_chk183 v456), ∀ a x, ((![v456] : Fin 1 → IVec S16 32) a x).toNat < S4000.size a := fun v456 k0_hw183 => k0_hw183
def k0_off198 (k0_t34 : Fin k0_t34_loop.trips) : Fin 1 → Nat :=
  let c8448_i32_336 : BitVec 32 := 8448#32
  let c0_i32_204 : BitVec 32 := 0#32
  let c1_i32_206 : BitVec 32 := 1#32
  let arg21 : BitVec 32 := Scf.iv c0_i32_204 c1_i32_206 k0_t34
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk184 (v479 : IVec S16 32) : Prop :=
  (∀ a x, ((![v479] : Fin 1 → IVec S16 32) a x).toNat < S4000.size a)
theorem k0_idx184_inb : ∀ (v479 : IVec S16 32) (k0_hw184 : k0_chk184 v479), ∀ a x, ((![v479] : Fin 1 → IVec S16 32) a x).toNat < S4000.size a := fun v479 k0_hw184 => k0_hw184
@[reducible] def k0_t35_loop : Scf.Loop 32 :=
  let c0_i32_210 : BitVec 32 := 0#32
  let c33_i32_211 : BitVec 32 := 33#32
  let v218 : BitVec 32 := Scalar.addi c0_i32_210 c33_i32_211
  let c1_i32_212 : BitVec 32 := 1#32
  ⟨c0_i32_210, v218, c1_i32_212⟩
def k0_off199 (k0_t35 : Fin k0_t35_loop.trips) : Fin 1 → Nat :=
  let c12672_i32 : BitVec 32 := 12672#32
  let c0_i32_210 : BitVec 32 := 0#32
  let c1_i32_212 : BitVec 32 := 1#32
  let arg21 : BitVec 32 := Scf.iv c0_i32_210 c1_i32_212 k0_t35
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk185 (v318 : IVec S16 32) : Prop :=
  (∀ a x, ((![v318] : Fin 1 → IVec S16 32) a x).toNat < S4000.size a)
theorem k0_idx185_inb : ∀ (v318 : IVec S16 32) (k0_hw185 : k0_chk185 v318), ∀ a x, ((![v318] : Fin 1 → IVec S16 32) a x).toNat < S4000.size a := fun v318 k0_hw185 => k0_hw185
def k0_off200 (k0_t35 : Fin k0_t35_loop.trips) : Fin 1 → Nat :=
  let c12672_i32_299 : BitVec 32 := 12672#32
  let c0_i32_210 : BitVec 32 := 0#32
  let c1_i32_212 : BitVec 32 := 1#32
  let arg21 : BitVec 32 := Scf.iv c0_i32_210 c1_i32_212 k0_t35
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk186 (v341 : IVec S16 32) : Prop :=
  (∀ a x, ((![v341] : Fin 1 → IVec S16 32) a x).toNat < S4000.size a)
theorem k0_idx186_inb : ∀ (v341 : IVec S16 32) (k0_hw186 : k0_chk186 v341), ∀ a x, ((![v341] : Fin 1 → IVec S16 32) a x).toNat < S4000.size a := fun v341 k0_hw186 => k0_hw186
def k0_off201 (k0_t35 : Fin k0_t35_loop.trips) : Fin 1 → Nat :=
  let c12672_i32_306 : BitVec 32 := 12672#32
  let c0_i32_210 : BitVec 32 := 0#32
  let c1_i32_212 : BitVec 32 := 1#32
  let arg21 : BitVec 32 := Scf.iv c0_i32_210 c1_i32_212 k0_t35
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk187 (v364 : IVec S16 32) : Prop :=
  (∀ a x, ((![v364] : Fin 1 → IVec S16 32) a x).toNat < S4000.size a)
theorem k0_idx187_inb : ∀ (v364 : IVec S16 32) (k0_hw187 : k0_chk187 v364), ∀ a x, ((![v364] : Fin 1 → IVec S16 32) a x).toNat < S4000.size a := fun v364 k0_hw187 => k0_hw187
def k0_off202 (k0_t35 : Fin k0_t35_loop.trips) : Fin 1 → Nat :=
  let c12672_i32_312 : BitVec 32 := 12672#32
  let c0_i32_210 : BitVec 32 := 0#32
  let c1_i32_212 : BitVec 32 := 1#32
  let arg21 : BitVec 32 := Scf.iv c0_i32_210 c1_i32_212 k0_t35
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk188 (v387 : IVec S16 32) : Prop :=
  (∀ a x, ((![v387] : Fin 1 → IVec S16 32) a x).toNat < S4000.size a)
theorem k0_idx188_inb : ∀ (v387 : IVec S16 32) (k0_hw188 : k0_chk188 v387), ∀ a x, ((![v387] : Fin 1 → IVec S16 32) a x).toNat < S4000.size a := fun v387 k0_hw188 => k0_hw188
def k0_off203 (k0_t35 : Fin k0_t35_loop.trips) : Fin 1 → Nat :=
  let c12672_i32_318 : BitVec 32 := 12672#32
  let c0_i32_210 : BitVec 32 := 0#32
  let c1_i32_212 : BitVec 32 := 1#32
  let arg21 : BitVec 32 := Scf.iv c0_i32_210 c1_i32_212 k0_t35
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk189 (v410 : IVec S16 32) : Prop :=
  (∀ a x, ((![v410] : Fin 1 → IVec S16 32) a x).toNat < S4000.size a)
theorem k0_idx189_inb : ∀ (v410 : IVec S16 32) (k0_hw189 : k0_chk189 v410), ∀ a x, ((![v410] : Fin 1 → IVec S16 32) a x).toNat < S4000.size a := fun v410 k0_hw189 => k0_hw189
def k0_off204 (k0_t35 : Fin k0_t35_loop.trips) : Fin 1 → Nat :=
  let c12672_i32_324 : BitVec 32 := 12672#32
  let c0_i32_210 : BitVec 32 := 0#32
  let c1_i32_212 : BitVec 32 := 1#32
  let arg21 : BitVec 32 := Scf.iv c0_i32_210 c1_i32_212 k0_t35
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk190 (v433 : IVec S16 32) : Prop :=
  (∀ a x, ((![v433] : Fin 1 → IVec S16 32) a x).toNat < S4000.size a)
theorem k0_idx190_inb : ∀ (v433 : IVec S16 32) (k0_hw190 : k0_chk190 v433), ∀ a x, ((![v433] : Fin 1 → IVec S16 32) a x).toNat < S4000.size a := fun v433 k0_hw190 => k0_hw190
def k0_off205 (k0_t35 : Fin k0_t35_loop.trips) : Fin 1 → Nat :=
  let c12672_i32_330 : BitVec 32 := 12672#32
  let c0_i32_210 : BitVec 32 := 0#32
  let c1_i32_212 : BitVec 32 := 1#32
  let arg21 : BitVec 32 := Scf.iv c0_i32_210 c1_i32_212 k0_t35
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk191 (v456 : IVec S16 32) : Prop :=
  (∀ a x, ((![v456] : Fin 1 → IVec S16 32) a x).toNat < S4000.size a)
theorem k0_idx191_inb : ∀ (v456 : IVec S16 32) (k0_hw191 : k0_chk191 v456), ∀ a x, ((![v456] : Fin 1 → IVec S16 32) a x).toNat < S4000.size a := fun v456 k0_hw191 => k0_hw191
def k0_off206 (k0_t35 : Fin k0_t35_loop.trips) : Fin 1 → Nat :=
  let c12672_i32_336 : BitVec 32 := 12672#32
  let c0_i32_210 : BitVec 32 := 0#32
  let c1_i32_212 : BitVec 32 := 1#32
  let arg21 : BitVec 32 := Scf.iv c0_i32_210 c1_i32_212 k0_t35
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk192 (v479 : IVec S16 32) : Prop :=
  (∀ a x, ((![v479] : Fin 1 → IVec S16 32) a x).toNat < S4000.size a)
theorem k0_idx192_inb : ∀ (v479 : IVec S16 32) (k0_hw192 : k0_chk192 v479), ∀ a x, ((![v479] : Fin 1 → IVec S16 32) a x).toNat < S4000.size a := fun v479 k0_hw192 => k0_hw192
@[reducible] def k0_t36_loop : Scf.Loop 32 :=
  let c0_i32_215 : BitVec 32 := 0#32
  let c250_i32_216 : BitVec 32 := 250#32
  let v220 : BitVec 32 := Scalar.addi c0_i32_215 c250_i32_216
  let c1_i32_217 : BitVec 32 := 1#32
  ⟨c0_i32_215, v220, c1_i32_217⟩
def k0_off207 (k0_t36 : Fin k0_t36_loop.trips) : Fin 1 → Nat :=
  let c0_i32_215 : BitVec 32 := 0#32
  let c1_i32_217 : BitVec 32 := 1#32
  let arg21 : BitVec 32 := Scf.iv c0_i32_215 c1_i32_217 k0_t36
  let c16_i32_294 : BitVec 32 := 16#32
  let v296 : BitVec 32 := Scalar.muli arg21 c16_i32_294
  let v297 : Index := Scalar.indexCast v296
  ![v297.toNat]
@[reducible] def k0_t37_loop : Scf.Loop 32 :=
  let c0_i32_223 : BitVec 32 := 0#32
  let c250_i32_224 : BitVec 32 := 250#32
  let v238 : BitVec 32 := Scalar.addi c0_i32_223 c250_i32_224
  let c1_i32_225 : BitVec 32 := 1#32
  ⟨c0_i32_223, v238, c1_i32_225⟩
def k0_off208 (k0_t37 : Fin k0_t37_loop.trips) : Fin 1 → Nat :=
  let c0_i32_223 : BitVec 32 := 0#32
  let c1_i32_225 : BitVec 32 := 1#32
  let arg21 : BitVec 32 := Scf.iv c0_i32_223 c1_i32_225 k0_t37
  let c16_i32_294 : BitVec 32 := 16#32
  let v296 : BitVec 32 := Scalar.muli arg21 c16_i32_294
  let v297 : Index := Scalar.indexCast v296
  ![v297.toNat]
@[reducible] def k0_t38_loop : Scf.Loop 32 :=
  let c0_i32_229 : BitVec 32 := 0#32
  let c33_i32_230 : BitVec 32 := 33#32
  let v242 : BitVec 32 := Scalar.addi c0_i32_229 c33_i32_230
  let c1_i32_231 : BitVec 32 := 1#32
  ⟨c0_i32_229, v242, c1_i32_231⟩
def k0_off209 (k0_t38 : Fin k0_t38_loop.trips) : Fin 1 → Nat :=
  let c0_i32_295 : BitVec 32 := 0#32
  let c0_i32_229 : BitVec 32 := 0#32
  let c1_i32_231 : BitVec 32 := 1#32
  let arg21 : BitVec 32 := Scf.iv c0_i32_229 c1_i32_231 k0_t38
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk193 (v318 : IVec S16 32) : Prop :=
  (∀ a x, ((![v318] : Fin 1 → IVec S16 32) a x).toNat < S4000.size a)
theorem k0_idx193_inb : ∀ (v318 : IVec S16 32) (k0_hw193 : k0_chk193 v318), ∀ a x, ((![v318] : Fin 1 → IVec S16 32) a x).toNat < S4000.size a := fun v318 k0_hw193 => k0_hw193
def k0_off210 (k0_t38 : Fin k0_t38_loop.trips) : Fin 1 → Nat :=
  let c0_i32_301 : BitVec 32 := 0#32
  let c0_i32_229 : BitVec 32 := 0#32
  let c1_i32_231 : BitVec 32 := 1#32
  let arg21 : BitVec 32 := Scf.iv c0_i32_229 c1_i32_231 k0_t38
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk194 (v341 : IVec S16 32) : Prop :=
  (∀ a x, ((![v341] : Fin 1 → IVec S16 32) a x).toNat < S4000.size a)
theorem k0_idx194_inb : ∀ (v341 : IVec S16 32) (k0_hw194 : k0_chk194 v341), ∀ a x, ((![v341] : Fin 1 → IVec S16 32) a x).toNat < S4000.size a := fun v341 k0_hw194 => k0_hw194
def k0_off211 (k0_t38 : Fin k0_t38_loop.trips) : Fin 1 → Nat :=
  let c0_i32_308 : BitVec 32 := 0#32
  let c0_i32_229 : BitVec 32 := 0#32
  let c1_i32_231 : BitVec 32 := 1#32
  let arg21 : BitVec 32 := Scf.iv c0_i32_229 c1_i32_231 k0_t38
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk195 (v364 : IVec S16 32) : Prop :=
  (∀ a x, ((![v364] : Fin 1 → IVec S16 32) a x).toNat < S4000.size a)
theorem k0_idx195_inb : ∀ (v364 : IVec S16 32) (k0_hw195 : k0_chk195 v364), ∀ a x, ((![v364] : Fin 1 → IVec S16 32) a x).toNat < S4000.size a := fun v364 k0_hw195 => k0_hw195
def k0_off212 (k0_t38 : Fin k0_t38_loop.trips) : Fin 1 → Nat :=
  let c0_i32_314 : BitVec 32 := 0#32
  let c0_i32_229 : BitVec 32 := 0#32
  let c1_i32_231 : BitVec 32 := 1#32
  let arg21 : BitVec 32 := Scf.iv c0_i32_229 c1_i32_231 k0_t38
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk196 (v387 : IVec S16 32) : Prop :=
  (∀ a x, ((![v387] : Fin 1 → IVec S16 32) a x).toNat < S4000.size a)
theorem k0_idx196_inb : ∀ (v387 : IVec S16 32) (k0_hw196 : k0_chk196 v387), ∀ a x, ((![v387] : Fin 1 → IVec S16 32) a x).toNat < S4000.size a := fun v387 k0_hw196 => k0_hw196
def k0_off213 (k0_t38 : Fin k0_t38_loop.trips) : Fin 1 → Nat :=
  let c0_i32_320 : BitVec 32 := 0#32
  let c0_i32_229 : BitVec 32 := 0#32
  let c1_i32_231 : BitVec 32 := 1#32
  let arg21 : BitVec 32 := Scf.iv c0_i32_229 c1_i32_231 k0_t38
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk197 (v410 : IVec S16 32) : Prop :=
  (∀ a x, ((![v410] : Fin 1 → IVec S16 32) a x).toNat < S4000.size a)
theorem k0_idx197_inb : ∀ (v410 : IVec S16 32) (k0_hw197 : k0_chk197 v410), ∀ a x, ((![v410] : Fin 1 → IVec S16 32) a x).toNat < S4000.size a := fun v410 k0_hw197 => k0_hw197
def k0_off214 (k0_t38 : Fin k0_t38_loop.trips) : Fin 1 → Nat :=
  let c0_i32_326 : BitVec 32 := 0#32
  let c0_i32_229 : BitVec 32 := 0#32
  let c1_i32_231 : BitVec 32 := 1#32
  let arg21 : BitVec 32 := Scf.iv c0_i32_229 c1_i32_231 k0_t38
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk198 (v433 : IVec S16 32) : Prop :=
  (∀ a x, ((![v433] : Fin 1 → IVec S16 32) a x).toNat < S4000.size a)
theorem k0_idx198_inb : ∀ (v433 : IVec S16 32) (k0_hw198 : k0_chk198 v433), ∀ a x, ((![v433] : Fin 1 → IVec S16 32) a x).toNat < S4000.size a := fun v433 k0_hw198 => k0_hw198
def k0_off215 (k0_t38 : Fin k0_t38_loop.trips) : Fin 1 → Nat :=
  let c0_i32_332 : BitVec 32 := 0#32
  let c0_i32_229 : BitVec 32 := 0#32
  let c1_i32_231 : BitVec 32 := 1#32
  let arg21 : BitVec 32 := Scf.iv c0_i32_229 c1_i32_231 k0_t38
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk199 (v456 : IVec S16 32) : Prop :=
  (∀ a x, ((![v456] : Fin 1 → IVec S16 32) a x).toNat < S4000.size a)
theorem k0_idx199_inb : ∀ (v456 : IVec S16 32) (k0_hw199 : k0_chk199 v456), ∀ a x, ((![v456] : Fin 1 → IVec S16 32) a x).toNat < S4000.size a := fun v456 k0_hw199 => k0_hw199
def k0_off216 (k0_t38 : Fin k0_t38_loop.trips) : Fin 1 → Nat :=
  let c0_i32_338 : BitVec 32 := 0#32
  let c0_i32_229 : BitVec 32 := 0#32
  let c1_i32_231 : BitVec 32 := 1#32
  let arg21 : BitVec 32 := Scf.iv c0_i32_229 c1_i32_231 k0_t38
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk200 (v479 : IVec S16 32) : Prop :=
  (∀ a x, ((![v479] : Fin 1 → IVec S16 32) a x).toNat < S4000.size a)
theorem k0_idx200_inb : ∀ (v479 : IVec S16 32) (k0_hw200 : k0_chk200 v479), ∀ a x, ((![v479] : Fin 1 → IVec S16 32) a x).toNat < S4000.size a := fun v479 k0_hw200 => k0_hw200
@[reducible] def k0_t39_loop : Scf.Loop 32 :=
  let c0_i32_235 : BitVec 32 := 0#32
  let c33_i32_236 : BitVec 32 := 33#32
  let v246 : BitVec 32 := Scalar.addi c0_i32_235 c33_i32_236
  let c1_i32_237 : BitVec 32 := 1#32
  ⟨c0_i32_235, v246, c1_i32_237⟩
def k0_off217 (k0_t39 : Fin k0_t39_loop.trips) : Fin 1 → Nat :=
  let c4224_i32_295 : BitVec 32 := 4224#32
  let c0_i32_235 : BitVec 32 := 0#32
  let c1_i32_237 : BitVec 32 := 1#32
  let arg21 : BitVec 32 := Scf.iv c0_i32_235 c1_i32_237 k0_t39
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk201 (v318 : IVec S16 32) : Prop :=
  (∀ a x, ((![v318] : Fin 1 → IVec S16 32) a x).toNat < S4000.size a)
theorem k0_idx201_inb : ∀ (v318 : IVec S16 32) (k0_hw201 : k0_chk201 v318), ∀ a x, ((![v318] : Fin 1 → IVec S16 32) a x).toNat < S4000.size a := fun v318 k0_hw201 => k0_hw201
def k0_off218 (k0_t39 : Fin k0_t39_loop.trips) : Fin 1 → Nat :=
  let c4224_i32_301 : BitVec 32 := 4224#32
  let c0_i32_235 : BitVec 32 := 0#32
  let c1_i32_237 : BitVec 32 := 1#32
  let arg21 : BitVec 32 := Scf.iv c0_i32_235 c1_i32_237 k0_t39
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk202 (v341 : IVec S16 32) : Prop :=
  (∀ a x, ((![v341] : Fin 1 → IVec S16 32) a x).toNat < S4000.size a)
theorem k0_idx202_inb : ∀ (v341 : IVec S16 32) (k0_hw202 : k0_chk202 v341), ∀ a x, ((![v341] : Fin 1 → IVec S16 32) a x).toNat < S4000.size a := fun v341 k0_hw202 => k0_hw202
def k0_off219 (k0_t39 : Fin k0_t39_loop.trips) : Fin 1 → Nat :=
  let c4224_i32_308 : BitVec 32 := 4224#32
  let c0_i32_235 : BitVec 32 := 0#32
  let c1_i32_237 : BitVec 32 := 1#32
  let arg21 : BitVec 32 := Scf.iv c0_i32_235 c1_i32_237 k0_t39
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk203 (v364 : IVec S16 32) : Prop :=
  (∀ a x, ((![v364] : Fin 1 → IVec S16 32) a x).toNat < S4000.size a)
theorem k0_idx203_inb : ∀ (v364 : IVec S16 32) (k0_hw203 : k0_chk203 v364), ∀ a x, ((![v364] : Fin 1 → IVec S16 32) a x).toNat < S4000.size a := fun v364 k0_hw203 => k0_hw203
def k0_off220 (k0_t39 : Fin k0_t39_loop.trips) : Fin 1 → Nat :=
  let c4224_i32_314 : BitVec 32 := 4224#32
  let c0_i32_235 : BitVec 32 := 0#32
  let c1_i32_237 : BitVec 32 := 1#32
  let arg21 : BitVec 32 := Scf.iv c0_i32_235 c1_i32_237 k0_t39
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk204 (v387 : IVec S16 32) : Prop :=
  (∀ a x, ((![v387] : Fin 1 → IVec S16 32) a x).toNat < S4000.size a)
theorem k0_idx204_inb : ∀ (v387 : IVec S16 32) (k0_hw204 : k0_chk204 v387), ∀ a x, ((![v387] : Fin 1 → IVec S16 32) a x).toNat < S4000.size a := fun v387 k0_hw204 => k0_hw204
def k0_off221 (k0_t39 : Fin k0_t39_loop.trips) : Fin 1 → Nat :=
  let c4224_i32_320 : BitVec 32 := 4224#32
  let c0_i32_235 : BitVec 32 := 0#32
  let c1_i32_237 : BitVec 32 := 1#32
  let arg21 : BitVec 32 := Scf.iv c0_i32_235 c1_i32_237 k0_t39
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk205 (v410 : IVec S16 32) : Prop :=
  (∀ a x, ((![v410] : Fin 1 → IVec S16 32) a x).toNat < S4000.size a)
theorem k0_idx205_inb : ∀ (v410 : IVec S16 32) (k0_hw205 : k0_chk205 v410), ∀ a x, ((![v410] : Fin 1 → IVec S16 32) a x).toNat < S4000.size a := fun v410 k0_hw205 => k0_hw205
def k0_off222 (k0_t39 : Fin k0_t39_loop.trips) : Fin 1 → Nat :=
  let c4224_i32_326 : BitVec 32 := 4224#32
  let c0_i32_235 : BitVec 32 := 0#32
  let c1_i32_237 : BitVec 32 := 1#32
  let arg21 : BitVec 32 := Scf.iv c0_i32_235 c1_i32_237 k0_t39
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk206 (v433 : IVec S16 32) : Prop :=
  (∀ a x, ((![v433] : Fin 1 → IVec S16 32) a x).toNat < S4000.size a)
theorem k0_idx206_inb : ∀ (v433 : IVec S16 32) (k0_hw206 : k0_chk206 v433), ∀ a x, ((![v433] : Fin 1 → IVec S16 32) a x).toNat < S4000.size a := fun v433 k0_hw206 => k0_hw206
def k0_off223 (k0_t39 : Fin k0_t39_loop.trips) : Fin 1 → Nat :=
  let c4224_i32_332 : BitVec 32 := 4224#32
  let c0_i32_235 : BitVec 32 := 0#32
  let c1_i32_237 : BitVec 32 := 1#32
  let arg21 : BitVec 32 := Scf.iv c0_i32_235 c1_i32_237 k0_t39
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk207 (v456 : IVec S16 32) : Prop :=
  (∀ a x, ((![v456] : Fin 1 → IVec S16 32) a x).toNat < S4000.size a)
theorem k0_idx207_inb : ∀ (v456 : IVec S16 32) (k0_hw207 : k0_chk207 v456), ∀ a x, ((![v456] : Fin 1 → IVec S16 32) a x).toNat < S4000.size a := fun v456 k0_hw207 => k0_hw207
def k0_off224 (k0_t39 : Fin k0_t39_loop.trips) : Fin 1 → Nat :=
  let c4224_i32_338 : BitVec 32 := 4224#32
  let c0_i32_235 : BitVec 32 := 0#32
  let c1_i32_237 : BitVec 32 := 1#32
  let arg21 : BitVec 32 := Scf.iv c0_i32_235 c1_i32_237 k0_t39
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk208 (v479 : IVec S16 32) : Prop :=
  (∀ a x, ((![v479] : Fin 1 → IVec S16 32) a x).toNat < S4000.size a)
theorem k0_idx208_inb : ∀ (v479 : IVec S16 32) (k0_hw208 : k0_chk208 v479), ∀ a x, ((![v479] : Fin 1 → IVec S16 32) a x).toNat < S4000.size a := fun v479 k0_hw208 => k0_hw208
@[reducible] def k0_t40_loop : Scf.Loop 32 :=
  let c0_i32_241 : BitVec 32 := 0#32
  let c33_i32_242 : BitVec 32 := 33#32
  let v250 : BitVec 32 := Scalar.addi c0_i32_241 c33_i32_242
  let c1_i32_243 : BitVec 32 := 1#32
  ⟨c0_i32_241, v250, c1_i32_243⟩
def k0_off225 (k0_t40 : Fin k0_t40_loop.trips) : Fin 1 → Nat :=
  let c8448_i32 : BitVec 32 := 8448#32
  let c0_i32_241 : BitVec 32 := 0#32
  let c1_i32_243 : BitVec 32 := 1#32
  let arg21 : BitVec 32 := Scf.iv c0_i32_241 c1_i32_243 k0_t40
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk209 (v318 : IVec S16 32) : Prop :=
  (∀ a x, ((![v318] : Fin 1 → IVec S16 32) a x).toNat < S4000.size a)
theorem k0_idx209_inb : ∀ (v318 : IVec S16 32) (k0_hw209 : k0_chk209 v318), ∀ a x, ((![v318] : Fin 1 → IVec S16 32) a x).toNat < S4000.size a := fun v318 k0_hw209 => k0_hw209
def k0_off226 (k0_t40 : Fin k0_t40_loop.trips) : Fin 1 → Nat :=
  let c8448_i32_299 : BitVec 32 := 8448#32
  let c0_i32_241 : BitVec 32 := 0#32
  let c1_i32_243 : BitVec 32 := 1#32
  let arg21 : BitVec 32 := Scf.iv c0_i32_241 c1_i32_243 k0_t40
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk210 (v341 : IVec S16 32) : Prop :=
  (∀ a x, ((![v341] : Fin 1 → IVec S16 32) a x).toNat < S4000.size a)
theorem k0_idx210_inb : ∀ (v341 : IVec S16 32) (k0_hw210 : k0_chk210 v341), ∀ a x, ((![v341] : Fin 1 → IVec S16 32) a x).toNat < S4000.size a := fun v341 k0_hw210 => k0_hw210
def k0_off227 (k0_t40 : Fin k0_t40_loop.trips) : Fin 1 → Nat :=
  let c8448_i32_306 : BitVec 32 := 8448#32
  let c0_i32_241 : BitVec 32 := 0#32
  let c1_i32_243 : BitVec 32 := 1#32
  let arg21 : BitVec 32 := Scf.iv c0_i32_241 c1_i32_243 k0_t40
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk211 (v364 : IVec S16 32) : Prop :=
  (∀ a x, ((![v364] : Fin 1 → IVec S16 32) a x).toNat < S4000.size a)
theorem k0_idx211_inb : ∀ (v364 : IVec S16 32) (k0_hw211 : k0_chk211 v364), ∀ a x, ((![v364] : Fin 1 → IVec S16 32) a x).toNat < S4000.size a := fun v364 k0_hw211 => k0_hw211
def k0_off228 (k0_t40 : Fin k0_t40_loop.trips) : Fin 1 → Nat :=
  let c8448_i32_312 : BitVec 32 := 8448#32
  let c0_i32_241 : BitVec 32 := 0#32
  let c1_i32_243 : BitVec 32 := 1#32
  let arg21 : BitVec 32 := Scf.iv c0_i32_241 c1_i32_243 k0_t40
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk212 (v387 : IVec S16 32) : Prop :=
  (∀ a x, ((![v387] : Fin 1 → IVec S16 32) a x).toNat < S4000.size a)
theorem k0_idx212_inb : ∀ (v387 : IVec S16 32) (k0_hw212 : k0_chk212 v387), ∀ a x, ((![v387] : Fin 1 → IVec S16 32) a x).toNat < S4000.size a := fun v387 k0_hw212 => k0_hw212
def k0_off229 (k0_t40 : Fin k0_t40_loop.trips) : Fin 1 → Nat :=
  let c8448_i32_318 : BitVec 32 := 8448#32
  let c0_i32_241 : BitVec 32 := 0#32
  let c1_i32_243 : BitVec 32 := 1#32
  let arg21 : BitVec 32 := Scf.iv c0_i32_241 c1_i32_243 k0_t40
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk213 (v410 : IVec S16 32) : Prop :=
  (∀ a x, ((![v410] : Fin 1 → IVec S16 32) a x).toNat < S4000.size a)
theorem k0_idx213_inb : ∀ (v410 : IVec S16 32) (k0_hw213 : k0_chk213 v410), ∀ a x, ((![v410] : Fin 1 → IVec S16 32) a x).toNat < S4000.size a := fun v410 k0_hw213 => k0_hw213
def k0_off230 (k0_t40 : Fin k0_t40_loop.trips) : Fin 1 → Nat :=
  let c8448_i32_324 : BitVec 32 := 8448#32
  let c0_i32_241 : BitVec 32 := 0#32
  let c1_i32_243 : BitVec 32 := 1#32
  let arg21 : BitVec 32 := Scf.iv c0_i32_241 c1_i32_243 k0_t40
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk214 (v433 : IVec S16 32) : Prop :=
  (∀ a x, ((![v433] : Fin 1 → IVec S16 32) a x).toNat < S4000.size a)
theorem k0_idx214_inb : ∀ (v433 : IVec S16 32) (k0_hw214 : k0_chk214 v433), ∀ a x, ((![v433] : Fin 1 → IVec S16 32) a x).toNat < S4000.size a := fun v433 k0_hw214 => k0_hw214
def k0_off231 (k0_t40 : Fin k0_t40_loop.trips) : Fin 1 → Nat :=
  let c8448_i32_330 : BitVec 32 := 8448#32
  let c0_i32_241 : BitVec 32 := 0#32
  let c1_i32_243 : BitVec 32 := 1#32
  let arg21 : BitVec 32 := Scf.iv c0_i32_241 c1_i32_243 k0_t40
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk215 (v456 : IVec S16 32) : Prop :=
  (∀ a x, ((![v456] : Fin 1 → IVec S16 32) a x).toNat < S4000.size a)
theorem k0_idx215_inb : ∀ (v456 : IVec S16 32) (k0_hw215 : k0_chk215 v456), ∀ a x, ((![v456] : Fin 1 → IVec S16 32) a x).toNat < S4000.size a := fun v456 k0_hw215 => k0_hw215
def k0_off232 (k0_t40 : Fin k0_t40_loop.trips) : Fin 1 → Nat :=
  let c8448_i32_336 : BitVec 32 := 8448#32
  let c0_i32_241 : BitVec 32 := 0#32
  let c1_i32_243 : BitVec 32 := 1#32
  let arg21 : BitVec 32 := Scf.iv c0_i32_241 c1_i32_243 k0_t40
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk216 (v479 : IVec S16 32) : Prop :=
  (∀ a x, ((![v479] : Fin 1 → IVec S16 32) a x).toNat < S4000.size a)
theorem k0_idx216_inb : ∀ (v479 : IVec S16 32) (k0_hw216 : k0_chk216 v479), ∀ a x, ((![v479] : Fin 1 → IVec S16 32) a x).toNat < S4000.size a := fun v479 k0_hw216 => k0_hw216
@[reducible] def k0_t41_loop : Scf.Loop 32 :=
  let c0_i32_247 : BitVec 32 := 0#32
  let c33_i32_248 : BitVec 32 := 33#32
  let v254 : BitVec 32 := Scalar.addi c0_i32_247 c33_i32_248
  let c1_i32_249 : BitVec 32 := 1#32
  ⟨c0_i32_247, v254, c1_i32_249⟩
def k0_off233 (k0_t41 : Fin k0_t41_loop.trips) : Fin 1 → Nat :=
  let c12672_i32 : BitVec 32 := 12672#32
  let c0_i32_247 : BitVec 32 := 0#32
  let c1_i32_249 : BitVec 32 := 1#32
  let arg21 : BitVec 32 := Scf.iv c0_i32_247 c1_i32_249 k0_t41
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk217 (v318 : IVec S16 32) : Prop :=
  (∀ a x, ((![v318] : Fin 1 → IVec S16 32) a x).toNat < S4000.size a)
theorem k0_idx217_inb : ∀ (v318 : IVec S16 32) (k0_hw217 : k0_chk217 v318), ∀ a x, ((![v318] : Fin 1 → IVec S16 32) a x).toNat < S4000.size a := fun v318 k0_hw217 => k0_hw217
def k0_off234 (k0_t41 : Fin k0_t41_loop.trips) : Fin 1 → Nat :=
  let c12672_i32_299 : BitVec 32 := 12672#32
  let c0_i32_247 : BitVec 32 := 0#32
  let c1_i32_249 : BitVec 32 := 1#32
  let arg21 : BitVec 32 := Scf.iv c0_i32_247 c1_i32_249 k0_t41
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk218 (v341 : IVec S16 32) : Prop :=
  (∀ a x, ((![v341] : Fin 1 → IVec S16 32) a x).toNat < S4000.size a)
theorem k0_idx218_inb : ∀ (v341 : IVec S16 32) (k0_hw218 : k0_chk218 v341), ∀ a x, ((![v341] : Fin 1 → IVec S16 32) a x).toNat < S4000.size a := fun v341 k0_hw218 => k0_hw218
def k0_off235 (k0_t41 : Fin k0_t41_loop.trips) : Fin 1 → Nat :=
  let c12672_i32_306 : BitVec 32 := 12672#32
  let c0_i32_247 : BitVec 32 := 0#32
  let c1_i32_249 : BitVec 32 := 1#32
  let arg21 : BitVec 32 := Scf.iv c0_i32_247 c1_i32_249 k0_t41
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk219 (v364 : IVec S16 32) : Prop :=
  (∀ a x, ((![v364] : Fin 1 → IVec S16 32) a x).toNat < S4000.size a)
theorem k0_idx219_inb : ∀ (v364 : IVec S16 32) (k0_hw219 : k0_chk219 v364), ∀ a x, ((![v364] : Fin 1 → IVec S16 32) a x).toNat < S4000.size a := fun v364 k0_hw219 => k0_hw219
def k0_off236 (k0_t41 : Fin k0_t41_loop.trips) : Fin 1 → Nat :=
  let c12672_i32_312 : BitVec 32 := 12672#32
  let c0_i32_247 : BitVec 32 := 0#32
  let c1_i32_249 : BitVec 32 := 1#32
  let arg21 : BitVec 32 := Scf.iv c0_i32_247 c1_i32_249 k0_t41
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk220 (v387 : IVec S16 32) : Prop :=
  (∀ a x, ((![v387] : Fin 1 → IVec S16 32) a x).toNat < S4000.size a)
theorem k0_idx220_inb : ∀ (v387 : IVec S16 32) (k0_hw220 : k0_chk220 v387), ∀ a x, ((![v387] : Fin 1 → IVec S16 32) a x).toNat < S4000.size a := fun v387 k0_hw220 => k0_hw220
def k0_off237 (k0_t41 : Fin k0_t41_loop.trips) : Fin 1 → Nat :=
  let c12672_i32_318 : BitVec 32 := 12672#32
  let c0_i32_247 : BitVec 32 := 0#32
  let c1_i32_249 : BitVec 32 := 1#32
  let arg21 : BitVec 32 := Scf.iv c0_i32_247 c1_i32_249 k0_t41
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk221 (v410 : IVec S16 32) : Prop :=
  (∀ a x, ((![v410] : Fin 1 → IVec S16 32) a x).toNat < S4000.size a)
theorem k0_idx221_inb : ∀ (v410 : IVec S16 32) (k0_hw221 : k0_chk221 v410), ∀ a x, ((![v410] : Fin 1 → IVec S16 32) a x).toNat < S4000.size a := fun v410 k0_hw221 => k0_hw221
def k0_off238 (k0_t41 : Fin k0_t41_loop.trips) : Fin 1 → Nat :=
  let c12672_i32_324 : BitVec 32 := 12672#32
  let c0_i32_247 : BitVec 32 := 0#32
  let c1_i32_249 : BitVec 32 := 1#32
  let arg21 : BitVec 32 := Scf.iv c0_i32_247 c1_i32_249 k0_t41
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk222 (v433 : IVec S16 32) : Prop :=
  (∀ a x, ((![v433] : Fin 1 → IVec S16 32) a x).toNat < S4000.size a)
theorem k0_idx222_inb : ∀ (v433 : IVec S16 32) (k0_hw222 : k0_chk222 v433), ∀ a x, ((![v433] : Fin 1 → IVec S16 32) a x).toNat < S4000.size a := fun v433 k0_hw222 => k0_hw222
def k0_off239 (k0_t41 : Fin k0_t41_loop.trips) : Fin 1 → Nat :=
  let c12672_i32_330 : BitVec 32 := 12672#32
  let c0_i32_247 : BitVec 32 := 0#32
  let c1_i32_249 : BitVec 32 := 1#32
  let arg21 : BitVec 32 := Scf.iv c0_i32_247 c1_i32_249 k0_t41
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk223 (v456 : IVec S16 32) : Prop :=
  (∀ a x, ((![v456] : Fin 1 → IVec S16 32) a x).toNat < S4000.size a)
theorem k0_idx223_inb : ∀ (v456 : IVec S16 32) (k0_hw223 : k0_chk223 v456), ∀ a x, ((![v456] : Fin 1 → IVec S16 32) a x).toNat < S4000.size a := fun v456 k0_hw223 => k0_hw223
def k0_off240 (k0_t41 : Fin k0_t41_loop.trips) : Fin 1 → Nat :=
  let c12672_i32_336 : BitVec 32 := 12672#32
  let c0_i32_247 : BitVec 32 := 0#32
  let c1_i32_249 : BitVec 32 := 1#32
  let arg21 : BitVec 32 := Scf.iv c0_i32_247 c1_i32_249 k0_t41
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk224 (v479 : IVec S16 32) : Prop :=
  (∀ a x, ((![v479] : Fin 1 → IVec S16 32) a x).toNat < S4000.size a)
theorem k0_idx224_inb : ∀ (v479 : IVec S16 32) (k0_hw224 : k0_chk224 v479), ∀ a x, ((![v479] : Fin 1 → IVec S16 32) a x).toNat < S4000.size a := fun v479 k0_hw224 => k0_hw224
@[reducible] def k0_t42_loop : Scf.Loop 32 :=
  let c0_i32_252 : BitVec 32 := 0#32
  let c250_i32_253 : BitVec 32 := 250#32
  let v256 : BitVec 32 := Scalar.addi c0_i32_252 c250_i32_253
  let c1_i32_254 : BitVec 32 := 1#32
  ⟨c0_i32_252, v256, c1_i32_254⟩
def k0_off241 (k0_t42 : Fin k0_t42_loop.trips) : Fin 1 → Nat :=
  let c0_i32_252 : BitVec 32 := 0#32
  let c1_i32_254 : BitVec 32 := 1#32
  let arg21 : BitVec 32 := Scf.iv c0_i32_252 c1_i32_254 k0_t42
  let c16_i32_294 : BitVec 32 := 16#32
  let v296 : BitVec 32 := Scalar.muli arg21 c16_i32_294
  let v297 : Index := Scalar.indexCast v296
  ![v297.toNat]
@[reducible] def k0_t43_loop : Scf.Loop 32 :=
  let c0_i32_259 : BitVec 32 := 0#32
  let c250_i32_260 : BitVec 32 := 250#32
  let v268 : BitVec 32 := Scalar.addi c0_i32_259 c250_i32_260
  let c1_i32_261 : BitVec 32 := 1#32
  ⟨c0_i32_259, v268, c1_i32_261⟩
def k0_off242 (k0_t43 : Fin k0_t43_loop.trips) : Fin 1 → Nat :=
  let c0_i32_259 : BitVec 32 := 0#32
  let c1_i32_261 : BitVec 32 := 1#32
  let arg21 : BitVec 32 := Scf.iv c0_i32_259 c1_i32_261 k0_t43
  let c16_i32_294 : BitVec 32 := 16#32
  let v296 : BitVec 32 := Scalar.muli arg21 c16_i32_294
  let v297 : Index := Scalar.indexCast v296
  ![v297.toNat]
@[reducible] def k0_t44_loop : Scf.Loop 32 :=
  let c0_i32_265 : BitVec 32 := 0#32
  let c33_i32_266 : BitVec 32 := 33#32
  let v272 : BitVec 32 := Scalar.addi c0_i32_265 c33_i32_266
  let c1_i32_267 : BitVec 32 := 1#32
  ⟨c0_i32_265, v272, c1_i32_267⟩
def k0_off243 (k0_t44 : Fin k0_t44_loop.trips) : Fin 1 → Nat :=
  let c0_i32_295 : BitVec 32 := 0#32
  let c0_i32_265 : BitVec 32 := 0#32
  let c1_i32_267 : BitVec 32 := 1#32
  let arg21 : BitVec 32 := Scf.iv c0_i32_265 c1_i32_267 k0_t44
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c0_i32_295 v297
  let v299 : Index := Scalar.indexCast v298
  ![v299.toNat]

def k0_chk225 (v318 : IVec S16 32) : Prop :=
  (∀ a x, ((![v318] : Fin 1 → IVec S16 32) a x).toNat < S4000.size a)
theorem k0_idx225_inb : ∀ (v318 : IVec S16 32) (k0_hw225 : k0_chk225 v318), ∀ a x, ((![v318] : Fin 1 → IVec S16 32) a x).toNat < S4000.size a := fun v318 k0_hw225 => k0_hw225
def k0_off244 (k0_t44 : Fin k0_t44_loop.trips) : Fin 1 → Nat :=
  let c0_i32_301 : BitVec 32 := 0#32
  let c0_i32_265 : BitVec 32 := 0#32
  let c1_i32_267 : BitVec 32 := 1#32
  let arg21 : BitVec 32 := Scf.iv c0_i32_265 c1_i32_267 k0_t44
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c0_i32_301 v320
  let v322 : Index := Scalar.indexCast v321
  ![v322.toNat]

def k0_chk226 (v341 : IVec S16 32) : Prop :=
  (∀ a x, ((![v341] : Fin 1 → IVec S16 32) a x).toNat < S4000.size a)
theorem k0_idx226_inb : ∀ (v341 : IVec S16 32) (k0_hw226 : k0_chk226 v341), ∀ a x, ((![v341] : Fin 1 → IVec S16 32) a x).toNat < S4000.size a := fun v341 k0_hw226 => k0_hw226
def k0_off245 (k0_t44 : Fin k0_t44_loop.trips) : Fin 1 → Nat :=
  let c0_i32_308 : BitVec 32 := 0#32
  let c0_i32_265 : BitVec 32 := 0#32
  let c1_i32_267 : BitVec 32 := 1#32
  let arg21 : BitVec 32 := Scf.iv c0_i32_265 c1_i32_267 k0_t44
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c0_i32_308 v343
  let v345 : Index := Scalar.indexCast v344
  ![v345.toNat]

def k0_chk227 (v364 : IVec S16 32) : Prop :=
  (∀ a x, ((![v364] : Fin 1 → IVec S16 32) a x).toNat < S4000.size a)
theorem k0_idx227_inb : ∀ (v364 : IVec S16 32) (k0_hw227 : k0_chk227 v364), ∀ a x, ((![v364] : Fin 1 → IVec S16 32) a x).toNat < S4000.size a := fun v364 k0_hw227 => k0_hw227
def k0_off246 (k0_t44 : Fin k0_t44_loop.trips) : Fin 1 → Nat :=
  let c0_i32_314 : BitVec 32 := 0#32
  let c0_i32_265 : BitVec 32 := 0#32
  let c1_i32_267 : BitVec 32 := 1#32
  let arg21 : BitVec 32 := Scf.iv c0_i32_265 c1_i32_267 k0_t44
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c0_i32_314 v366
  let v368 : Index := Scalar.indexCast v367
  ![v368.toNat]

def k0_chk228 (v387 : IVec S16 32) : Prop :=
  (∀ a x, ((![v387] : Fin 1 → IVec S16 32) a x).toNat < S4000.size a)
theorem k0_idx228_inb : ∀ (v387 : IVec S16 32) (k0_hw228 : k0_chk228 v387), ∀ a x, ((![v387] : Fin 1 → IVec S16 32) a x).toNat < S4000.size a := fun v387 k0_hw228 => k0_hw228
def k0_off247 (k0_t44 : Fin k0_t44_loop.trips) : Fin 1 → Nat :=
  let c0_i32_320 : BitVec 32 := 0#32
  let c0_i32_265 : BitVec 32 := 0#32
  let c1_i32_267 : BitVec 32 := 1#32
  let arg21 : BitVec 32 := Scf.iv c0_i32_265 c1_i32_267 k0_t44
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c0_i32_320 v389
  let v391 : Index := Scalar.indexCast v390
  ![v391.toNat]

def k0_chk229 (v410 : IVec S16 32) : Prop :=
  (∀ a x, ((![v410] : Fin 1 → IVec S16 32) a x).toNat < S4000.size a)
theorem k0_idx229_inb : ∀ (v410 : IVec S16 32) (k0_hw229 : k0_chk229 v410), ∀ a x, ((![v410] : Fin 1 → IVec S16 32) a x).toNat < S4000.size a := fun v410 k0_hw229 => k0_hw229
def k0_off248 (k0_t44 : Fin k0_t44_loop.trips) : Fin 1 → Nat :=
  let c0_i32_326 : BitVec 32 := 0#32
  let c0_i32_265 : BitVec 32 := 0#32
  let c1_i32_267 : BitVec 32 := 1#32
  let arg21 : BitVec 32 := Scf.iv c0_i32_265 c1_i32_267 k0_t44
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c0_i32_326 v412
  let v414 : Index := Scalar.indexCast v413
  ![v414.toNat]

def k0_chk230 (v433 : IVec S16 32) : Prop :=
  (∀ a x, ((![v433] : Fin 1 → IVec S16 32) a x).toNat < S4000.size a)
theorem k0_idx230_inb : ∀ (v433 : IVec S16 32) (k0_hw230 : k0_chk230 v433), ∀ a x, ((![v433] : Fin 1 → IVec S16 32) a x).toNat < S4000.size a := fun v433 k0_hw230 => k0_hw230
def k0_off249 (k0_t44 : Fin k0_t44_loop.trips) : Fin 1 → Nat :=
  let c0_i32_332 : BitVec 32 := 0#32
  let c0_i32_265 : BitVec 32 := 0#32
  let c1_i32_267 : BitVec 32 := 1#32
  let arg21 : BitVec 32 := Scf.iv c0_i32_265 c1_i32_267 k0_t44
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c0_i32_332 v435
  let v437 : Index := Scalar.indexCast v436
  ![v437.toNat]

def k0_chk231 (v456 : IVec S16 32) : Prop :=
  (∀ a x, ((![v456] : Fin 1 → IVec S16 32) a x).toNat < S4000.size a)
theorem k0_idx231_inb : ∀ (v456 : IVec S16 32) (k0_hw231 : k0_chk231 v456), ∀ a x, ((![v456] : Fin 1 → IVec S16 32) a x).toNat < S4000.size a := fun v456 k0_hw231 => k0_hw231
def k0_off250 (k0_t44 : Fin k0_t44_loop.trips) : Fin 1 → Nat :=
  let c0_i32_338 : BitVec 32 := 0#32
  let c0_i32_265 : BitVec 32 := 0#32
  let c1_i32_267 : BitVec 32 := 1#32
  let arg21 : BitVec 32 := Scf.iv c0_i32_265 c1_i32_267 k0_t44
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c0_i32_338 v458
  let v460 : Index := Scalar.indexCast v459
  ![v460.toNat]

def k0_chk232 (v479 : IVec S16 32) : Prop :=
  (∀ a x, ((![v479] : Fin 1 → IVec S16 32) a x).toNat < S4000.size a)
theorem k0_idx232_inb : ∀ (v479 : IVec S16 32) (k0_hw232 : k0_chk232 v479), ∀ a x, ((![v479] : Fin 1 → IVec S16 32) a x).toNat < S4000.size a := fun v479 k0_hw232 => k0_hw232
@[reducible] def k0_t45_loop : Scf.Loop 32 :=
  let c0_i32_271 : BitVec 32 := 0#32
  let c33_i32_272 : BitVec 32 := 33#32
  let v276 : BitVec 32 := Scalar.addi c0_i32_271 c33_i32_272
  let c1_i32_273 : BitVec 32 := 1#32
  ⟨c0_i32_271, v276, c1_i32_273⟩
def k0_off251 (k0_t45 : Fin k0_t45_loop.trips) : Fin 1 → Nat :=
  let c4224_i32_295 : BitVec 32 := 4224#32
  let c0_i32_271 : BitVec 32 := 0#32
  let c1_i32_273 : BitVec 32 := 1#32
  let arg21 : BitVec 32 := Scf.iv c0_i32_271 c1_i32_273 k0_t45
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c4224_i32_295 v297
  let v299 : Index := Scalar.indexCast v298
  ![v299.toNat]

def k0_chk233 (v318 : IVec S16 32) : Prop :=
  (∀ a x, ((![v318] : Fin 1 → IVec S16 32) a x).toNat < S4000.size a)
theorem k0_idx233_inb : ∀ (v318 : IVec S16 32) (k0_hw233 : k0_chk233 v318), ∀ a x, ((![v318] : Fin 1 → IVec S16 32) a x).toNat < S4000.size a := fun v318 k0_hw233 => k0_hw233
def k0_off252 (k0_t45 : Fin k0_t45_loop.trips) : Fin 1 → Nat :=
  let c4224_i32_301 : BitVec 32 := 4224#32
  let c0_i32_271 : BitVec 32 := 0#32
  let c1_i32_273 : BitVec 32 := 1#32
  let arg21 : BitVec 32 := Scf.iv c0_i32_271 c1_i32_273 k0_t45
  let c128_i32_299 : BitVec 32 := 128#32
  let v319 : BitVec 32 := Scalar.muli arg21 c128_i32_299
  let c16_i32_300 : BitVec 32 := 16#32
  let v320 : BitVec 32 := Scalar.addi v319 c16_i32_300
  let v321 : BitVec 32 := Scalar.addi c4224_i32_301 v320
  let v322 : Index := Scalar.indexCast v321
  ![v322.toNat]

def k0_chk234 (v341 : IVec S16 32) : Prop :=
  (∀ a x, ((![v341] : Fin 1 → IVec S16 32) a x).toNat < S4000.size a)
theorem k0_idx234_inb : ∀ (v341 : IVec S16 32) (k0_hw234 : k0_chk234 v341), ∀ a x, ((![v341] : Fin 1 → IVec S16 32) a x).toNat < S4000.size a := fun v341 k0_hw234 => k0_hw234
def k0_off253 (k0_t45 : Fin k0_t45_loop.trips) : Fin 1 → Nat :=
  let c4224_i32_308 : BitVec 32 := 4224#32
  let c0_i32_271 : BitVec 32 := 0#32
  let c1_i32_273 : BitVec 32 := 1#32
  let arg21 : BitVec 32 := Scf.iv c0_i32_271 c1_i32_273 k0_t45
  let c128_i32_306 : BitVec 32 := 128#32
  let v342 : BitVec 32 := Scalar.muli arg21 c128_i32_306
  let c32_i32_307 : BitVec 32 := 32#32
  let v343 : BitVec 32 := Scalar.addi v342 c32_i32_307
  let v344 : BitVec 32 := Scalar.addi c4224_i32_308 v343
  let v345 : Index := Scalar.indexCast v344
  ![v345.toNat]

def k0_chk235 (v364 : IVec S16 32) : Prop :=
  (∀ a x, ((![v364] : Fin 1 → IVec S16 32) a x).toNat < S4000.size a)
theorem k0_idx235_inb : ∀ (v364 : IVec S16 32) (k0_hw235 : k0_chk235 v364), ∀ a x, ((![v364] : Fin 1 → IVec S16 32) a x).toNat < S4000.size a := fun v364 k0_hw235 => k0_hw235
def k0_off254 (k0_t45 : Fin k0_t45_loop.trips) : Fin 1 → Nat :=
  let c4224_i32_314 : BitVec 32 := 4224#32
  let c0_i32_271 : BitVec 32 := 0#32
  let c1_i32_273 : BitVec 32 := 1#32
  let arg21 : BitVec 32 := Scf.iv c0_i32_271 c1_i32_273 k0_t45
  let c128_i32_313 : BitVec 32 := 128#32
  let v365 : BitVec 32 := Scalar.muli arg21 c128_i32_313
  let c48_i32 : BitVec 32 := 48#32
  let v366 : BitVec 32 := Scalar.addi v365 c48_i32
  let v367 : BitVec 32 := Scalar.addi c4224_i32_314 v366
  let v368 : Index := Scalar.indexCast v367
  ![v368.toNat]

def k0_chk236 (v387 : IVec S16 32) : Prop :=
  (∀ a x, ((![v387] : Fin 1 → IVec S16 32) a x).toNat < S4000.size a)
theorem k0_idx236_inb : ∀ (v387 : IVec S16 32) (k0_hw236 : k0_chk236 v387), ∀ a x, ((![v387] : Fin 1 → IVec S16 32) a x).toNat < S4000.size a := fun v387 k0_hw236 => k0_hw236
def k0_off255 (k0_t45 : Fin k0_t45_loop.trips) : Fin 1 → Nat :=
  let c4224_i32_320 : BitVec 32 := 4224#32
  let c0_i32_271 : BitVec 32 := 0#32
  let c1_i32_273 : BitVec 32 := 1#32
  let arg21 : BitVec 32 := Scf.iv c0_i32_271 c1_i32_273 k0_t45
  let c128_i32_319 : BitVec 32 := 128#32
  let v388 : BitVec 32 := Scalar.muli arg21 c128_i32_319
  let c64_i32 : BitVec 32 := 64#32
  let v389 : BitVec 32 := Scalar.addi v388 c64_i32
  let v390 : BitVec 32 := Scalar.addi c4224_i32_320 v389
  let v391 : Index := Scalar.indexCast v390
  ![v391.toNat]

def k0_chk237 (v410 : IVec S16 32) : Prop :=
  (∀ a x, ((![v410] : Fin 1 → IVec S16 32) a x).toNat < S4000.size a)
theorem k0_idx237_inb : ∀ (v410 : IVec S16 32) (k0_hw237 : k0_chk237 v410), ∀ a x, ((![v410] : Fin 1 → IVec S16 32) a x).toNat < S4000.size a := fun v410 k0_hw237 => k0_hw237
def k0_off256 (k0_t45 : Fin k0_t45_loop.trips) : Fin 1 → Nat :=
  let c4224_i32_326 : BitVec 32 := 4224#32
  let c0_i32_271 : BitVec 32 := 0#32
  let c1_i32_273 : BitVec 32 := 1#32
  let arg21 : BitVec 32 := Scf.iv c0_i32_271 c1_i32_273 k0_t45
  let c128_i32_325 : BitVec 32 := 128#32
  let v411 : BitVec 32 := Scalar.muli arg21 c128_i32_325
  let c80_i32 : BitVec 32 := 80#32
  let v412 : BitVec 32 := Scalar.addi v411 c80_i32
  let v413 : BitVec 32 := Scalar.addi c4224_i32_326 v412
  let v414 : Index := Scalar.indexCast v413
  ![v414.toNat]

def k0_chk238 (v433 : IVec S16 32) : Prop :=
  (∀ a x, ((![v433] : Fin 1 → IVec S16 32) a x).toNat < S4000.size a)
theorem k0_idx238_inb : ∀ (v433 : IVec S16 32) (k0_hw238 : k0_chk238 v433), ∀ a x, ((![v433] : Fin 1 → IVec S16 32) a x).toNat < S4000.size a := fun v433 k0_hw238 => k0_hw238
def k0_off257 (k0_t45 : Fin k0_t45_loop.trips) : Fin 1 → Nat :=
  let c4224_i32_332 : BitVec 32 := 4224#32
  let c0_i32_271 : BitVec 32 := 0#32
  let c1_i32_273 : BitVec 32 := 1#32
  let arg21 : BitVec 32 := Scf.iv c0_i32_271 c1_i32_273 k0_t45
  let c128_i32_331 : BitVec 32 := 128#32
  let v434 : BitVec 32 := Scalar.muli arg21 c128_i32_331
  let c96_i32 : BitVec 32 := 96#32
  let v435 : BitVec 32 := Scalar.addi v434 c96_i32
  let v436 : BitVec 32 := Scalar.addi c4224_i32_332 v435
  let v437 : Index := Scalar.indexCast v436
  ![v437.toNat]

def k0_chk239 (v456 : IVec S16 32) : Prop :=
  (∀ a x, ((![v456] : Fin 1 → IVec S16 32) a x).toNat < S4000.size a)
theorem k0_idx239_inb : ∀ (v456 : IVec S16 32) (k0_hw239 : k0_chk239 v456), ∀ a x, ((![v456] : Fin 1 → IVec S16 32) a x).toNat < S4000.size a := fun v456 k0_hw239 => k0_hw239
def k0_off258 (k0_t45 : Fin k0_t45_loop.trips) : Fin 1 → Nat :=
  let c4224_i32_338 : BitVec 32 := 4224#32
  let c0_i32_271 : BitVec 32 := 0#32
  let c1_i32_273 : BitVec 32 := 1#32
  let arg21 : BitVec 32 := Scf.iv c0_i32_271 c1_i32_273 k0_t45
  let c128_i32_337 : BitVec 32 := 128#32
  let v457 : BitVec 32 := Scalar.muli arg21 c128_i32_337
  let c112_i32 : BitVec 32 := 112#32
  let v458 : BitVec 32 := Scalar.addi v457 c112_i32
  let v459 : BitVec 32 := Scalar.addi c4224_i32_338 v458
  let v460 : Index := Scalar.indexCast v459
  ![v460.toNat]

def k0_chk240 (v479 : IVec S16 32) : Prop :=
  (∀ a x, ((![v479] : Fin 1 → IVec S16 32) a x).toNat < S4000.size a)
theorem k0_idx240_inb : ∀ (v479 : IVec S16 32) (k0_hw240 : k0_chk240 v479), ∀ a x, ((![v479] : Fin 1 → IVec S16 32) a x).toNat < S4000.size a := fun v479 k0_hw240 => k0_hw240
@[reducible] def k0_t46_loop : Scf.Loop 32 :=
  let c0_i32_277 : BitVec 32 := 0#32
  let c33_i32_278 : BitVec 32 := 33#32
  let v280 : BitVec 32 := Scalar.addi c0_i32_277 c33_i32_278
  let c1_i32_279 : BitVec 32 := 1#32
  ⟨c0_i32_277, v280, c1_i32_279⟩
def k0_off259 (k0_t46 : Fin k0_t46_loop.trips) : Fin 1 → Nat :=
  let c8448_i32 : BitVec 32 := 8448#32
  let c0_i32_277 : BitVec 32 := 0#32
  let c1_i32_279 : BitVec 32 := 1#32
  let arg21 : BitVec 32 := Scf.iv c0_i32_277 c1_i32_279 k0_t46
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c8448_i32 v297
  let v299 : Index := Scalar.indexCast v298
  ![v299.toNat]

def k0_chk241 (v318 : IVec S16 32) : Prop :=
  (∀ a x, ((![v318] : Fin 1 → IVec S16 32) a x).toNat < S4000.size a)
theorem k0_idx241_inb : ∀ (v318 : IVec S16 32) (k0_hw241 : k0_chk241 v318), ∀ a x, ((![v318] : Fin 1 → IVec S16 32) a x).toNat < S4000.size a := fun v318 k0_hw241 => k0_hw241
def k0_off260 (k0_t46 : Fin k0_t46_loop.trips) : Fin 1 → Nat :=
  let c8448_i32_299 : BitVec 32 := 8448#32
  let c0_i32_277 : BitVec 32 := 0#32
  let c1_i32_279 : BitVec 32 := 1#32
  let arg21 : BitVec 32 := Scf.iv c0_i32_277 c1_i32_279 k0_t46
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c8448_i32_299 v320
  let v322 : Index := Scalar.indexCast v321
  ![v322.toNat]

def k0_chk242 (v341 : IVec S16 32) : Prop :=
  (∀ a x, ((![v341] : Fin 1 → IVec S16 32) a x).toNat < S4000.size a)
theorem k0_idx242_inb : ∀ (v341 : IVec S16 32) (k0_hw242 : k0_chk242 v341), ∀ a x, ((![v341] : Fin 1 → IVec S16 32) a x).toNat < S4000.size a := fun v341 k0_hw242 => k0_hw242
def k0_off261 (k0_t46 : Fin k0_t46_loop.trips) : Fin 1 → Nat :=
  let c8448_i32_306 : BitVec 32 := 8448#32
  let c0_i32_277 : BitVec 32 := 0#32
  let c1_i32_279 : BitVec 32 := 1#32
  let arg21 : BitVec 32 := Scf.iv c0_i32_277 c1_i32_279 k0_t46
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c8448_i32_306 v343
  let v345 : Index := Scalar.indexCast v344
  ![v345.toNat]

def k0_chk243 (v364 : IVec S16 32) : Prop :=
  (∀ a x, ((![v364] : Fin 1 → IVec S16 32) a x).toNat < S4000.size a)
theorem k0_idx243_inb : ∀ (v364 : IVec S16 32) (k0_hw243 : k0_chk243 v364), ∀ a x, ((![v364] : Fin 1 → IVec S16 32) a x).toNat < S4000.size a := fun v364 k0_hw243 => k0_hw243
def k0_off262 (k0_t46 : Fin k0_t46_loop.trips) : Fin 1 → Nat :=
  let c8448_i32_312 : BitVec 32 := 8448#32
  let c0_i32_277 : BitVec 32 := 0#32
  let c1_i32_279 : BitVec 32 := 1#32
  let arg21 : BitVec 32 := Scf.iv c0_i32_277 c1_i32_279 k0_t46
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c8448_i32_312 v366
  let v368 : Index := Scalar.indexCast v367
  ![v368.toNat]

def k0_chk244 (v387 : IVec S16 32) : Prop :=
  (∀ a x, ((![v387] : Fin 1 → IVec S16 32) a x).toNat < S4000.size a)
theorem k0_idx244_inb : ∀ (v387 : IVec S16 32) (k0_hw244 : k0_chk244 v387), ∀ a x, ((![v387] : Fin 1 → IVec S16 32) a x).toNat < S4000.size a := fun v387 k0_hw244 => k0_hw244
def k0_off263 (k0_t46 : Fin k0_t46_loop.trips) : Fin 1 → Nat :=
  let c8448_i32_318 : BitVec 32 := 8448#32
  let c0_i32_277 : BitVec 32 := 0#32
  let c1_i32_279 : BitVec 32 := 1#32
  let arg21 : BitVec 32 := Scf.iv c0_i32_277 c1_i32_279 k0_t46
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c8448_i32_318 v389
  let v391 : Index := Scalar.indexCast v390
  ![v391.toNat]

def k0_chk245 (v410 : IVec S16 32) : Prop :=
  (∀ a x, ((![v410] : Fin 1 → IVec S16 32) a x).toNat < S4000.size a)
theorem k0_idx245_inb : ∀ (v410 : IVec S16 32) (k0_hw245 : k0_chk245 v410), ∀ a x, ((![v410] : Fin 1 → IVec S16 32) a x).toNat < S4000.size a := fun v410 k0_hw245 => k0_hw245
def k0_off264 (k0_t46 : Fin k0_t46_loop.trips) : Fin 1 → Nat :=
  let c8448_i32_324 : BitVec 32 := 8448#32
  let c0_i32_277 : BitVec 32 := 0#32
  let c1_i32_279 : BitVec 32 := 1#32
  let arg21 : BitVec 32 := Scf.iv c0_i32_277 c1_i32_279 k0_t46
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c8448_i32_324 v412
  let v414 : Index := Scalar.indexCast v413
  ![v414.toNat]

def k0_chk246 (v433 : IVec S16 32) : Prop :=
  (∀ a x, ((![v433] : Fin 1 → IVec S16 32) a x).toNat < S4000.size a)
theorem k0_idx246_inb : ∀ (v433 : IVec S16 32) (k0_hw246 : k0_chk246 v433), ∀ a x, ((![v433] : Fin 1 → IVec S16 32) a x).toNat < S4000.size a := fun v433 k0_hw246 => k0_hw246
def k0_off265 (k0_t46 : Fin k0_t46_loop.trips) : Fin 1 → Nat :=
  let c8448_i32_330 : BitVec 32 := 8448#32
  let c0_i32_277 : BitVec 32 := 0#32
  let c1_i32_279 : BitVec 32 := 1#32
  let arg21 : BitVec 32 := Scf.iv c0_i32_277 c1_i32_279 k0_t46
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c8448_i32_330 v435
  let v437 : Index := Scalar.indexCast v436
  ![v437.toNat]

def k0_chk247 (v456 : IVec S16 32) : Prop :=
  (∀ a x, ((![v456] : Fin 1 → IVec S16 32) a x).toNat < S4000.size a)
theorem k0_idx247_inb : ∀ (v456 : IVec S16 32) (k0_hw247 : k0_chk247 v456), ∀ a x, ((![v456] : Fin 1 → IVec S16 32) a x).toNat < S4000.size a := fun v456 k0_hw247 => k0_hw247
def k0_off266 (k0_t46 : Fin k0_t46_loop.trips) : Fin 1 → Nat :=
  let c8448_i32_336 : BitVec 32 := 8448#32
  let c0_i32_277 : BitVec 32 := 0#32
  let c1_i32_279 : BitVec 32 := 1#32
  let arg21 : BitVec 32 := Scf.iv c0_i32_277 c1_i32_279 k0_t46
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c8448_i32_336 v458
  let v460 : Index := Scalar.indexCast v459
  ![v460.toNat]

def k0_chk248 (v479 : IVec S16 32) : Prop :=
  (∀ a x, ((![v479] : Fin 1 → IVec S16 32) a x).toNat < S4000.size a)
theorem k0_idx248_inb : ∀ (v479 : IVec S16 32) (k0_hw248 : k0_chk248 v479), ∀ a x, ((![v479] : Fin 1 → IVec S16 32) a x).toNat < S4000.size a := fun v479 k0_hw248 => k0_hw248
@[reducible] def k0_t47_loop : Scf.Loop 32 :=
  let c0_i32_283 : BitVec 32 := 0#32
  let c33_i32_284 : BitVec 32 := 33#32
  let v284 : BitVec 32 := Scalar.addi c0_i32_283 c33_i32_284
  let c1_i32_285 : BitVec 32 := 1#32
  ⟨c0_i32_283, v284, c1_i32_285⟩
def k0_off267 (k0_t47 : Fin k0_t47_loop.trips) : Fin 1 → Nat :=
  let c12672_i32 : BitVec 32 := 12672#32
  let c0_i32_283 : BitVec 32 := 0#32
  let c1_i32_285 : BitVec 32 := 1#32
  let arg21 : BitVec 32 := Scf.iv c0_i32_283 c1_i32_285 k0_t47
  let c128_i32 : BitVec 32 := 128#32
  let v296 : BitVec 32 := Scalar.muli arg21 c128_i32
  let c0_i32_294 : BitVec 32 := 0#32
  let v297 : BitVec 32 := Scalar.addi v296 c0_i32_294
  let v298 : BitVec 32 := Scalar.addi c12672_i32 v297
  let v299 : Index := Scalar.indexCast v298
  ![v299.toNat]

def k0_chk249 (v318 : IVec S16 32) : Prop :=
  (∀ a x, ((![v318] : Fin 1 → IVec S16 32) a x).toNat < S4000.size a)
theorem k0_idx249_inb : ∀ (v318 : IVec S16 32) (k0_hw249 : k0_chk249 v318), ∀ a x, ((![v318] : Fin 1 → IVec S16 32) a x).toNat < S4000.size a := fun v318 k0_hw249 => k0_hw249
def k0_off268 (k0_t47 : Fin k0_t47_loop.trips) : Fin 1 → Nat :=
  let c12672_i32_299 : BitVec 32 := 12672#32
  let c0_i32_283 : BitVec 32 := 0#32
  let c1_i32_285 : BitVec 32 := 1#32
  let arg21 : BitVec 32 := Scf.iv c0_i32_283 c1_i32_285 k0_t47
  let c128_i32_297 : BitVec 32 := 128#32
  let v319 : BitVec 32 := Scalar.muli arg21 c128_i32_297
  let c16_i32_298 : BitVec 32 := 16#32
  let v320 : BitVec 32 := Scalar.addi v319 c16_i32_298
  let v321 : BitVec 32 := Scalar.addi c12672_i32_299 v320
  let v322 : Index := Scalar.indexCast v321
  ![v322.toNat]

def k0_chk250 (v341 : IVec S16 32) : Prop :=
  (∀ a x, ((![v341] : Fin 1 → IVec S16 32) a x).toNat < S4000.size a)
theorem k0_idx250_inb : ∀ (v341 : IVec S16 32) (k0_hw250 : k0_chk250 v341), ∀ a x, ((![v341] : Fin 1 → IVec S16 32) a x).toNat < S4000.size a := fun v341 k0_hw250 => k0_hw250
def k0_off269 (k0_t47 : Fin k0_t47_loop.trips) : Fin 1 → Nat :=
  let c12672_i32_306 : BitVec 32 := 12672#32
  let c0_i32_283 : BitVec 32 := 0#32
  let c1_i32_285 : BitVec 32 := 1#32
  let arg21 : BitVec 32 := Scf.iv c0_i32_283 c1_i32_285 k0_t47
  let c128_i32_304 : BitVec 32 := 128#32
  let v342 : BitVec 32 := Scalar.muli arg21 c128_i32_304
  let c32_i32_305 : BitVec 32 := 32#32
  let v343 : BitVec 32 := Scalar.addi v342 c32_i32_305
  let v344 : BitVec 32 := Scalar.addi c12672_i32_306 v343
  let v345 : Index := Scalar.indexCast v344
  ![v345.toNat]

def k0_chk251 (v364 : IVec S16 32) : Prop :=
  (∀ a x, ((![v364] : Fin 1 → IVec S16 32) a x).toNat < S4000.size a)
theorem k0_idx251_inb : ∀ (v364 : IVec S16 32) (k0_hw251 : k0_chk251 v364), ∀ a x, ((![v364] : Fin 1 → IVec S16 32) a x).toNat < S4000.size a := fun v364 k0_hw251 => k0_hw251
def k0_off270 (k0_t47 : Fin k0_t47_loop.trips) : Fin 1 → Nat :=
  let c12672_i32_312 : BitVec 32 := 12672#32
  let c0_i32_283 : BitVec 32 := 0#32
  let c1_i32_285 : BitVec 32 := 1#32
  let arg21 : BitVec 32 := Scf.iv c0_i32_283 c1_i32_285 k0_t47
  let c128_i32_311 : BitVec 32 := 128#32
  let v365 : BitVec 32 := Scalar.muli arg21 c128_i32_311
  let c48_i32 : BitVec 32 := 48#32
  let v366 : BitVec 32 := Scalar.addi v365 c48_i32
  let v367 : BitVec 32 := Scalar.addi c12672_i32_312 v366
  let v368 : Index := Scalar.indexCast v367
  ![v368.toNat]

def k0_chk252 (v387 : IVec S16 32) : Prop :=
  (∀ a x, ((![v387] : Fin 1 → IVec S16 32) a x).toNat < S4000.size a)
theorem k0_idx252_inb : ∀ (v387 : IVec S16 32) (k0_hw252 : k0_chk252 v387), ∀ a x, ((![v387] : Fin 1 → IVec S16 32) a x).toNat < S4000.size a := fun v387 k0_hw252 => k0_hw252
def k0_off271 (k0_t47 : Fin k0_t47_loop.trips) : Fin 1 → Nat :=
  let c12672_i32_318 : BitVec 32 := 12672#32
  let c0_i32_283 : BitVec 32 := 0#32
  let c1_i32_285 : BitVec 32 := 1#32
  let arg21 : BitVec 32 := Scf.iv c0_i32_283 c1_i32_285 k0_t47
  let c128_i32_317 : BitVec 32 := 128#32
  let v388 : BitVec 32 := Scalar.muli arg21 c128_i32_317
  let c64_i32 : BitVec 32 := 64#32
  let v389 : BitVec 32 := Scalar.addi v388 c64_i32
  let v390 : BitVec 32 := Scalar.addi c12672_i32_318 v389
  let v391 : Index := Scalar.indexCast v390
  ![v391.toNat]

def k0_chk253 (v410 : IVec S16 32) : Prop :=
  (∀ a x, ((![v410] : Fin 1 → IVec S16 32) a x).toNat < S4000.size a)
theorem k0_idx253_inb : ∀ (v410 : IVec S16 32) (k0_hw253 : k0_chk253 v410), ∀ a x, ((![v410] : Fin 1 → IVec S16 32) a x).toNat < S4000.size a := fun v410 k0_hw253 => k0_hw253
def k0_off272 (k0_t47 : Fin k0_t47_loop.trips) : Fin 1 → Nat :=
  let c12672_i32_324 : BitVec 32 := 12672#32
  let c0_i32_283 : BitVec 32 := 0#32
  let c1_i32_285 : BitVec 32 := 1#32
  let arg21 : BitVec 32 := Scf.iv c0_i32_283 c1_i32_285 k0_t47
  let c128_i32_323 : BitVec 32 := 128#32
  let v411 : BitVec 32 := Scalar.muli arg21 c128_i32_323
  let c80_i32 : BitVec 32 := 80#32
  let v412 : BitVec 32 := Scalar.addi v411 c80_i32
  let v413 : BitVec 32 := Scalar.addi c12672_i32_324 v412
  let v414 : Index := Scalar.indexCast v413
  ![v414.toNat]

def k0_chk254 (v433 : IVec S16 32) : Prop :=
  (∀ a x, ((![v433] : Fin 1 → IVec S16 32) a x).toNat < S4000.size a)
theorem k0_idx254_inb : ∀ (v433 : IVec S16 32) (k0_hw254 : k0_chk254 v433), ∀ a x, ((![v433] : Fin 1 → IVec S16 32) a x).toNat < S4000.size a := fun v433 k0_hw254 => k0_hw254
def k0_off273 (k0_t47 : Fin k0_t47_loop.trips) : Fin 1 → Nat :=
  let c12672_i32_330 : BitVec 32 := 12672#32
  let c0_i32_283 : BitVec 32 := 0#32
  let c1_i32_285 : BitVec 32 := 1#32
  let arg21 : BitVec 32 := Scf.iv c0_i32_283 c1_i32_285 k0_t47
  let c128_i32_329 : BitVec 32 := 128#32
  let v434 : BitVec 32 := Scalar.muli arg21 c128_i32_329
  let c96_i32 : BitVec 32 := 96#32
  let v435 : BitVec 32 := Scalar.addi v434 c96_i32
  let v436 : BitVec 32 := Scalar.addi c12672_i32_330 v435
  let v437 : Index := Scalar.indexCast v436
  ![v437.toNat]

def k0_chk255 (v456 : IVec S16 32) : Prop :=
  (∀ a x, ((![v456] : Fin 1 → IVec S16 32) a x).toNat < S4000.size a)
theorem k0_idx255_inb : ∀ (v456 : IVec S16 32) (k0_hw255 : k0_chk255 v456), ∀ a x, ((![v456] : Fin 1 → IVec S16 32) a x).toNat < S4000.size a := fun v456 k0_hw255 => k0_hw255
def k0_off274 (k0_t47 : Fin k0_t47_loop.trips) : Fin 1 → Nat :=
  let c12672_i32_336 : BitVec 32 := 12672#32
  let c0_i32_283 : BitVec 32 := 0#32
  let c1_i32_285 : BitVec 32 := 1#32
  let arg21 : BitVec 32 := Scf.iv c0_i32_283 c1_i32_285 k0_t47
  let c128_i32_335 : BitVec 32 := 128#32
  let v457 : BitVec 32 := Scalar.muli arg21 c128_i32_335
  let c112_i32 : BitVec 32 := 112#32
  let v458 : BitVec 32 := Scalar.addi v457 c112_i32
  let v459 : BitVec 32 := Scalar.addi c12672_i32_336 v458
  let v460 : Index := Scalar.indexCast v459
  ![v460.toNat]

def k0_chk256 (v479 : IVec S16 32) : Prop :=
  (∀ a x, ((![v479] : Fin 1 → IVec S16 32) a x).toNat < S4000.size a)
theorem k0_idx256_inb : ∀ (v479 : IVec S16 32) (k0_hw256 : k0_chk256 v479), ∀ a x, ((![v479] : Fin 1 → IVec S16 32) a x).toNat < S4000.size a := fun v479 k0_hw256 => k0_hw256
@[reducible] def k0_t48_loop : Scf.Loop 32 :=
  let c0_i32_288 : BitVec 32 := 0#32
  let c250_i32_289 : BitVec 32 := 250#32
  let v286 : BitVec 32 := Scalar.addi c0_i32_288 c250_i32_289
  let c1_i32_290 : BitVec 32 := 1#32
  ⟨c0_i32_288, v286, c1_i32_290⟩
def k0_off275 (k0_t48 : Fin k0_t48_loop.trips) : Fin 1 → Nat :=
  let c0_i32_288 : BitVec 32 := 0#32
  let c1_i32_290 : BitVec 32 := 1#32
  let arg21 : BitVec 32 := Scf.iv c0_i32_288 c1_i32_290 k0_t48
  let c16_i32_294 : BitVec 32 := 16#32
  let v296 : BitVec 32 := Scalar.muli arg21 c16_i32_294
  let v297 : Index := Scalar.indexCast v296
  ![v297.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== VoteReference.lean ====
abbrev S4325376 : Shape := ⟨1, ![4325376]⟩
abbrev S16384 : Shape := ⟨1, ![16384]⟩
abbrev S1024x4224 : Shape := ⟨2, ![1024, 4224]⟩
abbrev S_ : Shape := ⟨0, ![]⟩
abbrev S1024x16 : Shape := ⟨2, ![1024, 16]⟩
abbrev S1024x1 : Shape := ⟨2, ![1024, 1]⟩
abbrev S1024x4224x1000 : Shape := ⟨3, ![1024, 4224, 1000]⟩
abbrev S1024x4224x1 : Shape := ⟨3, ![1024, 4224, 1]⟩
abbrev S1024x1000 : Shape := ⟨2, ![1024, 1000]⟩
abbrev S1024000 : Shape := ⟨1, ![1024000]⟩

abbrev nBuf : Space → Nat
  | .hbm => 39
  | .vmem => 2
  | .smem => 0
  | _ => 0

abbrev bufTy : (tb : Table) → Fin (tcTables nBuf tb) → BufTy
  | .hbm, ⟨0, _⟩ => ⟨S4325376, .f32⟩
  | .hbm, ⟨1, _⟩ => ⟨S4325376, .i32⟩
  | .hbm, ⟨2, _⟩ => ⟨S16384, .i32⟩
  | .hbm, ⟨3, _⟩ => ⟨S16384, .i32⟩
  | .hbm, ⟨4, _⟩ => ⟨S1024x4224, .f32⟩
  | .hbm, ⟨5, _⟩ => ⟨S1024x4224, .i32⟩
  | .hbm, ⟨6, _⟩ => ⟨S_, .i32⟩
  | .hbm, ⟨7, _⟩ => ⟨S1024x4224, .i32⟩
  | .hbm, ⟨8, _⟩ => ⟨S1024x4224, .i1⟩
  | .hbm, ⟨9, _⟩ => ⟨S_, .i32⟩
  | .hbm, ⟨10, _⟩ => ⟨S1024x4224, .i32⟩
  | .hbm, ⟨11, _⟩ => ⟨S1024x4224, .i32⟩
  | .hbm, ⟨12, _⟩ => ⟨S1024x4224, .i32⟩
  | .hbm, ⟨13, _⟩ => ⟨S1024x4224, .i32⟩
  | .hbm, ⟨14, _⟩ => ⟨S1024x16, .i32⟩
  | .hbm, ⟨15, _⟩ => ⟨S1024x1, .i32⟩
  | .hbm, ⟨16, _⟩ => ⟨S1024x16, .i32⟩
  | .hbm, ⟨17, _⟩ => ⟨S1024x1, .i32⟩
  | .hbm, ⟨18, _⟩ => ⟨S1024x4224, .i32⟩
  | .hbm, ⟨19, _⟩ => ⟨S1024x4224, .i1⟩
  | .hbm, ⟨20, _⟩ => ⟨S1024x4224, .i32⟩
  | .hbm, ⟨21, _⟩ => ⟨S1024x4224, .i1⟩
  | .hbm, ⟨22, _⟩ => ⟨S1024x4224, .i32⟩
  | .hbm, ⟨23, _⟩ => ⟨S1024x4224, .i1⟩
  | .hbm, ⟨24, _⟩ => ⟨S1024x4224, .i1⟩
  | .hbm, ⟨25, _⟩ => ⟨S1024x4224, .i1⟩
  | .hbm, ⟨26, _⟩ => ⟨S1024x4224x1000, .i32⟩
  | .hbm, ⟨27, _⟩ => ⟨S1024x4224x1, .i1⟩
  | .hbm, ⟨28, _⟩ => ⟨S1024x4224, .i32⟩
  | .hbm, ⟨29, _⟩ => ⟨S1024x4224x1, .i32⟩
  | .hbm, ⟨30, _⟩ => ⟨S1024x4224x1000, .i32⟩
  | .hbm, ⟨31, _⟩ => ⟨S1024x4224x1000, .i1⟩
  | .hbm, ⟨32, _⟩ => ⟨S1024x4224x1000, .i1⟩
  | .hbm, ⟨33, _⟩ => ⟨S1024x4224x1000, .i1⟩
  | .hbm, ⟨34, _⟩ => ⟨S1024x4224x1000, .i32⟩
  | .hbm, ⟨35, _⟩ => ⟨S_, .i32⟩
  | .hbm, ⟨36, _⟩ => ⟨S1024x1000, .i32⟩
  | .hbm, ⟨37, _⟩ => ⟨S1024000, .i32⟩
  | .hbm, ⟨38, _⟩ => ⟨S1024000, .f32⟩
  | .local _ .vmem, ⟨0, _⟩ => ⟨S1024000, .i32⟩
  | .local _ .vmem, ⟨1, _⟩ => ⟨S1024000, .f32⟩
  | _, _ => ⟨S4325376, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S1024000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Dist.lean ====
abbrev S1024x128 : Shape := ⟨2, ![1024, 128]⟩
abbrev S100000x128 : Shape := ⟨2, ![100000, 128]⟩
abbrev S_ : Shape := ⟨0, ![]⟩
abbrev S100352x128 : Shape := ⟨2, ![100352, 128]⟩
abbrev S128x100352 : Shape := ⟨2, ![128, 100352]⟩
abbrev S1024x100352 : Shape := ⟨2, ![1024, 100352]⟩
abbrev S1x28x1024x28 : Shape := ⟨4, ![1, 28, 1024, 28]⟩
abbrev S128x3584 : Shape := ⟨2, ![128, 3584]⟩
abbrev S1024x3584 : Shape := ⟨2, ![1024, 3584]⟩
abbrev S1x1x1024x28 : Shape := ⟨4, ![1, 1, 1024, 28]⟩
abbrev S1024 : Shape := ⟨1, ![1024]⟩
abbrev S1024x1 : Shape := ⟨2, ![1024, 1]⟩
abbrev S3584 : Shape := ⟨1, ![3584]⟩
abbrev S1x3584 : Shape := ⟨2, ![1, 3584]⟩
abbrev S1024x28 : Shape := ⟨2, ![1024, 28]⟩

abbrev nBuf : Space → Nat
  | .hbm => 8
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S128x100352, .f32⟩
  | .hbm, ⟨6, _⟩ => ⟨S1024x100352, .f32⟩
  | .hbm, ⟨7, _⟩ => ⟨S1x28x1024x28, .f32⟩
  | .local _ .vmem, ⟨0, _⟩ => ⟨S1024x128, .f32⟩
  | .local _ .vmem, ⟨1, _⟩ => ⟨S128x3584, .f32⟩
  | .local _ .vmem, ⟨2, _⟩ => ⟨S128x3584, .f32⟩
  | .local _ .vmem, ⟨3, _⟩ => ⟨S1024x3584, .f32⟩
  | .local _ .vmem, ⟨4, _⟩ => ⟨S1024x3584, .f32⟩
  | .local _ .vmem, ⟨5, _⟩ => ⟨S1x1x1024x28, .f32⟩
  | .local _ .vmem, ⟨6, _⟩ => ⟨S1x1x1024x28, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DistReferenceIdeal.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S128x100000 : Shape := ⟨2, ![128, 100000]⟩
abbrev S1024x100000 : Shape := ⟨2, ![1024, 100000]⟩
abbrev S1024x100352 : Shape := ⟨2, ![1024, 100352]⟩
abbrev S1024x28x28x128 : Shape := ⟨4, ![1024, 28, 28, 128]⟩
abbrev S1024x28x28 : Shape := ⟨3, ![1024, 28, 28]⟩
abbrev S28x1024x28 : Shape := ⟨3, ![28, 1024, 28]⟩
abbrev S1x28x1024x28 : Shape := ⟨4, ![1, 28, 1024, 28]⟩

abbrev nBuf : Space → Nat
  | .hbm => 27
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S128x100000, .f32⟩
  | .hbm, ⟨11, _⟩ => ⟨S1024x100000, .f32⟩
  | .hbm, ⟨12, _⟩ => ⟨S_, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S_, .f32⟩
  | .hbm, ⟨21, _⟩ => ⟨S1024x100352, .f32⟩
  | .hbm, ⟨22, _⟩ => ⟨S1024x28x28x128, .f32⟩
  | .hbm, ⟨23, _⟩ => ⟨S_, .f32⟩
  | .hbm, ⟨24, _⟩ => ⟨S1024x28x28, .f32⟩
  | .hbm, ⟨25, _⟩ => ⟨S28x1024x28, .f32⟩
  | .hbm, ⟨26, _⟩ => ⟨S1x28x1024x28, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Select.lean ====
abbrev S1024x784 : Shape := ⟨2, ![1024, 784]⟩
abbrev S1024x33 : Shape := ⟨2, ![1024, 33]⟩
abbrev S1024x1 : Shape := ⟨2, ![1024, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S1024x784, .f32⟩
  | .hbm, ⟨1, _⟩ => ⟨S1024x33, .i32⟩
  | .hbm, ⟨2, _⟩ => ⟨S1024x33, .i32⟩
  | .hbm, ⟨3, _⟩ => ⟨S1024x33, .f32⟩
  | .local _ .vmem, ⟨0, _⟩ => ⟨S1024x784, .f32⟩
  | .local _ .vmem, ⟨1, _⟩ => ⟨S1024x33, .i32⟩
  | .local _ .vmem, ⟨2, _⟩ => ⟨S1024x33, .i32⟩
  | .local _ .vmem, ⟨3, _⟩ => ⟨S1024x33, .f32⟩
  | _, _ => ⟨S1024x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x33 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x33 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x33 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SelectReferenceIdeal.lean ====
abbrev S1024x784 : Shape := ⟨2, ![1024, 784]⟩
abbrev S1024x33 : Shape := ⟨2, ![1024, 33]⟩
abbrev S1024 : Shape := ⟨1, ![1024]⟩
abbrev S1024x1 : Shape := ⟨2, ![1024, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1024x784, .f32⟩
  | .hbm, ⟨1, _⟩ => ⟨S1024x784, .f32⟩
  | .hbm, ⟨2, _⟩ => ⟨S1024x33, .f32⟩
  | .hbm, ⟨3, _⟩ => ⟨S1024x33, .i32⟩
  | .hbm, ⟨4, _⟩ => ⟨S1024, .i32⟩
  | .hbm, ⟨5, _⟩ => ⟨S1024x1, .i32⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x33, .i32⟩
  | .hbm, ⟨10, _⟩ => ⟨S1024x33, .i32⟩
  | .hbm, ⟨11, _⟩ => ⟨S1024x33, .f32⟩
  | _, _ => ⟨S1024x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Thresh.lean ====
abbrev S1024x4224 : Shape := ⟨2, ![1024, 4224]⟩
abbrev S1024x33 : Shape := ⟨2, ![1024, 33]⟩
abbrev S1024x16 : Shape := ⟨2, ![1024, 16]⟩
abbrev S128x4224 : Shape := ⟨2, ![128, 4224]⟩
abbrev S128x33 : Shape := ⟨2, ![128, 33]⟩
abbrev S128x16 : Shape := ⟨2, ![128, 16]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S128 : Shape := ⟨1, ![128]⟩

abbrev nBuf : Space → Nat
  | .hbm => 4
  | .vmem => 8
  | .smem => 0
  | _ => 0

abbrev bufTy : (tb : Table) → Fin (tcTables nBuf tb) → BufTy
  | .hbm, ⟨0, _⟩ => ⟨S1024x4224, .f32⟩
  | .hbm, ⟨1, _⟩ => ⟨S1024x33, .f32⟩
  | .hbm, ⟨2, _⟩ => ⟨S1024x16, .i32⟩
  | .hbm, ⟨3, _⟩ => ⟨S1024x16, .i32⟩
  | .local _ .vmem, ⟨0, _⟩ => ⟨S128x4224, .f32⟩
  | .local _ .vmem, ⟨1, _⟩ => ⟨S128x4224, .f32⟩
  | .local _ .vmem, ⟨2, _⟩ => ⟨S128x33, .f32⟩
  | .local _ .vmem, ⟨3, _⟩ => ⟨S128x33, .f32⟩
  | .local _ .vmem, ⟨4, _⟩ => ⟨S128x16, .i32⟩
  | .local _ .vmem, ⟨5, _⟩ => ⟨S128x16, .i32⟩
  | .local _ .vmem, ⟨6, _⟩ => ⟨S128x16, .i32⟩
  | .local _ .vmem, ⟨7, _⟩ => ⟨S128x16, .i32⟩
  | _, _ => ⟨S1024x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ThreshReference.lean ====
abbrev S1024x4224 : Shape := ⟨2, ![1024, 4224]⟩
abbrev S1024x33 : Shape := ⟨2, ![1024, 33]⟩
abbrev S_ : Shape := ⟨0, ![]⟩
abbrev S1024x1 : Shape := ⟨2, ![1024, 1]⟩
abbrev S1024x16 : Shape := ⟨2, ![1024, 16]⟩

abbrev nBuf : Space → Nat
  | .hbm => 26
  | .vmem => 0
  | .smem => 0
  | _ => 0

abbrev bufTy : (tb : Table) → Fin (tcTables nBuf tb) → BufTy
  | .hbm, ⟨0, _⟩ => ⟨S1024x4224, .f32⟩
  | .hbm, ⟨1, _⟩ => ⟨S1024x33, .f32⟩
  | .hbm, ⟨2, _⟩ => ⟨S1024x4224, .i32⟩
  | .hbm, ⟨3, _⟩ => ⟨S_, .i32⟩
  | .hbm, ⟨4, _⟩ => ⟨S1024x4224, .i32⟩
  | .hbm, ⟨5, _⟩ => ⟨S1024x4224, .i1⟩
  | .hbm, ⟨6, _⟩ => ⟨S_, .i32⟩
  | .hbm, ⟨7, _⟩ => ⟨S1024x4224, .i32⟩
  | .hbm, ⟨8, _⟩ => ⟨S1024x4224, .i32⟩
  | .hbm, ⟨9, _⟩ => ⟨S1024x4224, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1024x4224, .i32⟩
  | .hbm, ⟨14, _⟩ => ⟨S1024x4224, .i32⟩
  | .hbm, ⟨15, _⟩ => ⟨S_, .i32⟩
  | .hbm, ⟨16, _⟩ => ⟨S1024x4224, .i32⟩
  | .hbm, ⟨17, _⟩ => ⟨S1024x4224, .i32⟩
  | .hbm, ⟨18, _⟩ => ⟨S1024x4224, .i32⟩
  | .hbm, ⟨19, _⟩ => ⟨S1024x33, .i32⟩
  | .hbm, ⟨20, _⟩ => ⟨S1024x33, .i32⟩
  | .hbm, ⟨21, _⟩ => ⟨S1024x1, .i32⟩
  | .hbm, ⟨22, _⟩ => ⟨S1024x1, .i32⟩
  | .hbm, ⟨23, _⟩ => ⟨S1024x1, .i32⟩
  | .hbm, ⟨24, _⟩ => ⟨S1024x16, .i32⟩
  | .hbm, ⟨25, _⟩ => ⟨S1024x16, .i32⟩
  | _, _ => ⟨S1024x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v6 : Ref sig .tc := ⟨.hbm, 17, rfl⟩
abbrev main_v7 : Ref sig .tc := ⟨.hbm, 18, rfl⟩
abbrev main_values : Ref sig .tc := ⟨.hbm, 19, rfl⟩
abbrev main_indices : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [BitOps F]
-- ==== Proof.GatherBody.lean ====
/-
  The gather kernel's body as eleven chunks over three banks of buffers. A bank is two index lists, two row
  buffers and six semaphores. `fire` fetches a chunk's two index lists and issues its two indirect gathers,
  `mid` waits for them and issues the two copies out, `fin` waits for those.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx Pay tileRest ownBufs ownSems0 ownCells ownRefs mem_ownCells mem_ownRefs)

variable {F : FTy → Type} [FloatOps F]

/-- One of the three sets of buffers and semaphores a tile rotates through. -/
structure Bank where
  ri : Memref sig .scVector .vmem S96 .i32
  hri : ri.IsWhole
  bi : Memref sig .scVector .vmem S96 .i32
  hbi : bi.IsWhole
  rv : Memref sig .scVector .vmem S96x128 .f32
  hrv : rv.IsWhole
  lv : Memref sig .scVector .vmem S96x128 .i32
  hlv : lv.IsWhole
  s0 : DmaSem sig
  s1 : DmaSem sig
  s2 : DmaSem sig
  s3 : DmaSem sig
  s4 : DmaSem sig
  s5 : DmaSem sig
  /-- A row buffer's rows are credited together what the buffer is. -/
  hNr : ∑ j, (rv.slice (S96x128.rowRect gathers_S802816x128_S96x128.axis' j) (S96x128.stride_rowRect gathers_S802816x128_S96x128.axis' j)).view.dmaCredit = rv.view.dmaCredit
  hNl : ∑ j, (lv.slice (S96x128.rowRect gathers_S784x128_S96x128.axis' j) (S96x128.stride_rowRect gathers_S784x128_S96x128.axis' j)).view.dmaCredit = lv.view.dmaCredit

local notation "xV" => (Memref.whole Cert.KernelIdeal.main_arg0_scv : Memref Cert.KernelIdeal.sig Kind.scVector Space.hbm Cert.KernelIdeal.S802816x128 EltTy.f32)
local notation "yV" => (Memref.whole Cert.KernelIdeal.main_arg1_scv : Memref Cert.KernelIdeal.sig Kind.scVector Space.hbm Cert.KernelIdeal.S784x128 EltTy.i32)
local notation "rV" => (Memref.whole Cert.KernelIdeal.main_arg2_scv : Memref Cert.KernelIdeal.sig Kind.scVector Space.hbm Cert.KernelIdeal.S33792 EltTy.i32)
local notation "bV" => (Memref.whole Cert.KernelIdeal.main_arg3_scv : Memref Cert.KernelIdeal.sig Kind.scVector Space.hbm Cert.KernelIdeal.S33792 EltTy.i32)
local notation "oV" => (Memref.whole Cert.KernelIdeal.main_v0_0_scv : Memref Cert.KernelIdeal.sig Kind.scVector Space.hbm Cert.KernelIdeal.S33792x128 EltTy.f32)
local notation "pV" => (Memref.whole Cert.KernelIdeal.main_v0_1_scv : Memref Cert.KernelIdeal.sig Kind.scVector Space.hbm Cert.KernelIdeal.S33792x128 EltTy.i32)

/-- The offset of chunk `r` in a tile's part of the index lists, as the kernel writes it. -/
abbrev cOff (r : Fin 11) : BitVec 32 := BitVec.ofNat 32 (96 * r.val)

/-- Chunk `r` of tile `L` in an index list, and in a result. -/
abbrev iRect (L : grid0.Coords) (r : Fin 11) : Rect S33792 := Rect.unit (s := S33792) (k0_off1 L (cOff r)) S96.size (k0_off1_inb L r)
abbrev oRect (L : grid0.Coords) (r : Fin 11) : Rect S33792x128 := Rect.unit (s := S33792x128) (k0_off2 L (cOff r)) S96x128.size (k0_off2_inb L r)

abbrev rCh (L : grid0.Coords) (r : Fin 11) : Memref sig .scVector .hbm S96 .i32 := (rV).slice (iRect L r) (fun _ => rfl)
abbrev bCh (L : grid0.Coords) (r : Fin 11) : Memref sig .scVector .hbm S96 .i32 := (bV).slice (iRect L r) (fun _ => rfl)
abbrev oCh (L : grid0.Coords) (r : Fin 11) : Memref sig .scVector .hbm S96x128 .f32 := (oV).slice (oRect L r) (fun _ => rfl)
abbrev pCh (L : grid0.Coords) (r : Fin 11) : Memref sig .scVector .hbm S96x128 .i32 := (pV).slice (oRect L r) (fun _ => rfl)
abbrev xAll : Memref sig .scVector .hbm S802816x128 .f32 := (xV).slice (Rect.unit (s := S802816x128) ![0, 0] S802816x128.size inb_S802816x128_S802816x128_0_0) (fun _ => rfl)
abbrev yAll : Memref sig .scVector .hbm S784x128 .i32 := (yV).slice (Rect.unit (s := S784x128) ![0, 0] S784x128.size inb_S784x128_S784x128_0_0) (fun _ => rfl)

/-- A tile's programs. -/
abbrev TP (F : FTy → Type) (L : grid0.Coords) : Type 1 := Prog (TpuEff nD τ sig (Elt F) Λ₀ (.scVector ((L 0).castLE hcore0) ((L 1).castLE hsub0))) PUnit

/-- Fetch chunk `r`'s index lists and issue its gathers. -/
def fire (L : grid0.Coords) (b : Bank) (r : Fin 11) : TP F L := do
  Prog.lift (.enqueueDma (rCh L r) (.here b.ri) (.dma b.s0) (View.wordExact_bits rfl) b.hri.wordExact ⟨Or.inl rfl, trivial⟩)
  Prog.lift (.enqueueDma (bCh L r) (.here b.bi) (.dma b.s1) (View.wordExact_bits rfl) b.hbi.wordExact ⟨Or.inl rfl, trivial⟩)
  Prog.lift (.waitDma2 b.s0 (rCh L r) b.ri (View.wordExact_bits rfl) b.hri.wordExact)
  Prog.lift (.waitDma2 b.s1 (bCh L r) b.bi (View.wordExact_bits rfl) b.hbi.wordExact)
  SparseCore.enqueueIndirectGather rfl xAll b.rv gathers_S802816x128_S96x128 b.ri rfl b.s2 (View.wordExact_bits rfl) rfl (Or.inl rfl)
  SparseCore.enqueueIndirectGather rfl yAll b.lv gathers_S784x128_S96x128 b.bi rfl b.s3 (View.wordExact_bits rfl) rfl (Or.inl rfl)

/-- Wait for chunk `r`'s gathers and issue its copies out. -/
def mid (L : grid0.Coords) (b : Bank) (r : Fin 11) : TP F L := do
  SparseCore.waitIndirectGather b.s2 xAll b.rv (View.wordExact_bits rfl) b.hrv.wordExact
  SparseCore.waitIndirectGather b.s3 yAll b.lv (View.wordExact_bits rfl) b.hlv.wordExact
  Prog.lift (.enqueueDma b.rv (.here (oCh L r)) (.dma b.s4) b.hrv.wordExact (View.wordExact_bits rfl) ⟨Or.inl rfl, trivial⟩)
  Prog.lift (.enqueueDma b.lv (.here (pCh L r)) (.dma b.s5) b.hlv.wordExact (View.wordExact_bits rfl) ⟨Or.inl rfl, trivial⟩)

/-- Wait for chunk `r`'s copies out. -/
def fin (L : grid0.Coords) (b : Bank) (r : Fin 11) : TP F L := do
  Prog.lift (.waitDma2 b.s4 b.rv (oCh L r) b.hrv.wordExact (View.wordExact_bits rfl))
  Prog.lift (.waitDma2 b.s5 b.lv (pCh L r) b.hlv.wordExact (View.wordExact_bits rfl))

/-- The whole body, the next chunk fired on a bank as soon as the bank's last one is out. -/
def body (L : grid0.Coords) (b0 b1 b2 : Bank) : TP F L := do
  fire L b0 0; fire L b1 1; fire L b2 2
  mid L b0 0; fin L b0 0; fire L b0 3
  mid L b1 1; fin L b1 1; fire L b1 4
  mid L b2 2; fin L b2 2; fire L b2 5
  mid L b0 3; fin L b0 3; fire L b0 6
  mid L b1 4; fin L b1 4; fire L b1 7
  mid L b2 5; fin L b2 5; fire L b2 8
  mid L b0 6; fin L b0 6; fire L b0 9
  mid L b1 7; fin L b1 7; fire L b1 10
  mid L b2 8; mid L b0 9; mid L b1 10
  fin L b0 9; fin L b1 10; fin L b2 8

def bank0 : Bank := ⟨Memref.whole cc0_scratch0, Memref.isWhole_whole _, Memref.whole cc0_scratch3, Memref.isWhole_whole _, Memref.whole cc0_scratch6, Memref.isWhole_whole _,
  Memref.whole cc0_scratch9, Memref.isWhole_whole _, cc0_scratch12.sem, cc0_scratch13.sem, cc0_scratch14.sem, cc0_scratch15.sem, cc0_scratch16.sem, cc0_scratch17.sem, by decide, by decide⟩
def bank1 : Bank := ⟨Memref.whole cc0_scratch1, Memref.isWhole_whole _, Memref.whole cc0_scratch4, Memref.isWhole_whole _, Memref.whole cc0_scratch7, Memref.isWhole_whole _,
  Memref.whole cc0_scratch10, Memref.isWhole_whole _, cc0_scratch18.sem, cc0_scratch19.sem, cc0_scratch20.sem, cc0_scratch21.sem, cc0_scratch22.sem, cc0_scratch23.sem, by decide, by decide⟩
def bank2 : Bank := ⟨Memref.whole cc0_scratch2, Memref.isWhole_whole _, Memref.whole cc0_scratch5, Memref.isWhole_whole _, Memref.whole cc0_scratch8, Memref.isWhole_whole _,
  Memref.whole cc0_scratch11, Memref.isWhole_whole _, cc0_scratch24.sem, cc0_scratch25.sem, cc0_scratch26.sem, cc0_scratch27.sem, cc0_scratch28.sem, cc0_scratch29.sem, by decide, by decide⟩

set_option maxRecDepth 65536 in
theorem body_eq (L : grid0.Coords) :
    cc0_gather (F := F) L xV (Memref.isWhole_whole _) yV (Memref.isWhole_whole _) rV (Memref.isWhole_whole _) bV (Memref.isWhole_whole _)
      oV (Memref.isWhole_whole _) pV (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _)
      cc0_scratch12 cc0_scratch13 cc0_scratch14 cc0_scratch15 cc0_scratch16 cc0_scratch17 cc0_scratch18 cc0_scratch19 cc0_scratch20
      cc0_scratch21 cc0_scratch22 cc0_scratch23 cc0_scratch24 cc0_scratch25 cc0_scratch26 cc0_scratch27 cc0_scratch28 cc0_scratch29
    = body (F := F) L bank0 bank1 bank2 := rfl

end Cert.Proof.Gather

end
-- ==== Proof.GatherTile.lean ====
/-
  A tile of the gather kernel: the resources of a bank of buffers when it is idle, when its gathers are in flight
  and when its copies out are, the three steps between them, and the tile's whole run, with the values it leaves.
-/
module

public import proofs.«01_k».proof.Proof.GatherBody

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev yLoc (d : Dev nD) : Loc nD τ sig := (SparseCore.T d).loc main_arg1
abbrev rLoc (d : Dev nD) : Loc nD τ sig := (SparseCore.T d).loc main_arg2
abbrev bLoc (d : Dev nD) : Loc nD τ sig := (SparseCore.T d).loc main_arg3
abbrev oLoc (d : Dev nD) : Loc nD τ sig := (SparseCore.T d).loc main_v0_0
abbrev pLoc (d : Dev nD) : Loc nD τ sig := (SparseCore.T d).loc main_v0_1

/-! ## The results -/

/-- The row of an `n`-row table a word names, the last one for a word out of range. -/
def rowIx (n : ℕ) (hn : 0 < n) (w : BitVec 32) : Fin n := ⟨min w.toNat (n - 1), by omega⟩

theorem rowIx_of_lt {n : ℕ} (hn : 0 < n) {w : BitVec 32} (h : w.toNat < n) : (rowIx n hn w).val = w.toNat := by
  unfold rowIx; simp only; omega

/-- The index of row `i`, column `j`. -/
def ix2 {a b : ℕ} (i : Fin a) (j : Fin b) : (⟨2, ![a, b]⟩ : Shape).Idx := fun k => match k with | 0 => i | 1 => j
/-- The index of entry `i` of a list. -/
def ix1 {a : ℕ} (i : Fin a) : (⟨1, ![a]⟩ : Shape).Idx := fun k => match k with | 0 => i

/-- The gathered distance rows: row `p` is the row of the table the `p`-th index names; -/
def candV (d : Dev nD) : Buf (Elt F) (oLoc d) := fun (p : S33792x128.Idx) =>
  (m (xLoc d) : S802816x128.Idx → Elt F .f32) (ix2 (rowIx 802816 (by decide) ((m (rLoc d) : S33792.Idx → BitVec 32) (ix1 (p 0)))) (p 1))
/-- and the gathered label rows. -/
def clabV (d : Dev nD) : Buf (Elt F) (pLoc d) := fun (p : S33792x128.Idx) =>
  (m (yLoc d) : S784x128.Idx → Elt F .i32) (ix2 (rowIx 784 (by decide) ((m (bLoc d) : S33792.Idx → BitVec 32) (ix1 (p 0)))) (p 1))

/-- What is asked of the launch memory: every index names a row of its table. -/
def PreOK : Prop := ∀ d : Dev nD, (∀ j : S33792.Idx, ((m (rLoc d) : S33792.Idx → BitVec 32) j).toNat < 802816) ∧ (∀ j : S33792.Idx, ((m (bLoc d) : S33792.Idx → BitVec 32) j).toNat < 784)

section Tile

variable (d : Dev nD) (L : grid0.Coords)

abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

/-- Chunk `r`'s index lists as the tile fetches them, and the rows the results hold there. -/
abbrev rW (r : Fin 11) : S96.Idx → Elt F .i32 := (rCh L r).view.read (Elt F) (m (rLoc d))
abbrev bW (r : Fin 11) : S96.Idx → Elt F .i32 := (bCh L r).view.read (Elt F) (m (bLoc d))
abbrev oW (r : Fin 11) : S96x128.Idx → Elt F .f32 := (oCh L r).view.read (Elt F) (candV m d)
abbrev pW (r : Fin 11) : S96x128.Idx → Elt F .i32 := (pCh L r).view.read (Elt F) (clabV m d)

theorem rW_lt (hpre : PreOK m) (r : Fin 11) (j : S96.Idx) : (rW m d L r j).toNat < 802816 := (hpre d).1 _
theorem bW_lt (hpre : PreOK m) (r : Fin 11) (j : S96.Idx) : (bW m d L r j).toNat < 784 := (hpre d).2 _

theorem emb_rCh (r : Fin 11) (j : S96.Idx) : ((rCh L r).view.emb j : S33792.Idx) = (iRect L r).emb j := rfl
theorem emb_oCh (r : Fin 11) (j : S96x128.Idx) : ((oCh L r).view.emb j : S33792x128.Idx) = (oRect L r).emb j := rfl

/-- Entry `j 0` of a chunk's index list is the entry of the list that the chunk's row `j 0` is gathered by. -/
theorem entry_eq (r : Fin 11) (j : S96x128.Idx) (k : Fin S96.numel) (hk : k.val = (j 0).val) :
    (iRect L r).emb (S96.rowMajor.symm k) = (ix1 ((oRect L r).emb j 0) : S33792.Idx) := by
  have hrm : ((S96.rowMajor.symm k) 0).val = (j 0).val := by
    rw [← Shape.rowMajor_val_one, Equiv.apply_symm_apply, hk]
  funext a
  match a with
  | 0 =>
    apply Fin.ext
    have h1 := congrFun (k0_off1_eq L r) 0
    have h2 := congrFun (k0_off2_eq L r) 0
    show k0_off1 L (cOff r) 0 + 1 * ((S96.rowMajor.symm k) 0).val = k0_off2 L (cOff r) 0 + 1 * (j 0).val
    rw [hrm, h1, h2]; rfl

theorem payload_o (hpre : PreOK m) (r : Fin 11) :
    SparseCore.gatherPayload gathers_S802816x128_S96x128 ((xAll).view.read (Elt F) (m (xLoc d))) (SparseCore.rows (rW m d L r) rfl (rW_lt m d L hpre r)) = oW m d L r := by
  funext j
  show (m (xLoc d) : S802816x128.Idx → Elt F .f32) _ = (m (xLoc d) : S802816x128.Idx → Elt F .f32) _
  congr 1
  funext a
  apply Fin.ext
  match a with
  | 0 =>
    have h1 := congrArg Fin.val (Shape.Gathers.idx_axis gathers_S802816x128_S96x128 (SparseCore.rows (rW m d L r) rfl (rW_lt m d L hpre r)) j)
    have h2 : (m (rLoc d) : S33792.Idx → BitVec 32) ((iRect L r).emb (S96.rowMajor.symm ((j 0).cast rfl)))
        = (m (rLoc d) : S33792.Idx → BitVec 32) (ix1 ((oRect L r).emb j 0)) := congrArg _ (entry_eq L r j _ rfl)
    show 0 + 1 * ((gathers_S802816x128_S96x128.idx (SparseCore.rows (rW m d L r) rfl (rW_lt m d L hpre r)) j) 0).val
      = (rowIx 802816 (by decide) ((m (rLoc d) : S33792.Idx → BitVec 32) (ix1 ((oRect L r).emb j 0)))).val
    rw [rowIx_of_lt _ ((hpre d).1 _), ← h2, Nat.zero_add, Nat.one_mul]
    exact h1
  | 1 =>
    have h1 := Shape.Gathers.idx_of_ne gathers_S802816x128_S96x128 (SparseCore.rows (rW m d L r) rfl (rW_lt m d L hpre r)) j 1 (by decide)
    have h2 := congrFun (k0_off2_eq L r) 1
    show 0 + 1 * ((gathers_S802816x128_S96x128.idx (SparseCore.rows (rW m d L r) rfl (rW_lt m d L hpre r)) j) 1).val
      = k0_off2 L (cOff r) 1 + 1 * (j 1).val
    rw [h1, h2]; rfl

theorem payload_p (hpre : PreOK m) (r : Fin 11) :
    SparseCore.gatherPayload gathers_S784x128_S96x128 ((yAll).view.read (Elt F) (m (yLoc d))) (SparseCore.rows (bW m d L r) rfl (bW_lt m d L hpre r)) = pW m d L r := by
  funext j
  show (m (yLoc d) : S784x128.Idx → Elt F .i32) _ = (m (yLoc d) : S784x128.Idx → Elt F .i32) _
  congr 1
  funext a
  apply Fin.ext
  match a with
  | 0 =>
    have h1 := congrArg Fin.val (Shape.Gathers.idx_axis gathers_S784x128_S96x128 (SparseCore.rows (bW m d L r) rfl (bW_lt m d L hpre r)) j)
    have h2 : (m (bLoc d) : S33792.Idx → BitVec 32) ((iRect L r).emb (S96.rowMajor.symm ((j 0).cast rfl)))
        = (m (bLoc d) : S33792.Idx → BitVec 32) (ix1 ((oRect L r).emb j 0)) := congrArg _ (entry_eq L r j _ rfl)
    show 0 + 1 * ((gathers_S784x128_S96x128.idx (SparseCore.rows (bW m d L r) rfl (bW_lt m d L hpre r)) j) 0).val
      = (rowIx 784 (by decide) ((m (bLoc d) : S33792.Idx → BitVec 32) (ix1 ((oRect L r).emb j 0)))).val
    rw [rowIx_of_lt _ ((hpre d).2 _), ← h2, Nat.zero_add, Nat.one_mul]
    exact h1
  | 1 =>
    have h1 := Shape.Gathers.idx_of_ne gathers_S784x128_S96x128 (SparseCore.rows (bW m d L r) rfl (bW_lt m d L hpre r)) j 1 (by decide)
    have h2 := congrFun (k0_off2_eq L r) 1
    show 0 + 1 * ((gathers_S784x128_S96x128.idx (SparseCore.rows (bW m d L r) rfl (bW_lt m d L hpre r)) j) 1).val
      = k0_off2 L (cOff r) 1 + 1 * (j 1).val
    rw [h1, h2]; rfl

variable [FloatOps F]

/-! ## The machine's steps, one at a time -/

/-- What a tile owes, and the waits it has recorded beyond `W`: its own transfers' alone. -/
def owesW (thr : Thread nD τ) (O : CellTallies nD τ sig (HIx 1)) (W : Waits sig (HIx 1)) : sProp 𝕄 :=
  iprop(∃ W', ⌜∀ p ∈ W', p ∈ W ∨ p.2 = none⌝ ∗ owes thr O W')

theorem ret_of {Φ : PUnit → sProp 𝕄} : Φ ⟨⟩ ⊢ wp frame (wpE (defs₀ (F := F)) 𝒱₀ (th d L) none) Set.univ (.ret ⟨⟩) Φ := by
  rw [wp_ret]
  iintro H; imodintro; iexact H

theorem step_dma {sp sp' : Space} {s : Shape} {e : EltTy} {src : Memref sig .scVector sp s e} {dst : Memref sig .scVector sp' s e} {sem : DmaSem sig}
    {hs : src.view.WordExact} {hd : dst.view.WordExact} {ht : DmaTarget.Typed (nD := nD) (p := .scVector (cV L) (jV L)) sp (.dma sem) (.here dst)}
    {Φ : PUnit → sProp 𝕄} {q : PosShare TreeShare} {fs : Buf (Elt F) (src.view.loc (th d L))} {fd : Buf (Elt F) (dst.view.loc (th d L))} (h0 : 0 < s.numel) :
    iprop((src.view.loc (th d L) ↦[src.view.set]{q} fs) ∗ (dst.view.loc (th d L) ↦[dst.view.set]{fullShare} fd) ∗ semVal (th d L, .dma sem) 0)
      ⊢ iprop((Transfers.Flight countersEmb (th d L) (.dma sem) (default : HIx 1) dst.view.dmaCredit
              iprop((dst.view.loc (th d L) ↦[dst.view.set]{fullShare} (dst.view.write (Elt F) fd (src.view.read (Elt F) fs) Finset.univ))
                ∗ (src.view.loc (th d L) ↦[src.view.set]{q} fs)) -∗ Φ ⟨⟩)
          -∗ wp frame (wpE (defs₀ (F := F)) 𝒱₀ (th d L) none) Set.univ (Prog.lift (.enqueueDma src (.here dst) (.dma sem) hs hd ht)) Φ) := by
  have h := Transfers.wp_dmaLocal (defs := defs₀ (F := F)) countersEmb 𝒱₀ (th d L) none (src := src) (via := ReadAs.same) (dst := dst) (sm := .dma sem)
    (hsrc := hs) (hdst := hd) (hsem := ht) (k := fun x => .ret x) (Q := Φ) (q := q) (fs := fs) (fd := fd) (default : HIx 1) dst.view.dmaCredit rfl
    (View.dmaCredit_pos _ h0) (Finset.Subset.refl _)
  iintro H Hk
  iapply h $$ H
  iintro Hf
  iapply ret_of
  iapply Hk
  iexact Hf

theorem step_wait {sp sp' : Space} {s s' : Shape} {e e' : EltTy} {κ' : Kind} {src : Memref sig .scVector sp' s' e'} {dst : Memref sig κ' sp s e} {sem : DmaSem sig}
    {hs : src.view.WordExact} {hd : dst.view.WordExact} {Φ : PUnit → sProp 𝕄} {R : sProp 𝕄}
    {O : CellTallies nD τ sig (HIx 1)} {W : Waits sig (HIx 1)} :
    iprop(Transfers.MayWaits (th d L) (default : HIx 1) O ∗ Transfers.Flight countersEmb (th d L) (.dma sem) (default : HIx 1) dst.view.dmaCredit R ∗ owesW (th d L) O W)
      ⊢ iprop((iprop(R ∗ semVal (th d L, .dma sem) 0 ∗ owesW (th d L) O W) -∗ Φ ⟨⟩)
          -∗ wp frame (wpE (defs₀ (F := F)) 𝒱₀ (th d L) none) Set.univ (Prog.lift (.waitDma2 sem src dst hs hd)) Φ) := by
  unfold owesW
  iintro ⟨Hmw, Hf, %W', %hW, HO⟩ Hk
  iapply (Transfers.wp_waitLocalO (defs := defs₀ (F := F)) countersEmb 𝒱₀ (th d L) none (srcw := src) (dstw := dst) (hsrc := hs) (hdst := hd) (default : HIx 1) rfl) $$ [Hmw Hf HO]
  · isplitl [Hf]; · iexact Hf
    isplitl [HO]; · iexact HO
    iapply (Transfers.MayWaits.elim (SemLoc.dma sem)) $$ Hmw
  iintro ⟨HR, Hv, HO⟩
  iapply ret_of
  iapply Hk
  isplitl [HR]; · iexact HR
  isplitl [Hv]; · iexact Hv
  iexists _; isplitr; swap; · iexact HO
  ipureintro; intro p hp
  rcases Finset.mem_insert.mp hp with hp | hp
  · exact .inr (hp ▸ rfl)
  · exact hW p hp

theorem step_gather {s₀ : Shape} {e : EltTy} {src : Memref sig .scVector .hbm s₀ e} {dst : Memref sig .scVector .vmem S96x128 e} {hg : s₀.Gathers 0 S96x128}
    {offs : Memref sig .scVector .vmem S96 .i32} {hn : S96.numel = S96x128.size hg.axis'} {sem : DmaSem sig}
    {hs : src.view.WordExact} {he : e.bits = 32} {hsp : Space.hbm = .hbm ∨ Space.hbm = .shared} {hr : s₀.StreamRows 0} {Φ : PUnit → sProp 𝕄}
    {q : PosShare TreeShare} {fs : Buf (Elt F) (src.view.loc (th d L))} {fd : Buf (Elt F) (dst.view.loc (th d L))} {fo : Buf (Elt F) (offs.view.loc (th d L))}
    (hN : ∑ j, (dst.slice (S96x128.rowRect hg.axis' j) (S96x128.stride_rowRect hg.axis' j)).view.dmaCredit = dst.view.dmaCredit)
    (w : S96.Idx → Elt F .i32) (hw : offs.view.read (Elt F) fo = w) (hin : ∀ x, (w x).toNat < s₀.size hg.axis) :
    iprop((src.view.loc (th d L) ↦[src.view.set]{q} fs) ∗ (dst.view.loc (th d L) ↦[dst.view.set]{fullShare} fd)
        ∗ (offs.view.loc (th d L) ↦[offs.view.set]{fullShare} fo) ∗ semVal (th d L, .dma sem) 0)
      ⊢ iprop((Transfers.Flight countersEmb (th d L) (.dma sem) (default : HIx 1) dst.view.dmaCredit
                iprop((dst.view.loc (th d L) ↦[dst.view.set]{fullShare}
                        (dst.view.write (Elt F) fd (SparseCore.gatherPayload hg (src.view.read (Elt F) fs) (SparseCore.rows w hn hin)) Finset.univ))
                  ∗ (src.view.loc (th d L) ↦[src.view.set]{q} fs) ∗ (offs.view.loc (th d L) ↦[offs.view.set]{fullShare} fo)) -∗ Φ ⟨⟩)
          -∗ wp frame (wpE (defs₀ (F := F)) 𝒱₀ (th d L) none) Set.univ (SparseCore.enqueueIndirectGather rfl src dst hg offs hn sem hs he hsp hr) Φ) := by
  subst hw
  have h := SparseCore.wp_indirectGatherLocal (defs := defs₀ (F := F)) countersEmb 𝒱₀ (th d L) none (src := src) (dst := dst) (hg := hg) (offs := offs) (hn := hn) (sem := sem)
    (hp := rfl) (hsrc := hs) (he := he) (hsp := hsp) (hr := hr) (k := fun x => .ret x) (Q := Φ) (q := q) (qo := fullShare) (fs := fs) (fd := fd) (fo := fo)
    (default : HIx 1) dst.view.dmaCredit hN (by decide) hin
  iintro H Hk
  iapply h $$ H
  iintro Hf
  iapply ret_of
  iapply Hk
  iexact Hf

/-! ## A bank of buffers -/

variable (b : Bank) (q : PosShare TreeShare)

abbrev ptsRi (f : Buf (Elt F) (b.ri.view.loc (th d L))) : sProp 𝕄 := b.ri.view.loc (th d L) ↦[b.ri.view.set]{fullShare} f
abbrev ptsBi (f : Buf (Elt F) (b.bi.view.loc (th d L))) : sProp 𝕄 := b.bi.view.loc (th d L) ↦[b.bi.view.set]{fullShare} f
abbrev ptsRv (f : Buf (Elt F) (b.rv.view.loc (th d L))) : sProp 𝕄 := b.rv.view.loc (th d L) ↦[b.rv.view.set]{fullShare} f
abbrev ptsLv (f : Buf (Elt F) (b.lv.view.loc (th d L))) : sProp 𝕄 := b.lv.view.loc (th d L) ↦[b.lv.view.set]{fullShare} f
abbrev ptsX : sProp 𝕄 := (xAll).view.loc (th d L) ↦[(xAll).view.set]{q} m (xLoc d)
abbrev ptsY : sProp 𝕄 := (yAll).view.loc (th d L) ↦[(yAll).view.set]{q} m (yLoc d)
abbrev ptsR : sProp 𝕄 := rLoc d ↦{q} m (rLoc d)
abbrev ptsB : sProp 𝕄 := bLoc d ↦{q} m (bLoc d)
abbrev ptsO (r : Fin 11) (f : Buf (Elt F) (oLoc d)) : sProp 𝕄 := (oCh L r).view.loc (th d L) ↦[(oCh L r).view.set]{fullShare} f
abbrev ptsP (r : Fin 11) (f : Buf (Elt F) (pLoc d)) : sProp 𝕄 := (pCh L r).view.loc (th d L) ↦[(pCh L r).view.set]{fullShare} f
abbrev sv (s : DmaSem sig) : sProp 𝕄 := semVal (th d L, .dma s) 0

/-- The bank at rest: its buffers, its semaphores at zero, its shares of the two tables. -/
def Idle : sProp 𝕄 :=
  iprop((∃ f, ptsRi d L b f) ∗ (∃ f, ptsBi d L b f) ∗ (∃ f, ptsRv d L b f) ∗ (∃ f, ptsLv d L b f)
    ∗ sv d L b.s0 ∗ sv d L b.s1 ∗ sv d L b.s2 ∗ sv d L b.s3 ∗ sv d L b.s4 ∗ sv d L b.s5 ∗ ptsX m d L q ∗ ptsY m d L q)

/-- Its gathers of chunk `r` in flight. -/
def Loading (r : Fin 11) : sProp 𝕄 :=
  iprop((∃ fd fo, Transfers.Flight countersEmb (th d L) (.dma b.s2) (default : HIx 1) b.rv.view.dmaCredit
          iprop(ptsRv d L b (b.rv.view.write (Elt F) fd (oW m d L r) Finset.univ) ∗ ptsX m d L q ∗ ptsRi d L b fo))
    ∗ (∃ fd fo, Transfers.Flight countersEmb (th d L) (.dma b.s3) (default : HIx 1) b.lv.view.dmaCredit
          iprop(ptsLv d L b (b.lv.view.write (Elt F) fd (pW m d L r) Finset.univ) ∗ ptsY m d L q ∗ ptsBi d L b fo))
    ∗ sv d L b.s0 ∗ sv d L b.s1 ∗ sv d L b.s4 ∗ sv d L b.s5)

/-- Its copies out of chunk `r` in flight. -/
def Storing (r : Fin 11) : sProp 𝕄 :=
  iprop((∃ f g, Transfers.Flight countersEmb (th d L) (.dma b.s4) (default : HIx 1) (oCh L r).view.dmaCredit
          iprop(ptsO d L r ((oCh L r).view.write (Elt F) f (oW m d L r) Finset.univ) ∗ ptsRv d L b g))
    ∗ (∃ f g, Transfers.Flight countersEmb (th d L) (.dma b.s5) (default : HIx 1) (pCh L r).view.dmaCredit
          iprop(ptsP d L r ((pCh L r).view.write (Elt F) f (pW m d L r) Finset.univ) ∗ ptsLv d L b g))
    ∗ (∃ f, ptsRi d L b f) ∗ (∃ f, ptsBi d L b f)
    ∗ sv d L b.s0 ∗ sv d L b.s1 ∗ sv d L b.s2 ∗ sv d L b.s3 ∗ ptsX m d L q ∗ ptsY m d L q)

theorem out_o (r : Fin 11) (f : Buf (Elt F) (oLoc d)) : ptsO d L r ((oCh L r).view.write (Elt F) f (oW m d L r) Finset.univ) ⊢ (ptsO d L r (candV m d) : sProp 𝕄) := by
  refine Entails.of_eq (pointsTo_congr fun i hi => ?_)
  obtain ⟨j, -, rfl⟩ := Finset.mem_map.mp hi
  rw [View.write_emb_of_mem _ _ (Finset.mem_univ j)]; rfl
theorem out_p (r : Fin 11) (f : Buf (Elt F) (pLoc d)) : ptsP d L r ((pCh L r).view.write (Elt F) f (pW m d L r) Finset.univ) ⊢ (ptsP d L r (clabV m d) : sProp 𝕄) := by
  refine Entails.of_eq (pointsTo_congr fun i hi => ?_)
  obtain ⟨j, -, rfl⟩ := Finset.mem_map.mp hi
  rw [View.write_emb_of_mem _ _ (Finset.mem_univ j)]; rfl

variable {b q} {O : CellTallies nD τ sig (HIx 1)} {W : Waits sig (HIx 1)} {qr qb : PosShare TreeShare}

local notation "WP" => wp frame (wpE (defs₀ (F := F)) 𝒱₀ (th d L) none) Set.univ

theorem fire_spec {Φ : PUnit → sProp 𝕄} (hpre : PreOK m) (r : Fin 11) :
    iprop(Transfers.MayWaits (th d L) (default : HIx 1) O ∗ Idle m d L b q ∗ ptsR m d qr ∗ ptsB m d qb ∗ owesW (th d L) O W
        ∗ ((Loading m d L b q r ∗ ptsR m d qr ∗ ptsB m d qb ∗ owesW (th d L) O W) -∗ Φ ⟨⟩))
      ⊢ WP (fire L b r) Φ := by
  unfold Idle
  simp only [fire, wp_bind]
  iintro ⟨#Hmw, ⟨⟨%fr, Hri⟩, ⟨%fb, Hbi⟩, ⟨%fv, Hrv⟩, ⟨%fl, Hlv⟩, S0, S1, S2, S3, S4, S5, Hx, Hy⟩, HR, HB, HO, Hk⟩
  ihave HR := (pointsTo_split_subset (q := qr) (f := m (rLoc d)) (S := Finset.univ) (Finset.subset_univ (rCh L r).view.set)).1 $$ HR
  icases HR with ⟨HR, HRr⟩
  ihave HB := (pointsTo_split_subset (q := qb) (f := m (bLoc d)) (S := Finset.univ) (Finset.subset_univ (bCh L r).view.set)).1 $$ HB
  icases HB with ⟨HB, HBr⟩
  iapply (step_dma d L (src := rCh L r) (dst := b.ri) (fs := m (rLoc d)) (fd := fr) (by decide)) $$ [HR Hri S0]
  · isplitl [HR]; · iexact HR
    isplitl [Hri]; · iexact Hri
    iexact S0
  iintro Hf0
  iapply (step_dma d L (src := bCh L r) (dst := b.bi) (fs := m (bLoc d)) (fd := fb) (by decide)) $$ [HB Hbi S1]
  · isplitl [HB]; · iexact HB
    isplitl [Hbi]; · iexact Hbi
    iexact S1
  iintro Hf1
  iapply (step_wait d L) $$ [Hf0 HO]
  · isplitr; · iexact Hmw
    isplitl [Hf0]; · iexact Hf0
    iexact HO
  iintro ⟨⟨Hri, HR⟩, S0, HO⟩
  iapply (step_wait d L) $$ [Hf1 HO]
  · isplitr; · iexact Hmw
    isplitl [Hf1]; · iexact Hf1
    iexact HO
  iintro ⟨⟨Hbi, HB⟩, S1, HO⟩
  iapply (step_gather d L b.hNr (rW m d L r) (View.read_write_univ _ _) (rW_lt m d L hpre r)) $$ [Hx Hrv Hri S2]
  · isplitl [Hx]; · iexact Hx
    isplitl [Hrv]; · iexact Hrv
    isplitl [Hri]; · iexact Hri
    iexact S2
  rw [payload_o m d L hpre r]
  iintro Hf2
  iapply (step_gather d L b.hNl (bW m d L r) (View.read_write_univ _ _) (bW_lt m d L hpre r)) $$ [Hy Hlv Hbi S3]
  · isplitl [Hy]; · iexact Hy
    isplitl [Hlv]; · iexact Hlv
    isplitl [Hbi]; · iexact Hbi
    iexact S3
  rw [payload_p m d L hpre r]
  iintro Hf3
  iapply Hk
  unfold Loading
  isplitl [Hf2 Hf3 S0 S1 S4 S5]
  · isplitl [Hf2]; · iexists _; iexists _; iexact Hf2
    isplitl [Hf3]; · iexists _; iexists _; iexact Hf3
    isplitl [S0]; · iexact S0
    isplitl [S1]; · iexact S1
    isplitl [S4]; · iexact S4
    iexact S5
  isplitl [HR HRr]
  · iapply (pointsTo_split_subset (q := qr) (f := m (rLoc d)) (S := Finset.univ) (Finset.subset_univ (rCh L r).view.set)).2
    isplitl [HR]; · iexact HR
    iexact HRr
  isplitl [HB HBr]
  · iapply (pointsTo_split_subset (q := qb) (f := m (bLoc d)) (S := Finset.univ) (Finset.subset_univ (bCh L r).view.set)).2
    isplitl [HB]; · iexact HB
    iexact HBr
  iexact HO

theorem mid_spec {Φ : PUnit → sProp 𝕄} (r : Fin 11) :
    iprop(Transfers.MayWaits (th d L) (default : HIx 1) O ∗ Loading m d L b q r ∗ (ptsO d L r (m (oLoc d)) ∗ ptsP d L r (m (pLoc d))) ∗ owesW (th d L) O W
        ∗ ((Storing m d L b q r ∗ owesW (th d L) O W) -∗ Φ ⟨⟩))
      ⊢ WP (mid L b r) Φ := by
  unfold Loading
  simp only [mid, wp_bind]
  iintro ⟨#Hmw, ⟨⟨%f2, %f2o, Hf2⟩, ⟨%f3, %f3o, Hf3⟩, S0, S1, S4, S5⟩, ⟨Ho, Hp⟩, HO, Hk⟩
  iapply (step_wait d L) $$ [Hf2 HO]
  · isplitr; · iexact Hmw
    isplitl [Hf2]; · iexact Hf2
    iexact HO
  iintro ⟨⟨Hrv, Hx, Hri⟩, S2, HO⟩
  iapply (step_wait d L) $$ [Hf3 HO]
  · isplitr; · iexact Hmw
    isplitl [Hf3]; · iexact Hf3
    iexact HO
  iintro ⟨⟨Hlv, Hy, Hbi⟩, S3, HO⟩
  iapply (step_dma d L (src := b.rv) (dst := oCh L r) (fd := m (oLoc d)) (by decide)) $$ [Hrv Ho S4]
  · isplitl [Hrv]; · iexact Hrv
    isplitl [Ho]; · iexact Ho
    iexact S4
  rw [View.read_write_univ]
  iintro Hf4
  iapply (step_dma d L (src := b.lv) (dst := pCh L r) (fd := m (pLoc d)) (by decide)) $$ [Hlv Hp S5]
  · isplitl [Hlv]; · iexact Hlv
    isplitl [Hp]; · iexact Hp
    iexact S5
  rw [View.read_write_univ]
  iintro Hf5
  iapply Hk
  unfold Storing
  isplitr [HO]; swap; · iexact HO
  isplitl [Hf4]; · iexists _; iexists _; iexact Hf4
  isplitl [Hf5]; · iexists _; iexists _; iexact Hf5
  isplitl [Hri]; · iexists _; iexact Hri
  isplitl [Hbi]; · iexists _; iexact Hbi
  isplitl [S0]; · iexact S0
  isplitl [S1]; · iexact S1
  isplitl [S2]; · iexact S2
  isplitl [S3]; · iexact S3
  isplitl [Hx]; · iexact Hx
  iexact Hy

theorem fin_spec {Φ : PUnit → sProp 𝕄} (r : Fin 11) :
    iprop(Transfers.MayWaits (th d L) (default : HIx 1) O ∗ Storing m d L b q r ∗ owesW (th d L) O W
        ∗ ((Idle m d L b q ∗ (ptsO d L r (candV m d) ∗ ptsP d L r (clabV m d)) ∗ owesW (th d L) O W) -∗ Φ ⟨⟩))
      ⊢ WP (fin L b r) Φ := by
  unfold Storing
  simp only [fin, wp_bind]
  iintro ⟨#Hmw, ⟨⟨%f4, %g4, Hf4⟩, ⟨%f5, %g5, Hf5⟩, Hri, Hbi, S0, S1, S2, S3, Hx, Hy⟩, HO, Hk⟩
  iapply (step_wait d L) $$ [Hf4 HO]
  · isplitr; · iexact Hmw
    isplitl [Hf4]; · iexact Hf4
    iexact HO
  iintro ⟨⟨Ho, Hrv⟩, S4, HO⟩
  iapply (step_wait d L) $$ [Hf5 HO]
  · isplitr; · iexact Hmw
    isplitl [Hf5]; · iexact Hf5
    iexact HO
  iintro ⟨⟨Hp, Hlv⟩, S5, HO⟩
  iapply Hk
  unfold Idle
  isplitr [HO Ho Hp]
  · isplitl [Hri]; · iexact Hri
    isplitl [Hbi]; · iexact Hbi
    isplitl [Hrv]; · iexists _; iexact Hrv
    isplitl [Hlv]; · iexists _; iexact Hlv
    isplitl [S0]; · iexact S0
    isplitl [S1]; · iexact S1
    isplitl [S2]; · iexact S2
    isplitl [S3]; · iexact S3
    isplitl [S4]; · iexact S4
    isplitl [S5]; · iexact S5
    isplitl [Hx]; · iexact Hx
    iexact Hy
  isplitl [Ho Hp]
  · isplitl [Ho]; · iapply (out_o m d L r _); iexact Ho
    iapply (out_p m d L r _); iexact Hp
  iexact HO

/-! ## The tile's run -/

/-- What every step is handed and hands back: the evidence for waits, the index lists, what the tile owes. -/
def Env (O : CellTallies nD τ sig (HIx 1)) (W : Waits sig (HIx 1)) (q : PosShare TreeShare) : sProp 𝕄 :=
  iprop(Transfers.MayWaits (th d L) (default : HIx 1) O ∗ ptsR m d q ∗ ptsB m d q ∗ owesW (th d L) O W)

/-- Chunk `r` of the two results, as the launch leaves them and as the tile does. -/
def chIn (r : Fin 11) : sProp 𝕄 := iprop(ptsO d L r (m (oLoc d)) ∗ ptsP d L r (m (pLoc d)))
def chOut (r : Fin 11) : sProp 𝕄 := iprop(ptsO d L r (candV m d) ∗ ptsP d L r (clabV m d))

theorem fire_env {Φ : PUnit → sProp 𝕄} (hpre : PreOK m) (r : Fin 11) :
    iprop(Env m d L O W qr ∗ Idle m d L b q) ⊢ iprop((iprop(Env m d L O W qr ∗ Loading m d L b q r) -∗ Φ ⟨⟩) -∗ WP (fire L b r) Φ) := by
  unfold Env
  iintro ⟨⟨#Hmw, HR, HB, HO⟩, HI⟩ Hk
  iapply (fire_spec m d L hpre r (O := O) (W := W) (q := q) (qr := qr) (qb := qr))
  isplitr; · iexact Hmw
  isplitl [HI]; · iexact HI
  isplitl [HR]; · iexact HR
  isplitl [HB]; · iexact HB
  isplitl [HO]; · iexact HO
  iintro ⟨HL, HR, HB, HO⟩
  iapply Hk
  isplitr [HL]; swap; · iexact HL
  isplitr; · iexact Hmw
  isplitl [HR]; · iexact HR
  isplitl [HB]; · iexact HB
  iexact HO

theorem mid_env {Φ : PUnit → sProp 𝕄} (r : Fin 11) :
    iprop(Env m d L O W qr ∗ Loading m d L b q r ∗ chIn m d L r) ⊢ iprop((iprop(Env m d L O W qr ∗ Storing m d L b q r) -∗ Φ ⟨⟩) -∗ WP (mid L b r) Φ) := by
  unfold Env chIn
  iintro ⟨⟨#Hmw, HR, HB, HO⟩, HL, HC⟩ Hk
  iapply (mid_spec m d L r (O := O) (W := W) (q := q))
  isplitr; · iexact Hmw
  isplitl [HL]; · iexact HL
  isplitl [HC]; · iexact HC
  isplitl [HO]; · iexact HO
  iintro ⟨HS, HO⟩
  iapply Hk
  isplitr [HS]; swap; · iexact HS
  isplitr; · iexact Hmw
  isplitl [HR]; · iexact HR
  isplitl [HB]; · iexact HB
  iexact HO

theorem fin_env {Φ : PUnit → sProp 𝕄} (r : Fin 11) :
    iprop(Env m d L O W qr ∗ Storing m d L b q r) ⊢ iprop((iprop(Env m d L O W qr ∗ Idle m d L b q ∗ chOut m d L r) -∗ Φ ⟨⟩) -∗ WP (fin L b r) Φ) := by
  unfold Env chOut
  iintro ⟨⟨#Hmw, HR, HB, HO⟩, HS⟩ Hk
  iapply (fin_spec m d L r (O := O) (W := W) (q := q))
  isplitr; · iexact Hmw
  isplitl [HS]; · iexact HS
  isplitl [HO]; · iexact HO
  iintro ⟨HI, HC, HO⟩
  iapply Hk
  isplitr [HI HC]
  · isplitr; · iexact Hmw
    isplitl [HR]; · iexact HR
    isplitl [HB]; · iexact HB
    iexact HO
  isplitl [HI]; · iexact HI
  iexact HC

/-- One turn of a bank: chunk `r` out, chunk `r'` fired. -/
theorem turn_env {Φ : PUnit → sProp 𝕄} (hpre : PreOK m) (r r' : Fin 11) :
    iprop(Env m d L O W qr ∗ Loading m d L b q r ∗ chIn m d L r)
      ⊢ iprop((iprop(Env m d L O W qr ∗ Loading m d L b q r' ∗ chOut m d L r) -∗ Φ ⟨⟩) -∗ WP (mid L b r) (fun _ => WP (fin L b r) (fun _ => WP (fire L b r') Φ))) := by
  iintro H Hk
  iapply (mid_env m d L r) $$ H
  iintro H
  iapply (fin_env m d L r) $$ H
  iintro ⟨HE, HI, HC⟩
  iapply (fire_env m d L hpre r') $$ [HE HI]
  · isplitl [HE]; · iexact HE
    iexact HI
  iintro ⟨HE, HL⟩
  iapply Hk
  isplitl [HE]; · iexact HE
  isplitl [HL]; · iexact HL
  iexact HC

/-- The eleven chunks, one by one. -/
theorem chunks_eq (Ψ : Fin 11 → sProp 𝕄) :
    bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10) := by
  rw [show (Finset.univ : Finset (Fin 11)) = {0, 1, 2, 3, 4, 5, 6, 7, 8, 9, 10} by decide]
  iterate 10 rw [SparseCore.bigSep_insert' (by decide)]
  rw [bigSep_singleton]

theorem body_spec {b0 b1 b2 : Bank} {q0 q1 q2 : PosShare TreeShare} {Φ : PUnit → sProp 𝕄} (hpre : PreOK m) :
    iprop(Env m d L O W qr ∗ Idle m d L b0 q0 ∗ Idle m d L b1 q1 ∗ Idle m d L b2 q2 ∗ bigSep Finset.univ (chIn m d L))
      ⊢ iprop((iprop(Env m d L O W qr ∗ Idle m d L b0 q0 ∗ Idle m d L b1 q1 ∗ Idle m d L b2 q2 ∗ bigSep Finset.univ (chOut m d L)) -∗ Φ ⟨⟩)
          -∗ WP (body L b0 b1 b2) Φ) := by
  rw [chunks_eq, chunks_eq]
  simp only [body, wp_bind]
  iintro ⟨E, B0, B1, B2, C0, C1, C2, C3, C4, C5, C6, C7, C8, C9, Ca⟩ Hk
  iapply (fire_env m d L hpre 0) $$ [E B0]; · isplitl [E] <;> iassumption
  iintro ⟨E, B0⟩
  iapply (fire_env m d L hpre 1) $$ [E B1]; · isplitl [E] <;> iassumption
  iintro ⟨E, B1⟩
  iapply (fire_env m d L hpre 2) $$ [E B2]; · isplitl [E] <;> iassumption
  iintro ⟨E, B2⟩
  iapply (turn_env m d L hpre 0 3) $$ [E B0 C0]; · isplitl [E]; · iexact E
                                                   isplitl [B0] <;> iassumption
  iintro ⟨E, B0, C0⟩
  iapply (turn_env m d L hpre 1 4) $$ [E B1 C1]; · isplitl [E]; · iexact E
                                                   isplitl [B1] <;> iassumption
  iintro ⟨E, B1, C1⟩
  iapply (turn_env m d L hpre 2 5) $$ [E B2 C2]; · isplitl [E]; · iexact E
                                                   isplitl [B2] <;> iassumption
  iintro ⟨E, B2, C2⟩
  iapply (turn_env m d L hpre 3 6) $$ [E B0 C3]; · isplitl [E]; · iexact E
                                                   isplitl [B0] <;> iassumption
  iintro ⟨E, B0, C3⟩
  iapply (turn_env m d L hpre 4 7) $$ [E B1 C4]; · isplitl [E]; · iexact E
                                                   isplitl [B1] <;> iassumption
  iintro ⟨E, B1, C4⟩
  iapply (turn_env m d L hpre 5 8) $$ [E B2 C5]; · isplitl [E]; · iexact E
                                                   isplitl [B2] <;> iassumption
  iintro ⟨E, B2, C5⟩
  iapply (turn_env m d L hpre 6 9) $$ [E B0 C6]; · isplitl [E]; · iexact E
                                                   isplitl [B0] <;> iassumption
  iintro ⟨E, B0, C6⟩
  iapply (turn_env m d L hpre 7 10) $$ [E B1 C7]; · isplitl [E]; · iexact E
                                                    isplitl [B1] <;> iassumption
  iintro ⟨E, B1, C7⟩
  iapply (mid_env m d L 8) $$ [E B2 C8]; · isplitl [E]; · iexact E
                                           isplitl [B2] <;> iassumption
  iintro ⟨E, B2⟩
  iapply (mid_env m d L 9) $$ [E B0 C9]; · isplitl [E]; · iexact E
                                           isplitl [B0] <;> iassumption
  iintro ⟨E, B0⟩
  iapply (mid_env m d L 10) $$ [E B1 Ca]; · isplitl [E]; · iexact E
                                            isplitl [B1] <;> iassumption
  iintro ⟨E, B1⟩
  iapply (fin_env m d L 9) $$ [E B0]; · isplitl [E] <;> iassumption
  iintro ⟨E, B0, C9⟩
  iapply (fin_env m d L 10) $$ [E B1]; · isplitl [E] <;> iassumption
  iintro ⟨E, B1, Ca⟩
  iapply (fin_env m d L 8) $$ [E B2]; · isplitl [E] <;> iassumption
  iintro ⟨E, B2, C8⟩
  iapply Hk
  isplitl [E]; · iexact E
  isplitl [B0]; · iexact B0
  isplitl [B1]; · iexact B1
  isplitl [B2]; · iexact B2
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  iexact Ca

end Tile

end Cert.Proof.Gather

end
-- ==== Proof.GatherRun.lean ====
/-
  The gather kernel's launch: a tile's scratch buffers and semaphores told apart into the three banks, the arrays
  dealt out to the thirty-two tiles, and the program's run with the two results' values.
-/
module

public import proofs.«01_k».proof.Proof.GatherTile
public import Idealize.ShloMosaic.Lib.SparseCore.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## A tile's scratch, bank by bank -/

/-- The banks' buffers and semaphores, in the order a bank lists them. -/
def bankRef : Fin 3 × Fin 4 → Ref sig .scVector := fun k =>
  (![![cc0_scratch0, cc0_scratch3, cc0_scratch6, cc0_scratch9], ![cc0_scratch1, cc0_scratch4, cc0_scratch7, cc0_scratch10],
    ![cc0_scratch2, cc0_scratch5, cc0_scratch8, cc0_scratch11]] k.1) k.2
def bankSem : Fin 3 × Fin 6 → SemLoc sig := fun k => .dma
  ((![![cc0_scratch12.sem, cc0_scratch13.sem, cc0_scratch14.sem, cc0_scratch15.sem, cc0_scratch16.sem, cc0_scratch17.sem],
    ![cc0_scratch18.sem, cc0_scratch19.sem, cc0_scratch20.sem, cc0_scratch21.sem, cc0_scratch22.sem, cc0_scratch23.sem],
    ![cc0_scratch24.sem, cc0_scratch25.sem, cc0_scratch26.sem, cc0_scratch27.sem, cc0_scratch28.sem, cc0_scratch29.sem]] k.1) k.2)

theorem bankRef_inj : Function.Injective bankRef := by decide
theorem bankSem_inj : Function.Injective bankSem := by decide
theorem bankSem_scoped : ∀ k, (bankSem k).isScoped .scVector = true := by decide

theorem three_eq (Ψ : Fin 3 → sProp 𝕄) : bigSep Finset.univ Ψ = iprop(Ψ 0 ∗ Ψ 1 ∗ Ψ 2) := by
  rw [show (Finset.univ : Finset (Fin 3)) = {0, 1, 2} by decide]
  iterate 2 rw [SparseCore.bigSep_insert' (by decide)]
  rw [bigSep_singleton]
theorem four_eq (Ψ : Fin 4 → sProp 𝕄) : bigSep Finset.univ Ψ = iprop(Ψ 0 ∗ Ψ 1 ∗ Ψ 2 ∗ Ψ 3) := by
  rw [show (Finset.univ : Finset (Fin 4)) = {0, 1, 2, 3} by decide]
  iterate 3 rw [SparseCore.bigSep_insert' (by decide)]
  rw [bigSep_singleton]
theorem six_eq (Ψ : Fin 6 → sProp 𝕄) : bigSep Finset.univ Ψ = iprop(Ψ 0 ∗ Ψ 1 ∗ Ψ 2 ∗ Ψ 3 ∗ Ψ 4 ∗ Ψ 5) := by
  rw [show (Finset.univ : Finset (Fin 6)) = {0, 1, 2, 3, 4, 5} by decide]
  iterate 5 rw [SparseCore.bigSep_insert' (by decide)]
  rw [bigSep_singleton]

/-- A family's members that a one-to-one function names, and the others. -/
theorem named_split {I J : Type} [DecidableEq I] [DecidableEq J] {s : Finset I} {t : Finset J} (f : J → I) (inj : Function.Injective f)
    (sub : ∀ j, f j ∈ s) (Φ : I → sProp 𝕄) :
    bigSep s Φ = iprop(bigSep t (fun j => Φ (f j)) ∗ bigSep (s \ t.image f) Φ) := by
  have h : t.image f ⊆ s := fun x hx => by obtain ⟨j, -, rfl⟩ := Finset.mem_image.mp hx; exact sub j
  rw [SparseCore.bigSep_sdiff_split' h, SparseCore.bigSep_image_of_injOn inj.injOn]

section Tile

variable (d : Dev nD) (L : grid0.Coords)

/-- A bank's buffers, whatever they hold, and its semaphores at zero. -/
def bufsOf (b : Bank) : sProp 𝕄 :=
  iprop((∃ f, b.ri.view.loc (th d L) ↦{fullShare} f) ∗ (∃ f, b.bi.view.loc (th d L) ↦{fullShare} f)
    ∗ (∃ f, b.rv.view.loc (th d L) ↦{fullShare} f) ∗ (∃ f, b.lv.view.loc (th d L) ↦{fullShare} f))
def semsOf (b : Bank) : sProp 𝕄 := iprop(sv d L b.s0 ∗ sv d L b.s1 ∗ sv d L b.s2 ∗ sv d L b.s3 ∗ sv d L b.s4 ∗ sv d L b.s5)

theorem idle_in (b : Bank) (q : PosShare TreeShare) :
    iprop(bufsOf d L b ∗ semsOf d L b ∗ ptsX m d L q ∗ ptsY m d L q) ⊢ (Idle m d L b q : sProp 𝕄) := by
  unfold Idle bufsOf semsOf ptsRi ptsBi ptsRv ptsLv
  rw [b.hri.set_eq_univ, b.hbi.set_eq_univ, b.hrv.set_eq_univ, b.hlv.set_eq_univ]
  iintro ⟨⟨A, B, C, D⟩, ⟨S0, S1, S2, S3, S4, S5⟩, X, Y⟩
  isplitl [A]; · iexact A
  isplitl [B]; · iexact B
  isplitl [C]; · iexact C
  isplitl [D]; · iexact D
  isplitl [S0]; · iexact S0
  isplitl [S1]; · iexact S1
  isplitl [S2]; · iexact S2
  isplitl [S3]; · iexact S3
  isplitl [S4]; · iexact S4
  isplitl [S5]; · iexact S5
  isplitl [X]; · iexact X
  iexact Y
theorem idle_out (b : Bank) (q : PosShare TreeShare) :
    (Idle m d L b q : sProp 𝕄) ⊢ iprop(bufsOf d L b ∗ semsOf d L b ∗ ptsX m d L q ∗ ptsY m d L q) := by
  unfold Idle bufsOf semsOf ptsRi ptsBi ptsRv ptsLv
  rw [b.hri.set_eq_univ, b.hbi.set_eq_univ, b.hrv.set_eq_univ, b.hlv.set_eq_univ]
  iintro ⟨A, B, C, D, S0, S1, S2, S3, S4, S5, X, Y⟩
  isplitl [A B C D]
  · isplitl [A]; · iexact A
    isplitl [B]; · iexact B
    isplitl [C]; · iexact C
    iexact D
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [X]; · iexact X
  iexact Y

/-- The tile's semaphores other than the banks'. -/
def semRest : sProp 𝕄 := bigSep (ownCells (th d L) \ Finset.univ.image fun k => ((th d L, bankSem k) : GSem nD τ sig)) fun g => semVal g 0
def bufRest : sProp 𝕄 :=
  bigSep (ownRefs (τ := τ) (sig := sig) (th d L).2 \ Finset.univ.image fun k => (Proc.scVector (cV L) (jV L)).devRef (bankRef k)) fun b =>
    iprop(∃ f, ((d, b) : Loc nD τ sig) ↦{fullShare} f)

theorem sems_split : (ownSems0 (th d L) : sProp 𝕄)
    = iprop((semsOf d L bank0 ∗ semsOf d L bank1 ∗ semsOf d L bank2) ∗ semRest d L) := by
  unfold ownSems0 semRest
  rw [named_split (s := ownCells (th d L)) (t := (Finset.univ : Finset (Fin 3 × Fin 6))) (fun k => ((th d L, bankSem k) : GSem nD τ sig))
      (fun a b h => bankSem_inj (Prod.ext_iff.mp h).2) (fun k => mem_ownCells.mpr ⟨rfl, bankSem_scoped k⟩),
    bigSep_univ_prod, three_eq]
  simp only [six_eq]
  rfl

theorem bufs_split : (ownBufs (th d L) : sProp 𝕄)
    = iprop((bufsOf d L bank0 ∗ bufsOf d L bank1 ∗ bufsOf d L bank2) ∗ bufRest d L) := by
  unfold ownBufs bufRest
  rw [named_split (s := ownRefs (τ := τ) (sig := sig) (.scVector (cV L) (jV L))) (t := (Finset.univ : Finset (Fin 3 × Fin 4)))
      (fun k => (Proc.scVector (cV L) (jV L)).devRef (bankRef k))
      (fun a b h => bankRef_inj (Proc.devRef_injective _ h)) (fun k => by fin_cases k <;> exact SparseCore.Cfg.mem_ownRefs_of_owner rfl),
    bigSep_univ_prod, three_eq]
  simp only [four_eq]
  rfl

variable [FloatOps F]

/-! ## The tile's part of the arrays -/

/-- The number a tile goes by, and its share of the arrays every tile reads. -/
abbrev wid (L : grid0.Coords) : Fin 32 := ⟨2 * (L 1).val + (L 0).val, by
  have h0 : (L 0).val < 2 := (L 0).isLt
  have h1 : (L 1).val < 16 := (L 1).isLt
  omega⟩
abbrev sh (t : Fin 32) : PosShare TreeShare := pieceOf fullShare 32 (by decide) t

/-- What a tile is handed: its shares of the four arguments, its chunks of the results as `C` has them. -/
def tileRes (C : Fin 11 → sProp 𝕄) : sProp 𝕄 :=
  iprop(ptsX m d L (sh (wid L)) ∗ ptsY m d L (sh (wid L)) ∗ ptsR m d (sh (wid L)) ∗ ptsB m d (sh (wid L)) ∗ bigSep Finset.univ C)

theorem ptsX_three (q : PosShare TreeShare) : (ptsX m d L q : sProp 𝕄)
    = iprop(ptsX m d L (pieceOf q 3 (by decide) 0) ∗ ptsX m d L (pieceOf q 3 (by decide) 1) ∗ ptsX m d L (pieceOf q 3 (by decide) 2)) := by
  unfold ptsX; rw [pointsTo_piecesOf _ _ (by decide : 0 < 3), three_eq]
theorem ptsY_three (q : PosShare TreeShare) : (ptsY m d L q : sProp 𝕄)
    = iprop(ptsY m d L (pieceOf q 3 (by decide) 0) ∗ ptsY m d L (pieceOf q 3 (by decide) 1) ∗ ptsY m d L (pieceOf q 3 (by decide) 2)) := by
  unfold ptsY; rw [pointsTo_piecesOf _ _ (by decide : 0 < 3), three_eq]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d L (chIn m d L)
        ∗ scopedBufs (th d L) ∗ scopedSems0 (th d L) ∗ owes (th d L) O W)
      ⊢ wp frame (wpE (defs₀ (F := F)) 𝒱₀ (th d L) none) Set.univ (body L bank0 bank1 bank2)
          fun _ => iprop(tileRes m d L (chOut m d L) ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), sems_split, bufs_split]
  unfold tileRes
  rw [ptsX_three, ptsY_three]
  iintro ⟨#Hlv, -, ⟨⟨X0, X1, X2⟩, ⟨Y0, Y1, Y2⟩, R, B, C⟩, ⟨⟨F0, F1, F2⟩, FR⟩, ⟨⟨S0, S1, S2⟩, SR⟩, HO⟩
  ihave Hmw := (show levAts (K (F := F)).L (K (F := F)).lev ⊢ Transfers.MayWaits (th d L) (default : HIx 1) O from
    (K (F := F)).mayWaits_none (thr := th d L) hO) $$ Hlv
  iapply (body_spec m d L hpre (O := O) (W := W) (b0 := bank0) (b1 := bank1) (b2 := bank2) (qr := sh (wid L))
    (q0 := pieceOf (sh (wid L)) 3 (by decide) 0) (q1 := pieceOf (sh (wid L)) 3 (by decide) 1)
    (q2 := pieceOf (sh (wid L)) 3 (by decide) 2)) $$ [Hmw R B HO X0 X1 X2 Y0 Y1 Y2 F0 F1 F2 S0 S1 S2 C]
  · unfold Env owesW
    isplitl [Hmw R B HO]
    · isplitl [Hmw]; · iexact Hmw
      isplitl [R]; · iexact R
      isplitl [B]; · iexact B
      iexists W; isplitr; · ipureintro; exact fun p hp => .inl hp
      iexact HO
    isplitl [X0 Y0 F0 S0]
    · iapply (idle_in m d L bank0 _)
      isplitl [F0]; · iexact F0
      isplitl [S0]; · iexact S0
      isplitl [X0]; · iexact X0
      iexact Y0
    isplitl [X1 Y1 F1 S1]
    · iapply (idle_in m d L bank1 _)
      isplitl [F1]; · iexact F1
      isplitl [S1]; · iexact S1
      isplitl [X1]; · iexact X1
      iexact Y1
    isplitl [X2 Y2 F2 S2]
    · iapply (idle_in m d L bank2 _)
      isplitl [F2]; · iexact F2
      isplitl [S2]; · iexact S2
      isplitl [X2]; · iexact X2
      iexact Y2
    iexact C
  unfold Env owesW
  iintro ⟨⟨-, R, B, HO⟩, I0, I1, I2, C⟩
  ihave I0 := (idle_out m d L bank0 _) $$ I0
  ihave I1 := (idle_out m d L bank1 _) $$ I1
  ihave I2 := (idle_out m d L bank2 _) $$ I2
  icases I0 with ⟨F0, S0, X0, Y0⟩
  icases I1 with ⟨F1, S1, X1, Y1⟩
  icases I2 with ⟨F2, S2, X2, Y2⟩
  isplitl [X0 X1 X2 Y0 Y1 Y2 R B C]
  · isplitl [X0 X1 X2]
    · isplitl [X0]; · iexact X0
      isplitl [X1] <;> iassumption
    isplitl [Y0 Y1 Y2]
    · isplitl [Y0]; · iexact Y0
      isplitl [Y1] <;> iassumption
    isplitl [R]; · iexact R
    isplitl [B]; · iexact B
    iexact C
  isplitl [F0 F1 F2 FR]
  · isplitr [FR]; swap; · iexact FR
    isplitl [F0]; · iexact F0
    isplitl [F1] <;> iassumption
  isplitl [S0 S1 S2 SR]
  · isplitr [SR]; swap; · iexact SR
    isplitl [S0]; · iexact S0
    isplitl [S1] <;> iassumption
  iexact HO

end Tile

/-! ## What the handshakes carry -/

def coordsV (c : Fin 2) (s : Fin 16) : grid0.Coords := fun
  | 0 => c
  | 1 => s
  | ⟨_ + 2, h⟩ => absurd h (Nat.not_lt.2 (Nat.le_add_left _ _))

theorem nCore_zero : (K (F := F)).nCore 0 = 2 := rfl

variable [FloatOps F]

/-- The tile that runs the call's part `(c, i)`. -/
abbrev tileAt (c : Fin ((K (F := F)).nCore 0)) (i : Fin ((K (F := F)).nSub 0)) : grid0.Coords := coordsV (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileRes m d (tileAt (F := F) c i) (chIn m d (tileAt (F := F) c i))
  dn := fun q d c => match q with
    | 0 => bigSep Finset.univ fun i : Fin ((K (F := F)).nSub 0) => tileRes m d (tileAt (F := F) c i) (chOut m d (tileAt (F := F) c i))
  go := fun q d c i => match q with
    | 0 => tileRes m d (tileAt (F := F) c i) (chIn m d (tileAt (F := F) c i))
  td := fun q d c i => match q with
    | 0 => tileRes m d (tileAt (F := F) c i) (chOut m d (tileAt (F := F) c i))
  x := fun _ _ => iprop(emp)

instance chIn_storable (d : Dev nD) (L : grid0.Coords) (r : Fin 11) : BI.Storable (upEmb : UEmb _ 𝕄) (chIn m d L r) := by unfold chIn; infer_instance
instance chOut_storable (d : Dev nD) (L : grid0.Coords) (r : Fin 11) : BI.Storable (upEmb : UEmb _ 𝕄) (chOut m d L r) := by unfold chOut; infer_instance
instance tileRes_storable (d : Dev nD) (L : grid0.Coords) (C : Fin 11 → sProp 𝕄) [∀ r, BI.Storable (upEmb : UEmb _ 𝕄) (C r)] :
    BI.Storable (upEmb : UEmb _ 𝕄) (tileRes m d L C) := by unfold tileRes; infer_instance

instance P_storable : (P (F := F) m).IsStorable where
  st q d c := match q with
    | 0 => by unfold P; infer_instance
  dn q d c := match q with
    | 0 => by unfold P; infer_instance
  go q d c i := match q with
    | 0 => by unfold P; infer_instance
  td q d c i := match q with
    | 0 => by unfold P; infer_instance

/-- A call whose parts are handed out as they come needs no splitting. -/
theorem split_of_eq (P' : (K (F := F)).Pay (nD := nD) (Val := Elt F) (Name := ℕ) (U := UU))
    (hst : ∀ d c, P'.st 0 d c = bigSep Finset.univ fun i => P'.go 0 d c i) (hdn : ∀ d c, P'.dn 0 d c = bigSep Finset.univ fun i => P'.td 0 d c i) :
    (K (F := F)).VecSplit' P' 0 := by
  intro d c
  rw [hst, hdn]
  iintro H; imodintro
  isplitl [H]; · iexact H
  iintro H; iexact H

theorem st_eq (d : Dev nD) (c : Fin ((K (F := F)).nCore 0)) : (P m).st 0 d c = bigSep Finset.univ fun i : Fin ((K (F := F)).nSub 0) => (P m).go 0 d c i := by
  unfold P; dsimp only
theorem dn_eq (d : Dev nD) (c : Fin ((K (F := F)).nCore 0)) : (P m).dn 0 d c = bigSep Finset.univ fun i : Fin ((K (F := F)).nSub 0) => (P m).td 0 d c i := by
  unfold P; dsimp only
theorem vecSplit : (K (F := F)).VecSplit' (P m) 0 := split_of_eq (P m) (st_eq m) (dn_eq m)

/-! ## The tile's obligation -/

theorem defs₀_vector (c : Fin τ.nSC) (s : Fin τ.nSub) :
    defs₀ (F := F) (.scVector c s) 0 () = SparseCore.onTile hcore0 hsub0 (fun c s => body (coordsV c s) bank0 bank1 bank2) ⟨⟩ c s := by
  have h : (fun (c : Fin (grid0.bound 0)) (s : Fin (grid0.bound 1)) => body (F := F) (coordsV c s) bank0 bank1 bank2) = _ :=
    funext fun c => funext fun s => (body_eq (F := F) (coordsV c s)).symm
  rw [h]; rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr; swap; · iexact HO
  ipureintro; exact fun p hp => (hW p hp).imp_right Or.inl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The arrays dealt out -/

theorem xAll_univ : (xAll).view.set = Finset.univ := by
  refine Finset.eq_univ_iff_forall.mpr fun i => Finset.mem_map.mpr ⟨i, Finset.mem_univ _, ?_⟩
  funext a; apply Fin.ext
  match a with
  | 0 => show 0 + 1 * (i 0).val = (i 0).val; omega
  | 1 => show 0 + 1 * (i 1).val = (i 1).val; omega
theorem yAll_univ : (yAll).view.set = Finset.univ := by
  refine Finset.eq_univ_iff_forall.mpr fun i => Finset.mem_map.mpr ⟨i, Finset.mem_univ _, ?_⟩
  funext a; apply Fin.ext
  match a with
  | 0 => show 0 + 1 * (i 0).val = (i 0).val; omega
  | 1 => show 0 + 1 * (i 1).val = (i 1).val; omega

def tileEquiv : Fin ((K (F := F)).nCore 0) × Fin ((K (F := F)).nSub 0) ≃ Fin 32 :=
  ((Equiv.prodComm (Fin 2) (Fin 16)).trans finProdFinEquiv).trans (finCongr rfl)
def chunkEquiv : Fin 32 × Fin 11 ≃ Fin 352 := finProdFinEquiv.trans (finCongr rfl)

theorem tileEquiv_eq (c : Fin ((K (F := F)).nCore 0)) (i : Fin ((K (F := F)).nSub 0)) : tileEquiv (F := F) (c, i) = wid (tileAt (F := F) c i) := by
  apply Fin.ext
  show c.val + 2 * i.val = 2 * i.val + c.val
  omega
theorem chunkEquiv_val (t : Fin 32) (r : Fin 11) : (chunkEquiv (t, r)).val = r.val + 11 * t.val := rfl

/-- A family over the tiles' numbers is one over the call's parts. -/
theorem deal (Φ : Fin 32 → sProp 𝕄) :
    bigSep Finset.univ Φ = bigSep Finset.univ fun c => bigSep Finset.univ fun i => Φ (wid (tileAt (F := F) c i)) := by
  rw [bigSep_univ_equiv (tileEquiv (F := F)), bigSep_univ_prod]
  exact bigSep_congr fun c _ => bigSep_congr fun i _ => by rw [tileEquiv_eq]

theorem odiv : 352 ∣ S33792x128.size 0 := ⟨96, rfl⟩

theorem oRect_eq (L : grid0.Coords) (r : Fin 11) : oRect L r = Rect.part (s := S33792x128) (a₀ := 0) odiv (chunkEquiv (wid L, r)) := by
  unfold oRect Rect.part Rect.block
  congr 1 <;> funext a
  · rw [k0_off2_eq]
    match a with
    | 0 =>
      have h := chunkEquiv_val (wid L) r
      simp [Shape.partIx, Shape.partSize, h]; omega
    | 1 => simp [Shape.partIx, Shape.partSize]
  · match a with
    | 0 => simp [Shape.partSize]
    | 1 => simp [Shape.partSize]
theorem oCh_set (L : grid0.Coords) (r : Fin 11) : (oCh L r).view.set = (Rect.part (s := S33792x128) (a₀ := 0) odiv (chunkEquiv (wid L, r))).set := by
  rw [← oRect_eq]
  show ((View.whole (main_v0_0_scv : Ref sig .scVector)).slice (oRect L r)).set = _
  rw [View.set_slice]; exact Finset.map_refl
theorem pCh_set (L : grid0.Coords) (r : Fin 11) : (pCh L r).view.set = (Rect.part (s := S33792x128) (a₀ := 0) odiv (chunkEquiv (wid L, r))).set := by
  rw [← oRect_eq]
  show ((View.whole (main_v0_1_scv : Ref sig .scVector)).slice (oRect L r)).set = _
  rw [View.set_slice]; exact Finset.map_refl

/-- A result held whole is held chunk by chunk. -/
theorem rows_deal {ℓ : Loc nD τ sig} (S : Fin 352 → Finset (Idx ℓ)) (hS : ∀ i ∈ Finset.univ, ∀ j ∈ Finset.univ, i ≠ j → Disjoint (S i) (S j))
    (hU : Finset.univ.biUnion S = Finset.univ) (f : Buf (Elt F) ℓ) :
    (ℓ ↦{fullShare} f : sProp 𝕄)
      = bigSep Finset.univ fun c => bigSep Finset.univ fun i => bigSep Finset.univ fun r : Fin 11 => ℓ ↦[S (chunkEquiv (wid (tileAt (F := F) c i), r))]{fullShare} f := by
  rw [← deal (fun t => bigSep Finset.univ fun r : Fin 11 => ℓ ↦[S (chunkEquiv (t, r))]{fullShare} f),
    ← bigSep_univ_prod (fun a : Fin 32 × Fin 11 => (ℓ ↦[S (chunkEquiv a)]{fullShare} f : sProp 𝕄)),
    ← bigSep_univ_equiv chunkEquiv (fun k => (ℓ ↦[S k]{fullShare} f : sProp 𝕄)), ← pointsTo_biUnion Finset.univ (ℓ := ℓ) S hS, hU]

theorem share_deal {ℓ : Loc nD τ sig} (f : Buf (Elt F) ℓ) :
    (ℓ ↦{fullShare} f : sProp 𝕄) = bigSep Finset.univ fun c => bigSep Finset.univ fun i => ℓ ↦{sh (wid (tileAt (F := F) c i))} f := by
  rw [← deal (fun t => (ℓ ↦{sh t} f : sProp 𝕄))]
  exact pointsTo_piecesOf Finset.univ f (by decide) fullShare

/-- All the arrays, the results at `f` and `g`. -/
def arrays (d : Dev nD) (f : Buf (Elt F) (oLoc d)) (g : Buf (Elt F) (pLoc d)) : sProp 𝕄 :=
  iprop((xLoc d ↦{fullShare} m (xLoc d)) ∗ (yLoc d ↦{fullShare} m (yLoc d)) ∗ (rLoc d ↦{fullShare} m (rLoc d)) ∗ (bLoc d ↦{fullShare} m (bLoc d))
    ∗ (oLoc d ↦{fullShare} f) ∗ (pLoc d ↦{fullShare} g))

theorem ptsX_eq (d : Dev nD) (L : grid0.Coords) (q : PosShare TreeShare) : (ptsX m d L q : sProp 𝕄) = (xLoc d ↦{q} m (xLoc d)) := by unfold ptsX; rw [xAll_univ]
theorem ptsY_eq (d : Dev nD) (L : grid0.Coords) (q : PosShare TreeShare) : (ptsY m d L q : sProp 𝕄) = (yLoc d ↦{q} m (yLoc d)) := by unfold ptsY; rw [yAll_univ]
theorem ptsO_eq (d : Dev nD) (L : grid0.Coords) (r : Fin 11) (f : Buf (Elt F) (oLoc d)) :
    (ptsO d L r f : sProp 𝕄) = (oLoc d ↦[(Rect.part (s := S33792x128) (a₀ := 0) odiv (chunkEquiv (wid L, r))).set]{fullShare} f) := by unfold ptsO; rw [oCh_set]
theorem ptsP_eq (d : Dev nD) (L : grid0.Coords) (r : Fin 11) (f : Buf (Elt F) (pLoc d)) :
    (ptsP d L r f : sProp 𝕄) = (pLoc d ↦[(Rect.part (s := S33792x128) (a₀ := 0) odiv (chunkEquiv (wid L, r))).set]{fullShare} f) := by unfold ptsP; rw [pCh_set]

theorem arrays_deal (d : Dev nD) (f : Buf (Elt F) (oLoc d)) (g : Buf (Elt F) (pLoc d)) :
    arrays m d f g = bigSep Finset.univ fun c => bigSep Finset.univ fun i =>
      tileRes m d (tileAt (F := F) c i) fun r => iprop(ptsO d (tileAt (F := F) c i) r f ∗ ptsP d (tileAt (F := F) c i) r g) := by
  unfold arrays tileRes ptsR ptsB
  simp only [ptsX_eq, ptsY_eq, ptsO_eq, ptsP_eq, bigSep_sep']
  rw [share_deal (m (xLoc d)), share_deal (m (yLoc d)), share_deal (m (rLoc d)), share_deal (m (bLoc d)),
    rows_deal (ℓ := oLoc d) (fun k => (Rect.part (s := S33792x128) (a₀ := 0) odiv k).set) (fun _ _ _ _ h => Rect.part_disjoint odiv h) (Rect.biUnion_part odiv) f,
    rows_deal (ℓ := pLoc d) (fun k => (Rect.part (s := S33792x128) (a₀ := 0) odiv k).set) (fun _ _ _ _ h => Rect.part_disjoint odiv h) (Rect.biUnion_part odiv) g]

theorem st0_eq (d : Dev nD) : (bigSep Finset.univ fun c : Fin ((K (F := F)).nCore 0) => (P m).st 0 d c) = arrays m d (m (oLoc d)) (m (pLoc d)) := by
  rw [arrays_deal]; unfold P; dsimp only; unfold chIn; rfl
theorem dn0_eq (d : Dev nD) : (bigSep Finset.univ fun c : Fin ((K (F := F)).nCore 0) => (P m).dn 0 d c) = arrays m d (candV m d) (clabV m d) := by
  rw [arrays_deal]; unfold P; dsimp only; unfold chOut; rfl

/-! ## The run -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have hx : (bigSep Finset.univ fun thr : Thread nD τ => bigSep Finset.univ fun q : Fin 1 => (P (F := F) m).x q thr) = bigSep Finset.univ fun _ => iprop(emp) :=
    bigSep_congr fun _ _ => bigSep_univ_of_subsingleton (0 : Fin 1)
  rw [hx, emps, emps]
  iintro Hu
  ihave H := (ownU_pair (initOf (K (F := F)).hsCells (K (F := F)).hsToks) (1 : Counters)) $$ Hu
  icases H with ⟨HH, -⟩
  imodintro
  isplitl [HH]; · iexact HH
  isplitr <;> iempintro

theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ (rLoc d ↦{fullShare} W main_arg2)
      ∗ (bLoc d ↦{fullShare} W main_arg3) ∗ (oLoc d ↦{fullShare} W main_v0_0) ∗ pLoc d ↦{fullShare} W main_v0_1) := by
  unfold unscopedBufs
  rw [show (Finset.univ.filter fun b : Ref sig .tc => ¬ b.isScoped) = {main_arg0, main_arg1, main_arg2, main_arg3, main_v0_0, main_v0_1} by decide]
  iterate 5 rw [SparseCore.bigSep_insert' (by decide)]
  rw [bigSep_singleton]

abbrev FIN (d : Dev nD) : sProp 𝕄 := arrays m d (candV m d) (clabV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st0_eq]; unfold arrays; iexact Ha
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- A buffer owned whole is what the memory holds. -/
theorem agree {s' : Phys nD τ sig (Elt F)} {ℓ : Loc nD τ sig} {f : Buf (Elt F) ℓ} :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; swap; · iexact HSI
  ipureintro; exact funext fun i => h i (Finset.mem_univ i)

def fq (d : Dev nD) (s' : Phys nD τ sig (Elt F)) : Prop :=
  (s'.mem.mem (oLoc d) = candV m d ∧ s'.mem.mem (pLoc d) = clabV m d)
    ∧ s'.mem.mem (xLoc d) = m (xLoc d) ∧ s'.mem.mem (yLoc d) = m (yLoc d) ∧ s'.mem.mem (rLoc d) = m (rLoc d) ∧ s'.mem.mem (bLoc d) = m (bLoc d)

theorem hfin (d : Dev nD) (s' : Phys nD τ sig (Elt F)) : iprop(FIN m d ∗ SI s') ⊢ (⌜fq m d s'⌝ : sProp 𝕄) := by
  unfold FIN arrays
  iintro ⟨⟨X, Y, R, B, O, P⟩, HSI⟩
  ihave H := agree $$ [HSI X]; · isplitl [HSI] <;> iassumption
  icases H with ⟨%hx, HSI⟩
  ihave H := agree $$ [HSI Y]; · isplitl [HSI] <;> iassumption
  icases H with ⟨%hy, HSI⟩
  ihave H := agree $$ [HSI R]; · isplitl [HSI] <;> iassumption
  icases H with ⟨%hr, HSI⟩
  ihave H := agree $$ [HSI B]; · isplitl [HSI] <;> iassumption
  icases H with ⟨%hb, HSI⟩
  ihave H := agree $$ [HSI O]; · isplitl [HSI] <;> iassumption
  icases H with ⟨%ho, HSI⟩
  ihave H := agree $$ [HSI P]; · isplitl [HSI] <;> iassumption
  icases H with ⟨%hp, -⟩
  ipureintro; exact ⟨⟨ho, hp⟩, hx, hy, hr, hb⟩

/-- What every run ends with. -/
def QC : PUnit × MemSt nD τ sig (Elt F) → Prop := fun r => (∀ d : Dev nD,
    (r.2.mem (oLoc d) = candV m d ∧ r.2.mem (pLoc d) = clabV m d)
      ∧ r.2.mem (xLoc d) = m (xLoc d) ∧ r.2.mem (yLoc d) = m (yLoc d) ∧ r.2.mem (rLoc d) = m (rLoc d) ∧ r.2.mem (bLoc d) = m (bLoc d))
  ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.TakeRows.lean ====
/-
  What `jnp.take(x, i, axis=0)` of a table's rows computes where every index is in range: the index is not wrapped,
  no row is filled, and row `p` of the result is the row that entry `p` of the list names.
-/
module

public import Idealize.ShloMosaic.Lib.ReduceAll
public import Idealize.ShloMosaic.Lib.ValueIdxCore

@[expose] public section

namespace Cert.Proof.TakeRows

open Idealize.ShloMosaic

variable {α : Type} {N C B : ℕ}

/-- A word below `n`, `n` itself a non-negative signed word, is non-negative, below `n` and its own signed value. -/
theorem toInt_of_lt {w : BitVec 32} {n : ℕ} (hn : n ≤ 2147483648) (h : w.toNat < n) : w.toInt = (w.toNat : ℤ) := by
  rw [BitVec.toInt_eq_toNat_cond]; split <;> omega

theorem toInt_ofNat {n : ℕ} (hn : n < 2147483648) : (BitVec.ofNat 32 n).toInt = (n : ℤ) := by
  have h : (BitVec.ofNat 32 n).toNat = n := by rw [BitVec.toNat_ofNat]; exact Nat.mod_eq_of_lt (by omega)
  rw [toInt_of_lt (n := 2147483648) le_rfl (by omega), h]

theorem not_neg {w : BitVec 32} {n : ℕ} (hn : n ≤ 2147483648) (h : w.toNat < n) : IntOp.cmpi .slt w 0#32 = 0#1 := by
  have e := toInt_of_lt hn h
  simp only [IntOp.cmpi, BitVec.slt_eq_decide, e, BitVec.toInt_zero]
  rw [decide_eq_false (by omega)]; rfl

theorem in_range {w : BitVec 32} {n : ℕ} (hn : n ≤ 2147483648) (h : w.toNat < n) :
    IntOp.andi (IntOp.cmpi .sge w 0#32) (IntOp.cmpi .sle w (BitVec.ofNat 32 (n - 1))) = 1#1 := by
  have e := toInt_of_lt hn h
  have e' := toInt_ofNat (n := n - 1) (by omega)
  simp only [IntOp.cmpi, BitVec.sle_eq_decide, e, e', BitVec.toInt_zero]
  rw [decide_eq_true (by omega), decide_eq_true (by omega)]; rfl

/-- The dimension numbers that rows of an `[N, C]` table are gathered with by a list of `B` indices. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The index `[y 0, 0]` of the list as a column. -/
abbrev colIx (y : (⟨2, ![B, C]⟩ : Shape).Idx) : (⟨2, ![B, 1]⟩ : Shape).Idx := fun a => match a with
  | 0 => y 0
  | 1 => ⟨0, Nat.one_pos⟩

/-- The gather at `y`, axis by axis: the row is the list's entry, read signed and clamped; the column `y`'s own. -/
theorem gather_rows (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (y : (⟨2, ![B, C]⟩ : Shape).Idx) (z : (⟨2, ![N, C]⟩ : Shape).Idx)
    (h0 : (z 0).val = min (idx (colIx y)).toInt.toNat (N - 1)) (h1 : (z 1).val = (y 1).val) :
    Host.gather (rowDims N C B wf) x idx y = x z := by
  unfold Host.gather
  congr 1
  funext a
  apply Fin.ext
  show (rowDims N C B wf).start y idx a + (rowDims N C B wf).batchCoord y a + (rowDims N C B wf).offCoord y a = (z a).val
  rw [GatherDims.batchCoord_eq_zero _ _ _ List.not_mem_nil]
  match a with
  | 0 =>
    rw [GatherDims.offCoord_eq_zero _ _ _ (fun h => ((GatherDims.mem_sKept _ _).mp h).1 (List.mem_singleton.mpr rfl)), h0]
    unfold GatherDims.start
    rw [dif_pos (show (0 : Fin 2) ∈ (rowDims N C B wf).startIndexMap from List.mem_singleton.mpr rfl)]
    have hsi : (rowDims N C B wf).siIdx y ⟨List.idxOf (0 : Fin 2) (rowDims N C B wf).startIndexMap,
        List.idxOf_lt_length_iff.2 (List.mem_singleton.mpr rfl)⟩ = colIx y := by
      funext b
      match b with
      | 0 => rfl
      | 1 => rfl
    rw [hsi]; rfl
  | 1 =>
    have hk : (1 : Fin 2) ∈ (rowDims N C B wf).sKept := (GatherDims.mem_sKept _ _).mpr ⟨by simp, by simp⟩
    have hs : (rowDims N C B wf).start y idx 1 = 0 := by
      unfold GatherDims.start
      rw [dif_neg (by simp)]
    rw [hs, h1]
    unfold GatherDims.offCoord
    rw [dif_pos hk, Nat.zero_add]
    exact congrArg (fun b : Fin 2 => (y b).val) (List.getElem_singleton _)

/-- The list with negative entries wrapped, none of which there are. -/
theorem wrapped (hN : N ≤ 2147483648) (i a z : IVec ⟨1, ![B]⟩ 32) (hi : ∀ j, (i j).toNat < N) (hz : ∀ j, z j = 0#32) :
    select (cmpi .slt i z) a i = i := by
  funext j
  show Scalar.select (IntOp.cmpi .slt (i j) (z j)) (a j) (i j) = i j
  rw [hz, not_neg hN (hi j)]; rfl

/-- `jnp.take` along the rows, as it lowers, at `y`: `i` the list, `top` the last row's number. -/
theorem take_eq (hN : N ≤ 2147483648) (hB : B ≠ 1) (wf : GatherDims.WF ⟨2, ![N, C]⟩ ⟨2, ![B, 1]⟩ ⟨2, ![B, C]⟩ [1] [0] [] [0] [] 1 ![1, C])
    (x : (⟨2, ![N, C]⟩ : Shape).Idx → α) (i a z : IVec ⟨1, ![B]⟩ 32) (hi : ∀ j, (i j).toNat < N) (hz : ∀ j, z j = 0#32)
    (zero top : IVec ⟨2, ![B, 1]⟩ 32) (hzero : ∀ k, zero k = 0#32) (htop : ∀ k, top k = BitVec.ofNat 32 (N - 1))
    (hcol : Shape.BroadcastsInDim ⟨1, ![B]⟩ ⟨2, ![B, 1]⟩ ![0]) (hrow : Shape.BroadcastsInDim ⟨1, ![B]⟩ ⟨2, ![B, C]⟩ ![0])
    {u : Shape} (one : IVec u 1) (hone : ∀ k, one k = 1#1) {axes : List (Fin 2)} (hred : Shape.ReducesTo ⟨2, ![B, 1]⟩ axes ⟨1, ![B]⟩) (hu : 0 < u.numel)
    (fill : (⟨2, ![B, C]⟩ : Shape).Idx → α) (y : (⟨2, ![B, C]⟩ : Shape).Idx) (t : (⟨2, ![N, C]⟩ : Shape).Idx)
    (h0 : ∀ j : (⟨1, ![B]⟩ : Shape).Idx, (j 0).val = (y 0).val → (t 0).val = (i j).toNat) (h1 : (t 1).val = (y 1).val) :
    select (broadcastInDim ⟨2, ![B, C]⟩ ![0] hrow (Host.reduce IntOp.andi
        (andi (cmpi .sge (broadcastInDim ⟨2, ![B, 1]⟩ ![0] hcol (select (cmpi .slt i z) a i)) zero)
          (cmpi .sle (broadcastInDim ⟨2, ![B, 1]⟩ ![0] hcol (select (cmpi .slt i z) a i)) top)) one hred hu))
      (Host.gather (rowDims N C B wf) x (broadcastInDim ⟨2, ![B, 1]⟩ ![0] hcol (select (cmpi .slt i z) a i))) fill y = x t := by
  rw [wrapped hN i a z hi hz]
  have hcolv : ∀ k : (⟨2, ![B, 1]⟩ : Shape).Idx, ∃ j : (⟨1, ![B]⟩ : Shape).Idx, (j 0).val = (k 0).val ∧ broadcastInDim ⟨2, ![B, 1]⟩ ![0] hcol i k = i j := by
    intro k
    refine ⟨_, ?_, rfl⟩
    dsimp only
    split
    · exact absurd ‹_› hB
    · rfl
  have hmask : ∀ j, Host.reduce IntOp.andi
        (andi (cmpi .sge (broadcastInDim ⟨2, ![B, 1]⟩ ![0] hcol i) zero)
          (cmpi .sle (broadcastInDim ⟨2, ![B, 1]⟩ ![0] hcol i) top)) one hred hu j = 1#1 := by
    intro j
    refine Host.reduce_andi_one _ _ _ _ _ (hone _) fun k => ?_
    obtain ⟨j', -, hj⟩ := hcolv k
    show IntOp.andi (IntOp.cmpi .sge (broadcastInDim ⟨2, ![B, 1]⟩ ![0] hcol i k) (zero k)) (IntOp.cmpi .sle (broadcastInDim ⟨2, ![B, 1]⟩ ![0] hcol i k) (top k)) = 1#1
    rw [hj, hzero, htop]
    exact in_range hN (hi j')
  obtain ⟨j, hj0, hj⟩ := hcolv (colIx y)
  have hg := gather_rows wf x (broadcastInDim ⟨2, ![B, 1]⟩ ![0] hcol i) y t (by
    have := hi j
    rw [h0 j hj0, hj, toInt_of_lt hN (hi j), Int.toNat_natCast]; omega) h1
  show Scalar.select (Host.reduce IntOp.andi _ _ _ _ _) (Host.gather _ _ _ y) (fill y) = x t
  rw [hmask, hg]; rfl

/-- Every entry of a list that `jnp.all(i >= 0) & jnp.all(i < n)` holds of is below `n`. -/
theorem lt_of_cmp {w : BitVec 32} {n : ℕ} (hn : n < 2147483648) (h0 : IntOp.cmpi .sge w 0#32 = 1#1) (h1 : IntOp.cmpi .slt w (BitVec.ofNat 32 n) = 1#1) : w.toNat < n := by
  have ofBool_eq (p : Bool) : (BitVec.ofBool p = 1#1) ↔ p = true := by cases p <;> decide
  have e := toInt_ofNat hn
  simp only [IntOp.cmpi, ofBool_eq, BitVec.sle_eq_decide, BitVec.slt_eq_decide, decide_eq_true_eq, BitVec.toInt_zero, e] at h0 h1
  rw [BitVec.toInt_eq_toNat_cond] at h0 h1
  split at h0 <;> omega

end Cert.Proof.TakeRows
-- ==== Proof.GatherClaims.lean ====
/-
  The gather call's claims: what the precondition says of the launch memory, what the reference computes under it,
  and the frames and the agreement of the two.
-/
module

public import proofs.«01_k».proof.Proof.GatherRun
public import proofs.«01_k».proof.Proof.TakeRows
public import proofs.«01_k».proof.Proof.Gen.Kernel
public import proofs.«01_k».proof.Proof.Gen.ReferenceIdeal
public import proofs.«01_k».proof.Proof.Gen.ReferenceIdeal.Run
public import proofs.«01_k».proof.Proof.Gen.Pre_pre

@[expose] public section

noncomputable section

namespace Cert.Proof.Gather

open Idealize.ShloMosaic Idealize.SL.Sem Idealize.ShloMosaic.TcCoe

variable {F : FTy → Type} [FloatOps F]

theorem and_one {a b : BitVec 1} (h : IntOp.andi a b = 1#1) : a = 1#1 ∧ b = 1#1 := by
  revert a b; decide

/-- The precondition's two ranges. -/
theorem range_of_pre (x : FVec F Cert.Pre_pre.S802816x128 .f32) (y : IVec Cert.Pre_pre.S784x128 32) (r b : IVec Cert.Pre_pre.S33792 32)
    (h : Cert.Pre_pre.fn (F := F) x y r b = fun _ => 1#1) : (∀ j, (r j).toNat < 802816) ∧ (∀ j, (b j).toNat < 784) := by
  have : Subsingleton Cert.Pre_pre.S_.Idx := ⟨fun p q => funext fun a => a.elim0⟩
  have e := congrFun h (fun a => a.elim0)
  obtain ⟨e, e3⟩ := and_one e
  obtain ⟨e, e2⟩ := and_one e
  obtain ⟨e0, e1⟩ := and_one e
  exact ⟨fun j => TakeRows.lt_of_cmp (by decide) (Host.reduce_andi_all _ _ _ _ _ e0 j) (Host.reduce_andi_all _ _ _ _ _ e1 j),
    fun j => TakeRows.lt_of_cmp (by decide) (Host.reduce_andi_all _ _ _ _ _ e2 j) (Host.reduce_andi_all _ _ _ _ _ e3 j)⟩

theorem frame_kernel : Cert.quiescent_Kernel := fun m ρ hpre =>
  (θ_run Cert.KernelIdeal.defs _ _).mono (fun _ h => ⟨fun c => (h.1 c).2, h.2⟩)
    (run_main (F := Bits) m ρ fun d => range_of_pre _ _ _ _ (hpre d))

theorem frame_ideal : Cert.quiescent_KernelIdeal := fun m ρ hpre =>
  (θ_run Cert.KernelIdeal.defs _ _).mono (fun _ h => ⟨fun c => (h.1 c).2, h.2⟩)
    (run_main (F := Ideal) m ρ fun d => range_of_pre _ _ _ _ (hpre d))

theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

theorem refs_agree : Cert.algebraic_KernelIdeal_ReferenceIdeal := by
  intro m ρ m' ρ' hpre hin
  have hok : PreOK m := fun d => range_of_pre _ _ _ _ (hpre d)
  refine ⟨fun c => candV m c, fun c => clabV m c, ?_, ?_⟩
  · exact (θ_run Cert.KernelIdeal.defs _ _).mono (fun _ h c => ⟨(h.1 c).1.1, (h.1 c).1.2, (h.1 c).2⟩) (run_main (F := Ideal) m ρ hok)
  · refine (θ_run Cert.ReferenceIdeal.defs _ _).mono (fun r h c => ?_) (Cert.ReferenceIdeal.Value.run (F := Ideal) m' ρ')
    obtain ⟨h0, h1, hargs⟩ := h c
    obtain ⟨a0, a1, a2, a3⟩ := hin c
    refine ⟨h0.trans ?_, h1.trans ?_, hargs⟩
    · rw [a0, a2]
      funext y
      exact TakeRows.take_eq (by decide) (by decide) _ _ _ _ _ (hok c).1 (fun _ => rfl) _ _ (fun _ => rfl) (fun _ => rfl) _ _ _ (fun _ => rfl) _ _ _ y
        (ix2 (rowIx 802816 (by decide) (m (rLoc c) (ix1 (y 0)))) (y 1))
        (fun j hj => by
          have e : ix1 (y 0) = j := funext fun a => by
            obtain rfl : a = 0 := Subsingleton.elim _ _
            exact (Fin.ext hj).symm
          exact (rowIx_of_lt (by decide) ((hok c).1 (ix1 (y 0)))).trans (congrArg (fun q => (m (rLoc c) q : BitVec 32).toNat) e)) rfl
    · rw [a1, a3]
      funext y
      exact TakeRows.take_eq (by decide) (by decide) _ _ _ _ _ (hok c).2 (fun _ => rfl) _ _ (fun _ => rfl) (fun _ => rfl) _ _ _ (fun _ => rfl) _ _ _ y
        (ix2 (rowIx 784 (by decide) (m (bLoc c) (ix1 (y 0)))) (y 1))
        (fun j hj => by
          have e : ix1 (y 0) = j := funext fun a => by
            obtain rfl : a = 0 := Subsingleton.elim _ _
            exact (Fin.ext hj).symm
          exact (rowIx_of_lt (by decide) ((hok c).2 (ix1 (y 0)))).trans (congrArg (fun q => (m (bLoc c) q : BitVec 32).toNat) e)) rfl

end Cert.Proof.Gather

end
-- ==== Proof.VoteBody.lean ====
/-
  The vote kernel's body as eight rounds over two banks of buffers. A bank is a buffer of candidates, one of labels,
  one of counts, and three semaphores; a round is four queries. `fire` issues a round's two copies in, `waitIn` waits
  for them, `zero` clears the counts, `scan` adds one query's votes, `divide` divides the counts, `send` issues the
  round's copy out and `waitOut` waits for it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Vote
public import proofs.«01_k».proof.Proof.Gen.Vote.Skeleton

@[expose] public section

noncomputable section

namespace Cert.Proof.Vote

open Cert.Vote Cert.Vote.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [BitOps F]

/-- One of the two sets of buffers and semaphores a tile alternates between. -/
structure Bank where
  cb : Memref sig .scVector .vmem S16896 .f32
  hcb : cb.IsWhole
  lb : Memref sig .scVector .vmem S16896 .i32
  hlb : lb.IsWhole
  ct : Memref sig .scVector .vmem S4000 .f32
  hct : ct.IsWhole
  sc : DmaSem sig
  sl : DmaSem sig
  so : DmaSem sig

local notation "cV" => (Memref.whole Cert.Vote.main_arg0_scv : Memref Cert.Vote.sig Kind.scVector Space.hbm Cert.Vote.S4325376 EltTy.f32)
local notation "lV" => (Memref.whole Cert.Vote.main_arg1_scv : Memref Cert.Vote.sig Kind.scVector Space.hbm Cert.Vote.S4325376 EltTy.i32)
local notation "tV" => (Memref.whole Cert.Vote.main_arg2_scv : Memref Cert.Vote.sig Kind.scVector Space.hbm Cert.Vote.S16384 EltTy.i32)
local notation "kV" => (Memref.whole Cert.Vote.main_arg3_scv : Memref Cert.Vote.sig Kind.scVector Space.hbm Cert.Vote.S16384 EltTy.i32)
local notation "oV" => (Memref.whole Cert.Vote.main_v0_scv : Memref Cert.Vote.sig Kind.scVector Space.hbm Cert.Vote.S1024000 EltTy.f32)
local notation "tB" => (Memref.whole Cert.Vote.cc0_scratch4 : Memref Cert.Vote.sig Kind.scVector Space.vmem Cert.Vote.S512 EltTy.i32)
local notation "kB" => (Memref.whole Cert.Vote.cc0_scratch5 : Memref Cert.Vote.sig Kind.scVector Space.vmem Cert.Vote.S512 EltTy.i32)

/-- A tile's programs. -/
abbrev TP (F : FTy → Type) (L : grid0.Coords) (α : Type) : Type 1 :=
  Prog (TpuEff nD τ sig (Elt F) Λ₀ (.scVector ((L 0).castLE hcore0) ((L 1).castLE hsub0))) α

/-- The first query of round `r` within its tile's, as the kernel writes it. -/
abbrev qOff (r : Fin 8) : BitVec 32 := BitVec.ofNat 32 (4 * r.val)

/-- A tile's replicated thresholds; a round's candidates, and its part of the result. -/
abbrev tRect (L : grid0.Coords) : Rect S16384 := Rect.unit (s := S16384) (k0_off1 L) S512.size (k0_off1_inb L)
abbrev cRect (L : grid0.Coords) (r : Fin 8) : Rect S4325376 := Rect.unit (s := S4325376) (k0_off2 L (qOff r)) S16896.size (k0_off2_inb L r)
abbrev oRect (L : grid0.Coords) (r : Fin 8) : Rect S1024000 := Rect.unit (s := S1024000) (k0_off37 L (qOff r)) S4000.size (k0_off37_inb L r)

abbrev tCh (L : grid0.Coords) : Memref sig .scVector .hbm S512 .i32 := (tV).slice (tRect L) (fun _ => rfl)
abbrev kCh (L : grid0.Coords) : Memref sig .scVector .hbm S512 .i32 := (kV).slice (tRect L) (fun _ => rfl)
abbrev cCh (L : grid0.Coords) (r : Fin 8) : Memref sig .scVector .hbm S16896 .f32 := (cV).slice (cRect L r) (fun _ => rfl)
abbrev lCh (L : grid0.Coords) (r : Fin 8) : Memref sig .scVector .hbm S16896 .i32 := (lV).slice (cRect L r) (fun _ => rfl)
abbrev oCh (L : grid0.Coords) (r : Fin 8) : Memref sig .scVector .hbm S4000 .f32 := (oV).slice (oRect L r) (fun _ => rfl)

/-- The lanes' numbers, a vote, and a cleared counter. -/
abbrev lanes : IVec S16 32 := iota .scVector S16 32 [0] iota_S16_d0_w32_scVector
abbrev one : FVec F S16 .f32 := broadcast S16 (Scalar.ofBits .f32 0x3F800000#32)
abbrev nil : FVec F S16 .f32 := broadcast S16 (Scalar.ofBits .f32 0x00000000#32)

/-- Fetch the tile's thresholds. -/
def fetch (L : grid0.Coords) : TP F L PUnit := do
  Prog.lift (.enqueueDma (tCh L) (.here tB) (.dma cc0_scoped0.sem) (View.wordExact_bits rfl) (Memref.isWhole_whole _).wordExact ⟨Or.inl rfl, trivial⟩)
  Prog.lift (.waitDma2 cc0_scoped0.sem (tCh L) tB (View.wordExact_bits rfl) (Memref.isWhole_whole _).wordExact)
  Prog.lift (.enqueueDma (kCh L) (.here kB) (.dma cc0_scoped1.sem) (View.wordExact_bits rfl) (Memref.isWhole_whole _).wordExact ⟨Or.inl rfl, trivial⟩)
  Prog.lift (.waitDma2 cc0_scoped1.sem (kCh L) kB (View.wordExact_bits rfl) (Memref.isWhole_whole _).wordExact)

def fire (L : grid0.Coords) (b : Bank) (r : Fin 8) : TP F L PUnit := do
  Prog.lift (.enqueueDma (cCh L r) (.here b.cb) (.dma b.sc) (View.wordExact_bits rfl) b.hcb.wordExact ⟨Or.inl rfl, trivial⟩)
  Prog.lift (.enqueueDma (lCh L r) (.here b.lb) (.dma b.sl) (View.wordExact_bits rfl) b.hlb.wordExact ⟨Or.inl rfl, trivial⟩)

def waitIn (L : grid0.Coords) (b : Bank) (r : Fin 8) : TP F L PUnit := do
  Prog.lift (.waitDma2 b.sc (cCh L r) b.cb (View.wordExact_bits rfl) b.hcb.wordExact)
  Prog.lift (.waitDma2 b.sl (lCh L r) b.lb (View.wordExact_bits rfl) b.hlb.wordExact)

def send (L : grid0.Coords) (b : Bank) (r : Fin 8) : TP F L PUnit :=
  Prog.lift (.enqueueDma b.ct (.here (oCh L r)) (.dma b.so) b.hct.wordExact (View.wordExact_bits rfl) ⟨Or.inl rfl, trivial⟩)

def waitOut (L : grid0.Coords) (b : Bank) (r : Fin 8) : TP F L PUnit :=
  Prog.lift (.waitDma2 b.so b.ct (oCh L r) b.hct.wordExact (View.wordExact_bits rfl))

/-- Sixteen counters, the `t`-th. -/
abbrev dRect (t : Fin k0_t1_loop.trips) : Rect S4000 := Rect.unit (s := S4000) (k0_off3 t) S16.size (k0_off3_inb t)

def zeroTrip (L : grid0.Coords) (b : Bank) (t : Fin k0_t1_loop.trips) : TP F L (BitVec 32) := do
  let _ : Vec F S16 .f32 ← Prog.lift (.load b.ct (dRect t).toLoadRect (View.loadsAt_vmem h_S16))
  Prog.lift (.store b.ct (dRect t) nil Finset.univ (View.stores_vmem_bits_univ h_S16 rfl) (.inl rfl))
  pure 0#32

def zero (L : grid0.Coords) (b : Bank) : TP F L (BitVec 32) := Scf.Loop.for k0_t1_loop k0_t1_ok 0#32 fun t _ => zeroTrip L b t

def divTrip (L : grid0.Coords) (b : Bank) (t : Fin k0_t1_loop.trips) : TP F L (BitVec 32) := do
  let x : Vec F S16 .f32 ← Prog.lift (.load b.ct (dRect t).toLoadRect (View.loadsAt_vmem h_S16))
  let _ : Vec F S16 .f32 ← Prog.lift (.load b.ct (dRect t).toLoadRect (View.loadsAt_vmem h_S16))
  Prog.lift (.store b.ct (dRect t) (divf x (broadcast S16 (Scalar.ofBits .f32 0x42040000#32))) Finset.univ (View.stores_vmem_bits_univ h_S16 rfl) (.inl rfl))
  pure 0#32

def divide (L : grid0.Coords) (b : Bank) : TP F L (BitVec 32) := Scf.Loop.for k0_t1_loop k0_t1_ok 0#32 fun t _ => divTrip L b t

/-- The column at which lane group `u` of trip `t` starts. -/
abbrev col (t : Fin k0_t2_loop.trips) (u : Fin 8) : BitVec 32 :=
  Scalar.addi (Scalar.muli (Scf.iv 0#32 1#32 t) 128#32) (BitVec.ofNat 32 (16 * u.val))

/-- Where query `q`'s columns of that group lie in a bank's buffers. -/
abbrev gOff (q : Fin 4) (t : Fin k0_t2_loop.trips) (u : Fin 8) : Fin 1 → Nat :=
  ![(Scalar.indexCast (Scalar.addi (BitVec.ofNat 32 (4224 * q.val)) (col t u))).toNat]

theorem trips2 : k0_t2_loop.trips = 33 := by decide

theorem gOff_val (q : Fin 4) (t : Fin k0_t2_loop.trips) (u : Fin 8) : gOff q t u = ![4224 * q.val + (128 * t.val + 16 * u.val)] := by
  have ht : t.val < 33 := trips2 ▸ t.isLt
  have hiv : ((Scf.iv 0#32 1#32 t.val : BitVec 32)) = BitVec.ofNat 32 t.val := by
    unfold Scf.iv; apply BitVec.eq_of_toNat_eq; simp
  funext a
  obtain rfl : a = 0 := Subsingleton.elim _ _
  have hq := q.isLt
  have hu := u.isLt
  show (Scalar.indexCast (Scalar.addi (BitVec.ofNat 32 (4224 * q.val)) (Scalar.addi (Scalar.muli (Scf.iv 0#32 1#32 t.val) 128#32) (BitVec.ofNat 32 (16 * u.val))))).toNat = 4224 * q.val + (128 * t.val + 16 * u.val)
  rw [hiv]
  simp [Scalar.indexCast, Scalar.addi, Scalar.muli, IntOp.addi, IntOp.muli]
  omega

theorem gOff_inb (q : Fin 4) (t : Fin k0_t2_loop.trips) (u : Fin 8) (a : Fin 1) : gOff q t u a + S16.size a ≤ S16896.size a := by
  have ht : t.val < 33 := trips2 ▸ t.isLt
  have hq := q.isLt
  have hu := u.isLt
  rw [gOff_val]
  obtain rfl : a = 0 := Subsingleton.elim _ _
  show 4224 * q.val + (128 * t.val + 16 * u.val) + 16 ≤ 16896
  omega

abbrev gRect (q : Fin 4) (t : Fin k0_t2_loop.trips) (u : Fin 8) : Rect S16896 := Rect.unit (s := S16896) (gOff q t u) S16.size (gOff_inb q t u)

/-- A candidate's order-preserving integer. -/
abbrev code (x : Vec F S16 .f32) : IVec S16 32 :=
  select (cmpi .sge (bitcastToInt x) (broadcast S16 0#32)) (bitcastToInt x) (xori (bitcastToInt x) (broadcast S16 2147483647#32))

/-- Which lanes vote: those below the threshold, and of those at it the first columns. -/
abbrev votes (x : Vec F S16 .f32) (t tc : IVec S16 32) (c : BitVec 32) : IVec S16 1 :=
  ori (cmpi .slt (code x) t) (andi (cmpi .eq (code x) t) (cmpi .sle (addi lanes (broadcast S16 c)) tc))

/-- The counters the lanes add to. -/
abbrev cells (y : IVec S16 32) (q : Fin 4) : IVec S16 32 := addi y (broadcast S16 (BitVec.ofNat 32 (1000 * q.val)))

/-- One lane group of query `q`. -/
def group (L : grid0.Coords) (b : Bank) (q : Fin 4) (t tc : IVec S16 32) (k : Fin k0_t2_loop.trips) (u : Fin 8) : TP F L PUnit := do
  let x : Vec F S16 .f32 ← Prog.lift (.load b.cb (gRect q k u).toLoadRect (View.loadsAt_vmem h_S16))
  let y : Vec F S16 .i32 ← Prog.lift (.load b.lb (gRect q k u).toLoadRect (View.loadsAt_vmem h_S16))
  have hw : k0_chk1 (cells y q) := (← Prog.lift (TpuEff.assume (k0_chk1 (cells y q)) (k0_chk1.dec (cells y q)))).down
  SparseCore.vectorStoreIdx b.ct ![cells y q] one (votes x t tc (col k u)) true (k0_idx1_inb (cells y q) hw) (View.stores_vmem_bits_univ h_S4000 rfl)

def scanTrip (L : grid0.Coords) (b : Bank) (q : Fin 4) (t tc : IVec S16 32) (k : Fin k0_t2_loop.trips) : TP F L (BitVec 32) := do
  group L b q t tc k 0; group L b q t tc k 1; group L b q t tc k 2; group L b q t tc k 3
  group L b q t tc k 4; group L b q t tc k 5; group L b q t tc k 6; group L b q t tc k 7
  pure 0#32

def scan (L : grid0.Coords) (b : Bank) (q : Fin 4) (t tc : IVec S16 32) (i : BitVec 32) : TP F L (BitVec 32) :=
  Scf.Loop.for k0_t2_loop k0_t2_ok i fun k _ => scanTrip L b q t tc k

theorem th_inb (Q : Fin 32) (a : Fin 1) : (![16 * Q.val] : Fin 1 → Nat) a + S16.size a ≤ S512.size a := by
  obtain rfl : a = 0 := Subsingleton.elim _ _
  show 16 * Q.val + 16 ≤ 512
  omega

/-- Query `Q`'s thresholds, sixteen copies. -/
abbrev thRect (Q : Fin 32) : Rect S512 := Rect.unit (s := S512) ![16 * Q.val] S16.size (th_inb Q)

def getT (L : grid0.Coords) (Q : Fin 32) : TP F L (Vec F S16 .i32) := Prog.lift (.load tB (thRect Q).toLoadRect (View.loadsAt_vmem h_S16))
def getK (L : grid0.Coords) (Q : Fin 32) : TP F L (Vec F S16 .i32) := Prog.lift (.load kB (thRect Q).toLoadRect (View.loadsAt_vmem h_S16))

/-- Query `Q` of the tile, the `q`-th of its round. -/
def query (L : grid0.Coords) (b : Bank) (q : Fin 4) (Q : Fin 32) : TP F L (BitVec 32) := do
  let t ← getT L Q
  let tc ← getK L Q
  scan L b q t tc 0#32

/-- A round, its candidates and labels in the bank. -/
def round (L : grid0.Coords) (b : Bank) (r : Fin 8) (Q0 Q1 Q2 Q3 : Fin 32) : TP F L PUnit := do
  let _ ← zero L b
  let _ ← query L b 0 Q0; let _ ← query L b 1 Q1; let _ ← query L b 2 Q2; let _ ← query L b 3 Q3
  let _ ← divide L b
  send L b r

/-- The whole body. -/
def body (L : grid0.Coords) (b0 b1 : Bank) : TP F L PUnit := do
  fetch L; fire L b0 0; fire L b1 1
  waitIn L b0 0; round L b0 0 0 1 2 3; fire L b0 2
  waitIn L b1 1; round L b1 1 4 5 6 7; fire L b1 3
  waitIn L b0 2; waitOut L b0 0; round L b0 2 8 9 10 11; fire L b0 4
  waitIn L b1 3; waitOut L b1 1; round L b1 3 12 13 14 15; fire L b1 5
  waitIn L b0 4; waitOut L b0 2; round L b0 4 16 17 18 19; fire L b0 6
  waitIn L b1 5; waitOut L b1 3; round L b1 5 20 21 22 23; fire L b1 7
  waitIn L b0 6; waitOut L b0 4; round L b0 6 24 25 26 27
  waitIn L b1 7; waitOut L b1 5; round L b1 7 28 29 30 31
  waitOut L b0 6; waitOut L b1 7

def bank0 : Bank := ⟨Memref.whole cc0_scratch0, Memref.isWhole_whole _, Memref.whole cc0_scratch2, Memref.isWhole_whole _, Memref.whole cc0_scratch6, Memref.isWhole_whole _,
  cc0_scratch8.sem, cc0_scratch9.sem, cc0_scratch12.sem⟩
def bank1 : Bank := ⟨Memref.whole cc0_scratch1, Memref.isWhole_whole _, Memref.whole cc0_scratch3, Memref.isWhole_whole _, Memref.whole cc0_scratch7, Memref.isWhole_whole _,
  cc0_scratch10.sem, cc0_scratch11.sem, cc0_scratch13.sem⟩

/-! The printed body comes in twelve pieces, cut by length. Each is its run of the statements above. -/

/-- The tile's first query. -/
abbrev tileQ (L : grid0.Coords) : BitVec 32 := Scalar.muli (Scalar.addi (Scalar.muli (BitVec.ofNat 32 (L 1).val) 2#32) (BitVec.ofNat 32 (L 0).val)) 32#32

def P129 (L : grid0.Coords) : TP F L (Σ' (_ : BitVec 32) (_ : IVec S16 32) (_ : FVec F S16 .f32), FVec F S16 .f32) := do
  fetch L; fire L bank0 0; fire L bank1 1; waitIn L bank0 0
  let _ ← zero L bank0
  pure ⟨tileQ L, lanes, one, nil⟩

def P130 (L : grid0.Coords) : TP F L (BitVec 32) := do
  let _ ← query L bank0 0 0
  let _ ← query L bank0 1 1
  let _ ← query L bank0 2 2
  let _ ← query L bank0 3 3
  let _ ← divide L bank0
  send L bank0 0
  pure 8#32

def P131 (L : grid0.Coords) : TP F L (Σ' (_ : Vec F S16 .i32) (_ : Vec F S16 .i32), BitVec 32) := do
  fire L bank0 2; waitIn L bank1 1
  let _ ← zero L bank1
  let _ ← query L bank1 0 4
  let _ ← query L bank1 1 5
  let _ ← query L bank1 2 6
  let t ← getT L 7
  let tc ← getK L 7
  pure ⟨t, tc, 0#32⟩

def P132 (L : grid0.Coords) (t tc : Vec F S16 .i32) (c : BitVec 32) : TP F L (Vec F S16 .i32) := do
  let _ ← scan L bank1 3 t tc c
  let _ ← divide L bank1
  send L bank1 1; fire L bank1 3; waitIn L bank0 2; waitOut L bank0 0
  let _ ← zero L bank0
  let _ ← query L bank0 0 8
  getT L 9

def P133 (L : grid0.Coords) (t : Vec F S16 .i32) : TP F L PUnit := do
  let tc ← getK L 9
  let _ ← scan L bank0 1 t tc 0#32
  let _ ← query L bank0 2 10
  let _ ← query L bank0 3 11
  let _ ← divide L bank0
  send L bank0 2; fire L bank0 4; waitIn L bank1 3

def P134 (L : grid0.Coords) : TP F L PUnit := do
  waitOut L bank1 1
  let _ ← zero L bank1
  let _ ← query L bank1 0 12
  let _ ← query L bank1 1 13
  let _ ← query L bank1 2 14
  let _ ← query L bank1 3 15
  let _ ← divide L bank1
  pure ⟨⟩

def P135 (L : grid0.Coords) : TP F L (Σ' (_ : Vec F S16 .i32), Vec F S16 .i32) := do
  send L bank1 3; fire L bank1 5; waitIn L bank0 4; waitOut L bank0 2
  let _ ← zero L bank0
  let _ ← query L bank0 0 16
  let _ ← query L bank0 1 17
  let t ← getT L 18
  let tc ← getK L 18
  pure ⟨t, tc⟩

def P136 (L : grid0.Coords) (t tc : Vec F S16 .i32) : TP F L (Vec F S16 .i32) := do
  let _ ← scan L bank0 2 t tc 0#32
  let _ ← query L bank0 3 19
  let _ ← divide L bank0
  send L bank0 4; fire L bank0 6; waitIn L bank1 5; waitOut L bank1 3
  let _ ← zero L bank1
  getT L 20

def P137 (L : grid0.Coords) (t : Vec F S16 .i32) : TP F L PUnit := do
  let tc ← getK L 20
  let _ ← scan L bank1 0 t tc 0#32
  let _ ← query L bank1 1 21
  let _ ← query L bank1 2 22
  let _ ← query L bank1 3 23
  let _ ← divide L bank1
  send L bank1 5

def P138 (L : grid0.Coords) : TP F L (Σ' (_ : Vec F S16 .i32) (_ : Vec F S16 .i32), BitVec 32) := do
  fire L bank1 7; waitIn L bank0 6; waitOut L bank0 4
  let _ ← zero L bank0
  let _ ← query L bank0 0 24
  let _ ← query L bank0 1 25
  let _ ← query L bank0 2 26
  let t ← getT L 27
  let tc ← getK L 27
  pure ⟨t, tc, 0#32⟩

def P139 (L : grid0.Coords) (t tc : Vec F S16 .i32) (c : BitVec 32) : TP F L (Vec F S16 .i32) := do
  let _ ← scan L bank0 3 t tc c
  let _ ← divide L bank0
  send L bank0 6; waitIn L bank1 7; waitOut L bank1 5
  let _ ← zero L bank1
  let _ ← query L bank1 0 28
  let _ ← query L bank1 1 29
  getT L 30

def P140 (L : grid0.Coords) (t : Vec F S16 .i32) : TP F L PUnit := do
  let tc ← getK L 30
  let _ ← scan L bank1 2 t tc 0#32
  let _ ← query L bank1 3 31
  let _ ← divide L bank1
  send L bank1 7; waitOut L bank0 6; waitOut L bank1 7

set_option maxRecDepth 65536 in
set_option maxHeartbeats 4000000 in
theorem part129_eq (L : grid0.Coords) :
    k0_part129 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1
      = P129 L  := rfl

set_option maxRecDepth 65536 in
set_option maxHeartbeats 4000000 in
theorem part130_eq (L : grid0.Coords) (v : BitVec 32) :
    k0_part130 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one
      = P130 L  := rfl

set_option maxRecDepth 65536 in
set_option maxHeartbeats 4000000 in
theorem part131_eq (L : grid0.Coords) (v : BitVec 32) (c : BitVec 32) :
    k0_part131 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one nil c
      = P131 L  := rfl

set_option maxRecDepth 65536 in
set_option maxHeartbeats 4000000 in
theorem part132_eq (L : grid0.Coords) (v : BitVec 32) (t tc : Vec F S16 .i32) (c : BitVec 32) :
    k0_part132 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one nil t tc c
      = P132 L t tc c := rfl

set_option maxRecDepth 65536 in
set_option maxHeartbeats 4000000 in
theorem part133_eq (L : grid0.Coords) (v : BitVec 32) (t : Vec F S16 .i32) :
    k0_part133 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one t
      = P133 L t := rfl

set_option maxRecDepth 65536 in
set_option maxHeartbeats 4000000 in
theorem part134_eq (L : grid0.Coords) :
    k0_part134 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 lanes one nil
      = P134 L  := rfl

set_option maxRecDepth 65536 in
set_option maxHeartbeats 4000000 in
theorem part135_eq (L : grid0.Coords) (v : BitVec 32) :
    k0_part135 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one nil
      = P135 L  := rfl

set_option maxRecDepth 65536 in
set_option maxHeartbeats 4000000 in
theorem part136_eq (L : grid0.Coords) (v : BitVec 32) (t tc : Vec F S16 .i32) :
    k0_part136 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one nil t tc
      = P136 L t tc := rfl

set_option maxRecDepth 65536 in
set_option maxHeartbeats 4000000 in
theorem part137_eq (L : grid0.Coords) (v : BitVec 32) (t : Vec F S16 .i32) :
    k0_part137 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one t
      = P137 L t := rfl

set_option maxRecDepth 65536 in
set_option maxHeartbeats 4000000 in
theorem part138_eq (L : grid0.Coords) :
    k0_part138 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 lanes one nil
      = P138 L  := rfl

set_option maxRecDepth 65536 in
set_option maxHeartbeats 4000000 in
theorem part139_eq (L : grid0.Coords) (v : BitVec 32) (t tc : Vec F S16 .i32) (c : BitVec 32) :
    k0_part139 (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1 v lanes one nil t tc c
      = P139 L t tc c := rfl

/-- The pieces in a row. -/
def pieces (L : grid0.Coords) : TP F L PUnit := do
  let _ ← P129 L
  let _ ← P130 L
  let p ← P131 L
  let t ← P132 L p.1 p.2.1 p.2.2
  P133 L t
  P134 L
  let p ← P135 L
  let t ← P136 L p.1 p.2
  P137 L t
  let p ← P138 L
  let t ← P139 L p.1 p.2.1 p.2.2
  P140 L t

/-- The first piece hands on the lanes and the constants. -/
theorem P129_bind (L : grid0.Coords) {α : Type} (k : (Σ' (_ : BitVec 32) (_ : IVec S16 32) (_ : FVec F S16 .f32), FVec F S16 .f32) → TP F L α) :
    (P129 L >>= k) = (P129 L >>= fun _ => k ⟨tileQ L, lanes, one, nil⟩) := by
  simp only [P129, bind_assoc, pure_bind]

set_option maxRecDepth 65536 in
set_option maxHeartbeats 4000000 in
theorem vote_pieces (L : grid0.Coords) :
    cc0_vote (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1
      = pieces L := by
  unfold cc0_vote pieces
  rw [part129_eq, P129_bind]; refine bind_congr fun _ => ?_; try dsimp only
  rw [part130_eq]; refine bind_congr fun _ => ?_; try dsimp only
  rw [part131_eq]; refine bind_congr fun _ => ?_; try dsimp only
  rw [part132_eq]; refine bind_congr fun _ => ?_; try dsimp only
  rw [part133_eq]; refine bind_congr fun _ => ?_; try dsimp only
  rw [part134_eq]; refine bind_congr fun _ => ?_; try dsimp only
  rw [part135_eq]; refine bind_congr fun _ => ?_; try dsimp only
  rw [part136_eq]; refine bind_congr fun _ => ?_; try dsimp only
  rw [part137_eq]; refine bind_congr fun _ => ?_; try dsimp only
  rw [part138_eq]; refine bind_congr fun _ => ?_; try dsimp only
  rw [part139_eq]; refine bind_congr fun _ => ?_
  rfl

theorem pieces_body (L : grid0.Coords) : pieces (F := F) L = body L bank0 bank1 := by
  simp only [pieces, body, round, query, P129, P130, P131, P132, P133, P134, P135, P136, P137, P138, P139, P140, bind_assoc, pure_bind]

theorem body_eq (L : grid0.Coords) :
    cc0_vote (F := F) L cV (Memref.isWhole_whole _) lV (Memref.isWhole_whole _) tV (Memref.isWhole_whole _) kV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scoped0 cc0_scoped1
      = body L bank0 bank1 := (vote_pieces L).trans (pieces_body L)

end Cert.Proof.Vote

end
-- ==== Proof.VoteCount.lean ====
/-
  Counting votes: a counter after `n` of them, the number of votes among the first columns, what a scatter of votes
  does to the counters, and the values the vote kernel computes.
-/
module

public import proofs.«01_k».proof.Proof.VoteBody

@[expose] public section

noncomputable section

namespace Cert.Proof.Vote

open Cert.Vote Cert.Vote.Gen
open Idealize.ShloMosaic

variable {F : FTy → Type} [BitOps F]

/-- How many of the first `n` numbers have `p`. -/
def cnt (p : ℕ → Bool) (n : ℕ) : ℕ := (List.range n).countP p

theorem cnt_zero (p : ℕ → Bool) : cnt p 0 = 0 := rfl

theorem cnt_add (p : ℕ → Bool) (a b : ℕ) : cnt p (a + b) = cnt p a + cnt (fun i => p (a + i)) b := by
  unfold cnt
  rw [List.range_add, List.countP_append, List.countP_map]
  rfl

theorem cnt_le (p : ℕ → Bool) (n : ℕ) : cnt p n ≤ n := by
  unfold cnt
  exact (List.countP_le_length).trans (le_of_eq List.length_range)

theorem countP_lanes (n : ℕ) (p : ℕ → Bool) : (List.finRange n).countP (fun k => p k.val) = cnt p n := by
  unfold cnt
  rw [← List.map_coe_finRange_eq_range, List.countP_map]
  rfl

/-- A counter after `n` votes. -/
def tally (n : ℕ) : F .f32 := (fun a => FloatOps.idxAddf a (Scalar.ofBits .f32 0x3F800000#32))^[n] (Scalar.ofBits .f32 0x00000000#32)

theorem tally_succ (n : ℕ) : tally (F := F) (n + 1) = FloatOps.idxAddf (tally n) (Scalar.ofBits .f32 0x3F800000#32) :=
  Function.iterate_succ_apply' _ _ _

/-- Lane `k`. -/
abbrev lane (k : Fin 16) : S16.Idx := Shape.ofLane (d := ![16]) k

theorem fold_tally (step : (S4000.Idx → F .f32) → Fin 16 → S4000.Idx → F .f32) (mk : Fin 16 → Prop) [DecidablePred mk] (ix : Fin 16 → S4000.Idx)
    (h0 : ∀ g k, ¬ mk k → step g k = g) (h1 : ∀ g k, mk k → step g k (ix k) = FloatOps.idxAddf (g (ix k)) (Scalar.ofBits .f32 0x3F800000#32))
    (h2 : ∀ g k j, mk k → (j 0).val ≠ (ix k 0).val → step g k j = g j) (l : List (Fin 16)) (N : S4000.Idx → ℕ) :
    l.foldl step (fun j => tally (N j)) = fun j => tally (N j + l.countP fun k => decide (mk k ∧ (ix k 0).val = (j 0).val)) := by
  induction l generalizing N with
  | nil => rfl
  | cons k l ih =>
    rw [List.foldl_cons]
    have hstep : step (fun j => tally (N j)) k = fun j => tally (N j + if mk k ∧ (ix k 0).val = (j 0).val then 1 else 0) := by
      by_cases hm : mk k
      · funext j
        by_cases hj : (ix k 0).val = (j 0).val
        · have hij : ix k = j := by
            funext a
            obtain rfl : a = 0 := Subsingleton.elim _ _
            exact Fin.ext hj
          rw [if_pos ⟨hm, hj⟩, ← hij, h1 _ _ hm, tally_succ]
        · rw [if_neg (fun hh => hj hh.2), h2 _ _ _ hm (fun hh => hj hh.symm)]; rfl
      · rw [h0 _ _ hm]
        funext j
        rw [if_neg (fun hh => hm hh.1)]; rfl
    rw [hstep, ih]
    funext j
    rw [List.countP_cons]
    simp only [decide_eq_true_eq]
    congr 1
    omega

/-- A scatter of votes adds to each counter the number of lanes voting for it. -/
theorem storeIdx_tally (idx : IVec S16 32) (mask : IVec S16 1) (h : ∀ a x, ((![idx] : Fin 1 → IVec S16 32) a x).toNat < S4000.size a) (N : S4000.Idx → ℕ) :
    storeIdx (F := F) (s := S4000) (e := .f32) (fun j => tally (N j)) ![idx] one mask true h
      = fun j => tally (N j + (List.finRange 16).countP fun k => decide (mask (lane k) = 1 ∧ (idx (lane k)).toNat = (j 0).val)) := by
  refine fold_tally _ (fun k => mask (lane k) = 1) (fun k => idxAt ![idx] h (lane k)) ?_ ?_ ?_ (List.finRange 16) N
  · intro g k hk; exact if_neg hk
  · intro g k hk
    refine (congrFun (if_pos hk) _).trans ?_
    exact if_pos fun _ => rfl
  · intro g k j hk hj
    refine (congrFun (if_pos hk) _).trans ?_
    exact if_neg fun hh => hj (hh 0)

/-! ## The values -/

/-- Entry `n` of a list, the last one past its end. -/
def at1 {α : Type} {N : ℕ} (hN : 0 < N) (A : (⟨1, ![N]⟩ : Shape).Idx → α) (n : ℕ) : α := A fun a => match a with | 0 => ⟨min n (N - 1), show min n (N - 1) < N by omega⟩

theorem at1_eq {α : Type} {N : ℕ} (hN : 0 < N) (A : (⟨1, ![N]⟩ : Shape).Idx → α) (j : (⟨1, ![N]⟩ : Shape).Idx) (n : ℕ) (h : (j 0).val = n) : A j = at1 hN A n := by
  unfold at1
  congr 1
  funext a
  match a with
  | 0 =>
    apply Fin.ext
    have hj : (j 0).val < N := (j 0).isLt
    show (j 0).val = min n (N - 1)
    omega

/-- A distance's order-preserving integer, and whether it is below the threshold or, at it, among the first columns. -/
def codeS (x : F .f32) : BitVec 32 := Scalar.select (IntOp.cmpi .sge (BitOps.toBits x : BitVec 32) 0#32) (BitOps.toBits x : BitVec 32) (IntOp.xori (BitOps.toBits x : BitVec 32) 2147483647#32)
def voteS (x : F .f32) (t tc c : BitVec 32) : BitVec 1 :=
  IntOp.ori (IntOp.cmpi .slt (codeS x) t) (IntOp.andi (IntOp.cmpi .eq (codeS x) t) (IntOp.cmpi .sle c tc))

/-- Whether column `k` of query `Q` votes for class `c`. -/
def hit (C : S4325376.Idx → F .f32) (B : S4325376.Idx → BitVec 32) (T K : S16384.Idx → BitVec 32) (Q c k : ℕ) : Bool :=
  decide (voteS (at1 (N := 4325376) (by decide) C (Q * 4224 + k)) (at1 (N := 16384) (by decide) T (Q * 16)) (at1 (N := 16384) (by decide) K (Q * 16)) (BitVec.ofNat 32 k) = 1
    ∧ (at1 (N := 4325376) (by decide) B (Q * 4224 + k)).toNat = c)

/-- A class's share of a query's votes. -/
def shareV (C : S4325376.Idx → F .f32) (B : S4325376.Idx → BitVec 32) (T K : S16384.Idx → BitVec 32) (p : ℕ) : F .f32 :=
  FloatOps.divf (tally (cnt (hit C B T K (p / 1000) (p % 1000)) 4224)) (Scalar.ofBits .f32 0x42040000#32)

/-- A round's counters when the queries before `q` are counted and `n` columns of query `q` are: `H` tells the votes. -/
def cnum (H : ℕ → ℕ → ℕ → Bool) (q n : ℕ) (j : S4000.Idx) : ℕ :=
  cnt (H ((j 0).val / 1000) ((j 0).val % 1000)) (if (j 0).val / 1000 < q then 4224 else if (j 0).val / 1000 = q then n else 0)

theorem cnum_zero (H : ℕ → ℕ → ℕ → Bool) (j : S4000.Idx) : cnum H 0 0 j = 0 := by
  unfold cnum
  rw [if_neg (Nat.not_lt_zero _), ite_self]; rfl

theorem cnum_next (H : ℕ → ℕ → ℕ → Bool) (q : ℕ) : cnum H q 4224 = cnum H (q + 1) 0 := by
  funext j
  unfold cnum
  congr 1
  split
  · rw [if_pos (by omega)]
  · split
    · rw [if_pos (by omega)]
    · rw [if_neg (by omega), ite_self]

theorem cnum_last (H : ℕ → ℕ → ℕ → Bool) (j : S4000.Idx) : cnum H 4 0 j = cnt (H ((j 0).val / 1000) ((j 0).val % 1000)) 4224 := by
  have hj : (j 0).val < 4000 := (j 0).isLt
  unfold cnum
  rw [if_pos (by omega)]

/-- Sixteen more columns of query `q`. -/
theorem cnum_group (H : ℕ → ℕ → ℕ → Bool) (q n : ℕ) (p : Fin 16 → Prop) [DecidablePred p] (i : Fin 16 → ℕ)
    (hi : ∀ k, i k / 1000 = q) (hp : ∀ k, H q (i k % 1000) (n + k.val) = decide (p k)) (hH : ∀ k c, c ≠ i k % 1000 → H q c (n + k.val) = false) (j : S4000.Idx) :
    cnum H q n j + (List.finRange 16).countP (fun k => decide (p k ∧ i k = (j 0).val)) = cnum H q (n + 16) j := by
  unfold cnum
  by_cases hq : (j 0).val / 1000 = q
  · rw [if_neg (by omega), if_pos hq, if_neg (by omega), if_pos hq, cnt_add, ← countP_lanes 16 (fun i => H ((j 0).val / 1000) ((j 0).val % 1000) (n + i))]
    congr 1
    refine List.countP_congr fun k _ => ?_
    rw [hq]
    by_cases hc : (j 0).val % 1000 = i k % 1000
    · have hk := hi k
      have : i k = (j 0).val := by omega
      rw [hc, hp k]
      simp [this]
    · rw [hH k _ hc]
      have : i k ≠ (j 0).val := fun hh => hc (by rw [hh])
      simp [this]
  · rw [show (List.finRange 16).countP (fun k => decide (p k ∧ i k = (j 0).val)) = 0 from List.countP_eq_zero.mpr fun k _ => by
      have hk := hi k
      have : i k ≠ (j 0).val := fun hh => hq (by rw [← hh]; exact hk)
      simp [this]]
    rw [if_neg hq, if_neg hq]
    rfl

end Cert.Proof.Vote

end
-- ==== Proof.VoteTile.lean ====
/-
  A tile of the vote kernel: the machine's steps over a bank's buffers, one query's scan, a round of four queries,
  the two copies in and the copy out, and the tile's whole run, with the values it leaves.
-/
module

public import proofs.«01_k».proof.Proof.VoteCount

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev cLoc (d : Dev nD) : Loc nD τ sig := (SparseCore.T d).loc main_arg0
abbrev lLoc (d : Dev nD) : Loc nD τ sig := (SparseCore.T d).loc main_arg1
abbrev tLoc (d : Dev nD) : Loc nD τ sig := (SparseCore.T d).loc main_arg2
abbrev kLoc (d : Dev nD) : Loc nD τ sig := (SparseCore.T d).loc main_arg3
abbrev oLoc (d : Dev nD) : Loc nD τ sig := (SparseCore.T d).loc main_v0

/-- What is asked of the launch memory: the labels name classes, and each query's sixteen thresholds are one. -/
def PreOK : Prop := ∀ d : Dev nD, (∀ j : S4325376.Idx, ((m (lLoc d) : S4325376.Idx → BitVec 32) j).toNat < 1000)
  ∧ (∀ j : S16384.Idx, (m (tLoc d) : S16384.Idx → BitVec 32) j = at1 (N := 16384) (by decide) (m (tLoc d) : S16384.Idx → BitVec 32) ((j 0).val / 16 * 16))
  ∧ (∀ j : S16384.Idx, (m (kLoc d) : S16384.Idx → BitVec 32) j = at1 (N := 16384) (by decide) (m (kLoc d) : S16384.Idx → BitVec 32) ((j 0).val / 16 * 16))

section Tile

variable (d : Dev nD) (L : grid0.Coords)

abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

/-- A round's candidates and labels as the tile fetches them, and the tile's thresholds. -/
abbrev cW (r : Fin 8) : S16896.Idx → Elt F .f32 := (cCh L r).view.read (Elt F) (m (cLoc d))
abbrev lW (r : Fin 8) : S16896.Idx → Elt F .i32 := (lCh L r).view.read (Elt F) (m (lLoc d))
abbrev tW : S512.Idx → Elt F .i32 := (tCh L).view.read (Elt F) (m (tLoc d))
abbrev kW : S512.Idx → Elt F .i32 := (kCh L).view.read (Elt F) (m (kLoc d))

variable [BitOps F]

/-- The result: each class's share of each query's votes. -/
def outV (d : Dev nD) : Buf (Elt F) (oLoc d) := fun (p : S1024000.Idx) =>
  shareV (m (cLoc d) : S4325376.Idx → F .f32) (m (lLoc d) : S4325376.Idx → BitVec 32) (m (tLoc d) : S16384.Idx → BitVec 32) (m (kLoc d) : S16384.Idx → BitVec 32) (p 0).val

abbrev oW (r : Fin 8) : S4000.Idx → Elt F .f32 := (oCh L r).view.read (Elt F) (outV m d)

/-- Round `r`'s first query. -/
abbrev rq (r : Fin 8) : ℕ := 64 * (L 1).val + 32 * (L 0).val + 4 * r.val

/-- Round `r`'s votes: of its `q`-th query, for class `c`, in column `k`. -/
def H (r : Fin 8) (q c k : ℕ) : Bool :=
  hit (m (cLoc d) : S4325376.Idx → F .f32) (m (lLoc d) : S4325376.Idx → BitVec 32) (m (tLoc d) : S16384.Idx → BitVec 32) (m (kLoc d) : S16384.Idx → BitVec 32) (rq L r + q) c k

theorem cW_at (r : Fin 8) (j : S16896.Idx) (q k : ℕ) (h : (j 0).val = 4224 * q + k) :
    cW m d L r j = at1 (N := 4325376) (by decide) (m (cLoc d) : S4325376.Idx → F .f32) ((rq L r + q) * 4224 + k) := by
  refine at1_eq (N := 4325376) (by decide) (m (cLoc d) : S4325376.Idx → F .f32) ((cRect L r).emb j) _ ?_
  show k0_off2 L (qOff r) 0 + 1 * (j 0).val = _
  rw [congrFun (k0_off2_eq L r) 0]
  show 270336 * (L 1).val + 135168 * (L 0).val + 16896 * r.val + 1 * (j 0).val = (64 * (L 1).val + 32 * (L 0).val + 4 * r.val + q) * 4224 + k
  omega

theorem lW_at (r : Fin 8) (j : S16896.Idx) (q k : ℕ) (h : (j 0).val = 4224 * q + k) :
    lW m d L r j = at1 (N := 4325376) (by decide) (m (lLoc d) : S4325376.Idx → BitVec 32) ((rq L r + q) * 4224 + k) := by
  refine at1_eq (N := 4325376) (by decide) (m (lLoc d) : S4325376.Idx → BitVec 32) ((cRect L r).emb j) _ ?_
  show k0_off2 L (qOff r) 0 + 1 * (j 0).val = _
  rw [congrFun (k0_off2_eq L r) 0]
  show 270336 * (L 1).val + 135168 * (L 0).val + 16896 * r.val + 1 * (j 0).val = (64 * (L 1).val + 32 * (L 0).val + 4 * r.val + q) * 4224 + k
  omega

theorem lW_lt (hpre : PreOK m) (r : Fin 8) (j : S16896.Idx) : (lW m d L r j : BitVec 32).toNat < 1000 := (hpre d).1 _

theorem tW_at (hpre : PreOK m) (r : Fin 8) (q : Fin 4) (Q : Fin 32) (hQ : Q.val = 4 * r.val + q.val) (x : S16.Idx) :
    tW m d L ((thRect Q).emb x) = at1 (N := 16384) (by decide) (m (tLoc d) : S16384.Idx → BitVec 32) ((rq L r + q.val) * 16) := by
  refine ((hpre d).2.1 ((tRect L).emb ((thRect Q).emb x))).trans (congrArg (at1 (N := 16384) (by decide) (m (tLoc d) : S16384.Idx → BitVec 32)) ?_)
  have hx : (x 0).val < 16 := (x 0).isLt
  show (k0_off1 L 0 + 1 * (16 * Q.val + 1 * (x 0).val)) / 16 * 16 = (64 * (L 1).val + 32 * (L 0).val + 4 * r.val + q.val) * 16
  rw [congrFun (k0_off1_eq L) 0]
  show (1024 * (L 1).val + 512 * (L 0).val + 1 * (16 * Q.val + 1 * (x 0).val)) / 16 * 16 = _
  omega

theorem kW_at (hpre : PreOK m) (r : Fin 8) (q : Fin 4) (Q : Fin 32) (hQ : Q.val = 4 * r.val + q.val) (x : S16.Idx) :
    kW m d L ((thRect Q).emb x) = at1 (N := 16384) (by decide) (m (kLoc d) : S16384.Idx → BitVec 32) ((rq L r + q.val) * 16) := by
  refine ((hpre d).2.2 ((tRect L).emb ((thRect Q).emb x))).trans (congrArg (at1 (N := 16384) (by decide) (m (kLoc d) : S16384.Idx → BitVec 32)) ?_)
  have hx : (x 0).val < 16 := (x 0).isLt
  show (k0_off1 L 0 + 1 * (16 * Q.val + 1 * (x 0).val)) / 16 * 16 = (64 * (L 1).val + 32 * (L 0).val + 4 * r.val + q.val) * 16
  rw [congrFun (k0_off1_eq L) 0]
  show (1024 * (L 1).val + 512 * (L 0).val + 1 * (16 * Q.val + 1 * (x 0).val)) / 16 * 16 = _
  omega

/-- A round's counters divided are its part of the result. -/
theorem oW_eq (r : Fin 8) : oW m d L r = fun j => FloatOps.divf (tally (cnum (H m d L r) 4 0 j)) (Scalar.ofBits .f32 0x42040000#32) := by
  funext j
  have hj : (j 0).val < 4000 := (j 0).isLt
  rw [cnum_last]
  show shareV _ _ _ _ (k0_off37 L (qOff r) 0 + 1 * (j 0).val) = _
  rw [congrFun (k0_off37_eq L r) 0]
  show shareV _ _ _ _ (64000 * (L 1).val + 32000 * (L 0).val + 4000 * r.val + 1 * (j 0).val) = _
  unfold shareV H
  rw [show (64000 * (L 1).val + 32000 * (L 0).val + 4000 * r.val + 1 * (j 0).val) / 1000 = rq L r + (j 0).val / 1000 by show _ = 64 * (L 1).val + 32 * (L 0).val + 4 * r.val + (j 0).val / 1000; omega,
    show (64000 * (L 1).val + 32000 * (L 0).val + 4000 * r.val + 1 * (j 0).val) % 1000 = (j 0).val % 1000 by omega]

/-! ## The machine's steps, one at a time -/

local notation "WP" => wp frame (wpE (defs₀ (F := F)) 𝒱₀ (th d L) none) Set.univ

/-- What a tile owes, and the waits it has recorded beyond `W`: its own transfers' alone. -/
def owesW (thr : Thread nD τ) (O : CellTallies nD τ sig (HIx 1)) (W : Waits sig (HIx 1)) : sProp 𝕄 :=
  iprop(∃ W', ⌜∀ p ∈ W', p ∈ W ∨ p.2 = none⌝ ∗ owes thr O W')

theorem ret_of {α : Type} {Φ : α → sProp 𝕄} (x : α) : Φ x ⊢ WP (.ret x) Φ := by
  rw [wp_ret]
  iintro H; imodintro; iexact H

theorem pure_of {α : Type} {Φ : α → sProp 𝕄} (x : α) : Φ x ⊢ WP (pure x) Φ := ret_of d L x

theorem step_dma {sp sp' : Space} {s : Shape} {e : EltTy} {src : Memref sig .scVector sp s e} {dst : Memref sig .scVector sp' s e} {sem : DmaSem sig}
    {hs : src.view.WordExact} {hd : dst.view.WordExact} {ht : DmaTarget.Typed (nD := nD) (p := .scVector (cV L) (jV L)) sp (.dma sem) (.here dst)}
    {Φ : PUnit → sProp 𝕄} {q : PosShare TreeShare} {fs : Buf (Elt F) (src.view.loc (th d L))} {fd : Buf (Elt F) (dst.view.loc (th d L))} (h0 : 0 < s.numel) :
    iprop((src.view.loc (th d L) ↦[src.view.set]{q} fs) ∗ (dst.view.loc (th d L) ↦[dst.view.set]{fullShare} fd) ∗ semVal (th d L, .dma sem) 0)
      ⊢ iprop((Transfers.Flight countersEmb (th d L) (.dma sem) (default : HIx 1) dst.view.dmaCredit
              iprop((dst.view.loc (th d L) ↦[dst.view.set]{fullShare} (dst.view.write (Elt F) fd (src.view.read (Elt F) fs) Finset.univ))
                ∗ (src.view.loc (th d L) ↦[src.view.set]{q} fs)) -∗ Φ ⟨⟩)
          -∗ WP (Prog.lift (.enqueueDma src (.here dst) (.dma sem) hs hd ht)) Φ) := by
  have h := Transfers.wp_dmaLocal (defs := defs₀ (F := F)) countersEmb 𝒱₀ (th d L) none (src := src) (via := ReadAs.same) (dst := dst) (sm := .dma sem)
    (hsrc := hs) (hdst := hd) (hsem := ht) (k := fun x => .ret x) (Q := Φ) (q := q) (fs := fs) (fd := fd) (default : HIx 1) dst.view.dmaCredit rfl
    (View.dmaCredit_pos _ h0) (Finset.Subset.refl _)
  iintro H Hk
  iapply h $$ H
  iintro Hf
  iapply ret_of
  iapply Hk
  iexact Hf

theorem step_wait {sp sp' : Space} {s s' : Shape} {e e' : EltTy} {κ' : Kind} {src : Memref sig .scVector sp' s' e'} {dst : Memref sig κ' sp s e} {sem : DmaSem sig}
    {hs : src.view.WordExact} {hd : dst.view.WordExact} {Φ : PUnit → sProp 𝕄} {R : sProp 𝕄}
    {O : CellTallies nD τ sig (HIx 1)} {W : Waits sig (HIx 1)} :
    iprop(Transfers.MayWaits (th d L) (default : HIx 1) O ∗ Transfers.Flight countersEmb (th d L) (.dma sem) (default : HIx 1) dst.view.dmaCredit R ∗ owesW (th d L) O W)
      ⊢ iprop((iprop(R ∗ semVal (th d L, .dma sem) 0 ∗ owesW (th d L) O W) -∗ Φ ⟨⟩)
          -∗ WP (Prog.lift (.waitDma2 sem src dst hs hd)) Φ) := by
  unfold owesW
  iintro ⟨Hmw, Hf, %W', %hW, HO⟩ Hk
  iapply (Transfers.wp_waitLocalO (defs := defs₀ (F := F)) countersEmb 𝒱₀ (th d L) none (srcw := src) (dstw := dst) (hsrc := hs) (hdst := hd) (default : HIx 1) rfl) $$ [Hmw Hf HO]
  · isplitl [Hf]; · iexact Hf
    isplitl [HO]; · iexact HO
    iapply (Transfers.MayWaits.elim (SemLoc.dma sem)) $$ Hmw
  iintro ⟨HR, Hv, HO⟩
  iapply ret_of
  iapply Hk
  isplitl [HR]; · iexact HR
  isplitl [Hv]; · iexact Hv
  iexists _; isplitr; swap; · iexact HO
  ipureintro; intro p hp
  rcases Finset.mem_insert.mp hp with hp | hp
  · exact .inr (hp ▸ rfl)
  · exact hW p hp

/-- A buffer of the tile, by what it reads. -/
def own {s : Shape} {e : EltTy} (M : Memref sig .scVector .vmem s e) (w : s.Idx → Elt F e) : sProp 𝕄 :=
  iprop(∃ f, (M.view.loc (th d L) ↦[M.view.set]{fullShare} f) ∗ ⌜M.view.read (Elt F) f = w⌝)

theorem own_of_write {s : Shape} {e : EltTy} (M : Memref sig .scVector .vmem s e) (w : s.Idx → Elt F e) (f : Buf (Elt F) (M.view.loc (th d L))) :
    (M.view.loc (th d L) ↦[M.view.set]{fullShare} (M.view.write (Elt F) f w Finset.univ)) ⊢ (own d L M w : sProp 𝕄) := by
  unfold own
  iintro H
  iexists _
  isplitl [H]; · iexact H
  ipureintro; exact View.read_write_univ _ _

theorem step_load {s : Shape} {e : EltTy} {M : Memref sig .scVector .vmem s e} {r : Rect s} {hl : M.view.LoadsAt r.toLoadRect} {w : s.Idx → Elt F e}
    {Φ : (r.shape.Idx → Elt F e) → sProp 𝕄} :
    own d L M w ⊢ iprop((own d L M w -∗ Φ (fun x => w (r.emb x))) -∗ WP (Prog.lift (.load M r.toLoadRect hl)) Φ) := by
  unfold own
  iintro ⟨%f, H, %hf⟩ Hk
  iapply (wp_load_rect (defs := defs₀ (F := F)) 𝒱₀ (th d L) none Set.univ (Q := Φ) (m := M) (r := r) (hl := hl) (k := fun x => .ret x) (q := fullShare) (f := f)
    (M.view.set_slice_subset r)) $$ H
  iintro H
  iapply ret_of
  rw [show (M.access r).read (Elt F) f = fun x => w (r.emb x) from hf ▸ rfl]
  iapply Hk
  iexists f
  isplitl [H]; · iexact H
  ipureintro; exact hf

theorem step_store {s : Shape} {e : EltTy} {M : Memref sig .scVector .vmem s e} {r : Rect s} {v : r.shape.Idx → Elt F e}
    {hx : (M.access r).Stores Finset.univ} {hm : (Finset.univ : Finset r.shape.Idx) = Finset.univ ∨ ∀ a, r.stride a = 1} {w : s.Idx → Elt F e}
    {Φ : PUnit → sProp 𝕄} (w' : s.Idx → Elt F e) (hin : ∀ x, w' (r.emb x) = v x) (hout : ∀ y, (∀ x, r.emb x ≠ y) → w' y = w y) :
    own d L M w ⊢ iprop((own d L M w' -∗ Φ ⟨⟩) -∗ WP (Prog.lift (.store M r v Finset.univ hx hm)) Φ) := by
  unfold own
  iintro ⟨%f, H, %hf⟩ Hk
  iapply (wp_store (defs := defs₀ (F := F)) 𝒱₀ (th d L) none Set.univ (Q := Φ) (m := M) (r := r) (w := v) (Mk := Finset.univ) (hx := hx) (hm := hm) (k := fun x => .ret x) (f := f)
    (S := M.view.set) (M.view.set_slice_subset r)) $$ H
  iintro H
  iapply ret_of
  iapply Hk
  iexists _
  isplitl [H]; · iexact H
  ipureintro
  funext y
  by_cases hy : ∃ x, r.emb x = y
  · obtain ⟨x, rfl⟩ := hy
    exact (View.read_slice_write_emb (v := M.view) r f v (Finset.mem_univ x)).trans (hin x).symm
  · have hy' : ∀ x, r.emb x ≠ y := fun x hx => hy ⟨x, hx⟩
    refine (View.read_slice_write_of_not_mem (v := M.view) r f v Finset.univ (y := y) ?_).trans ((congrFun hf y).trans (hout y hy').symm)
    intro hmem
    obtain ⟨x, -, hx⟩ := Finset.mem_map.mp hmem
    exact hy' x hx

theorem set_access_all {s : Shape} {e : EltTy} (M : Memref sig .scVector .vmem s e) : (M.access (.whole s)).set = M.view.set := by
  rw [View.set_slice, Rect.set_whole]; rfl

theorem step_scatter {s : Shape} {e : EltTy} {n : Fin 1 → ℕ} {M : Memref sig .scVector .vmem s e} {idxs : Fin s.rank → IVec ⟨1, n⟩ 32} {v : Vec F ⟨1, n⟩ e} {mask : IVec ⟨1, n⟩ 1} {add : Bool}
    {h : ∀ a x, (idxs a x).toNat < s.size a} {hs : (M.access (.whole s)).Stores Finset.univ} {w : s.Idx → Elt F e} {Φ : PUnit → sProp 𝕄} :
    own d L M w ⊢ iprop((own d L M (storeIdx w idxs v mask add h) -∗ Φ ⟨⟩) -∗ WP (SparseCore.vectorStoreIdx M idxs v mask add h hs) Φ) := by
  unfold own
  iintro ⟨%f, H, %hf⟩ Hk
  have hrd : ∀ g : Buf (Elt F) (M.view.loc (th d L)), (M.access (.whole s)).read (Elt F) g = M.view.read (Elt F) g := fun g => by
    funext x
    exact congrArg (M.view.read (Elt F) g) (Rect.emb_whole_apply s x)
  have hst := SparseCore.wp_vectorStoreIdx (defs := defs₀ (F := F)) 𝒱₀ (th d L) none Set.univ (Q := Φ) (base := M) (idxs := idxs) (v := v) (mask := mask) (add := add) (h := h) (hs := hs)
    (k := pure) (f := f)
  rw [set_access_all, bind_pure] at hst
  iapply hst $$ H
  iintro H
  iapply pure_of
  iapply Hk
  iexists _
  isplitl [H]; · iexact H
  ipureintro
  rw [← hrd, View.read_write_univ, hrd, hf]

end Tile

end Cert.Proof.Vote

end
-- ==== Proof.VoteRound.lean ====
/-
  A round of the vote kernel over one bank: clear the counters, scan four queries, divide.
-/
module

public import proofs.«01_k».proof.Proof.VoteTile

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tB" => (Memref.whole Cert.Vote.cc0_scratch4 : Memref Cert.Vote.sig Kind.scVector Space.vmem Cert.Vote.S512 EltTy.i32)
local notation "kB" => (Memref.whole Cert.Vote.cc0_scratch5 : Memref Cert.Vote.sig Kind.scVector Space.vmem Cert.Vote.S512 EltTy.i32)

variable (m : (ℓ : Loc nD τ sig) → Buf (Elt F) ℓ)

section Tile

variable (d : Dev nD) (L : grid0.Coords) [BitOps F] (b : Bank)

local notation "WP" => wp frame (wpE (defs₀ (F := F)) 𝒱₀ (th d L) none) Set.univ

theorem own_congr {s : Shape} {e : EltTy} {M : Memref sig .scVector .vmem s e} {w w' : s.Idx → Elt F e} (h : w = w') : own d L M w ⊢ (own d L M w' : sProp 𝕄) := h ▸ .rfl

/-! ## The loops over the counters -/

theorem trips1 : k0_t1_loop.trips = 250 := by decide

theorem dRect_emb (t : Fin k0_t1_loop.trips) (x : S16.Idx) : ((dRect t).emb x 0).val = 16 * t.val + (x 0).val := by
  show k0_off3 t 0 + 1 * (x 0).val = _
  rw [congrFun (k0_off3_eq t) 0, Nat.one_mul]; rfl

theorem dRect_surj (t : Fin k0_t1_loop.trips) (y : S4000.Idx) (h0 : 16 * t.val ≤ (y 0).val) (h1 : (y 0).val < 16 * t.val + 16) : ∃ x : S16.Idx, (dRect t).emb x = y := by
  refine ⟨fun a => match a with | 0 => (⟨(y 0).val - 16 * t.val, show (y 0).val - 16 * t.val < 16 by omega⟩ : Fin 16), ?_⟩
  funext a
  obtain rfl : a = 0 := Subsingleton.elim _ _
  apply Fin.ext
  refine (dRect_emb t _).trans ?_
  show 16 * t.val + ((y 0).val - 16 * t.val) = (y 0).val
  omega

theorem zero_spec {Φ : BitVec 32 → sProp 𝕄} :
    iprop(∃ w, own d L b.ct w) ⊢ iprop((∀ x, own d L b.ct (fun _ => tally 0) -∗ Φ x) -∗ WP (zero L b) Φ) := by
  iintro ⟨%w0, H⟩ Hk
  unfold zero
  iapply (Scf.wp_for frame (wpE (defs₀ (F := F)) 𝒱₀ (th d L) none) Set.univ k0_t1_loop.lb k0_t1_loop.ub k0_t1_loop.st k0_t1_ok 0#32 (fun t _ => zeroTrip L b t)
    (fun t _ => iprop(∃ w, own d L b.ct w ∗ ⌜∀ j : S4000.Idx, (j 0).val < 16 * t → w j = tally 0⌝)) ?_)
  · intro t acc
    unfold zeroTrip
    simp only [wp_bind]
    iintro ⟨%w, H, %hw⟩
    iapply (step_load d L) $$ H
    iintro H
    iapply (step_store d L (fun j => if 16 * t.val ≤ (j 0).val ∧ (j 0).val < 16 * t.val + 16 then tally 0 else w j) ?_ ?_) $$ H
    · intro x
      have hx : (x 0).val < 16 := (x 0).isLt
      have he := dRect_emb t x
      exact if_pos ⟨by omega, by omega⟩
    · intro y hy
      refine if_neg fun hh => ?_
      obtain ⟨x, hx⟩ := dRect_surj t y hh.1 hh.2
      exact hy x hx
    iintro H
    iapply pure_of
    iexists _
    isplitl [H]; · iexact H
    ipureintro
    intro j hj
    by_cases hh : 16 * t.val ≤ (j 0).val ∧ (j 0).val < 16 * t.val + 16
    · exact if_pos hh
    · exact (if_neg hh).trans (hw j (by omega))
  isplitl [H]
  · iexists w0
    isplitl [H]; · iexact H
    ipureintro
    intro j hj
    omega
  iintro %acc ⟨%w, H, %hw⟩
  iapply Hk
  iapply (own_congr d L ?_) $$ H
  funext j
  have hj : (j 0).val < 4000 := (j 0).isLt
  refine hw j ?_
  show (j 0).val < 16 * k0_t1_loop.trips
  rw [trips1]; omega

theorem divide_spec {Φ : BitVec 32 → sProp 𝕄} (w : S4000.Idx → F .f32) :
    own d L b.ct w ⊢ iprop((∀ x, own d L b.ct (fun j => FloatOps.divf (w j) (Scalar.ofBits .f32 0x42040000#32)) -∗ Φ x) -∗ WP (divide L b) Φ) := by
  iintro H Hk
  unfold divide
  iapply (Scf.wp_for frame (wpE (defs₀ (F := F)) 𝒱₀ (th d L) none) Set.univ k0_t1_loop.lb k0_t1_loop.ub k0_t1_loop.st k0_t1_ok 0#32 (fun t _ => divTrip L b t)
    (fun t _ => own d L b.ct (fun j : S4000.Idx => if (j 0).val < 16 * t then FloatOps.divf (w j) (Scalar.ofBits .f32 0x42040000#32) else w j)) ?_)
  · intro t acc
    unfold divTrip
    simp only [wp_bind]
    iintro H
    iapply (step_load d L) $$ H
    iintro H
    iapply (step_load d L) $$ H
    iintro H
    iapply (step_store d L (fun j : S4000.Idx => if (j 0).val < 16 * (t.val + 1) then FloatOps.divf (w j) (Scalar.ofBits .f32 0x42040000#32) else w j) ?_ ?_) $$ H
    · intro x
      have hx : (x 0).val < 16 := (x 0).isLt
      have he := dRect_emb t x
      refine (if_pos (by omega)).trans ?_
      show _ = FloatOps.divf (if ((dRect t).emb x 0).val < 16 * t.val then _ else w ((dRect t).emb x)) _
      rw [if_neg (by omega)]; rfl
    · intro y hy
      by_cases h1 : (y 0).val < 16 * t.val
      · exact (if_pos (by omega)).trans (if_pos h1).symm
      · refine (if_neg fun hh => ?_).trans (if_neg h1).symm
        obtain ⟨x, hx⟩ := dRect_surj t y (by omega) (by omega)
        exact hy x hx
    iintro H
    iapply pure_of
    iexact H
  isplitl [H]
  · iapply (own_congr d L ?_) $$ H
    funext j
    exact (if_neg (by omega)).symm
  iintro %acc H
  iapply Hk
  iapply (own_congr d L ?_) $$ H
  funext j
  have hj : (j 0).val < 4000 := (j 0).isLt
  refine if_pos ?_
  show (j 0).val < 16 * k0_t1_loop.trips
  rw [trips1]; omega

/-! ## The scan of a query -/

/-- The bank during round `r`, its counters at `N`. -/
def Scan (r : Fin 8) (N : S4000.Idx → ℕ) : sProp 𝕄 := iprop(own d L b.cb (cW m d L r) ∗ own d L b.lb (lW m d L r) ∗ own d L b.ct (fun j => tally (N j)))

theorem gRect_emb (q : Fin 4) (t : Fin k0_t2_loop.trips) (u : Fin 8) (x : S16.Idx) : ((gRect q t u).emb x 0).val = 4224 * q.val + (128 * t.val + 16 * u.val + (x 0).val) := by
  show gOff q t u 0 + 1 * (x 0).val = _
  rw [congrFun (gOff_val q t u) 0, Nat.one_mul]
  show 4224 * q.val + (128 * t.val + 16 * u.val) + (x 0).val = _
  omega

theorem col_val (t : Fin k0_t2_loop.trips) (u : Fin 8) (k : Fin 16) :
    IntOp.addi (lanes (lane k)) (col t u) = BitVec.ofNat 32 (128 * t.val + 16 * u.val + k.val) := by
  have ht : t.val < 33 := trips2 ▸ t.isLt
  have hu := u.isLt
  have hk := k.isLt
  have hl : lanes (lane k) = BitVec.ofNat 32 k.val := by
    show BitVec.ofNat 32 (0 * 16 + k.val) = _
    rw [Nat.zero_mul, Nat.zero_add]
  rw [hl]
  apply BitVec.eq_of_toNat_eq
  simp [col, Scf.iv, IntOp.addi, Scalar.addi, Scalar.muli, IntOp.muli]
  omega

theorem cells_val (y : IVec S16 32) (q : Fin 4) (x : S16.Idx) (h : (y x).toNat < 1000) : (cells y q x).toNat = 1000 * q.val + (y x).toNat := by
  have hq := q.isLt
  show (IntOp.addi (y x) (BitVec.ofNat 32 (1000 * q.val))).toNat = _
  simp [IntOp.addi]
  omega

/-- The thresholds of query `q` of round `r`, sixteen copies. -/
abbrev tQ (r : Fin 8) (q : Fin 4) : IVec S16 32 := fun _ => at1 (N := 16384) (by decide) (m (tLoc d) : S16384.Idx → BitVec 32) ((rq L r + q.val) * 16)
abbrev kQ (r : Fin 8) (q : Fin 4) : IVec S16 32 := fun _ => at1 (N := 16384) (by decide) (m (kLoc d) : S16384.Idx → BitVec 32) ((rq L r + q.val) * 16)

theorem group_spec {Φ : PUnit → sProp 𝕄} (hpre : PreOK m) (r : Fin 8) (q : Fin 4) (k : Fin k0_t2_loop.trips) (u : Fin 8) :
    Scan m d L b r (cnum (H m d L r) q.val (128 * k.val + 16 * u.val))
      ⊢ iprop((Scan m d L b r (cnum (H m d L r) q.val (128 * k.val + 16 * (u.val + 1))) -∗ Φ ⟨⟩)
        -∗ WP (group L b q (tQ m d L r q) (kQ m d L r q) k u) Φ) := by
  have hlt : ∀ x : S16.Idx, ((lW m d L r ((gRect q k u).emb x)) : BitVec 32).toNat < 1000 := fun x => lW_lt m d L hpre r _
  have hw : k0_chk1 (cells (fun x => lW m d L r ((gRect q k u).emb x)) q) := by
    intro a x
    obtain rfl : a = 0 := Subsingleton.elim _ _
    have h1 := cells_val (fun x => lW m d L r ((gRect q k u).emb x)) q x (hlt x)
    have h2 := hlt x
    have hq := q.isLt
    show (cells (fun x => lW m d L r ((gRect q k u).emb x)) q x).toNat < 4000
    omega
  unfold Scan group
  simp only [wp_bind]
  iintro ⟨Hc, Hl, Ht⟩ Hk
  iapply (step_load d L) $$ Hc
  iintro Hc
  iapply (step_load d L) $$ Hl
  iintro Hl
  iapply (wp_assume (defs := defs₀ (F := F)) 𝒱₀ (th d L) none Set.univ hw)
  iapply ret_of
  iapply (step_scatter d L) $$ Ht
  iintro Ht
  iapply Hk
  isplitl [Hc]; · iexact Hc
  isplitl [Hl]; · iexact Hl
  iapply (own_congr d L ?_) $$ Ht
  refine (storeIdx_tally _ _ _ _).trans ?_
  funext j
  congr 1
  refine cnum_group (H m d L r) q.val (128 * k.val + 16 * u.val) _ (fun l => (cells (fun x => lW m d L r ((gRect q k u).emb x)) q (lane l)).toNat) ?_ ?_ ?_ j
  · intro l
    have h1 := cells_val (fun x => lW m d L r ((gRect q k u).emb x)) q (lane l) (hlt _)
    have h2 := hlt (lane l)
    omega
  · intro l
    have h1 := cells_val (fun x => lW m d L r ((gRect q k u).emb x)) q (lane l) (hlt _)
    have h2 := hlt (lane l)
    have he := gRect_emb q k u (lane l)
    have hc := cW_at m d L r ((gRect q k u).emb (lane l)) q.val (128 * k.val + 16 * u.val + l.val) he
    have hl := lW_at m d L r ((gRect q k u).emb (lane l)) q.val (128 * k.val + 16 * u.val + l.val) he
    unfold H hit
    rw [← hc, ← hl, ← col_val k u l]
    refine decide_eq_decide.mpr ⟨fun hh => hh.1, fun hh => ⟨hh, ?_⟩⟩
    omega
  · intro l c hcne
    have h1 := cells_val (fun x => lW m d L r ((gRect q k u).emb x)) q (lane l) (hlt _)
    have h2 := hlt (lane l)
    have he := gRect_emb q k u (lane l)
    have hl := lW_at m d L r ((gRect q k u).emb (lane l)) q.val (128 * k.val + 16 * u.val + l.val) he
    unfold H hit
    rw [← hl]
    refine decide_eq_false fun hh => hcne ?_
    have h3 := hh.2
    omega

theorem scanTrip_spec {Φ : BitVec 32 → sProp 𝕄} (hpre : PreOK m) (r : Fin 8) (q : Fin 4) (k : Fin k0_t2_loop.trips) :
    Scan m d L b r (cnum (H m d L r) q.val (128 * k.val))
      ⊢ iprop((∀ x, Scan m d L b r (cnum (H m d L r) q.val (128 * (k.val + 1))) -∗ Φ x)
        -∗ WP (scanTrip L b q (tQ m d L r q) (kQ m d L r q) k) Φ) := by
  unfold scanTrip
  simp only [wp_bind]
  iintro H Hk
  iapply (group_spec m d L b hpre r q k 0) $$ H
  iintro H
  iapply (group_spec m d L b hpre r q k 1) $$ H
  iintro H
  iapply (group_spec m d L b hpre r q k 2) $$ H
  iintro H
  iapply (group_spec m d L b hpre r q k 3) $$ H
  iintro H
  iapply (group_spec m d L b hpre r q k 4) $$ H
  iintro H
  iapply (group_spec m d L b hpre r q k 5) $$ H
  iintro H
  iapply (group_spec m d L b hpre r q k 6) $$ H
  iintro H
  iapply (group_spec m d L b hpre r q k 7) $$ H
  iintro H
  iapply pure_of
  iapply Hk
  iexact H

theorem scan_spec {Φ : BitVec 32 → sProp 𝕄} (hpre : PreOK m) (r : Fin 8) (q : Fin 4) (tv kv : IVec S16 32) (ht : tv = tQ m d L r q) (hk : kv = kQ m d L r q) :
    Scan m d L b r (cnum (H m d L r) q.val 0)
      ⊢ iprop((∀ x, Scan m d L b r (cnum (H m d L r) (q.val + 1) 0) -∗ Φ x)
        -∗ WP (scan L b q tv kv 0#32) Φ) := by
  subst ht hk
  iintro H Hk
  unfold scan
  iapply (Scf.wp_for frame (wpE (defs₀ (F := F)) 𝒱₀ (th d L) none) Set.univ k0_t2_loop.lb k0_t2_loop.ub k0_t2_loop.st k0_t2_ok 0#32 (fun k _ => scanTrip L b q (tQ m d L r q) (kQ m d L r q) k)
    (fun k _ => Scan m d L b r (cnum (H m d L r) q.val (128 * k))) ?_)
  · intro k acc
    iintro H
    iapply (scanTrip_spec m d L b hpre r q k) $$ H
    iintro %x H
    iexact H
  isplitl [H]; · iexact H
  iintro %acc H
  iapply Hk
  rw [← cnum_next]
  rw [show Scf.trips k0_t2_loop.lb k0_t2_loop.ub k0_t2_loop.st = 33 from trips2]
  iexact H

/-- The tile's thresholds, fetched. -/
def Thr : sProp 𝕄 := iprop(own d L tB (tW m d L) ∗ own d L kB (kW m d L))

theorem query_spec {Φ : BitVec 32 → sProp 𝕄} (hpre : PreOK m) (r : Fin 8) (q : Fin 4) (Q : Fin 32) (hQ : Q.val = 4 * r.val + q.val) (n n' : ℕ) (hn : n = q.val) (hn' : n' = q.val + 1) :
    iprop(Thr m d L ∗ Scan m d L b r (cnum (H m d L r) n 0))
      ⊢ iprop((∀ x, iprop(Thr m d L ∗ Scan m d L b r (cnum (H m d L r) n' 0)) -∗ Φ x) -∗ WP (query L b q Q) Φ) := by
  subst hn hn'
  unfold Thr query getT getK
  simp only [wp_bind]
  iintro ⟨⟨Ht, Hc⟩, H⟩ Hk
  iapply (step_load d L) $$ Ht
  iintro Ht
  iapply (step_load d L) $$ Hc
  iintro Hc
  iapply (scan_spec m d L b hpre r q _ _ (funext fun x => tW_at m d L hpre r q Q hQ x) (funext fun x => kW_at m d L hpre r q Q hQ x)) $$ H
  iintro %x H
  iapply Hk
  isplitl [Ht Hc]
  · isplitl [Ht]; · iexact Ht
    iexact Hc
  iexact H

end Tile

end Cert.Proof.Vote

end
-- ==== Proof.VoteSteps.lean ====
/-
  A tile of the vote kernel: what a bank holds between the steps, each step's effect on it, and the tile's whole run,
  with the values it leaves.
-/
module

public import proofs.«01_k».proof.Proof.VoteRound

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tB" => (Memref.whole Cert.Vote.cc0_scratch4 : Memref Cert.Vote.sig Kind.scVector Space.vmem Cert.Vote.S512 EltTy.i32)
local notation "kB" => (Memref.whole Cert.Vote.cc0_scratch5 : Memref Cert.Vote.sig Kind.scVector Space.vmem Cert.Vote.S512 EltTy.i32)

variable (m : (ℓ : Loc nD τ sig) → Buf (Elt F) ℓ)

section Tile

variable (d : Dev nD) (L : grid0.Coords) [BitOps F] (b : Bank) (q : PosShare TreeShare)

local notation "WP" => wp frame (wpE (defs₀ (F := F)) 𝒱₀ (th d L) none) Set.univ

/-! ## What a bank holds -/

/-- A buffer of the tile at `f`, and at anything. -/
abbrev pts {s : Shape} {e : EltTy} (M : Memref sig .scVector .vmem s e) (f : Buf (Elt F) (M.view.loc (th d L))) : sProp 𝕄 :=
  M.view.loc (th d L) ↦[M.view.set]{fullShare} f
def any {s : Shape} {e : EltTy} (M : Memref sig .scVector .vmem s e) : sProp 𝕄 := iprop(∃ f, pts d L M f)

theorem own_any {s : Shape} {e : EltTy} (M : Memref sig .scVector .vmem s e) (w : s.Idx → Elt F e) : own d L M w ⊢ (any d L M : sProp 𝕄) := by
  unfold own any
  iintro ⟨%f, H, %_⟩
  iexists f; iexact H
theorem any_own {s : Shape} {e : EltTy} (M : Memref sig .scVector .vmem s e) : any d L M ⊢ (iprop(∃ w, own d L M w) : sProp 𝕄) := by
  unfold own any
  iintro ⟨%f, H⟩
  iexists _; iexists f
  isplitl [H]; · iexact H
  ipureintro; rfl

abbrev sv (s : DmaSem sig) : sProp 𝕄 := semVal (th d L, .dma s) 0
abbrev ptsC : sProp 𝕄 := cLoc d ↦{q} m (cLoc d)
abbrev ptsL : sProp 𝕄 := lLoc d ↦{q} m (lLoc d)
abbrev ptsT : sProp 𝕄 := tLoc d ↦{q} m (tLoc d)
abbrev ptsK : sProp 𝕄 := kLoc d ↦{q} m (kLoc d)
/-- A round's stretch of the candidates or of the labels, and the rest. -/
abbrev inC (r : Fin 8) : sProp 𝕄 := (cCh L r).view.loc (th d L) ↦[(cCh L r).view.set]{q} m (cLoc d)
abbrev inL (r : Fin 8) : sProp 𝕄 := (lCh L r).view.loc (th d L) ↦[(lCh L r).view.set]{q} m (lLoc d)
abbrev exC (r : Fin 8) : sProp 𝕄 := cLoc d ↦[Finset.univ \ (cCh L r).view.set]{q} m (cLoc d)
abbrev exL (r : Fin 8) : sProp 𝕄 := lLoc d ↦[Finset.univ \ (lCh L r).view.set]{q} m (lLoc d)
abbrev ptsO (r : Fin 8) (f : Buf (Elt F) (oLoc d)) : sProp 𝕄 := (oCh L r).view.loc (th d L) ↦[(oCh L r).view.set]{fullShare} f

/-- Its inputs at rest; -/
def InIdle : sProp 𝕄 := iprop(any d L b.cb ∗ any d L b.lb ∗ sv d L b.sc ∗ sv d L b.sl ∗ ptsC m d q ∗ ptsL m d q)
/-- in flight; -/
def Loading (r : Fin 8) : sProp 𝕄 :=
  iprop((∃ fd, Transfers.Flight countersEmb (th d L) (.dma b.sc) (default : HIx 1) b.cb.view.dmaCredit
          iprop(pts d L b.cb (b.cb.view.write (Elt F) fd (cW m d L r) Finset.univ) ∗ inC m d L q r))
    ∗ (∃ fd, Transfers.Flight countersEmb (th d L) (.dma b.sl) (default : HIx 1) b.lb.view.dmaCredit
          iprop(pts d L b.lb (b.lb.view.write (Elt F) fd (lW m d L r) Finset.univ) ∗ inL m d L q r))
    ∗ exC m d L q r ∗ exL m d L q r)
/-- arrived. -/
def Loaded (r : Fin 8) : sProp 𝕄 :=
  iprop(own d L b.cb (cW m d L r) ∗ own d L b.lb (lW m d L r) ∗ sv d L b.sc ∗ sv d L b.sl ∗ ptsC m d q ∗ ptsL m d q)
/-- Its counters at rest; -/
def OutIdle : sProp 𝕄 := iprop(any d L b.ct ∗ sv d L b.so)
/-- on their way to the result. -/
def Storing (r : Fin 8) : sProp 𝕄 :=
  iprop(∃ f g, Transfers.Flight countersEmb (th d L) (.dma b.so) (default : HIx 1) (oCh L r).view.dmaCredit
          iprop(ptsO d L r ((oCh L r).view.write (Elt F) f (oW m d L r) Finset.univ) ∗ pts d L b.ct g))
/-- Round `r`'s part of the result, as the launch leaves it and as the tile does. -/
def chIn (r : Fin 8) : sProp 𝕄 := ptsO d L r (m (oLoc d))
def chOut (r : Fin 8) : sProp 𝕄 := ptsO d L r (outV m d)

theorem out_o (r : Fin 8) (f : Buf (Elt F) (oLoc d)) : ptsO d L r ((oCh L r).view.write (Elt F) f (oW m d L r) Finset.univ) ⊢ (chOut m d L r : sProp 𝕄) := by
  refine Entails.of_eq (pointsTo_congr fun i hi => ?_)
  obtain ⟨j, -, rfl⟩ := Finset.mem_map.mp hi
  rw [View.write_emb_of_mem _ _ (Finset.mem_univ j)]; rfl

/-- What every wait is handed and hands back. -/
def Env (O : CellTallies nD τ sig (HIx 1)) (W : Waits sig (HIx 1)) : sProp 𝕄 :=
  iprop(Transfers.MayWaits (th d L) (default : HIx 1) O ∗ owesW (th d L) O W)

variable {b q} {O : CellTallies nD τ sig (HIx 1)} {W : Waits sig (HIx 1)}

theorem wait_env {sp sp' : Space} {s s' : Shape} {e e' : EltTy} {κ' : Kind} {src : Memref sig .scVector sp' s' e'} {dst : Memref sig κ' sp s e} {sem : DmaSem sig}
    {hs : src.view.WordExact} {hd : dst.view.WordExact} {Φ : PUnit → sProp 𝕄} {R : sProp 𝕄} :
    iprop(Env d L O W ∗ Transfers.Flight countersEmb (th d L) (.dma sem) (default : HIx 1) dst.view.dmaCredit R)
      ⊢ iprop((iprop(Env d L O W ∗ R ∗ sv d L sem) -∗ Φ ⟨⟩) -∗ WP (Prog.lift (.waitDma2 sem src dst hs hd)) Φ) := by
  unfold Env
  iintro ⟨⟨#Hmw, HO⟩, Hf⟩ Hk
  iapply (step_wait d L) $$ [Hf HO]
  · isplitr; · iexact Hmw
    isplitl [Hf]; · iexact Hf
    iexact HO
  iintro ⟨HR, S, HO⟩
  iapply Hk
  isplitl [HO]
  · isplitr; · iexact Hmw
    iexact HO
  isplitl [HR]; · iexact HR
  iexact S

/-! ## The steps -/

theorem fetch_spec {s0 s1 : DmaSem sig} (h0 : s0 = cc0_scoped0.sem) (h1 : s1 = cc0_scoped1.sem) {Φ : PUnit → sProp 𝕄} :
    iprop(Env d L O W ∗ any d L tB ∗ any d L kB ∗ sv d L s0 ∗ sv d L s1 ∗ ptsT m d q ∗ ptsK m d q)
      ⊢ iprop((iprop(Env d L O W ∗ Thr m d L ∗ sv d L s0 ∗ sv d L s1 ∗ ptsT m d q ∗ ptsK m d q) -∗ Φ ⟨⟩) -∗ WP (fetch L) Φ) := by
  subst h0 h1
  unfold any Thr
  simp only [fetch, wp_bind]
  iintro ⟨E, ⟨%f, Ht⟩, ⟨%g, Hk⟩, S0, S1, HT, HK⟩ Hc
  ihave HT := (pointsTo_split_subset (q := q) (f := m (tLoc d)) (S := Finset.univ) (Finset.subset_univ (tCh L).view.set)).1 $$ HT
  icases HT with ⟨HT, HTr⟩
  ihave HK := (pointsTo_split_subset (q := q) (f := m (kLoc d)) (S := Finset.univ) (Finset.subset_univ (kCh L).view.set)).1 $$ HK
  icases HK with ⟨HK, HKr⟩
  iapply (step_dma d L (src := tCh L) (dst := tB) (fs := m (tLoc d)) (fd := f) (by decide)) $$ [HT Ht S0]
  · isplitl [HT]; · iexact HT
    isplitl [Ht]; · iexact Ht
    iexact S0
  iintro Hf
  iapply (wait_env d L) $$ [E Hf]
  · isplitl [E]; · iexact E
    iexact Hf
  iintro ⟨E, ⟨Ht, HT⟩, S0⟩
  iapply (step_dma d L (src := kCh L) (dst := kB) (fs := m (kLoc d)) (fd := g) (by decide)) $$ [HK Hk S1]
  · isplitl [HK]; · iexact HK
    isplitl [Hk]; · iexact Hk
    iexact S1
  iintro Hf
  iapply (wait_env d L) $$ [E Hf]
  · isplitl [E]; · iexact E
    iexact Hf
  iintro ⟨E, ⟨Hk, HK⟩, S1⟩
  iapply Hc
  isplitl [E]; · iexact E
  isplitl [Ht Hk]
  · isplitl [Ht]
    · iapply (own_of_write d L tB (tW m d L) f) $$ Ht
    iapply (own_of_write d L kB (kW m d L) g) $$ Hk
  isplitl [S0]; · iexact S0
  isplitl [S1]; · iexact S1
  isplitl [HT HTr]
  · iapply (pointsTo_split_subset (q := q) (f := m (tLoc d)) (S := Finset.univ) (Finset.subset_univ (tCh L).view.set)).2
    isplitl [HT]; · iexact HT
    iexact HTr
  iapply (pointsTo_split_subset (q := q) (f := m (kLoc d)) (S := Finset.univ) (Finset.subset_univ (kCh L).view.set)).2
  isplitl [HK]; · iexact HK
  iexact HKr

theorem fire_spec {Φ : PUnit → sProp 𝕄} (r : Fin 8) :
    InIdle m d L b q ⊢ iprop((Loading m d L b q r -∗ Φ ⟨⟩) -∗ WP (fire L b r) Φ) := by
  unfold InIdle any Loading
  simp only [fire, wp_bind]
  iintro ⟨⟨%f, Hc⟩, ⟨%g, Hl⟩, Sc, Sl, HC, HL⟩ Hk
  ihave HC := (pointsTo_split_subset (q := q) (f := m (cLoc d)) (S := Finset.univ) (Finset.subset_univ (cCh L r).view.set)).1 $$ HC
  icases HC with ⟨HC, HCr⟩
  ihave HL := (pointsTo_split_subset (q := q) (f := m (lLoc d)) (S := Finset.univ) (Finset.subset_univ (lCh L r).view.set)).1 $$ HL
  icases HL with ⟨HL, HLr⟩
  iapply (step_dma d L (src := cCh L r) (dst := b.cb) (fs := m (cLoc d)) (fd := f) (by decide)) $$ [HC Hc Sc]
  · isplitl [HC]; · iexact HC
    isplitl [Hc]; · iexact Hc
    iexact Sc
  iintro Hf
  iapply (step_dma d L (src := lCh L r) (dst := b.lb) (fs := m (lLoc d)) (fd := g) (by decide)) $$ [HL Hl Sl]
  · isplitl [HL]; · iexact HL
    isplitl [Hl]; · iexact Hl
    iexact Sl
  iintro Hg
  iapply Hk
  isplitl [Hf]; · iexists _; iexact Hf
  isplitl [Hg]; · iexists _; iexact Hg
  isplitl [HCr]; · iexact HCr
  iexact HLr

theorem waitIn_spec {Φ : PUnit → sProp 𝕄} (r : Fin 8) :
    iprop(Env d L O W ∗ Loading m d L b q r) ⊢ iprop((iprop(Env d L O W ∗ Loaded m d L b q r) -∗ Φ ⟨⟩) -∗ WP (waitIn L b r) Φ) := by
  unfold Loading Loaded
  simp only [waitIn, wp_bind]
  iintro ⟨E, ⟨%f, Hf⟩, ⟨%g, Hg⟩, HCr, HLr⟩ Hk
  iapply (wait_env d L) $$ [E Hf]
  · isplitl [E]; · iexact E
    iexact Hf
  iintro ⟨E, ⟨Hc, HC⟩, Sc⟩
  iapply (wait_env d L) $$ [E Hg]
  · isplitl [E]; · iexact E
    iexact Hg
  iintro ⟨E, ⟨Hl, HL⟩, Sl⟩
  iapply Hk
  isplitl [E]; · iexact E
  isplitl [Hc]; · iapply (own_of_write d L b.cb (cW m d L r) f) $$ Hc
  isplitl [Hl]; · iapply (own_of_write d L b.lb (lW m d L r) g) $$ Hl
  isplitl [Sc]; · iexact Sc
  isplitl [Sl]; · iexact Sl
  isplitl [HC HCr]
  · iapply (pointsTo_split_subset (q := q) (f := m (cLoc d)) (S := Finset.univ) (Finset.subset_univ (cCh L r).view.set)).2
    isplitl [HC]; · iexact HC
    iexact HCr
  iapply (pointsTo_split_subset (q := q) (f := m (lLoc d)) (S := Finset.univ) (Finset.subset_univ (lCh L r).view.set)).2
  isplitl [HL]; · iexact HL
  iexact HLr

theorem send_spec {Φ : PUnit → sProp 𝕄} (r : Fin 8) :
    iprop(own d L b.ct (oW m d L r) ∗ sv d L b.so ∗ chIn m d L r) ⊢ iprop((Storing m d L b r -∗ Φ ⟨⟩) -∗ WP (send L b r) Φ) := by
  unfold own Storing chIn send
  iintro ⟨⟨%f, Hc, %hf⟩, S, HO⟩ Hk
  iapply (step_dma d L (src := b.ct) (dst := oCh L r) (fs := f) (fd := m (oLoc d)) (by decide)) $$ [Hc HO S]
  · isplitl [Hc]; · iexact Hc
    isplitl [HO]; · iexact HO
    iexact S
  rw [hf]
  iintro Hf
  iapply Hk
  iexists _; iexists _; iexact Hf

theorem waitOut_spec {Φ : PUnit → sProp 𝕄} (r : Fin 8) :
    iprop(Env d L O W ∗ Storing m d L b r) ⊢ iprop((iprop(Env d L O W ∗ OutIdle d L b ∗ chOut m d L r) -∗ Φ ⟨⟩) -∗ WP (waitOut L b r) Φ) := by
  unfold Storing OutIdle any waitOut
  iintro ⟨E, %f, %g, Hf⟩ Hk
  iapply (wait_env d L) $$ [E Hf]
  · isplitl [E]; · iexact E
    iexact Hf
  iintro ⟨E, ⟨HO, Hc⟩, S⟩
  iapply Hk
  isplitl [E]; · iexact E
  isplitl [Hc S]
  · isplitl [Hc]; · iexists _; iexact Hc
    iexact S
  iapply (out_o m d L r f) $$ HO

theorem round_spec {Φ : PUnit → sProp 𝕄} (hpre : PreOK m) (r : Fin 8) (Q0 Q1 Q2 Q3 : Fin 32) (h0 : Q0.val = 4 * r.val + 0) (h1 : Q1.val = 4 * r.val + 1)
    (h2 : Q2.val = 4 * r.val + 2) (h3 : Q3.val = 4 * r.val + 3) :
    iprop(Thr m d L ∗ Loaded m d L b q r ∗ OutIdle d L b ∗ chIn m d L r)
      ⊢ iprop((iprop(Thr m d L ∗ InIdle m d L b q ∗ Storing m d L b r) -∗ Φ ⟨⟩) -∗ WP (round L b r Q0 Q1 Q2 Q3) Φ) := by
  unfold Loaded OutIdle
  simp only [round, wp_bind]
  iintro ⟨T, ⟨Hc, Hl, Sc, Sl, HC, HL⟩, ⟨Ho, So⟩, HO⟩ Hk
  ihave Ho := (any_own d L b.ct) $$ Ho
  iapply (zero_spec d L b) $$ Ho
  iintro %z Ho
  iapply (query_spec m d L b hpre r 0 Q0 h0 0 1 rfl rfl) $$ [T Hc Hl Ho]
  · isplitl [T]; · iexact T
    unfold Scan
    isplitl [Hc]; · iexact Hc
    isplitl [Hl]; · iexact Hl
    iapply (own_congr d L ?_) $$ Ho
    exact funext fun j => congrArg tally (cnum_zero _ _).symm
  iintro %x0 H
  iapply (query_spec m d L b hpre r 1 Q1 h1 1 2 rfl rfl) $$ H
  iintro %x1 H
  iapply (query_spec m d L b hpre r 2 Q2 h2 2 3 rfl rfl) $$ H
  iintro %x2 H
  iapply (query_spec m d L b hpre r 3 Q3 h3 3 4 rfl rfl) $$ H
  iintro %x3 H
  unfold Scan
  icases H with ⟨T, Hc, Hl, Ho⟩
  iapply (divide_spec d L b _) $$ Ho
  iintro %y Ho
  iapply (send_spec m d L r) $$ [Ho So HO]
  · isplitl [Ho]
    · iapply (own_congr d L ?_) $$ Ho
      exact (oW_eq m d L r).symm
    isplitl [So]; · iexact So
    iexact HO
  iintro HS
  iapply Hk
  isplitl [T]; · iexact T
  isplitr [HS]; swap; · iexact HS
  unfold InIdle
  isplitl [Hc]; · iapply (own_any d L b.cb _) $$ Hc
  isplitl [Hl]; · iapply (own_any d L b.lb _) $$ Hl
  isplitl [Sc]; · iexact Sc
  isplitl [Sl]; · iexact Sl
  isplitl [HC]; · iexact HC
  iexact HL

/-! ## The tile's run -/

/-- The kernel's turn of a bank whose counters are at rest: round `r`, then round `r'` fired. -/
theorem first_turn {Φ : PUnit → sProp 𝕄} (hpre : PreOK m) (r r' : Fin 8) (Q0 Q1 Q2 Q3 : Fin 32) (h0 : Q0.val = 4 * r.val + 0) (h1 : Q1.val = 4 * r.val + 1)
    (h2 : Q2.val = 4 * r.val + 2) (h3 : Q3.val = 4 * r.val + 3) :
    iprop(Env d L O W ∗ Thr m d L ∗ Loading m d L b q r ∗ OutIdle d L b ∗ chIn m d L r)
      ⊢ iprop((iprop(Env d L O W ∗ Thr m d L ∗ Loading m d L b q r' ∗ Storing m d L b r) -∗ Φ ⟨⟩)
        -∗ WP (waitIn L b r) (fun _ => WP (round L b r Q0 Q1 Q2 Q3) (fun _ => WP (fire L b r') Φ))) := by
  iintro ⟨E, T, HI, HO, C⟩ Hk
  iapply (waitIn_spec m d L r) $$ [E HI]; · isplitl [E] <;> iassumption
  iintro ⟨E, HI⟩
  iapply (round_spec m d L hpre r Q0 Q1 Q2 Q3 h0 h1 h2 h3) $$ [T HI HO C]
  · isplitl [T]; · iexact T
    isplitl [HI]; · iexact HI
    isplitl [HO] <;> iassumption
  iintro ⟨T, HI, HS⟩
  iapply (fire_spec m d L r') $$ HI
  iintro HI
  iapply Hk
  isplitl [E]; · iexact E
  isplitl [T]; · iexact T
  isplitl [HI] <;> iassumption

/-- A bank whose counters are on their way out: round `p` leaves, round `r` is counted. -/
theorem last_turn {Φ : PUnit → sProp 𝕄} (hpre : PreOK m) (r p : Fin 8) (Q0 Q1 Q2 Q3 : Fin 32) (h0 : Q0.val = 4 * r.val + 0) (h1 : Q1.val = 4 * r.val + 1)
    (h2 : Q2.val = 4 * r.val + 2) (h3 : Q3.val = 4 * r.val + 3) :
    iprop(Env d L O W ∗ Thr m d L ∗ Loading m d L b q r ∗ Storing m d L b p ∗ chIn m d L r)
      ⊢ iprop((iprop(Env d L O W ∗ Thr m d L ∗ InIdle m d L b q ∗ Storing m d L b r ∗ chOut m d L p) -∗ Φ ⟨⟩)
        -∗ WP (waitIn L b r) (fun _ => WP (waitOut L b p) (fun _ => WP (round L b r Q0 Q1 Q2 Q3) Φ))) := by
  iintro ⟨E, T, HI, HO, C⟩ Hk
  iapply (waitIn_spec m d L r) $$ [E HI]; · isplitl [E] <;> iassumption
  iintro ⟨E, HI⟩
  iapply (waitOut_spec m d L p) $$ [E HO]; · isplitl [E] <;> iassumption
  iintro ⟨E, HO, Cp⟩
  iapply (round_spec m d L hpre r Q0 Q1 Q2 Q3 h0 h1 h2 h3) $$ [T HI HO C]
  · isplitl [T]; · iexact T
    isplitl [HI]; · iexact HI
    isplitl [HO] <;> iassumption
  iintro ⟨T, HI, HS⟩
  iapply Hk
  isplitl [E]; · iexact E
  isplitl [T]; · iexact T
  isplitl [HI]; · iexact HI
  isplitl [HS] <;> iassumption

theorem turn {Φ : PUnit → sProp 𝕄} (hpre : PreOK m) (r p r' : Fin 8) (Q0 Q1 Q2 Q3 : Fin 32) (h0 : Q0.val = 4 * r.val + 0) (h1 : Q1.val = 4 * r.val + 1)
    (h2 : Q2.val = 4 * r.val + 2) (h3 : Q3.val = 4 * r.val + 3) :
    iprop(Env d L O W ∗ Thr m d L ∗ Loading m d L b q r ∗ Storing m d L b p ∗ chIn m d L r)
      ⊢ iprop((iprop(Env d L O W ∗ Thr m d L ∗ Loading m d L b q r' ∗ Storing m d L b r ∗ chOut m d L p) -∗ Φ ⟨⟩)
        -∗ WP (waitIn L b r) (fun _ => WP (waitOut L b p) (fun _ => WP (round L b r Q0 Q1 Q2 Q3) (fun _ => WP (fire L b r') Φ)))) := by
  iintro H Hk
  iapply (last_turn m d L hpre r p Q0 Q1 Q2 Q3 h0 h1 h2 h3) $$ H
  iintro ⟨E, T, HI, HS, C⟩
  iapply (fire_spec m d L r') $$ HI
  iintro HI
  iapply Hk
  isplitl [E]; · iexact E
  isplitl [T]; · iexact T
  isplitl [HI]; · iexact HI
  isplitl [HS] <;> iassumption

/-- The eight rounds, one by one. -/
theorem rounds_eq (Ψ : Fin 8 → sProp 𝕄) :
    bigSep Finset.univ Ψ = iprop(Ψ 0 ∗ Ψ 1 ∗ Ψ 2 ∗ Ψ 3 ∗ Ψ 4 ∗ Ψ 5 ∗ Ψ 6 ∗ Ψ 7) := by
  rw [show (Finset.univ : Finset (Fin 8)) = {0, 1, 2, 3, 4, 5, 6, 7} by decide]
  iterate 7 rw [SparseCore.bigSep_insert' (by decide)]
  rw [bigSep_singleton]

/-- What a tile has besides the result: its scratch, its semaphores and its shares of the arguments. -/
def Rest (b0 b1 : Bank) (q0 q1 qt : PosShare TreeShare) (Th : sProp 𝕄) : sProp 𝕄 :=
  iprop((Th ∗ sv d L cc0_scoped0.sem ∗ sv d L cc0_scoped1.sem ∗ ptsT m d qt ∗ ptsK m d qt)
    ∗ (InIdle m d L b0 q0 ∗ OutIdle d L b0) ∗ InIdle m d L b1 q1 ∗ OutIdle d L b1)

theorem body_spec {b0 b1 : Bank} {q0 q1 qt : PosShare TreeShare} {Φ : PUnit → sProp 𝕄} (hpre : PreOK m) :
    iprop(Env d L O W ∗ Rest m d L b0 b1 q0 q1 qt iprop(any d L tB ∗ any d L kB) ∗ bigSep Finset.univ (chIn m d L))
      ⊢ iprop((iprop(Env d L O W ∗ Rest m d L b0 b1 q0 q1 qt (Thr m d L) ∗ bigSep Finset.univ (chOut m d L)) -∗ Φ ⟨⟩)
          -∗ WP (body L b0 b1) Φ) := by
  rw [rounds_eq, rounds_eq]
  unfold Rest
  simp only [body, wp_bind]
  iintro ⟨E, ⟨⟨⟨Tt, Tk⟩, S0, S1, PT, PK⟩, ⟨A0, B0⟩, A1, B1⟩, C0, C1, C2, C3, C4, C5, C6, C7⟩ Hk
  iapply (fetch_spec m d L (q := qt) rfl rfl) $$ [E Tt Tk S0 S1 PT PK]
  · isplitl [E]; · iexact E
    isplitl [Tt]; · iexact Tt
    isplitl [Tk]; · iexact Tk
    isplitl [S0]; · iexact S0
    isplitl [S1]; · iexact S1
    isplitl [PT] <;> iassumption
  iintro ⟨E, T, S0, S1, PT, PK⟩
  iapply (fire_spec m d L 0) $$ A0
  iintro A0
  iapply (fire_spec m d L 1) $$ A1
  iintro A1
  iapply (first_turn m d L hpre 0 2 _ _ _ _ rfl rfl rfl rfl) $$ [E T A0 B0 C0]
  · isplitl [E]; · iexact E
    isplitl [T]; · iexact T
    isplitl [A0]; · iexact A0
    isplitl [B0] <;> iassumption
  iintro ⟨E, T, A0, B0⟩
  iapply (first_turn m d L hpre 1 3 _ _ _ _ rfl rfl rfl rfl) $$ [E T A1 B1 C1]
  · isplitl [E]; · iexact E
    isplitl [T]; · iexact T
    isplitl [A1]; · iexact A1
    isplitl [B1] <;> iassumption
  iintro ⟨E, T, A1, B1⟩
  iapply (turn m d L hpre 2 0 4 _ _ _ _ rfl rfl rfl rfl) $$ [E T A0 B0 C2]
  · isplitl [E]; · iexact E
    isplitl [T]; · iexact T
    isplitl [A0]; · iexact A0
    isplitl [B0] <;> iassumption
  iintro ⟨E, T, A0, B0, C0⟩
  iapply (turn m d L hpre 3 1 5 _ _ _ _ rfl rfl rfl rfl) $$ [E T A1 B1 C3]
  · isplitl [E]; · iexact E
    isplitl [T]; · iexact T
    isplitl [A1]; · iexact A1
    isplitl [B1] <;> iassumption
  iintro ⟨E, T, A1, B1, C1⟩
  iapply (turn m d L hpre 4 2 6 _ _ _ _ rfl rfl rfl rfl) $$ [E T A0 B0 C4]
  · isplitl [E]; · iexact E
    isplitl [T]; · iexact T
    isplitl [A0]; · iexact A0
    isplitl [B0] <;> iassumption
  iintro ⟨E, T, A0, B0, C2⟩
  iapply (turn m d L hpre 5 3 7 _ _ _ _ rfl rfl rfl rfl) $$ [E T A1 B1 C5]
  · isplitl [E]; · iexact E
    isplitl [T]; · iexact T
    isplitl [A1]; · iexact A1
    isplitl [B1] <;> iassumption
  iintro ⟨E, T, A1, B1, C3⟩
  iapply (last_turn m d L hpre 6 4 _ _ _ _ rfl rfl rfl rfl) $$ [E T A0 B0 C6]
  · isplitl [E]; · iexact E
    isplitl [T]; · iexact T
    isplitl [A0]; · iexact A0
    isplitl [B0] <;> iassumption
  iintro ⟨E, T, A0, B0, C4⟩
  iapply (last_turn m d L hpre 7 5 _ _ _ _ rfl rfl rfl rfl) $$ [E T A1 B1 C7]
  · isplitl [E]; · iexact E
    isplitl [T]; · iexact T
    isplitl [A1]; · iexact A1
    isplitl [B1] <;> iassumption
  iintro ⟨E, T, A1, B1, C5⟩
  iapply (waitOut_spec m d L 6) $$ [E B0]; · isplitl [E] <;> iassumption
  iintro ⟨E, B0, C6⟩
  iapply (waitOut_spec m d L 7) $$ [E B1]; · isplitl [E] <;> iassumption
  iintro ⟨E, B1, C7⟩
  iapply Hk
  isplitl [E]; · iexact E
  isplitl [T S0 S1 PT PK A0 B0 A1 B1]
  · isplitl [T S0 S1 PT PK]
    · isplitl [T]; · iexact T
      isplitl [S0]; · iexact S0
      isplitl [S1]; · iexact S1
      isplitl [PT] <;> iassumption
    isplitl [A0 B0]
    · isplitl [A0] <;> iassumption
    isplitl [A1] <;> iassumption
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

end Tile

end Cert.Proof.Vote

end
-- ==== Proof.VoteRun.lean ====
/-
  The vote kernel's launch: a tile's scratch buffers and semaphores told apart into the two banks and the thresholds'
  buffers, the arrays dealt out to the thirty-two tiles, and the program's run with the result's value.
-/
module

public import proofs.«01_k».proof.Proof.VoteSteps
public import Idealize.ShloMosaic.Lib.SparseCore.Launch

@[expose] public section

noncomputable section

namespace Cert.Proof.Vote

open Cert.Vote Cert.Vote.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tB" => (Memref.whole Cert.Vote.cc0_scratch4 : Memref Cert.Vote.sig Kind.scVector Space.vmem Cert.Vote.S512 EltTy.i32)
local notation "kB" => (Memref.whole Cert.Vote.cc0_scratch5 : Memref Cert.Vote.sig Kind.scVector Space.vmem Cert.Vote.S512 EltTy.i32)

variable (m : (ℓ : Loc nD τ sig) → Buf (Elt F) ℓ) (ρ : Dev nD → PrngReg)

/-! ## A tile's scratch, told apart -/

/-- The two banks' buffers, then the thresholds'; the banks' semaphores, then those of the thresholds' copies. -/
def tileRef : Fin 8 → Ref sig .scVector :=
  ![cc0_scratch0, cc0_scratch2, cc0_scratch6, cc0_scratch1, cc0_scratch3, cc0_scratch7, cc0_scratch4, cc0_scratch5]
def tileSem : Fin 8 → SemLoc sig := fun k => .dma
  (![cc0_scratch8.sem, cc0_scratch9.sem, cc0_scratch12.sem, cc0_scratch10.sem, cc0_scratch11.sem, cc0_scratch13.sem, cc0_scoped0.sem, cc0_scoped1.sem] k)

theorem tileRef_inj : Function.Injective tileRef := by decide
theorem tileSem_inj : Function.Injective tileSem := by decide
theorem tileSem_scoped : ∀ k, (tileSem k).isScoped .scVector = true := by decide

theorem two_eq (Ψ : Fin 2 → sProp 𝕄) : bigSep Finset.univ Ψ = iprop(Ψ 0 ∗ Ψ 1) := by
  rw [show (Finset.univ : Finset (Fin 2)) = {0, 1} by decide, SparseCore.bigSep_insert' (by decide), bigSep_singleton]

/-- A family's members that a one-to-one function names, and the others. -/
theorem named_split {I J : Type} [DecidableEq I] [DecidableEq J] {s : Finset I} {t : Finset J} (f : J → I) (inj : Function.Injective f)
    (sub : ∀ j, f j ∈ s) (Φ : I → sProp 𝕄) :
    bigSep s Φ = iprop(bigSep t (fun j => Φ (f j)) ∗ bigSep (s \ t.image f) Φ) := by
  have h : t.image f ⊆ s := fun x hx => by obtain ⟨j, -, rfl⟩ := Finset.mem_image.mp hx; exact sub j
  rw [SparseCore.bigSep_sdiff_split' h, SparseCore.bigSep_image_of_injOn inj.injOn]

section Tile

variable (d : Dev nD) (L : grid0.Coords)

/-- The tile's semaphores and buffers other than those. -/
def semRest : sProp 𝕄 := bigSep (ownCells (th d L) \ Finset.univ.image fun k => ((th d L, tileSem k) : GSem nD τ sig)) fun g => semVal g 0
def bufRest : sProp 𝕄 :=
  bigSep (ownRefs (τ := τ) (sig := sig) (th d L).2 \ Finset.univ.image fun k => (Proc.scVector (cV L) (jV L)).devRef (tileRef k)) fun b =>
    iprop(∃ f, ((d, b) : Loc nD τ sig) ↦{fullShare} f)

/-- A buffer held whole, at anything. -/
abbrev full {s : Shape} {e : EltTy} (M : Memref sig .scVector .vmem s e) : sProp 𝕄 := iprop(∃ f, M.view.loc (th d L) ↦{fullShare} f)

variable [BitOps F]

theorem sems_split : (ownSems0 (th d L) : sProp 𝕄)
    = iprop((sv d L bank0.sc ∗ sv d L bank0.sl ∗ sv d L bank0.so ∗ sv d L bank1.sc ∗ sv d L bank1.sl ∗ sv d L bank1.so ∗ sv d L cc0_scoped0.sem ∗ sv d L cc0_scoped1.sem)
      ∗ semRest d L) := by
  unfold ownSems0 semRest
  rw [named_split (s := ownCells (th d L)) (t := (Finset.univ : Finset (Fin 8))) (fun k => ((th d L, tileSem k) : GSem nD τ sig))
      (fun a b h => tileSem_inj (Prod.ext_iff.mp h).2) (fun k => mem_ownCells.mpr ⟨rfl, tileSem_scoped k⟩), rounds_eq]
  rfl

theorem bufs_split : (ownBufs (th d L) : sProp 𝕄)
    = iprop((full d L bank0.cb ∗ full d L bank0.lb ∗ full d L bank0.ct ∗ full d L bank1.cb ∗ full d L bank1.lb ∗ full d L bank1.ct ∗ full d L tB ∗ full d L kB)
      ∗ bufRest d L) := by
  unfold ownBufs bufRest
  rw [named_split (s := ownRefs (τ := τ) (sig := sig) (.scVector (cV L) (jV L))) (t := (Finset.univ : Finset (Fin 8)))
      (fun k => (Proc.scVector (cV L) (jV L)).devRef (tileRef k))
      (fun a b h => tileRef_inj (Proc.devRef_injective _ h)) (fun k => by fin_cases k <;> exact SparseCore.Cfg.mem_ownRefs_of_owner rfl), rounds_eq]
  rfl

theorem full_any {s : Shape} {e : EltTy} {M : Memref sig .scVector .vmem s e} (h : M.IsWhole) : (full d L M : sProp 𝕄) = any d L M := by
  unfold any full pts; rw [h.set_eq_univ]

/-! ## The tile's part of the arrays -/

/-- The number a tile goes by, and its share of the arrays every tile reads. -/
abbrev wid (L : grid0.Coords) : Fin 32 := ⟨2 * (L 1).val + (L 0).val, by
  have h0 : (L 0).val < 2 := (L 0).isLt
  have h1 : (L 1).val < 16 := (L 1).isLt
  omega⟩
abbrev sh (t : Fin 32) : PosShare TreeShare := pieceOf fullShare 32 (by decide) t
/-- A bank's half of such a share. -/
abbrev half (q : PosShare TreeShare) (k : Fin 2) : PosShare TreeShare := pieceOf q 2 (by decide) k

/-- What a tile is handed: its shares of the four arguments, its part of the result as `C` has it. -/
def tileRes (C : Fin 8 → sProp 𝕄) : sProp 𝕄 :=
  iprop(ptsC m d (sh (wid L)) ∗ ptsL m d (sh (wid L)) ∗ ptsT m d (sh (wid L)) ∗ ptsK m d (sh (wid L)) ∗ bigSep Finset.univ C)

theorem halves {ℓ : Loc nD τ sig} (f : Buf (Elt F) ℓ) (q : PosShare TreeShare) : (ℓ ↦{q} f : sProp 𝕄) = iprop((ℓ ↦{half q 0} f) ∗ (ℓ ↦{half q 1} f)) := by
  rw [pointsTo_piecesOf _ _ (by decide : 0 < 2), two_eq]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d L (chIn m d L)
        ∗ scopedBufs (th d L) ∗ scopedSems0 (th d L) ∗ owes (th d L) O W)
      ⊢ wp frame (wpE (defs₀ (F := F)) 𝒱₀ (th d L) none) Set.univ (body L bank0 bank1)
          fun _ => iprop(tileRes m d L (chOut m d L) ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), sems_split, bufs_split]
  unfold tileRes ptsC ptsL
  rw [full_any d L bank0.hcb, full_any d L bank0.hlb, full_any d L bank0.hct, full_any d L bank1.hcb, full_any d L bank1.hlb, full_any d L bank1.hct,
    full_any d L (M := tB) (Memref.isWhole_whole _), full_any d L (M := kB) (Memref.isWhole_whole _), halves (m (cLoc d)), halves (m (lLoc d))]
  iintro ⟨#Hlv, -, ⟨⟨C0, C1⟩, ⟨L0, L1⟩, PT, PK, C⟩, ⟨⟨Bc0, Bl0, Bo0, Bc1, Bl1, Bo1, Bt, Bk⟩, BR⟩, ⟨⟨Sc0, Sl0, So0, Sc1, Sl1, So1, St, Sk⟩, SR⟩, HO⟩
  ihave Hmw := (show levAts (K (F := F)).L (K (F := F)).lev ⊢ Transfers.MayWaits (th d L) (default : HIx 1) O from
    (K (F := F)).mayWaits_none (thr := th d L) hO) $$ Hlv
  iapply (body_spec m d L hpre (O := O) (W := W) (b0 := bank0) (b1 := bank1) (qt := sh (wid L)) (q0 := half (sh (wid L)) 0) (q1 := half (sh (wid L)) 1))
    $$ [Hmw HO C0 C1 L0 L1 PT PK C Bc0 Bl0 Bo0 Bc1 Bl1 Bo1 Bt Bk Sc0 Sl0 So0 Sc1 Sl1 So1 St Sk]
  · unfold Env owesW Rest InIdle OutIdle
    isplitl [Hmw HO]
    · isplitl [Hmw]; · iexact Hmw
      iexists W; isplitr; · ipureintro; exact fun p hp => .inl hp
      iexact HO
    isplitr [C]; swap; · iexact C
    isplitl [Bt Bk St Sk PT PK]
    · isplitl [Bt Bk]; · isplitl [Bt] <;> iassumption
      isplitl [St]; · iexact St
      isplitl [Sk]; · iexact Sk
      isplitl [PT] <;> iassumption
    isplitl [Bc0 Bl0 Bo0 Sc0 Sl0 So0 C0 L0]
    · isplitr [Bo0 So0]
      · isplitl [Bc0]; · iexact Bc0
        isplitl [Bl0]; · iexact Bl0
        isplitl [Sc0]; · iexact Sc0
        isplitl [Sl0]; · iexact Sl0
        isplitl [C0] <;> iassumption
      isplitl [Bo0] <;> iassumption
    isplitr [Bo1 So1]
    · isplitl [Bc1]; · iexact Bc1
      isplitl [Bl1]; · iexact Bl1
      isplitl [Sc1]; · iexact Sc1
      isplitl [Sl1]; · iexact Sl1
      isplitl [C1] <;> iassumption
    isplitl [Bo1] <;> iassumption
  unfold Env owesW Rest InIdle OutIdle Thr
  iintro ⟨⟨-, HO⟩, ⟨⟨⟨Bt, Bk⟩, St, Sk, PT, PK⟩, ⟨⟨Bc0, Bl0, Sc0, Sl0, C0, L0⟩, Bo0, So0⟩, ⟨Bc1, Bl1, Sc1, Sl1, C1, L1⟩, Bo1, So1⟩, C⟩
  isplitl [C0 C1 L0 L1 PT PK C]
  · isplitl [C0 C1]; · isplitl [C0] <;> iassumption
    isplitl [L0 L1]; · isplitl [L0] <;> iassumption
    isplitl [PT]; · iexact PT
    isplitl [PK]; · iexact PK
    iexact C
  isplitl [Bc0 Bl0 Bo0 Bc1 Bl1 Bo1 Bt Bk BR]
  · isplitr [BR]; swap; · iexact BR
    isplitl [Bc0]; · iexact Bc0
    isplitl [Bl0]; · iexact Bl0
    isplitl [Bo0]; · iexact Bo0
    isplitl [Bc1]; · iexact Bc1
    isplitl [Bl1]; · iexact Bl1
    isplitl [Bo1]; · iexact Bo1
    isplitl [Bt]; · iapply (own_any d L tB _) $$ Bt
    iapply (own_any d L kB _) $$ Bk
  isplitl [Sc0 Sl0 So0 Sc1 Sl1 So1 St Sk SR]
  · isplitr [SR]; swap; · iexact SR
    isplitl [Sc0]; · iexact Sc0
    isplitl [Sl0]; · iexact Sl0
    isplitl [So0]; · iexact So0
    isplitl [Sc1]; · iexact Sc1
    isplitl [Sl1]; · iexact Sl1
    isplitl [So1]; · iexact So1
    isplitl [St] <;> iassumption
  iexact HO

end Tile

/-! ## What the handshakes carry -/

def coordsV (c : Fin 2) (s : Fin 16) : grid0.Coords := fun
  | 0 => c
  | 1 => s
  | ⟨_ + 2, h⟩ => absurd h (Nat.not_lt.2 (Nat.le_add_left _ _))

theorem nCore_zero : (K (F := F)).nCore 0 = 2 := rfl

variable [BitOps F]

/-- The tile that runs the call's part `(c, i)`. -/
abbrev tileAt (c : Fin ((K (F := F)).nCore 0)) (i : Fin ((K (F := F)).nSub 0)) : grid0.Coords := coordsV (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileRes m d (tileAt (F := F) c i) (chIn m d (tileAt (F := F) c i))
  dn := fun q d c => match q with
    | 0 => bigSep Finset.univ fun i : Fin ((K (F := F)).nSub 0) => tileRes m d (tileAt (F := F) c i) (chOut m d (tileAt (F := F) c i))
  go := fun q d c i => match q with
    | 0 => tileRes m d (tileAt (F := F) c i) (chIn m d (tileAt (F := F) c i))
  td := fun q d c i => match q with
    | 0 => tileRes m d (tileAt (F := F) c i) (chOut m d (tileAt (F := F) c i))
  x := fun _ _ => iprop(emp)

instance chIn_storable (d : Dev nD) (L : grid0.Coords) (r : Fin 8) : BI.Storable (upEmb : UEmb _ 𝕄) (chIn m d L r) := by unfold chIn; infer_instance
instance chOut_storable (d : Dev nD) (L : grid0.Coords) (r : Fin 8) : BI.Storable (upEmb : UEmb _ 𝕄) (chOut m d L r) := by unfold chOut; infer_instance
instance tileRes_storable (d : Dev nD) (L : grid0.Coords) (C : Fin 8 → sProp 𝕄) [∀ r, BI.Storable (upEmb : UEmb _ 𝕄) (C r)] :
    BI.Storable (upEmb : UEmb _ 𝕄) (tileRes m d L C) := by unfold tileRes; infer_instance

instance P_storable : (P (F := F) m).IsStorable where
  st q d c := match q with
    | 0 => by unfold P; infer_instance
  dn q d c := match q with
    | 0 => by unfold P; infer_instance
  go q d c i := match q with
    | 0 => by unfold P; infer_instance
  td q d c i := match q with
    | 0 => by unfold P; infer_instance

/-- A call whose parts are handed out as they come needs no splitting. -/
theorem split_of_eq (P' : (K (F := F)).Pay (nD := nD) (Val := Elt F) (Name := ℕ) (U := UU))
    (hst : ∀ d c, P'.st 0 d c = bigSep Finset.univ fun i => P'.go 0 d c i) (hdn : ∀ d c, P'.dn 0 d c = bigSep Finset.univ fun i => P'.td 0 d c i) :
    (K (F := F)).VecSplit' P' 0 := by
  intro d c
  rw [hst, hdn]
  iintro H; imodintro
  isplitl [H]; · iexact H
  iintro H; iexact H

theorem st_eq (d : Dev nD) (c : Fin ((K (F := F)).nCore 0)) : (P m).st 0 d c = bigSep Finset.univ fun i : Fin ((K (F := F)).nSub 0) => (P m).go 0 d c i := by
  unfold P; dsimp only
theorem dn_eq (d : Dev nD) (c : Fin ((K (F := F)).nCore 0)) : (P m).dn 0 d c = bigSep Finset.univ fun i : Fin ((K (F := F)).nSub 0) => (P m).td 0 d c i := by
  unfold P; dsimp only
theorem vecSplit : (K (F := F)).VecSplit' (P m) 0 := split_of_eq (P m) (st_eq m) (dn_eq m)

/-! ## The tile's obligation -/

theorem defs₀_vector (c : Fin τ.nSC) (s : Fin τ.nSub) :
    defs₀ (F := F) (.scVector c s) 0 () = SparseCore.onTile hcore0 hsub0 (fun c s => body (coordsV c s) bank0 bank1) ⟨⟩ c s := by
  have h : (fun (c : Fin (grid0.bound 0)) (s : Fin (grid0.bound 1)) => body (F := F) (coordsV c s) bank0 bank1) = _ :=
    funext fun c => funext fun s => (body_eq (F := F) (coordsV c s)).symm
  rw [h]; rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr; swap; · iexact HO
  ipureintro; exact fun p hp => (hW p hp).imp_right Or.inl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The arrays dealt out -/

def tileEquiv : Fin ((K (F := F)).nCore 0) × Fin ((K (F := F)).nSub 0) ≃ Fin 32 :=
  ((Equiv.prodComm (Fin 2) (Fin 16)).trans finProdFinEquiv).trans (finCongr rfl)
def chunkEquiv : Fin 32 × Fin 8 ≃ Fin 256 := finProdFinEquiv.trans (finCongr rfl)

theorem tileEquiv_eq (c : Fin ((K (F := F)).nCore 0)) (i : Fin ((K (F := F)).nSub 0)) : tileEquiv (F := F) (c, i) = wid (tileAt (F := F) c i) := by
  apply Fin.ext
  show c.val + 2 * i.val = 2 * i.val + c.val
  omega
theorem chunkEquiv_val (t : Fin 32) (r : Fin 8) : (chunkEquiv (t, r)).val = r.val + 8 * t.val := rfl

/-- A family over the tiles' numbers is one over the call's parts. -/
theorem deal (Φ : Fin 32 → sProp 𝕄) :
    bigSep Finset.univ Φ = bigSep Finset.univ fun c => bigSep Finset.univ fun i => Φ (wid (tileAt (F := F) c i)) := by
  rw [bigSep_univ_equiv (tileEquiv (F := F)), bigSep_univ_prod]
  exact bigSep_congr fun c _ => bigSep_congr fun i _ => by rw [tileEquiv_eq]

theorem odiv : 256 ∣ S1024000.size 0 := ⟨4000, rfl⟩

theorem oRect_eq (L : grid0.Coords) (r : Fin 8) : oRect L r = Rect.part (s := S1024000) (a₀ := 0) odiv (chunkEquiv (wid L, r)) := by
  unfold oRect Rect.part Rect.block
  congr 1 <;> funext a
  · rw [k0_off37_eq]
    match a with
    | 0 =>
      have h := chunkEquiv_val (wid L) r
      simp [Shape.partIx, Shape.partSize, h]; omega
  · match a with
    | 0 => simp [Shape.partSize]
theorem oCh_set (L : grid0.Coords) (r : Fin 8) : (oCh L r).view.set = (Rect.part (s := S1024000) (a₀ := 0) odiv (chunkEquiv (wid L, r))).set := by
  rw [← oRect_eq]
  show ((View.whole (main_v0_scv : Ref sig .scVector)).slice (oRect L r)).set = _
  rw [View.set_slice]; exact Finset.map_refl

/-- A result held whole is held chunk by chunk. -/
theorem rows_deal {ℓ : Loc nD τ sig} (S : Fin 256 → Finset (Idx ℓ)) (hS : ∀ i ∈ Finset.univ, ∀ j ∈ Finset.univ, i ≠ j → Disjoint (S i) (S j))
    (hU : Finset.univ.biUnion S = Finset.univ) (f : Buf (Elt F) ℓ) :
    (ℓ ↦{fullShare} f : sProp 𝕄)
      = bigSep Finset.univ fun c => bigSep Finset.univ fun i => bigSep Finset.univ fun r : Fin 8 => ℓ ↦[S (chunkEquiv (wid (tileAt (F := F) c i), r))]{fullShare} f := by
  rw [← deal (fun t => bigSep Finset.univ fun r : Fin 8 => ℓ ↦[S (chunkEquiv (t, r))]{fullShare} f),
    ← bigSep_univ_prod (fun a : Fin 32 × Fin 8 => (ℓ ↦[S (chunkEquiv a)]{fullShare} f : sProp 𝕄)),
    ← bigSep_univ_equiv chunkEquiv (fun k => (ℓ ↦[S k]{fullShare} f : sProp 𝕄)), ← pointsTo_biUnion Finset.univ (ℓ := ℓ) S hS, hU]

theorem share_deal {ℓ : Loc nD τ sig} (f : Buf (Elt F) ℓ) :
    (ℓ ↦{fullShare} f : sProp 𝕄) = bigSep Finset.univ fun c => bigSep Finset.univ fun i => ℓ ↦{sh (wid (tileAt (F := F) c i))} f := by
  rw [← deal (fun t => (ℓ ↦{sh t} f : sProp 𝕄))]
  exact pointsTo_piecesOf Finset.univ f (by decide) fullShare

/-- All the arrays, the result at `f`. -/
def arrays (d : Dev nD) (f : Buf (Elt F) (oLoc d)) : sProp 𝕄 :=
  iprop((cLoc d ↦{fullShare} m (cLoc d)) ∗ (lLoc d ↦{fullShare} m (lLoc d)) ∗ (tLoc d ↦{fullShare} m (tLoc d)) ∗ (kLoc d ↦{fullShare} m (kLoc d))
    ∗ (oLoc d ↦{fullShare} f))

theorem ptsO_eq (d : Dev nD) (L : grid0.Coords) (r : Fin 8) (f : Buf (Elt F) (oLoc d)) :
    (ptsO d L r f : sProp 𝕄) = (oLoc d ↦[(Rect.part (s := S1024000) (a₀ := 0) odiv (chunkEquiv (wid L, r))).set]{fullShare} f) := by unfold ptsO; rw [oCh_set]

theorem arrays_deal (d : Dev nD) (f : Buf (Elt F) (oLoc d)) :
    arrays m d f = bigSep Finset.univ fun c => bigSep Finset.univ fun i =>
      tileRes m d (tileAt (F := F) c i) fun r => ptsO d (tileAt (F := F) c i) r f := by
  unfold arrays tileRes ptsC ptsL ptsT ptsK
  simp only [ptsO_eq, bigSep_sep']
  rw [share_deal (m (cLoc d)), share_deal (m (lLoc d)), share_deal (m (tLoc d)), share_deal (m (kLoc d)),
    rows_deal (ℓ := oLoc d) (fun k => (Rect.part (s := S1024000) (a₀ := 0) odiv k).set) (fun _ _ _ _ h => Rect.part_disjoint odiv h) (Rect.biUnion_part odiv) f]

theorem st0_eq (d : Dev nD) : (bigSep Finset.univ fun c : Fin ((K (F := F)).nCore 0) => (P m).st 0 d c) = arrays m d (m (oLoc d)) := by
  rw [arrays_deal]; unfold P; dsimp only; unfold chIn; rfl
theorem dn0_eq (d : Dev nD) : (bigSep Finset.univ fun c : Fin ((K (F := F)).nCore 0) => (P m).dn 0 d c) = arrays m d (outV m d) := by
  rw [arrays_deal]; unfold P; dsimp only; unfold chOut; rfl

/-! ## The run -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have hx : (bigSep Finset.univ fun thr : Thread nD τ => bigSep Finset.univ fun q : Fin 1 => (P (F := F) m).x q thr) = bigSep Finset.univ fun _ => iprop(emp) :=
    bigSep_congr fun _ _ => bigSep_univ_of_subsingleton (0 : Fin 1)
  rw [hx, emps, emps]
  iintro Hu
  ihave H := (ownU_pair (initOf (K (F := F)).hsCells (K (F := F)).hsToks) (1 : Counters)) $$ Hu
  icases H with ⟨HH, -⟩
  imodintro
  isplitl [HH]; · iexact HH
  isplitr <;> iempintro

theorem unscopedBufs_eq (d : Dev nD) (W : (b : Ref sig .tc) → Buf (Elt F) ((d.tc : Thread nD τ).loc b)) :
    (unscopedBufs d W : sProp 𝕄) = iprop((cLoc d ↦{fullShare} W main_arg0) ∗ (lLoc d ↦{fullShare} W main_arg1) ∗ (tLoc d ↦{fullShare} W main_arg2)
      ∗ (kLoc d ↦{fullShare} W main_arg3) ∗ (oLoc d ↦{fullShare} W main_v0)) := by
  unfold unscopedBufs
  rw [show (Finset.univ.filter fun b : Ref sig .tc => ¬ b.isScoped) = {main_arg0, main_arg1, main_arg2, main_arg3, main_v0} by decide]
  iterate 4 rw [SparseCore.bigSep_insert' (by decide)]
  rw [bigSep_singleton]

abbrev FIN (d : Dev nD) : sProp 𝕄 := arrays m d (outV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st0_eq]; unfold arrays; iexact Ha
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- A buffer owned whole is what the memory holds. -/
theorem agree {s' : Phys nD τ sig (Elt F)} {ℓ : Loc nD τ sig} {f : Buf (Elt F) ℓ} :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; swap; · iexact HSI
  ipureintro; exact funext fun i => h i (Finset.mem_univ i)

def fq (d : Dev nD) (s' : Phys nD τ sig (Elt F)) : Prop :=
  s'.mem.mem (oLoc d) = outV m d
    ∧ s'.mem.mem (cLoc d) = m (cLoc d) ∧ s'.mem.mem (lLoc d) = m (lLoc d) ∧ s'.mem.mem (tLoc d) = m (tLoc d) ∧ s'.mem.mem (kLoc d) = m (kLoc d)

theorem hfin (d : Dev nD) (s' : Phys nD τ sig (Elt F)) : iprop(FIN m d ∗ SI s') ⊢ (⌜fq m d s'⌝ : sProp 𝕄) := by
  unfold FIN arrays
  iintro ⟨⟨X, Y, R, B, O⟩, HSI⟩
  ihave H := agree $$ [HSI X]; · isplitl [HSI] <;> iassumption
  icases H with ⟨%hx, HSI⟩
  ihave H := agree $$ [HSI Y]; · isplitl [HSI] <;> iassumption
  icases H with ⟨%hy, HSI⟩
  ihave H := agree $$ [HSI R]; · isplitl [HSI] <;> iassumption
  icases H with ⟨%hr, HSI⟩
  ihave H := agree $$ [HSI B]; · isplitl [HSI] <;> iassumption
  icases H with ⟨%hb, HSI⟩
  ihave H := agree $$ [HSI O]; · isplitl [HSI] <;> iassumption
  icases H with ⟨%ho, -⟩
  ipureintro; exact ⟨ho, hx, hy, hr, hb⟩

/-- What every run ends with. -/
def QC : PUnit × MemSt nD τ sig (Elt F) → Prop := fun r => (∀ d : Dev nD,
    r.2.mem (oLoc d) = outV m d
      ∧ r.2.mem (cLoc d) = m (cLoc d) ∧ r.2.mem (lLoc d) = m (lLoc d) ∧ r.2.mem (tLoc d) = m (tLoc d) ∧ r.2.mem (kLoc d) = m (kLoc d))
  ∧ r.2.sem = fun _ => 0

theorem run_main [∀ e, Nonempty (Elt F e)] (hpre : PreOK m) :
    θ_run (Cert.Vote.defs (F := F)) (Cert.Vote.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Vote

end
-- ==== Proof.VoteClaims.lean ====
/-
  The vote call's claims: what the precondition says of the launch memory, the frames of the two programs, what the
  reference counts, and the agreement of the two, bit for bit.
-/
module

public import proofs.«01_k».proof.Proof.GatherClaims
public import proofs.«01_k».proof.Proof.VoteRun
public import proofs.«01_k».proof.Proof.Gen.Vote
public import proofs.«01_k».proof.Proof.Gen.VoteReference
public import proofs.«01_k».proof.Proof.Gen.VoteReference.Frame
public import proofs.«01_k».proof.Proof.Gen.Pre_vote_pre
public import Idealize.ShloMosaic.Lib.Pipeline.Value
public import Idealize.ShloMosaic.Lib.Pipeline.ValueKit.Geometry
public import Idealize.ShloMosaic.Lib.StableHlo.RunRead
public import Idealize.ShloMosaic.Lib.NatWords
public import Idealize.ShloMosaic.Lib.Pointwise.Reduce

@[expose] public section

noncomputable section

namespace Cert.Proof.Vote

open Idealize.ShloMosaic Idealize.SL.Sem Idealize.ShloMosaic.TcCoe

theorem cmpi_one {w : Nat} {a b : BitVec w} (h : IntOp.cmpi .eq a b = 1#1) : a = b := by
  by_contra hne
  have e : IntOp.cmpi .eq a b = BitVec.ofBool (decide (a = b)) := rfl
  rw [e, decide_eq_false hne] at h
  exact absurd h (by decide)

section Pre

variable {F : FTy → Type} [FloatOps F]

/-- A reshaped flat array at row `i`, column `l`. -/
theorem reshaped {α : Type} {N R W : Nat} (hN : 0 < N) (x : (⟨1, ![N]⟩ : Shape).Idx → α)
    (h : (⟨1, ![N]⟩ : Shape).ShapeCasts ⟨2, ![R, W]⟩) (hRW : R * W = N) (i : (⟨2, ![R, W]⟩ : Shape).Idx) :
    shapeCast ⟨2, ![R, W]⟩ x h i = at1 hN x ((i 0).val * W + (i 1).val) := by
  have hi0 : (i 0).val < R := (i 0).isLt
  have hi1 : (i 1).val < W := (i 1).isLt
  have hlt : (i 0).val * W + (i 1).val < N := by
    have : ((i 0).val + 1) * W ≤ R * W := Nat.mul_le_mul_right _ hi0
    rw [← hRW]; rw [Nat.add_mul] at this; omega
  rw [shapeCast_apply x h i (ix1 ⟨(i 0).val * W + (i 1).val, hlt⟩) (by
    rw [Shape.rowMajor_val_one, Shape.rowMajor_val_two]; rfl)]
  exact at1_eq hN x _ _ rfl

/-- A threshold array whose sixteen lanes of a row are the row's first. -/
theorem lanes_of_pre (t : IVec Cert.Pre_vote_pre.S16384 32) (j : Cert.Pre_vote_pre.S16384.Idx)
    (h : ∀ i, cmpi .eq (shapeCast Cert.Pre_vote_pre.S1024x16 t Cert.Pre_vote_pre.Facts.shapeCasts_S16384_S1024x16)
      (broadcastInDim Cert.Pre_vote_pre.S1024x16 ![0, 1] Cert.Pre_vote_pre.Facts.bcast_S1024x1_S1024x16_0_1
        (extractStridedSlice Cert.Pre_vote_pre.S1024x1 ![0, 0]
          (shapeCast Cert.Pre_vote_pre.S1024x16 t Cert.Pre_vote_pre.Facts.shapeCasts_S16384_S1024x16)
          Cert.Pre_vote_pre.Facts.slices_S1024x16_S1024x1_0_0)) i = 1#1) :
    t j = at1 (N := 16384) (by decide) t ((j 0).val / 16 * 16) := by
  have hj : (j 0).val < 16384 := (j 0).isLt
  have e := cmpi_one (h (ix2 ⟨(j 0).val / 16, by omega⟩ ⟨(j 0).val % 16, by omega⟩))
  rw [reshaped (by decide) t _ (by decide), broadcastInDim_apply _ _ _ _ (ix2 ⟨(j 0).val / 16, by omega⟩ ⟨0, by decide⟩) (by
      intro a
      match a with
      | ⟨0, _⟩ => rfl
      | ⟨1, _⟩ => rfl),
    extractStridedSlice_apply _ _ _ _ (ix2 ⟨(j 0).val / 16, by omega⟩ ⟨0, by decide⟩) (by
      intro a
      match a with
      | ⟨0, _⟩ => exact (Nat.zero_add _).symm
      | ⟨1, _⟩ => exact (Nat.zero_add _).symm),
    reshaped (by decide) t _ (by decide)] at e
  rw [at1_eq (N := 16384) (by decide) t j ((j 0).val / 16 * 16 + (j 0).val % 16) (by omega)]
  exact e

/-- The precondition's label range, and the thresholds' lanes. -/
theorem votes_of_pre (x : FVec F Cert.Pre_vote_pre.S4325376 .f32) (y : IVec Cert.Pre_vote_pre.S4325376 32)
    (t k : IVec Cert.Pre_vote_pre.S16384 32) (h : Cert.Pre_vote_pre.fn (F := F) x y t k = fun _ => 1#1) :
    (∀ j, (y j).toNat < 1000) ∧ (∀ j, t j = at1 (N := 16384) (by decide) t ((j 0).val / 16 * 16))
      ∧ ∀ j, k j = at1 (N := 16384) (by decide) k ((j 0).val / 16 * 16) := by
  have : Subsingleton Cert.Pre_vote_pre.S_.Idx := ⟨fun p q => funext fun a => a.elim0⟩
  have e := congrFun h (fun a => a.elim0)
  obtain ⟨e, e3⟩ := Gather.and_one e
  obtain ⟨e, e2⟩ := Gather.and_one e
  obtain ⟨e0, e1⟩ := Gather.and_one e
  exact ⟨fun j => TakeRows.lt_of_cmp (by decide) (Host.reduce_andi_all _ _ _ _ _ e0 j) (Host.reduce_andi_all _ _ _ _ _ e1 j),
    fun j => lanes_of_pre t j (Host.reduce_andi_all _ _ _ _ _ e2), fun j => lanes_of_pre k j (Host.reduce_andi_all _ _ _ _ _ e3)⟩

end Pre

theorem frame_vote : Cert.quiescent_Vote := fun m ρ hpre =>
  (θ_run Cert.Vote.defs _ _).mono (fun _ h => ⟨fun c => (h.1 c).2, h.2⟩)
    (run_main (F := Bits) m ρ fun d => votes_of_pre _ _ _ _ (hpre d))

theorem frame_voteReference : Cert.quiescent_VoteReference := fun m ρ _ => Cert.VoteReference.Gen.frame m ρ

/-! ## What the reference counts -/

/-- A fold of additions of zeros and ones is the number of ones. -/
theorem fold_count (p : Nat → Bool) (g : Nat → BitVec 32) (hg : ∀ k, g k = if p k then 1#32 else 0#32) (n : Nat) :
    (Finset.univ : Finset (Fin n)).fold IntOp.addi 0#32 (fun k => g k.val) = BitVec.ofNat 32 (cnt p n) := by
  induction n with
  | zero => simp [cnt_zero]
  | succ n ih =>
    rw [Fin.univ_castSuccEmb, Finset.fold_cons, Finset.fold_map]
    refine (congrArg (IntOp.addi (g n)) ih).trans ?_
    unfold cnt
    rw [List.range_succ, List.countP_append, hg]
    by_cases hp : p n <;> simp [hp, IntOp.addi, BitVec.ofNat_add, BitVec.add_comm]

theorem reduce_count {A N B : Nat} (x : IVec ⟨3, ![A, N, B]⟩ 32) (v : IVec ⟨0, ![]⟩ 32) (hv : ∀ i, v i = 0#32)
    (h : (⟨3, ![A, N, B]⟩ : Shape).ReducesTo [1] ⟨2, ![A, B]⟩) (hu : 0 < (⟨0, ![]⟩ : Shape).numel)
    (p : Nat → Bool) (j : (⟨2, ![A, B]⟩ : Shape).Idx)
    (hx : ∀ k, x (ix3 (j 0) k (j 1)) = if p k.val then 1#32 else 0#32) :
    Host.reduce IntOp.addi x v h hu j = BitVec.ofNat 32 (cnt p N) := by
  rw [← fold_count p (fun k => if p k then 1#32 else 0#32) (fun _ => rfl) N]
  simp only [pointwise]
  rw [hv]
  exact congrArg (fun g => Finset.fold IntOp.addi 0#32 g Finset.univ) (funext hx)

/-- Up to the number of candidates of a query the float tally is the number itself. -/
theorem tally_exact (n : Nat) (h : n ≤ 4224) : tally (F := Bits) n = FloatOps.sitofp .f32 (BitVec.ofNat 32 n) := by
  have e : tally (F := Bits) n = Bits.f32OfNat n := by
    induction n with
    | zero => exact Bits.f32OfNat_zero.symm
    | succ n ih =>
      rw [tally_succ, ih (by omega), ← Bits.addf32_nat n 1 (by omega)]
      exact congrArg (Bits.addf32 (Bits.f32OfNat n)) (by rw [Bits.f32OfNat_eq 1 (by decide)]; decide)
  have hn : (BitVec.ofNat 32 n).toNat = n := by rw [BitVec.toNat_ofNat]; omega
  have e2 := Bits.sitofp32_eq_f32OfNat (BitVec.ofNat 32 n) (by decide) (by rw [hn]; omega)
  rw [hn] at e2
  exact e.trans e2.symm

section Whole

open Idealize.ShloMosaic.Pipeline (Window Grid)

variable {sg : RefSig} {s : Shape} {e : EltTy} {cs : CoreSpace} (arr : Memref sg .tc .hbm s e) (isOut sync : Bool)
  (stage : Memref sg .tc (.core cs) ⟨s.rank, s.size⟩ e) (sem : DmaSem sg) (harr : arr.IsWhole) (hstage : stage.IsWhole)

theorem whole_xsize (i : Grid.none.Coords) (a : Fin s.rank) : (Window.whole arr isOut sync stage sem harr hstage).xsize i a = s.size a := rfl

/-- The one block of a kernel with no grid, read: the array. -/
theorem whole_blk_read {Val : EltTy → Type} (t : Fin Grid.none.N) (X : arr.view.ref.ty.Contents Val) (y : s.Idx) :
    ((Window.whole arr isOut sync stage sem harr hstage).blk t).view.read Val X y = arr.view.read Val X y := by
  show arr.view.read Val X (((Window.whole arr isOut sync stage sem harr hstage).rect t).emb y) = _
  congr 1
  funext a
  exact Fin.ext (Window.rect_emb_val_of_index_zero (Window.whole arr isOut sync stage sem harr hstage) t a rfl y)

end Whole

section Reference

open Cert.VoteReference Cert.VoteReference.Gen

variable {F : FTy → Type} [BitOps F]

/-- The code either way round. -/
theorem code_flip (x : F .f32) :
    Scalar.select (IntOp.cmpi .slt (BitOps.toBits x) 0#32) (IntOp.xori (BitOps.toBits x) 2147483647#32) (BitOps.toBits x) = codeS x := by
  unfold codeS
  generalize (BitOps.toBits x : BitVec 32) = b
  have e : (0#32).sle b = !b.slt 0#32 := by
    rw [BitVec.sle_eq_not_slt]
  show Scalar.select (BitVec.ofBool (b.slt 0#32)) _ _ = Scalar.select (BitVec.ofBool ((0#32).sle b)) _ _
  rw [e]
  cases b.slt 0#32 <;> rfl

def codes (C : FVec F S4325376 .f32) : IVec S1024x4224 32 :=
  select (cmpi .slt (bitcastToInt (shapeCast S1024x4224 C shapeCasts_S4325376_S1024x4224)) (broadcastInDim S1024x4224 ![] bcast_S_S1024x4224 (constantI S_ 32 0#32)))
    (xori (bitcastToInt (shapeCast S1024x4224 C shapeCasts_S4325376_S1024x4224)) (broadcastInDim S1024x4224 ![] bcast_S_S1024x4224 (constantI S_ 32 2147483647#32)))
    (bitcastToInt (shapeCast S1024x4224 C shapeCasts_S4325376_S1024x4224))

def lasts (T : IVec S16384 32) : IVec S1024x4224 32 :=
  broadcastInDim S1024x4224 ![0, 1] bcast_S1024x1_S1024x4224_0_1
    (extractStridedSlice S1024x1 ![0, 0] (shapeCast S1024x16 T shapeCasts_S16384_S1024x16) slices_S1024x16_S1024x1_0_0)

def neighbours (C : FVec F S4325376 .f32) (T K : IVec S16384 32) : IVec S1024x4224 1 :=
  ori (cmpi .slt (codes C) (lasts T)) (andi (cmpi .eq (codes C) (lasts T)) (cmpi .sle (iotaInDim S1024x4224 32 1) (lasts K)))

def ballots (C : FVec F S4325376 .f32) (B : IVec S4325376 32) (T K : IVec S16384 32) : IVec S1024x4224x1000 1 :=
  andi (broadcastInDim S1024x4224x1000 ![0, 1, 2] bcast_S1024x4224x1_S1024x4224x1000_0_1_2
      (broadcastInDim S1024x4224x1 ![0, 1] bcast_S1024x4224_S1024x4224x1_0_1 (neighbours C T K)))
    (cmpi .eq (broadcastInDim S1024x4224x1000 ![0, 1, 2] bcast_S1024x4224x1_S1024x4224x1000_0_1_2
        (broadcastInDim S1024x4224x1 ![0, 1] bcast_S1024x4224_S1024x4224x1_0_1 (shapeCast S1024x4224 B shapeCasts_S4325376_S1024x4224)))
      (iotaInDim S1024x4224x1000 32 2))

theorem codes_apply (C : FVec F S4325376 .f32) (i : S1024x4224.Idx) :
    codes C i = codeS (at1 (N := 4325376) (by decide) C ((i 0).val * 4224 + (i 1).val)) := by
  rw [← code_flip, ← reshaped (by decide) C shapeCasts_S4325376_S1024x4224 (by decide) i]
  rfl

theorem lasts_apply (T : IVec S16384 32) (i : S1024x4224.Idx) : lasts T i = at1 (N := 16384) (by decide) T ((i 0).val * 16) := by
  unfold lasts
  refine (broadcastInDim_apply _ _ _ _ (ix2 (i 0 : Fin 1024) (0 : Fin 1)) fun a => ?_).trans
    ((extractStridedSlice_apply _ _ _ _ (ix2 (i 0 : Fin 1024) (0 : Fin 16)) fun a => ?_).trans (reshaped (by decide) T _ (by decide) _))
  · match a with
    | ⟨0, _⟩ => rfl
    | ⟨1, _⟩ => rfl
  · match a with
    | ⟨0, _⟩ => exact (Nat.zero_add _).symm
    | ⟨1, _⟩ => rfl

theorem neighbours_apply (C : FVec F S4325376 .f32) (T K : IVec S16384 32) (i : S1024x4224.Idx) :
    neighbours C T K i = voteS (at1 (N := 4325376) (by decide) C ((i 0).val * 4224 + (i 1).val)) (at1 (N := 16384) (by decide) T ((i 0).val * 16))
      (at1 (N := 16384) (by decide) K ((i 0).val * 16)) (BitVec.ofNat 32 (i 1).val) := by
  unfold voteS
  rw [← codes_apply C i, ← lasts_apply T i, ← lasts_apply K i]
  rfl

/-- A value spread over the classes. -/
theorem spread {α : Type} (x : S1024x4224.Idx → α) (i : S1024x4224x1000.Idx) :
    broadcastInDim S1024x4224x1000 ![0, 1, 2] bcast_S1024x4224x1_S1024x4224x1000_0_1_2
      (broadcastInDim S1024x4224x1 ![0, 1] bcast_S1024x4224_S1024x4224x1_0_1 x) i = x (ix2 (i 0 : Fin 1024) (i 1 : Fin 4224)) := by
  refine (broadcastInDim_apply _ _ _ _ (ix3 (i 0 : Fin 1024) (i 1 : Fin 4224) (0 : Fin 1)) fun a => ?_).trans
    (broadcastInDim_apply _ _ _ _ (ix2 (i 0 : Fin 1024) (i 1 : Fin 4224)) fun a => ?_)
  · match a with
    | ⟨0, _⟩ => rfl
    | ⟨1, _⟩ => rfl
    | ⟨2, _⟩ => rfl
  · match a with
    | ⟨0, _⟩ => rfl
    | ⟨1, _⟩ => rfl

/-- A vote of the reference is a vote of the count. -/
theorem ballots_apply (C : FVec F S4325376 .f32) (B : IVec S4325376 32) (T K : IVec S16384 32) (i : S1024x4224x1000.Idx) :
    ballots C B T K i = 1#1 ↔ hit C B T K (i 0).val (i 2).val (i 1).val = true := by
  have h2 : (i 2).val < 1000 := (i 2).isLt
  have e : ballots C B T K i = IntOp.andi (voteS (at1 (N := 4325376) (by decide) C ((i 0).val * 4224 + (i 1).val)) (at1 (N := 16384) (by decide) T ((i 0).val * 16))
      (at1 (N := 16384) (by decide) K ((i 0).val * 16)) (BitVec.ofNat 32 (i 1).val))
      (IntOp.cmpi .eq (at1 (N := 4325376) (by decide) B ((i 0).val * 4224 + (i 1).val)) (BitVec.ofNat 32 (i 2).val)) := by
    show IntOp.andi _ (IntOp.cmpi .eq _ _) = _
    rw [spread, spread, neighbours_apply, reshaped (by decide) B _ (by decide)]
    rfl
  rw [e]
  refine Iff.trans ?_ decide_eq_true_iff.symm
  constructor
  · intro h
    obtain ⟨h0, h1⟩ := Gather.and_one h
    refine ⟨h0, ?_⟩
    rw [cmpi_one h1, BitVec.toNat_ofNat]
    omega
  · rintro ⟨h0, h1⟩
    have h3 : at1 (N := 4325376) (by decide) B ((i 0).val * 4224 + (i 1).val) = BitVec.ofNat 32 (i 2).val := by
      apply BitVec.eq_of_toNat_eq
      rw [h1, BitVec.toNat_ofNat]
      omega
    rw [h0, h3]
    simp [IntOp.andi, IntOp.cmpi]

theorem ballot_word (C : FVec F S4325376 .f32) (B : IVec S4325376 32) (T K : IVec S16384 32) (i : S1024x4224x1000.Idx) (Q c k : Nat)
    (h0 : (i 0).val = Q) (h1 : (i 1).val = k) (h2 : (i 2).val = c) :
    (ballots C B T K i).setWidth 32 = if hit C B T K Q c k then 1#32 else 0#32 := by
  have e := ballots_apply C B T K i
  rw [h0, h1, h2] at e
  revert e
  generalize ballots C B T K i = b
  generalize hit C B T K Q c k = t
  revert b t
  decide

theorem counts_read (m : (ℓ : Loc nD τ sig) → Buf (Elt F) ℓ) (c : Dev nD) (y : S1024000.Idx) :
    V m c main_v30 y = BitVec.ofNat 32 (cnt (hit (m ((c.tc : Thread nD τ).loc main_arg0)) (m ((c.tc : Thread nD τ).loc main_arg1))
      (m ((c.tc : Thread nD τ).loc main_arg2)) (m ((c.tc : Thread nD τ).loc main_arg3)) ((y 0).val / 1000) ((y 0).val % 1000)) 4224) := by
  have hy : (y 0).val < 1024000 := (y 0).isLt
  unfold V
  after_reads_simp
  show shapeCast S1024000 (Host.reduce IntOp.addi (extui 32 (ballots (m ((c.tc : Thread nD τ).loc main_arg0)) (m ((c.tc : Thread nD τ).loc main_arg1))
      (m ((c.tc : Thread nD τ).loc main_arg2)) (m ((c.tc : Thread nD τ).loc main_arg3))) natLt_1_32) (constantI S_ 32 0#32)
      reducesTo_S1024x4224x1000_S1024x1000_d1 h_S_) shapeCasts_S1024x1000_S1024000 y = _
  rw [shapeCast_apply _ _ y (ix2 ⟨(y 0).val / 1000, by omega⟩ ⟨(y 0).val % 1000, by omega⟩) (by
    rw [Shape.rowMajor_val_one, Shape.rowMajor_val_two]
    show (y 0).val / 1000 * 1000 + (y 0).val % 1000 = (y 0).val
    omega)]
  exact reduce_count _ _ (fun _ => rfl) _ _ _ _ fun k => ballot_word _ _ _ _ _ _ _ _ rfl rfl rfl

/-- What the reference's body leaves: each count, converted and divided. -/
theorem body_apply (x : Vec F S1024000 .i32) (y : S1024000.Idx) :
    out0_1 x y = FloatOps.divf (FloatOps.sitofp .f32 (x y)) (Scalar.ofBits .f32 0x42040000#32) := by
  unfold out0_1
  rw [View.canon_cons_unit_lit _ _ _ (by decide), View.ld_unit_lit _ _ (by decide)]
  show FloatOps.divf (FloatOps.sitofp .f32 (shapeCast S1024000 x shapeCasts_S1024000_S1024000 y)) _ = _
  rw [shapeCast_apply x _ y y rfl]
  rfl

theorem whole_entry (c : Dev nD) (X : Buf (Elt F) ((c.tc : Thread nD τ).loc main_v30)) (y : S1024000.Idx) :
    (win0_0.blk t0_0).view.read (Elt F) X y = X y :=
  whole_blk_read (Memref.whole main_v30) false false (stage0_0 0) (sem0_0 0) (Memref.isWhole_whole _) (hstage0_0 0) t0_0 X y

theorem block_entry (c : Dev nD) (W : (b : Ref sig .tc) → Buf (Elt F) ((c.tc : Thread nD τ).loc b)) (y : S1024000.Idx) :
    ((cfg0.win 0).blk t0_0).view.read (Elt F) (W (Pipeline.arrRef spec0 0)) y = W main_v30 y := whole_entry c (W main_v30) y

/-- The body's operand is the whole array of counts. -/
theorem operand_read (m : (ℓ : Loc nD τ sig) → Buf (Elt F) ℓ) (c : Dev nD) (y : S1024000.Idx) : iblk m c 0 t0_0 y = V m c main_v30 y :=
  block_entry c (V m c) y

theorem result_whole : (cfg0.win 1).WholeAt t0_0 :=
  ⟨flush0_1 t0_0, fun t _ => fin_N0 t, fun a =>
    ⟨rfl, whole_xsize (Memref.whole main_v31) true false (stage0_1 0) (sem0_1 0) (Memref.isWhole_whole _) (hstage0_1 0) _ a⟩⟩

theorem last_entry {c : Dev nD} (dat : Pipeline.Dat τ (Elt F) Unit ℕ (UR sig nD τ) ℕ cfg0 c) (y : S1024000.Idx) :
    dat.arrAt 1 cfg0.N y = dat.after 1 t0_0 y :=
  (dat.arrAt_emb_eq_after_last 1 t0_0 result_whole y).trans rfl

/-- The reference's result: the counts, each divided. -/
theorem quotients_read (m : (ℓ : Loc nD τ sig) → Buf (Elt F) ℓ) (c : Dev nD) (y : S1024000.Idx) :
    (dats m 0 c).arrAt 1 cfg0.N y = FloatOps.divf (FloatOps.sitofp .f32 (V m c main_v30 y)) (Scalar.ofBits .f32 0x42040000#32) := by
  rw [← operand_read]
  exact ((last_entry (dats m 0 c) y).trans (congrFun (after0_1 m c t0_0) y)).trans (body_apply _ _)

/-- The reference's result is the shares of the votes. -/
theorem shares_read (m : (ℓ : Loc nD τ sig) → Buf (Elt Bits) ℓ) (c : Dev nD) (C : FVec Bits S4325376 .f32) (B : IVec S4325376 32)
    (T K : IVec S16384 32) (hC : m ((c.tc : Thread nD τ).loc main_arg0) = C) (hB : m ((c.tc : Thread nD τ).loc main_arg1) = B)
    (hT : m ((c.tc : Thread nD τ).loc main_arg2) = T) (hK : m ((c.tc : Thread nD τ).loc main_arg3) = K) (y : S1024000.Idx) :
    (dats m 0 c).arrAt 1 cfg0.N y = shareV C B T K (y 0).val := by
  rw [quotients_read, counts_read, hC, hB, hT, hK, shareV, tally_exact _ (cnt_le _ _)]

/-- The reference's run: its result named, its arguments unchanged. -/
theorem run_reference (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v31) = (dats m 0 c).arrAt 1 cfg0.N) ∧ ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  θ_run_and ((θ_run defs _ _).mono (fun _ h c => (h c).1 1) (Gen.run_main m ρ)) (unchanged m ρ)

end Reference

theorem bitexact : Cert.bitexact_Vote_VoteReference := by
  intro m ρ m' ρ' hpre hin
  refine ⟨fun c => outV m c, ?_, ?_⟩
  · exact (θ_run Cert.Vote.defs _ _).mono (fun _ h c => ⟨(h.1 c).1, (h.1 c).2⟩)
      (run_main (F := Bits) m ρ fun d => votes_of_pre _ _ _ _ (hpre d))
  · refine (θ_run Cert.VoteReference.defs _ _).mono (fun r h c => ⟨(h.1 c).trans ?_, h.2 c⟩) (run_reference (F := Bits) m' ρ')
    obtain ⟨a0, a1, a2, a3⟩ := hin c
    exact funext fun y => shares_read m' c _ _ _ _ a0 a1 a2 a3 y

end Cert.Proof.Vote
-- ==== Proof.DistBody.lean ====
/-
  The distances call's body over the extended reals: an entry of the block that it stores is the squared distance of its
  query and its key, or the value beyond the last key.
-/
module

public import proofs.«01_k».proof.Proof.Gen.DistIdeal.Value
public import Idealize.ShloMosaic.Lib.Pipeline.Value
public import Idealize.ShloMosaic.Lib.Pipeline.ValueKit
public import Idealize.ShloMosaic.Lib.Pointwise
public import Idealize.ShloMosaic.Lib.MatmulPlain
public import Idealize.ShloMosaic.Lib.StackMember
public import Idealize.ShloMosaic.Lib.KernelVsHost

@[expose] public section

noncomputable section

namespace Cert.Proof.Dist

open Idealize.ShloMosaic Idealize.ShloMosaic.TcCoe Idealize.SL.Sem

/-- The squared distance of a query and a key, expanded. -/
def gap (z k : Fin 128 → EReal) : EReal :=
  (∑ d, z d * z d) - Scalar.ofBits (F := Ideal) .f32 0x40000000#32 * (∑ d, z d * k d) + ∑ d, k d * k d

/-- What stands in the columns beyond the last key. -/
def far : EReal := Scalar.ofBits (F := Ideal) .f32 0x7F800000#32

section Body

open Cert.DistIdeal Cert.DistIdeal.Gen

theorem norms_rows (v : FVec Ideal S1024x128 .f32) (r : Fin 1024) (c : Fin 3584) :
    broadcastTo S1024x3584 (shapeCast S1024x1 (multiReduction .add [1] S1024 (mulf v v) 0x00000000#32 reduces_S1024x128_S1024 (.inl rfl) rfl)
      shapeCasts_S1024_S1024x1) broadcasts_S1024x1_S1024x3584 (ix2 r c) = ∑ d : Fin 128, v (ix2 r d) * v (ix2 r d) := by
  simp only [pointwise]
  rfl

theorem norms_columns (v : FVec Ideal S128x3584 .f32) (r : Fin 1024) (c : Fin 3584) :
    broadcastTo S1024x3584 (shapeCast S1x3584 (multiReduction .add [0] S3584 (mulf v v) 0x00000000#32 reduces_S128x3584_S3584 (.inl rfl) rfl)
      shapeCasts_S3584_S1x3584) broadcasts_S1x3584_S1024x3584 (ix2 r c) = ∑ d : Fin 128, v (ix2 d c) * v (ix2 d c) := by
  simp only [pointwise]
  rfl

theorem product (v : FVec Ideal S1024x128 .f32) (w : FVec Ideal S128x3584 .f32) (r : Fin 1024) (c : Fin 3584) :
    matmul dot_S1024x128_S128x3584_S1024x3584_1_0_0_1_n_n none v w (constant S1024x3584 .f32 0x00000000#32) (ix2 r c)
      = ∑ d : Fin 128, v (ix2 r d) * w (ix2 d c) := by
  refine (Ideal.matmul_plain_apply none v w _ r c).trans ?_
  exact (congrArg (· + _) (Ideal.ofBits_zero_f32 : constant (F := Ideal) S1024x3584 .f32 0x00000000#32 (ix2 r c) = 0)).trans (zero_add _)

theorem inside (i : Nat) (hi : i < 28) (c : Nat) (hc : c < 3584) :
    IntOp.cmpi .slt (IntOp.addi (IntOp.muli (BitVec.ofNat 32 i) 3584#32) (BitVec.ofNat 32 c)) 100000#32
      = BitVec.ofBool (decide (i * 3584 + c < 100000)) := by
  have e : IntOp.addi (IntOp.muli (BitVec.ofNat 32 i) 3584#32) (BitVec.ofNat 32 c) = BitVec.ofNat 32 (i * 3584 + c) := by
    simp [IntOp.addi, IntOp.muli, BitVec.ofNat_add, BitVec.ofNat_mul]
  rw [e]
  have s : (BitVec.ofNat 32 (i * 3584 + c)).toInt = ((i * 3584 + c : Nat) : Int) := by
    exact (BitVec.toInt_ofNat ..).trans (by rw [Int.bmod_def]; omega)
  have l : (100000#32 : BitVec 32).toInt = 100000 := by decide
  show BitVec.ofBool (decide ((BitVec.ofNat 32 (i * 3584 + c)).toInt < (100000#32 : BitVec 32).toInt)) = _
  rw [s, l]
  exact congrArg BitVec.ofBool (decide_eq_decide.mpr (by omega))

theorem stored (i : grid0.Coords) (v0 : Vec Ideal S1024x128 .f32) (v1 : Vec Ideal S128x3584 .f32) (r : Fin 1024) (c : Fin 3584) :
    k0_pay3 i v0 v1 (ix2 r c) = if (i 0).val * 3584 + c.val < 100000 then gap (fun d => v0 (ix2 r d)) (fun d => v1 (ix2 d c)) else far := by
  have e : shapeCast S128x3584 v1 shapeCasts_S128x3584_S128x3584 = v1 := by
    funext y
    rw [shapeCast_apply _ _ y y rfl]
  have hi := inside (i 0).val (i 0).isLt c.val c.isLt
  unfold k0_pay3
  dsimp only
  rw [e]
  rw [ValueIdx.select_apply, cmpi_apply, addi_apply, ValueIdx.broadcast_apply, ValueIdx.broadcast_apply, iota_single_apply, addf_apply, subf_apply, mulf_apply, norms_rows,
    norms_columns, product, ValueIdx.broadcast_apply, ValueIdx.broadcast_apply]
  rw [show Scalar.muli (BitVec.ofNat 32 (i 0).val) 3584#32 = IntOp.muli (BitVec.ofNat 32 (i 0).val) 3584#32 from rfl,
    show ((ix2 r c : S1024x3584.Idx) 1).val = c.val from rfl, hi]
  by_cases h : (i 0).val * 3584 + c.val < 100000
  · rw [if_pos h, decide_eq_true h]; rfl
  · rw [if_neg h, decide_eq_false h]; rfl

theorem least (o : Nat) (ho : o + 128 ≤ 3584) (v : FVec Ideal S1024x3584 .f32) (h : S1024x3584.Slices ![0, o] S1024x128) (r : Fin 1024) (z : Fin 1) :
    shapeCast S1024x1 (multiReduction .minimumf [1] S1024 (extractStridedSlice S1024x128 ![0, o] v h) 0x7F800000#32 reduces_S1024x128_S1024
      (.inl rfl) rfl) shapeCasts_S1024_S1024x1 (ix2 r z)
      = Finset.univ.fold min far fun k : Fin 128 => v (ix2 r ⟨o + k.val, by omega⟩) := by
  simp only [pointwise]
  refine congrArg (fun g => Finset.univ.fold min far g) (funext fun k => congrArg v ?_)
  refine congrArg₂ ix2 (Fin.ext ?_) (Fin.ext ?_)
  · exact Nat.zero_add _
  · rfl

theorem slices (s : Fin 28) : S1024x3584.Slices ![0, 128 * s.val] S1024x128 := by
  revert s; decide

/-- The least of each query's columns of one slice of the block, as a column. -/
def leasts (v : FVec Ideal S1024x3584 .f32) (s : Fin 28) : FVec Ideal S1024x1 .f32 :=
  shapeCast S1024x1 (multiReduction .minimumf [1] S1024 (extractStridedSlice S1024x128 ![0, 128 * s.val] v (slices s)) 0x7F800000#32
    reduces_S1024x128_S1024 (.inl rfl) rfl) shapeCasts_S1024_S1024x1

/-- The block's slices' leasts, side by side. -/
def table (v : FVec Ideal S1024x3584 .f32) : FVec Ideal S1024x28 .f32 :=
  k0_pay1 v (leasts v 0) (leasts v 1) (leasts v 2) (leasts v 3) (leasts v 4) (k0_pay9 v) (k0_pay10 v) (k0_pay11 v) (k0_pay12 v) (k0_pay13 v)
    (k0_pay14 v) (k0_pay15 v) (k0_pay16 v) (k0_pay17 v) (k0_pay18 v) (k0_pay19 v) (k0_pay20 v) (k0_pay21 v) (k0_pay22 v) (k0_pay23 v)

theorem table_apply (v : FVec Ideal S1024x3584 .f32) (r : Fin 1024) (s : Fin 28) :
    table v (ix2 r s) = Finset.univ.fold min far fun k : Fin 128 => v (ix2 r ⟨128 * s.val + k.val, by omega⟩) := by
  refine (concatenate_ofFn_unit_apply (t := S1024x28) (s₁ := S1024x1) 1 (leasts v) ?_ rfl rfl (ix2 r s) s rfl (ix2 r 0) ?_).trans
    (least _ (by omega) v _ r 0)
  · exact concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x28_d1
  · intro b hb
    fin_cases b
    · rfl
    · exact absurd rfl hb

end Body

end Cert.Proof.Dist

end
-- ==== Proof.DistValue.lean ====
/-
  The distances call's two results after its run, each as one function of the queries and the keys.
-/
module

public import proofs.«01_k».proof.Proof.DistBody
public import Idealize.ShloMosaic.Lib.Pipeline.ValueKit.Geometry
public import Idealize.ShloMosaic.Lib.StableHlo.RunRead

@[expose] public section

noncomputable section

namespace Cert.Proof.Dist

open Idealize.ShloMosaic Idealize.ShloMosaic.TcCoe Idealize.SL.Sem

/-- The distance of query `r` and key `n`, or the value beyond the last key. -/
def entry (Z : (⟨2, ![1024, 128]⟩ : Shape).Idx → EReal) (K : (⟨2, ![100000, 128]⟩ : Shape).Idx → EReal) (r : Fin 1024) (n : Nat) : EReal :=
  if h : n < 100000 then gap (fun d => Z (ix2 r d)) (fun d => K (ix2 ⟨n, h⟩ d)) else far

/-- The distances, padded. -/
def wide (Z : (⟨2, ![1024, 128]⟩ : Shape).Idx → EReal) (K : (⟨2, ![100000, 128]⟩ : Shape).Idx → EReal) :
    (⟨2, ![1024, 100352]⟩ : Shape).Idx → EReal :=
  fun j => entry Z K (j 0) (j 1).val

/-- The least distance of each 128 columns. -/
def near (Z : (⟨2, ![1024, 128]⟩ : Shape).Idx → EReal) (K : (⟨2, ![100000, 128]⟩ : Shape).Idx → EReal) :
    (⟨4, ![1, 28, 1024, 28]⟩ : Shape).Idx → EReal :=
  fun j => Finset.univ.fold min far fun k : Fin 128 => entry Z K (j 2) ((j 1).val * 3584 + (128 * (j 3).val + k.val))

section Value

open Cert.DistIdeal Cert.DistIdeal.Gen

/-- The keys as the call takes them: padded, and a column each. -/
def laid {F : FTy → Type} [FloatOps F] (x : FVec F S100000x128 .f32) : FVec F S128x100352 .f32 :=
  transpose S128x100352 [1, 0] (pad S100352x128 ![0, 0] ![352, 0] ![0, 0] x (sitofp .f32 (constantI S_ 32 0#32)) pads_S100000x128_S100352x128_03520_000 h_S_)
    transposes_S100352x128_S128x100352_1_0

theorem laid_apply {F : FTy → Type} [FloatOps F] (x : FVec F S100000x128 .f32) (d : Fin 128) (n : Fin 100352) (h : n.val < 100000) :
    laid x (ix2 d n) = x (ix2 ⟨n.val, h⟩ d) := by
  unfold laid
  refine (show _ = pad S100352x128 ![0, 0] ![352, 0] ![0, 0] x (sitofp .f32 (constantI S_ 32 0#32)) pads_S100000x128_S100352x128_03520_000 h_S_ (ix2 n d) from ?_).trans
    (pad_apply_of_inside _ _ _ _ _ _ _ _ (ix2 ⟨n.val, h⟩ d) fun a => ?_)
  · simp only [pointwise]
  · match a with
    | ⟨0, _⟩ => show n.val = 0 + n.val * (0 + 1); omega
    | ⟨1, _⟩ => show d.val = 0 + d.val * (0 + 1); omega

variable (m : (ℓ : Loc nD τ sig) → Buf (Elt Ideal) ℓ) (c : Dev nD)

theorem entry_keys : V m c main_v1 = laid (F := Ideal) (m ((c : Thread nD τ).loc main_arg1)) := by
  unfold laid
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_reads_simp

theorem coord : ∀ t : Fin cfg0.N, (grid0.coords t 0).val = t.val := (by decide +kernel : ∀ t : Fin grid0.N, (grid0.coords t 0).val = t.val)
theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index3 : ∀ t : Fin cfg0.N, win0_3.index t = ![0, t.val, 0, 0] := (by decide +kernel : ∀ t : Fin grid0.N, win0_3.index t = ![0, t.val, 0, 0])

theorem queries_block (t : Fin cfg0.N) (r : Fin 1024) (d : Fin 128) :
    iblk m c 0 t (ix2 r d) = m ((c : Thread nD τ).loc main_arg0) (ix2 r d) := by
  blk_simp [iblk]
  rw [V_main_arg0]
  refine congrArg _ ?_
  blk_ext [index0]

theorem keys_block (t : Fin cfg0.N) (d : Fin 128) (k : Fin 3584) (h : t.val * 3584 + k.val < 100000) :
    iblk m c 1 t (ix2 d k) = m ((c : Thread nD τ).loc main_arg1) (ix2 ⟨t.val * 3584 + k.val, h⟩ d) := by
  rw [← laid_apply (F := Ideal) (m ((c : Thread nD τ).loc main_arg1)) d ⟨t.val * 3584 + k.val, by omega⟩ h, ← entry_keys]
  blk_simp [iblk]
  refine congrArg _ ?_
  blk_ext [index1]

/-- What a point stores, at an entry. -/
theorem stored_entry (t : Fin cfg0.N) (r : Fin 1024) (k : Fin 3584) :
    k0_pay3 (grid0.coords t) (iblk m c 0 t) (iblk m c 1 t) (ix2 r k)
      = entry (m ((c : Thread nD τ).loc main_arg0)) (m ((c : Thread nD τ).loc main_arg1)) r (t.val * 3584 + k.val) := by
  refine (stored (grid0.coords t) (iblk m c 0 t) (iblk m c 1 t) r k).trans ?_
  rw [coord]
  unfold entry
  by_cases h : t.val * 3584 + k.val < 100000
  · rw [if_pos h, dif_pos h]
    exact congrArg₂ gap (funext fun d => queries_block m c t r d) (funext fun d => keys_block m c t d k h)
  · rw [if_neg h, dif_neg h]

theorem zero2 : (![0, 0] : Fin 2 → Nat) = fun _ => 0 := funext fun a => by fin_cases a <;> rfl
theorem zero4 : (![0, 0, 0, 0] : Fin 4 → Nat) = fun _ => 0 := funext fun a => by fin_cases a <;> rfl

theorem out2 (i : grid0.Coords) (x0 : Vec Ideal S1024x128 .f32) (x1 : Vec Ideal S128x3584 .f32) : out0_2 i x0 x1 = k0_pay3 i x0 x1 := by
  unfold out0_2
  rw [View.canon_unit_zero zero2, View.ld_unit_zero zero2, View.ld_unit_zero zero2]

theorem out3 (i : grid0.Coords) (x0 : Vec Ideal S1024x128 .f32) (x1 : Vec Ideal S128x3584 .f32) : out0_3 i x0 x1 = k0_pay2 (table (k0_pay3 i x0 x1)) := by
  unfold out0_3 k0_pay24
  rw [View.canon_unit_zero zero4, View.ld_unit_zero zero2, View.ld_unit_zero zero2]
  rfl

theorem final2 : (dats m 0 c).arrAt 2 cfg0.N = wide (m ((c : Thread nD τ).loc main_arg0)) (m ((c : Thread nD τ).loc main_arg1)) := by
  refine (dats m 0 c).arrAt_eq_of_covers 2 _ (by decide +kernel) fun t hf y => ?_
  blk_simp
  rw [after0_2, out2]
  obtain ⟨r, k, rfl⟩ : ∃ (r : Fin 1024) (k : Fin 3584), y = ix2 r k := ⟨y 0, y 1, by funext a; fin_cases a <;> rfl⟩
  refine (stored_entry m c t r k).trans ?_
  refine congrArg₂ (entry _ _) (Fin.ext ?_) ?_
  · blk_simp [index2]
  · blk_simp [index2]

theorem final3 : (dats m 0 c).arrAt 3 cfg0.N = near (m ((c : Thread nD τ).loc main_arg0)) (m ((c : Thread nD τ).loc main_arg1)) := by
  refine (dats m 0 c).arrAt_eq_of_covers 3 _ (by decide +kernel) fun t hf y => ?_
  blk_simp
  rw [after0_3, out3]
  obtain ⟨a, b, r, s, rfl⟩ : ∃ (a : Fin 1) (b : Fin 1) (r : Fin 1024) (s : Fin 28), y = ix4 a b r s :=
    ⟨y 0, y 1, y 2, y 3, by funext a; fin_cases a <;> rfl⟩
  refine (show _ = table (k0_pay3 (grid0.coords t) (iblk m c 0 t) (iblk m c 1 t)) (ix2 r s) from ?_).trans ((table_apply _ r s).trans ?_)
  · unfold k0_pay2
    refine shapeCast_apply _ _ _ _ ?_
    rw [Shape.rowMajor_val_two, Shape.rowMajor_val_four]
    have ha : a.val < 1 := a.isLt
    have hb : b.val < 1 := b.isLt
    show r.val * 28 + s.val = ((a.val * 1 + b.val) * 1024 + r.val) * 28 + s.val
    omega
  · refine congrArg (fun g => Finset.univ.fold min far g) (funext fun k => (stored_entry m c t r _).trans ?_)
    refine congrArg₂ (entry _ _) (Fin.ext ?_) ?_
    · blk_simp [index3]
    · blk_simp [index3]

end Value

end Cert.Proof.Dist

end
-- ==== Proof.DistClaims.lean ====
/-
  The distances call's claims: its frames, what its reference computes, and the equality of the two over the extended reals.
-/
module

public import proofs.«01_k».proof.Defs
public import proofs.«01_k».proof.Proof.DistValue
public import proofs.«01_k».proof.Proof.Gen.Dist
public import proofs.«01_k».proof.Proof.Gen.Dist.Frame
public import proofs.«01_k».proof.Proof.Gen.DistReferenceIdeal
public import proofs.«01_k».proof.Proof.Gen.DistReferenceIdeal.Run
public import Idealize.ShloMosaic.Lib.Quiescent

@[expose] public section

noncomputable section

namespace Cert.Proof.Dist

open Idealize.ShloMosaic Idealize.ShloMosaic.TcCoe Idealize.SL.Sem

theorem frame_dist : Cert.quiescent_Dist := fun m ρ _ => Cert.Dist.Gen.frame m ρ

theorem frame_ideal : Cert.quiescent_DistIdeal := fun m ρ _ => Cert.DistIdeal.Gen.frame m ρ

theorem frame_reference : Cert.quiescent_DistReferenceIdeal := fun m ρ _ =>
  (θ_run Cert.DistReferenceIdeal.defs _ _).mono (fun r h => ⟨fun c => (h c).2.2, sem_eq_zero_of_no_sems (by decide) r.2⟩)
    (Cert.DistReferenceIdeal.Value.run (F := Ideal) m ρ)

section Reference

open Cert.DistReferenceIdeal Cert.DistReferenceIdeal.Gen

theorem norms_queries (Z : FVec Ideal S1024x128 .f32) (r : Fin 1024) (n : Fin 100000) :
    broadcastInDim S1024x100000 ![0, 1] bcast_S1024x1_S1024x100000_0_1 (broadcastInDim S1024x1 ![0] bcast_S1024_S1024x1_0
      (Host.reduceAdd (mulf Z Z) (constant S_ .f32 0x00000000#32) reducesTo_S1024x128_S1024_d1 h_S_)) (ix2 r n) = ∑ d : Fin 128, Z (ix2 r d) * Z (ix2 r d) := by
  simp only [pointwise]
  exact zero_add _

theorem norms_keys (K : FVec Ideal S100000x128 .f32) (r : Fin 1024) (n : Fin 100000) :
    broadcastInDim S1024x100000 ![0, 1] bcast_S1x100000_S1024x100000_0_1 (broadcastInDim S1x100000 ![1] bcast_S100000_S1x100000_1
      (Host.reduceAdd (mulf K K) (constant S_ .f32 0x00000000#32) reducesTo_S100000x128_S100000_d1 h_S_)) (ix2 r n) = ∑ d : Fin 128, K (ix2 n d) * K (ix2 n d) := by
  simp only [pointwise]
  exact zero_add _

theorem products (Z : FVec Ideal S1024x128 .f32) (K : FVec Ideal S100000x128 .f32) (r : Fin 1024) (n : Fin 100000) :
    Host.dotGeneral dot_S1024x128_S128x100000_S1024x100000_1_0_0_1_n_n none Z (transpose S128x100000 [1, 0] K transposes_S100000x128_S128x100000_1_0) (ix2 r n)
      = ∑ d : Fin 128, Z (ix2 r d) * K (ix2 n d) := by
  refine (StackMember.dotGeneral_plain_apply none Z _ r n).trans (Finset.sum_congr rfl fun d _ => congrArg (Z (ix2 r d) * ·) ?_)
  simp only [pointwise]

/-- The reference's distances. -/
def distances (Z : FVec Ideal S1024x128 .f32) (K : FVec Ideal S100000x128 .f32) : FVec Ideal S1024x100000 .f32 :=
  addf (subf (broadcastInDim S1024x100000 ![0, 1] bcast_S1024x1_S1024x100000_0_1 (broadcastInDim S1024x1 ![0] bcast_S1024_S1024x1_0
      (Host.reduceAdd (mulf Z Z) (constant S_ .f32 0x00000000#32) reducesTo_S1024x128_S1024_d1 h_S_)))
    (mulf (broadcastInDim S1024x100000 ![] bcast_S_S1024x100000 (constant S_ .f32 0x40000000#32))
      (Host.dotGeneral dot_S1024x128_S128x100000_S1024x100000_1_0_0_1_n_n none Z (transpose S128x100000 [1, 0] K transposes_S100000x128_S128x100000_1_0))))
  (broadcastInDim S1024x100000 ![0, 1] bcast_S1x100000_S1024x100000_0_1 (broadcastInDim S1x100000 ![1] bcast_S100000_S1x100000_1
      (Host.reduceAdd (mulf K K) (constant S_ .f32 0x00000000#32) reducesTo_S100000x128_S100000_d1 h_S_)))

/-- The reference's first result. -/
def padded (Z : FVec Ideal S1024x128 .f32) (K : FVec Ideal S100000x128 .f32) : FVec Ideal S1024x100352 .f32 :=
  pad S1024x100352 ![0, 0] ![0, 352] ![0, 0] (distances Z K) (id (constant S_ .f32 0x7F800000#32)) pads_S1024x100000_S1024x100352_000_03520 h_S_

theorem distances_apply (Z : FVec Ideal S1024x128 .f32) (K : FVec Ideal S100000x128 .f32) (r : Fin 1024) (n : Fin 100000) :
    distances Z K (ix2 r n) = gap (fun d => Z (ix2 r d)) (fun d => K (ix2 n d)) := by
  unfold gap
  rw [← norms_queries Z r n, ← norms_keys K r n, ← products Z K r n]
  rfl

theorem padded_apply (Z : FVec Ideal S1024x128 .f32) (K : FVec Ideal S100000x128 .f32) (r : Fin 1024) (n : Fin 100352) :
    padded Z K (ix2 r n) = entry Z K r n.val := by
  unfold padded entry
  by_cases h : n.val < 100000
  · rw [dif_pos h, ← distances_apply Z K r ⟨n.val, h⟩]
    refine pad_apply_of_inside _ _ _ _ _ _ _ _ (ix2 r ⟨n.val, h⟩) fun a => ?_
    match a with
    | ⟨0, _⟩ => show r.val = 0 + r.val * (0 + 1); omega
    | ⟨1, _⟩ => show n.val = 0 + n.val * (0 + 1); omega
  · rw [dif_neg h]
    refine pad_apply_of_not_inside _ _ _ _ _ _ _ _ (1 : Fin 2) fun hin => h ?_
    have e : (n.val - 0) / (0 + 1) < 100000 := hin.2.2
    omega

/-- The reference's second result. -/
def nearest (Z : FVec Ideal S1024x128 .f32) (K : FVec Ideal S100000x128 .f32) : FVec Ideal S1x28x1024x28 .f32 :=
  broadcastInDim S1x28x1024x28 ![1, 2, 3] bcast_S28x1024x28_S1x28x1024x28_1_2_3 (transpose S28x1024x28 [1, 0, 2]
    (Host.reduce FloatOps.minimumf (shapeCast S1024x28x28x128 (padded Z K) shapeCasts_S1024x100352_S1024x28x28x128) (constant S_ .f32 0x7F800000#32)
      reducesTo_S1024x28x28x128_S1024x28x28_d3 h_S_) transposes_S1024x28x28_S28x1024x28_1_0_2)

theorem nearest_apply (Z : FVec Ideal S1024x128 .f32) (K : FVec Ideal S100000x128 .f32) (j : S1x28x1024x28.Idx) :
    nearest Z K j = near Z K j := by
  obtain ⟨a, i, r, s, rfl⟩ : ∃ (a : Fin 1) (i : Fin 28) (r : Fin 1024) (s : Fin 28), j = ix4 a i r s :=
    ⟨j 0, j 1, j 2, j 3, by funext a; fin_cases a <;> rfl⟩
  unfold nearest
  simp only [pointwise]
  refine congrArg (fun g => Finset.univ.fold min far g) (funext fun k => (padded_apply Z K r _).trans (congrArg (entry Z K r) ?_))
  show i.val * 3584 + s.val * 128 + k.val = i.val * 3584 + (128 * s.val + k.val)
  omega

end Reference

theorem algebraic : Cert.algebraic_DistIdeal_DistReferenceIdeal := by
  intro m ρ m' ρ' _ hin
  refine ⟨fun c => wide (m ((c.tc : Thread Cert.DistIdeal.nD Cert.DistIdeal.τ).loc Cert.DistIdeal.main_arg0)) (m ((c.tc : Thread Cert.DistIdeal.nD Cert.DistIdeal.τ).loc Cert.DistIdeal.main_arg1)),
    fun c => near (m ((c.tc : Thread Cert.DistIdeal.nD Cert.DistIdeal.τ).loc Cert.DistIdeal.main_arg0)) (m ((c.tc : Thread Cert.DistIdeal.nD Cert.DistIdeal.τ).loc Cert.DistIdeal.main_arg1)), ?_, ?_⟩
  · exact (θ_run Cert.DistIdeal.defs _ _).mono (fun _ h c => ⟨(h c).1.trans (final2 m c), (h c).2.1.trans (final3 m c), (h c).2.2⟩)
      (Cert.DistIdeal.Value.run_blocks (F := Ideal) m ρ)
  · refine (θ_run Cert.DistReferenceIdeal.defs _ _).mono (fun r h c => ?_) (Cert.DistReferenceIdeal.Value.run (F := Ideal) m' ρ')
    obtain ⟨h0, h1, hargs⟩ := h c
    obtain ⟨a0, a1⟩ := hin c
    refine ⟨h0.trans ?_, h1.trans ?_, hargs⟩
    · rw [a0, a1]
      funext j
      obtain ⟨r, n, rfl⟩ : ∃ (r : Fin 1024) (n : Fin 100352), j = ix2 r n := ⟨j 0, j 1, by funext a; fin_cases a <;> rfl⟩
      exact padded_apply _ _ r n
    · rw [a0, a1]
      funext j
      exact nearest_apply _ _ j

end Cert.Proof.Dist

end
-- ==== Proof.SelectBody.lean ====
/-
  The selection's body over the extended reals: 33 rounds, each over what the one before it left.
-/
module

public import proofs.«01_k».proof.Proof.Gen.SelectIdeal.Value
public import Idealize.ShloMosaic.Lib.Pipeline.Value
public import Idealize.ShloMosaic.Lib.Pipeline.ValueKit
public import Idealize.ShloMosaic.Lib.Pointwise
public import Idealize.ShloMosaic.Lib.KernelVsHost

@[expose] public section

noncomputable section

namespace Cert.Proof.Select

open Idealize.ShloMosaic Idealize.ShloMosaic.TcCoe Idealize.SL.Sem

section Body

open Cert.SelectIdeal Cert.SelectIdeal.Gen

/-- The columns' numbers, and the rows'. -/
def columns : IVec S1024x784 32 := iota .tc S1024x784 32 [1] iota_S1024x784_d1_w32
def queries : IVec S1024x1 32 := iota .tc S1024x1 32 [0] iota_S1024x1_d0_w32

/-- A round over the values `x`: each row's least value, its first place, that place's row of the whole table, and the
    values with that place made infinite. -/
def low (x : FVec Ideal S1024x784 .f32) : FVec Ideal S1024x1 .f32 := k0_pay1 x
def spot (x : FVec Ideal S1024x784 .f32) : IVec S1024x1 32 := k0_pay2 columns x
def line (x : FVec Ideal S1024x784 .f32) : IVec S1024x1 32 := k0_pay3 columns queries x
def rest (x : FVec Ideal S1024x784 .f32) : FVec Ideal S1024x784 .f32 := k0_pay14 columns x

/-- The values after `t` rounds. -/
def after (a0 : FVec Ideal S1024x784 .f32) : Nat → FVec Ideal S1024x784 .f32
  | 0 => a0
  | t + 1 => rest (after a0 t)

/-! ## The values the body passes on -/

def mask (x : FVec Ideal S1024x784 .f32) : IVec S1024x784 1 := cmpi .eq columns (broadcastTo S1024x784 (spot x) broadcasts_S1024x1_S1024x784)
def tie (x : FVec Ideal S1024x784 .f32) : IVec S1024x784 1 := cmpf .oeq x (broadcastTo S1024x784 (low x) broadcasts_S1024x1_S1024x784)
def fill : FVec Ideal S1024x784 .f32 := broadcast S1024x784 (Scalar.ofBits (F := Ideal) .f32 0x7F800000#32)
def past : IVec S1024x784 32 := broadcast S1024x784 784#32

variable (a0 : Vec Ideal S1024x784 .f32)

theorem v142 : k0_pay142 a0 = columns := rfl

theorem v143 : k0_pay143 a0 = queries := rfl

theorem v144 : k0_pay144 a0 = after a0 2 := by
  unfold k0_pay144
  rw [View.ld_unit_zero (S := S1024x784) Cert.SelectIdeal.Value.hz0 _ a0]
  rfl

theorem v145 : k0_pay145 a0 = spot (after a0 3) := by
  unfold k0_pay145
  rw [v142, v144]
  show _ = spot (rest (after a0 2))
  generalize after a0 2 = s
  rfl

theorem v146 : k0_pay146 a0 = after a0 4 := by
  unfold k0_pay146
  rw [v142, v144]
  show _ = rest (rest (after a0 2))
  generalize after a0 2 = s
  rfl

theorem v147 : k0_pay147 a0 = after a0 5 := by
  unfold k0_pay147
  rw [v142, v146]
  show _ = rest (after a0 4)
  generalize after a0 4 = s
  rfl

theorem v148 : k0_pay148 a0 = spot (after a0 5) := by
  unfold k0_pay148
  rw [v142, v146]
  show _ = spot (rest (after a0 4))
  generalize after a0 4 = s
  rfl

theorem v149 : k0_pay149 a0 = mask (after a0 5) := by
  unfold k0_pay149
  rw [v142, v146]
  show _ = mask (rest (after a0 4))
  generalize after a0 4 = s
  rfl

theorem v150 : k0_pay150 a0 = fill := rfl

theorem v151 : k0_pay151 a0 = after a0 7 := by
  unfold k0_pay151
  rw [v142, v147, v149, v150]
  show _ = rest (rest (after a0 5))
  generalize after a0 5 = s
  rfl

theorem v152 : k0_pay152 a0 = spot (after a0 7) := by
  unfold k0_pay152
  rw [v142, v147, v149, v150]
  show _ = spot (rest (rest (after a0 5)))
  generalize after a0 5 = s
  rfl

theorem v153 : k0_pay153 a0 = after a0 9 := by
  unfold k0_pay153
  rw [v142, v151, v152]
  show _ = rest (rest (after a0 7))
  generalize after a0 7 = s
  rfl

theorem v154 : k0_pay154 a0 = tie (after a0 9) := by
  unfold k0_pay154
  rw [v142, v151, v152]
  show _ = tie (rest (rest (after a0 7)))
  generalize after a0 7 = s
  rfl

theorem v155 : k0_pay155 a0 = past := rfl

theorem v156 : k0_pay156 a0 = after a0 11 := by
  unfold k0_pay156
  rw [v142, v153, v154, v155]
  show _ = rest (rest (after a0 9))
  generalize after a0 9 = s
  rfl

theorem v157 : k0_pay157 a0 = low (after a0 11) := by
  unfold k0_pay157
  rw [v142, v153, v154, v155]
  show _ = low (rest (rest (after a0 9)))
  generalize after a0 9 = s
  rfl

theorem v158 : k0_pay158 a0 = after a0 13 := by
  unfold k0_pay158
  rw [v142, v156, v157]
  show _ = rest (rest (after a0 11))
  generalize after a0 11 = s
  rfl

theorem v159 : k0_pay159 a0 = after a0 15 := by
  unfold k0_pay159
  rw [v142, v158]
  show _ = rest (rest (after a0 13))
  generalize after a0 13 = s
  rfl

theorem v160 : k0_pay160 a0 = after a0 17 := by
  unfold k0_pay160
  rw [v142, v159]
  show _ = rest (rest (after a0 15))
  generalize after a0 15 = s
  rfl

theorem v161 : k0_pay161 a0 = spot (after a0 18) := by
  unfold k0_pay161
  rw [v142, v160]
  show _ = spot (rest (after a0 17))
  generalize after a0 17 = s
  rfl

theorem v162 : k0_pay162 a0 = after a0 19 := by
  unfold k0_pay162
  rw [v142, v160]
  show _ = rest (rest (after a0 17))
  generalize after a0 17 = s
  rfl

theorem v163 : k0_pay163 a0 = after a0 20 := by
  unfold k0_pay163
  rw [v142, v162]
  show _ = rest (after a0 19)
  generalize after a0 19 = s
  rfl

theorem v164 : k0_pay164 a0 = spot (after a0 20) := by
  unfold k0_pay164
  rw [v142, v162]
  show _ = spot (rest (after a0 19))
  generalize after a0 19 = s
  rfl

theorem v165 : k0_pay165 a0 = mask (after a0 20) := by
  unfold k0_pay165
  rw [v142, v162]
  show _ = mask (rest (after a0 19))
  generalize after a0 19 = s
  rfl

theorem v166 : k0_pay166 a0 = fill := rfl

theorem v167 : k0_pay167 a0 = after a0 22 := by
  unfold k0_pay167
  rw [v142, v163, v165, v166]
  show _ = rest (rest (after a0 20))
  generalize after a0 20 = s
  rfl

theorem v168 : k0_pay168 a0 = spot (after a0 22) := by
  unfold k0_pay168
  rw [v142, v163, v165, v166]
  show _ = spot (rest (rest (after a0 20)))
  generalize after a0 20 = s
  rfl

theorem v169 : k0_pay169 a0 = after a0 24 := by
  unfold k0_pay169
  rw [v142, v167, v168]
  show _ = rest (rest (after a0 22))
  generalize after a0 22 = s
  rfl

theorem v170 : k0_pay170 a0 = tie (after a0 24) := by
  unfold k0_pay170
  rw [v142, v167, v168]
  show _ = tie (rest (rest (after a0 22)))
  generalize after a0 22 = s
  rfl

theorem v171 : k0_pay171 a0 = past := rfl

theorem v172 : k0_pay172 a0 = after a0 26 := by
  unfold k0_pay172
  rw [v142, v169, v170, v171]
  show _ = rest (rest (after a0 24))
  generalize after a0 24 = s
  rfl

theorem v173 : k0_pay173 a0 = low (after a0 26) := by
  unfold k0_pay173
  rw [v142, v169, v170, v171]
  show _ = low (rest (rest (after a0 24)))
  generalize after a0 24 = s
  rfl

theorem v174 : k0_pay174 a0 = after a0 28 := by
  unfold k0_pay174
  rw [v142, v172, v173]
  show _ = rest (rest (after a0 26))
  generalize after a0 26 = s
  rfl

theorem v175 : k0_pay175 a0 = after a0 30 := by
  unfold k0_pay175
  rw [v142, v174]
  show _ = rest (rest (after a0 28))
  generalize after a0 28 = s
  rfl

theorem v176 : k0_pay176 a0 = after a0 32 := by
  unfold k0_pay176
  rw [v142, v175]
  show _ = rest (rest (after a0 30))
  generalize after a0 30 = s
  rfl

theorem line32 : k0_pay3 (k0_pay142 a0) (k0_pay143 a0) (k0_pay176 a0) = line (after a0 32) := by
  rw [v142, v143, v176]
  show _ = line (after a0 32)
  generalize after a0 32 = s
  rfl

theorem line31 : k0_pay141 (k0_pay142 a0) (k0_pay143 a0) (k0_pay175 a0) = line (after a0 31) := by
  rw [v142, v143, v175]
  show _ = line (rest (after a0 30))
  generalize after a0 30 = s
  rfl

theorem line30 : k0_pay137 (k0_pay142 a0) (k0_pay143 a0) (k0_pay175 a0) = line (after a0 30) := by
  rw [v142, v143, v175]
  show _ = line (after a0 30)
  generalize after a0 30 = s
  rfl

theorem line29 : k0_pay133 (k0_pay142 a0) (k0_pay143 a0) (k0_pay174 a0) = line (after a0 29) := by
  rw [v142, v143, v174]
  show _ = line (rest (after a0 28))
  generalize after a0 28 = s
  rfl

theorem line28 : k0_pay129 (k0_pay142 a0) (k0_pay143 a0) (k0_pay174 a0) = line (after a0 28) := by
  rw [v142, v143, v174]
  show _ = line (after a0 28)
  generalize after a0 28 = s
  rfl

theorem line27 : k0_pay125 (k0_pay142 a0) (k0_pay143 a0) (k0_pay172 a0) (k0_pay173 a0) = line (after a0 27) := by
  rw [v142, v143, v172, v173]
  show _ = line (rest (after a0 26))
  generalize after a0 26 = s
  rfl

theorem line26 : k0_pay121 (k0_pay142 a0) (k0_pay143 a0) (k0_pay172 a0) (k0_pay173 a0) = line (after a0 26) := by
  rw [v142, v143, v172, v173]
  show _ = line (after a0 26)
  generalize after a0 26 = s
  rfl

theorem line25 : k0_pay117 (k0_pay142 a0) (k0_pay143 a0) (k0_pay169 a0) (k0_pay170 a0) (k0_pay171 a0) = line (after a0 25) := by
  rw [v142, v143, v169, v170, v171]
  show _ = line (rest (after a0 24))
  generalize after a0 24 = s
  rfl

theorem line24 : k0_pay113 (k0_pay142 a0) (k0_pay143 a0) (k0_pay170 a0) (k0_pay171 a0) = line (after a0 24) := by
  rw [v142, v143, v170, v171]
  show _ = line (after a0 24)
  generalize after a0 24 = s
  rfl

theorem line23 : k0_pay107 (k0_pay142 a0) (k0_pay143 a0) (k0_pay167 a0) (k0_pay168 a0) = line (after a0 23) := by
  rw [v142, v143, v167, v168]
  show _ = line (rest (after a0 22))
  generalize after a0 22 = s
  rfl

theorem line22 : k0_pay103 (k0_pay143 a0) (k0_pay168 a0) = line (after a0 22) := by
  rw [v143, v168]
  show _ = line (after a0 22)
  generalize after a0 22 = s
  rfl

theorem line21 : k0_pay99 (k0_pay142 a0) (k0_pay143 a0) (k0_pay163 a0) (k0_pay165 a0) (k0_pay166 a0) = line (after a0 21) := by
  rw [v142, v143, v163, v165, v166]
  show _ = line (rest (after a0 20))
  generalize after a0 20 = s
  rfl

theorem line20 : k0_pay95 (k0_pay143 a0) (k0_pay164 a0) = line (after a0 20) := by
  rw [v143, v164]
  show _ = line (after a0 20)
  generalize after a0 20 = s
  rfl

theorem line19 : k0_pay89 (k0_pay142 a0) (k0_pay143 a0) (k0_pay162 a0) = line (after a0 19) := by
  rw [v142, v143, v162]
  show _ = line (after a0 19)
  generalize after a0 19 = s
  rfl

theorem line18 : k0_pay85 (k0_pay161 a0) (k0_pay84 (k0_pay143 a0)) = line (after a0 18) := by
  rw [v161, v143]
  show _ = line (after a0 18)
  generalize after a0 18 = s
  rfl

theorem line17 : k0_pay80 (k0_pay142 a0) (k0_pay143 a0) (k0_pay160 a0) = line (after a0 17) := by
  rw [v142, v143, v160]
  show _ = line (after a0 17)
  generalize after a0 17 = s
  rfl

theorem line16 : k0_pay76 (k0_pay142 a0) (k0_pay143 a0) (k0_pay159 a0) = line (after a0 16) := by
  rw [v142, v143, v159]
  show _ = line (rest (after a0 15))
  generalize after a0 15 = s
  rfl

theorem line15 : k0_pay72 (k0_pay142 a0) (k0_pay143 a0) (k0_pay159 a0) = line (after a0 15) := by
  rw [v142, v143, v159]
  show _ = line (after a0 15)
  generalize after a0 15 = s
  rfl

theorem line14 : k0_pay68 (k0_pay142 a0) (k0_pay143 a0) (k0_pay158 a0) = line (after a0 14) := by
  rw [v142, v143, v158]
  show _ = line (rest (after a0 13))
  generalize after a0 13 = s
  rfl

theorem line13 : k0_pay64 (k0_pay142 a0) (k0_pay143 a0) (k0_pay158 a0) = line (after a0 13) := by
  rw [v142, v143, v158]
  show _ = line (after a0 13)
  generalize after a0 13 = s
  rfl

theorem line12 : k0_pay60 (k0_pay142 a0) (k0_pay143 a0) (k0_pay156 a0) (k0_pay157 a0) = line (after a0 12) := by
  rw [v142, v143, v156, v157]
  show _ = line (rest (after a0 11))
  generalize after a0 11 = s
  rfl

theorem line11 : k0_pay56 (k0_pay142 a0) (k0_pay143 a0) (k0_pay156 a0) (k0_pay157 a0) = line (after a0 11) := by
  rw [v142, v143, v156, v157]
  show _ = line (after a0 11)
  generalize after a0 11 = s
  rfl

theorem line10 : k0_pay52 (k0_pay142 a0) (k0_pay143 a0) (k0_pay153 a0) (k0_pay154 a0) (k0_pay155 a0) = line (after a0 10) := by
  rw [v142, v143, v153, v154, v155]
  show _ = line (rest (after a0 9))
  generalize after a0 9 = s
  rfl

theorem line9 : k0_pay48 (k0_pay142 a0) (k0_pay143 a0) (k0_pay154 a0) (k0_pay155 a0) = line (after a0 9) := by
  rw [v142, v143, v154, v155]
  show _ = line (after a0 9)
  generalize after a0 9 = s
  rfl

theorem line8 : k0_pay42 (k0_pay142 a0) (k0_pay143 a0) (k0_pay151 a0) (k0_pay152 a0) = line (after a0 8) := by
  rw [v142, v143, v151, v152]
  show _ = line (rest (after a0 7))
  generalize after a0 7 = s
  rfl

theorem line7 : k0_pay38 (k0_pay143 a0) (k0_pay152 a0) = line (after a0 7) := by
  rw [v143, v152]
  show _ = line (after a0 7)
  generalize after a0 7 = s
  rfl

theorem line6 : k0_pay34 (k0_pay142 a0) (k0_pay143 a0) (k0_pay147 a0) (k0_pay149 a0) (k0_pay150 a0) = line (after a0 6) := by
  rw [v142, v143, v147, v149, v150]
  show _ = line (rest (after a0 5))
  generalize after a0 5 = s
  rfl

theorem line5 : k0_pay30 (k0_pay143 a0) (k0_pay148 a0) = line (after a0 5) := by
  rw [v143, v148]
  show _ = line (after a0 5)
  generalize after a0 5 = s
  rfl

theorem line4 : k0_pay24 (k0_pay142 a0) (k0_pay143 a0) (k0_pay146 a0) = line (after a0 4) := by
  rw [v142, v143, v146]
  show _ = line (after a0 4)
  generalize after a0 4 = s
  rfl

theorem line3 : k0_pay20 (k0_pay145 a0) (k0_pay19 (k0_pay143 a0)) = line (after a0 3) := by
  rw [v145, v143]
  show _ = line (after a0 3)
  generalize after a0 3 = s
  rfl

theorem line2 : k0_pay15 (k0_pay142 a0) (k0_pay143 a0) (k0_pay144 a0) = line (after a0 2) := by
  rw [v142, v143, v144]
  show _ = line (after a0 2)
  generalize after a0 2 = s
  rfl

theorem line1 : k0_pay11 a0 = line (after a0 1) := by
  show _ = line (rest (a0))
  rfl

theorem line0 : k0_pay7 a0 = line (after a0 0) := by
  show _ = line (a0)
  rfl

theorem spot32 : k0_pay2 (k0_pay142 a0) (k0_pay176 a0) = spot (after a0 32) := by
  rw [v142, v176]
  show _ = spot (after a0 32)
  generalize after a0 32 = s
  rfl

theorem spot31 : k0_pay139 (k0_pay142 a0) (k0_pay175 a0) = spot (after a0 31) := by
  rw [v142, v175]
  show _ = spot (rest (after a0 30))
  generalize after a0 30 = s
  rfl

theorem spot30 : k0_pay135 (k0_pay142 a0) (k0_pay175 a0) = spot (after a0 30) := by
  rw [v142, v175]
  show _ = spot (after a0 30)
  generalize after a0 30 = s
  rfl

theorem spot29 : k0_pay131 (k0_pay142 a0) (k0_pay174 a0) = spot (after a0 29) := by
  rw [v142, v174]
  show _ = spot (rest (after a0 28))
  generalize after a0 28 = s
  rfl

theorem spot28 : k0_pay127 (k0_pay142 a0) (k0_pay174 a0) = spot (after a0 28) := by
  rw [v142, v174]
  show _ = spot (after a0 28)
  generalize after a0 28 = s
  rfl

theorem spot27 : k0_pay123 (k0_pay142 a0) (k0_pay172 a0) (k0_pay173 a0) = spot (after a0 27) := by
  rw [v142, v172, v173]
  show _ = spot (rest (after a0 26))
  generalize after a0 26 = s
  rfl

theorem spot26 : k0_pay119 (k0_pay142 a0) (k0_pay172 a0) (k0_pay173 a0) = spot (after a0 26) := by
  rw [v142, v172, v173]
  show _ = spot (after a0 26)
  generalize after a0 26 = s
  rfl

theorem spot25 : k0_pay115 (k0_pay142 a0) (k0_pay169 a0) (k0_pay170 a0) (k0_pay171 a0) = spot (after a0 25) := by
  rw [v142, v169, v170, v171]
  show _ = spot (rest (after a0 24))
  generalize after a0 24 = s
  rfl

theorem spot24 : k0_pay111 (k0_pay142 a0) (k0_pay170 a0) (k0_pay171 a0) = spot (after a0 24) := by
  rw [v142, v170, v171]
  show _ = spot (after a0 24)
  generalize after a0 24 = s
  rfl

theorem spot23 : k0_pay105 (k0_pay142 a0) (k0_pay167 a0) (k0_pay168 a0) = spot (after a0 23) := by
  rw [v142, v167, v168]
  show _ = spot (rest (after a0 22))
  generalize after a0 22 = s
  rfl

theorem spot22 : k0_pay168 a0 = spot (after a0 22) := v168 a0

theorem spot21 : k0_pay97 (k0_pay142 a0) (k0_pay163 a0) (k0_pay165 a0) (k0_pay166 a0) = spot (after a0 21) := by
  rw [v142, v163, v165, v166]
  show _ = spot (rest (after a0 20))
  generalize after a0 20 = s
  rfl

theorem spot20 : k0_pay164 a0 = spot (after a0 20) := v164 a0

theorem spot19 : k0_pay87 (k0_pay142 a0) (k0_pay162 a0) = spot (after a0 19) := by
  rw [v142, v162]
  show _ = spot (after a0 19)
  generalize after a0 19 = s
  rfl

theorem spot18 : k0_pay161 a0 = spot (after a0 18) := v161 a0

theorem spot17 : k0_pay78 (k0_pay142 a0) (k0_pay160 a0) = spot (after a0 17) := by
  rw [v142, v160]
  show _ = spot (after a0 17)
  generalize after a0 17 = s
  rfl

theorem spot16 : k0_pay74 (k0_pay142 a0) (k0_pay159 a0) = spot (after a0 16) := by
  rw [v142, v159]
  show _ = spot (rest (after a0 15))
  generalize after a0 15 = s
  rfl

theorem spot15 : k0_pay70 (k0_pay142 a0) (k0_pay159 a0) = spot (after a0 15) := by
  rw [v142, v159]
  show _ = spot (after a0 15)
  generalize after a0 15 = s
  rfl

theorem spot14 : k0_pay66 (k0_pay142 a0) (k0_pay158 a0) = spot (after a0 14) := by
  rw [v142, v158]
  show _ = spot (rest (after a0 13))
  generalize after a0 13 = s
  rfl

theorem spot13 : k0_pay62 (k0_pay142 a0) (k0_pay158 a0) = spot (after a0 13) := by
  rw [v142, v158]
  show _ = spot (after a0 13)
  generalize after a0 13 = s
  rfl

theorem spot12 : k0_pay58 (k0_pay142 a0) (k0_pay156 a0) (k0_pay157 a0) = spot (after a0 12) := by
  rw [v142, v156, v157]
  show _ = spot (rest (after a0 11))
  generalize after a0 11 = s
  rfl

theorem spot11 : k0_pay54 (k0_pay142 a0) (k0_pay156 a0) (k0_pay157 a0) = spot (after a0 11) := by
  rw [v142, v156, v157]
  show _ = spot (after a0 11)
  generalize after a0 11 = s
  rfl

theorem spot10 : k0_pay50 (k0_pay142 a0) (k0_pay153 a0) (k0_pay154 a0) (k0_pay155 a0) = spot (after a0 10) := by
  rw [v142, v153, v154, v155]
  show _ = spot (rest (after a0 9))
  generalize after a0 9 = s
  rfl

theorem spot9 : k0_pay46 (k0_pay142 a0) (k0_pay154 a0) (k0_pay155 a0) = spot (after a0 9) := by
  rw [v142, v154, v155]
  show _ = spot (after a0 9)
  generalize after a0 9 = s
  rfl

theorem spot8 : k0_pay40 (k0_pay142 a0) (k0_pay151 a0) (k0_pay152 a0) = spot (after a0 8) := by
  rw [v142, v151, v152]
  show _ = spot (rest (after a0 7))
  generalize after a0 7 = s
  rfl

theorem spot7 : k0_pay152 a0 = spot (after a0 7) := v152 a0

theorem spot6 : k0_pay32 (k0_pay142 a0) (k0_pay147 a0) (k0_pay149 a0) (k0_pay150 a0) = spot (after a0 6) := by
  rw [v142, v147, v149, v150]
  show _ = spot (rest (after a0 5))
  generalize after a0 5 = s
  rfl

theorem spot5 : k0_pay148 a0 = spot (after a0 5) := v148 a0

theorem spot4 : k0_pay22 (k0_pay142 a0) (k0_pay146 a0) = spot (after a0 4) := by
  rw [v142, v146]
  show _ = spot (after a0 4)
  generalize after a0 4 = s
  rfl

theorem spot3 : k0_pay145 a0 = spot (after a0 3) := v145 a0

theorem spot2 : k0_pay13 (k0_pay142 a0) (k0_pay144 a0) = spot (after a0 2) := by
  rw [v142, v144]
  show _ = spot (after a0 2)
  generalize after a0 2 = s
  rfl

theorem spot1 : k0_pay9 a0 = spot (after a0 1) := by
  show _ = spot (rest (a0))
  rfl

theorem spot0 : k0_pay5 a0 = spot (after a0 0) := by
  show _ = spot (a0)
  rfl

theorem low32 : k0_pay1 (k0_pay176 a0) = low (after a0 32) := by
  rw [v176]
  show _ = low (after a0 32)
  generalize after a0 32 = s
  rfl

theorem low31 : k0_pay138 (k0_pay142 a0) (k0_pay175 a0) = low (after a0 31) := by
  rw [v142, v175]
  show _ = low (rest (after a0 30))
  generalize after a0 30 = s
  rfl

theorem low30 : k0_pay134 (k0_pay175 a0) = low (after a0 30) := by
  rw [v175]
  show _ = low (after a0 30)
  generalize after a0 30 = s
  rfl

theorem low29 : k0_pay130 (k0_pay142 a0) (k0_pay174 a0) = low (after a0 29) := by
  rw [v142, v174]
  show _ = low (rest (after a0 28))
  generalize after a0 28 = s
  rfl

theorem low28 : k0_pay126 (k0_pay174 a0) = low (after a0 28) := by
  rw [v174]
  show _ = low (after a0 28)
  generalize after a0 28 = s
  rfl

theorem low27 : k0_pay122 (k0_pay142 a0) (k0_pay172 a0) (k0_pay173 a0) = low (after a0 27) := by
  rw [v142, v172, v173]
  show _ = low (rest (after a0 26))
  generalize after a0 26 = s
  rfl

theorem low26 : k0_pay173 a0 = low (after a0 26) := v173 a0

theorem low25 : k0_pay114 (k0_pay142 a0) (k0_pay169 a0) (k0_pay170 a0) (k0_pay171 a0) = low (after a0 25) := by
  rw [v142, v169, v170, v171]
  show _ = low (rest (after a0 24))
  generalize after a0 24 = s
  rfl

theorem low24 : k0_pay108 (k0_pay142 a0) (k0_pay167 a0) (k0_pay168 a0) = low (after a0 24) := by
  rw [v142, v167, v168]
  show _ = low (rest (rest (after a0 22)))
  generalize after a0 22 = s
  rfl

theorem low23 : k0_pay104 (k0_pay142 a0) (k0_pay167 a0) (k0_pay168 a0) = low (after a0 23) := by
  rw [v142, v167, v168]
  show _ = low (rest (after a0 22))
  generalize after a0 22 = s
  rfl

theorem low22 : k0_pay100 (k0_pay142 a0) (k0_pay163 a0) (k0_pay165 a0) (k0_pay166 a0) = low (after a0 22) := by
  rw [v142, v163, v165, v166]
  show _ = low (rest (rest (after a0 20)))
  generalize after a0 20 = s
  rfl

theorem low21 : k0_pay96 (k0_pay163 a0) (k0_pay165 a0) (k0_pay166 a0) = low (after a0 21) := by
  rw [v163, v165, v166]
  show _ = low (rest (after a0 20))
  generalize after a0 20 = s
  rfl

theorem low20 : k0_pay90 (k0_pay142 a0) (k0_pay162 a0) = low (after a0 20) := by
  rw [v142, v162]
  show _ = low (rest (after a0 19))
  generalize after a0 19 = s
  rfl

theorem low19 : k0_pay86 (k0_pay162 a0) = low (after a0 19) := by
  rw [v162]
  show _ = low (after a0 19)
  generalize after a0 19 = s
  rfl

theorem low18 : k0_pay81 (k0_pay142 a0) (k0_pay160 a0) = low (after a0 18) := by
  rw [v142, v160]
  show _ = low (rest (after a0 17))
  generalize after a0 17 = s
  rfl

theorem low17 : k0_pay77 (k0_pay160 a0) = low (after a0 17) := by
  rw [v160]
  show _ = low (after a0 17)
  generalize after a0 17 = s
  rfl

theorem low16 : k0_pay73 (k0_pay142 a0) (k0_pay159 a0) = low (after a0 16) := by
  rw [v142, v159]
  show _ = low (rest (after a0 15))
  generalize after a0 15 = s
  rfl

theorem low15 : k0_pay69 (k0_pay159 a0) = low (after a0 15) := by
  rw [v159]
  show _ = low (after a0 15)
  generalize after a0 15 = s
  rfl

theorem low14 : k0_pay65 (k0_pay142 a0) (k0_pay158 a0) = low (after a0 14) := by
  rw [v142, v158]
  show _ = low (rest (after a0 13))
  generalize after a0 13 = s
  rfl

theorem low13 : k0_pay61 (k0_pay158 a0) = low (after a0 13) := by
  rw [v158]
  show _ = low (after a0 13)
  generalize after a0 13 = s
  rfl

theorem low12 : k0_pay57 (k0_pay142 a0) (k0_pay156 a0) (k0_pay157 a0) = low (after a0 12) := by
  rw [v142, v156, v157]
  show _ = low (rest (after a0 11))
  generalize after a0 11 = s
  rfl

theorem low11 : k0_pay157 a0 = low (after a0 11) := v157 a0

theorem low10 : k0_pay49 (k0_pay142 a0) (k0_pay153 a0) (k0_pay154 a0) (k0_pay155 a0) = low (after a0 10) := by
  rw [v142, v153, v154, v155]
  show _ = low (rest (after a0 9))
  generalize after a0 9 = s
  rfl

theorem low9 : k0_pay43 (k0_pay142 a0) (k0_pay151 a0) (k0_pay152 a0) = low (after a0 9) := by
  rw [v142, v151, v152]
  show _ = low (rest (rest (after a0 7)))
  generalize after a0 7 = s
  rfl

theorem low8 : k0_pay39 (k0_pay142 a0) (k0_pay151 a0) (k0_pay152 a0) = low (after a0 8) := by
  rw [v142, v151, v152]
  show _ = low (rest (after a0 7))
  generalize after a0 7 = s
  rfl

theorem low7 : k0_pay35 (k0_pay142 a0) (k0_pay147 a0) (k0_pay149 a0) (k0_pay150 a0) = low (after a0 7) := by
  rw [v142, v147, v149, v150]
  show _ = low (rest (rest (after a0 5)))
  generalize after a0 5 = s
  rfl

theorem low6 : k0_pay31 (k0_pay147 a0) (k0_pay149 a0) (k0_pay150 a0) = low (after a0 6) := by
  rw [v147, v149, v150]
  show _ = low (rest (after a0 5))
  generalize after a0 5 = s
  rfl

theorem low5 : k0_pay25 (k0_pay142 a0) (k0_pay146 a0) = low (after a0 5) := by
  rw [v142, v146]
  show _ = low (rest (after a0 4))
  generalize after a0 4 = s
  rfl

theorem low4 : k0_pay21 (k0_pay146 a0) = low (after a0 4) := by
  rw [v146]
  show _ = low (after a0 4)
  generalize after a0 4 = s
  rfl

theorem low3 : k0_pay16 (k0_pay142 a0) (k0_pay144 a0) = low (after a0 3) := by
  rw [v142, v144]
  show _ = low (rest (after a0 2))
  generalize after a0 2 = s
  rfl

theorem low2 : k0_pay12 (k0_pay144 a0) = low (after a0 2) := by
  rw [v144]
  show _ = low (after a0 2)
  generalize after a0 2 = s
  rfl

theorem low1 : k0_pay8 a0 = low (after a0 1) := by
  show _ = low (rest (a0))
  rfl

theorem low0 : k0_pay4 a0 = low (after a0 0) := by
  show _ = low (a0)
  rfl

/-! ## The results -/

theorem column_apply {α : Type} (f : Nat → S1024x1.Idx → α) (t : Nat) (inb) (x : S1024x1.Idx) :
    f t x = f (((Rect.unit (s := S1024x33) ![0, t] S1024x1.size inb).emb x) 1).val (ix2 (((Rect.unit (s := S1024x33) ![0, t] S1024x1.size inb).emb x) 0) 0) := by
  have h1 : (((Rect.unit (s := S1024x33) ![0, t] S1024x1.size inb).emb x) 1).val = t := by
    show t + 1 * (x 1).val = t
    have : (x 1).val < 1 := (x 1).isLt
    omega
  rw [h1]
  refine congrArg (f t) (funext fun a => Fin.ext ?_)
  match a with
  | ⟨0, _⟩ => show (x 0).val = 0 + 1 * (x 0).val; omega
  | ⟨1, _⟩ => show (x 1).val = 0; have : (x 1).val < 1 := (x 1).isLt; omega

theorem pieces_cons {e : EltTy} (f : Nat → S1024x1.Idx → Elt Ideal e) (t : Nat) (inb) (p : S1024x1.Idx → Elt Ideal e) (L : List (View.Piece (Elt Ideal) S1024x33 e))
    (h : p = f t) (hL : ∀ q ∈ L, ∀ x : q.1.shape.Idx, q.2 x = (fun y : S1024x33.Idx => f (y 1).val (ix2 (y 0) 0)) (q.1.emb x)) :
    ∀ q ∈ (⟨Rect.unit (s := S1024x33) ![0, t] S1024x1.size inb, p⟩ : View.Piece (Elt Ideal) S1024x33 e) :: L, ∀ x : q.1.shape.Idx,
      q.2 x = (fun y : S1024x33.Idx => f (y 1).val (ix2 (y 0) 0)) (q.1.emb x) :=
  List.forall_mem_cons.mpr ⟨h ▸ column_apply f t inb, hL⟩

/-- What the body leaves in the first result, a column a round. -/
theorem line_result (r : Fin 1024) (t : Fin 33) : Cert.SelectIdeal.Value.G1 (F := Ideal) a0 (ix2 r t) = line (after a0 t.val) (ix2 r 0) := by
  refine View.canon_apply_of_pieces (Val := Elt Ideal) (e := .i32) (fun y : S1024x33.Idx => line (after a0 (y 1).val) (ix2 (y 0) 0)) _ ?_ (ix2 r t) (cover0_1 (F := Ideal) _ _ _ _ _ _ _ _ _ _ _ _ _ _ _ _ _ _ _ _ _ _ _ _ _ _ _ _ _ _ _ _ _ _)
  refine pieces_cons (e := .i32) (fun t => line (after a0 t)) 32 inb_S1024x33_S1024x1_0_32 _ _ (line32 a0) ?_
  refine pieces_cons (e := .i32) (fun t => line (after a0 t)) 31 inb_S1024x33_S1024x1_0_31 _ _ (line31 a0) ?_
  refine pieces_cons (e := .i32) (fun t => line (after a0 t)) 30 inb_S1024x33_S1024x1_0_30 _ _ (line30 a0) ?_
  refine pieces_cons (e := .i32) (fun t => line (after a0 t)) 29 inb_S1024x33_S1024x1_0_29 _ _ (line29 a0) ?_
  refine pieces_cons (e := .i32) (fun t => line (after a0 t)) 28 inb_S1024x33_S1024x1_0_28 _ _ (line28 a0) ?_
  refine pieces_cons (e := .i32) (fun t => line (after a0 t)) 27 inb_S1024x33_S1024x1_0_27 _ _ (line27 a0) ?_
  refine pieces_cons (e := .i32) (fun t => line (after a0 t)) 26 inb_S1024x33_S1024x1_0_26 _ _ (line26 a0) ?_
  refine pieces_cons (e := .i32) (fun t => line (after a0 t)) 25 inb_S1024x33_S1024x1_0_25 _ _ (line25 a0) ?_
  refine pieces_cons (e := .i32) (fun t => line (after a0 t)) 24 inb_S1024x33_S1024x1_0_24 _ _ (line24 a0) ?_
  refine pieces_cons (e := .i32) (fun t => line (after a0 t)) 23 inb_S1024x33_S1024x1_0_23 _ _ (line23 a0) ?_
  refine pieces_cons (e := .i32) (fun t => line (after a0 t)) 22 inb_S1024x33_S1024x1_0_22 _ _ (line22 a0) ?_
  refine pieces_cons (e := .i32) (fun t => line (after a0 t)) 21 inb_S1024x33_S1024x1_0_21 _ _ (line21 a0) ?_
  refine pieces_cons (e := .i32) (fun t => line (after a0 t)) 20 inb_S1024x33_S1024x1_0_20 _ _ (line20 a0) ?_
  refine pieces_cons (e := .i32) (fun t => line (after a0 t)) 19 inb_S1024x33_S1024x1_0_19 _ _ (line19 a0) ?_
  refine pieces_cons (e := .i32) (fun t => line (after a0 t)) 18 inb_S1024x33_S1024x1_0_18 _ _ (line18 a0) ?_
  refine pieces_cons (e := .i32) (fun t => line (after a0 t)) 17 inb_S1024x33_S1024x1_0_17 _ _ (line17 a0) ?_
  refine pieces_cons (e := .i32) (fun t => line (after a0 t)) 16 inb_S1024x33_S1024x1_0_16 _ _ (line16 a0) ?_
  refine pieces_cons (e := .i32) (fun t => line (after a0 t)) 15 inb_S1024x33_S1024x1_0_15 _ _ (line15 a0) ?_
  refine pieces_cons (e := .i32) (fun t => line (after a0 t)) 14 inb_S1024x33_S1024x1_0_14 _ _ (line14 a0) ?_
  refine pieces_cons (e := .i32) (fun t => line (after a0 t)) 13 inb_S1024x33_S1024x1_0_13 _ _ (line13 a0) ?_
  refine pieces_cons (e := .i32) (fun t => line (after a0 t)) 12 inb_S1024x33_S1024x1_0_12 _ _ (line12 a0) ?_
  refine pieces_cons (e := .i32) (fun t => line (after a0 t)) 11 inb_S1024x33_S1024x1_0_11 _ _ (line11 a0) ?_
  refine pieces_cons (e := .i32) (fun t => line (after a0 t)) 10 inb_S1024x33_S1024x1_0_10 _ _ (line10 a0) ?_
  refine pieces_cons (e := .i32) (fun t => line (after a0 t)) 9 inb_S1024x33_S1024x1_0_9 _ _ (line9 a0) ?_
  refine pieces_cons (e := .i32) (fun t => line (after a0 t)) 8 inb_S1024x33_S1024x1_0_8 _ _ (line8 a0) ?_
  refine pieces_cons (e := .i32) (fun t => line (after a0 t)) 7 inb_S1024x33_S1024x1_0_7 _ _ (line7 a0) ?_
  refine pieces_cons (e := .i32) (fun t => line (after a0 t)) 6 inb_S1024x33_S1024x1_0_6 _ _ (line6 a0) ?_
  refine pieces_cons (e := .i32) (fun t => line (after a0 t)) 5 inb_S1024x33_S1024x1_0_5 _ _ (line5 a0) ?_
  refine pieces_cons (e := .i32) (fun t => line (after a0 t)) 4 inb_S1024x33_S1024x1_0_4 _ _ (line4 a0) ?_
  refine pieces_cons (e := .i32) (fun t => line (after a0 t)) 3 inb_S1024x33_S1024x1_0_3 _ _ (line3 a0) ?_
  refine pieces_cons (e := .i32) (fun t => line (after a0 t)) 2 inb_S1024x33_S1024x1_0_2 _ _ (line2 a0) ?_
  refine pieces_cons (e := .i32) (fun t => line (after a0 t)) 1 inb_S1024x33_S1024x1_0_1 _ _ (line1 a0) ?_
  refine pieces_cons (e := .i32) (fun t => line (after a0 t)) 0 inb_S1024x33_S1024x1_0_0 _ _ (line0 a0) ?_
  exact fun p hp => absurd hp List.not_mem_nil

/-- What the body leaves in the second result, a column a round. -/
theorem spot_result (r : Fin 1024) (t : Fin 33) : Cert.SelectIdeal.Value.G2 (F := Ideal) a0 (ix2 r t) = spot (after a0 t.val) (ix2 r 0) := by
  refine View.canon_apply_of_pieces (Val := Elt Ideal) (e := .i32) (fun y : S1024x33.Idx => spot (after a0 (y 1).val) (ix2 (y 0) 0)) _ ?_ (ix2 r t) (cover0_2 (F := Ideal) _ _ _ _ _ _ _ _ _ _ _ _ _ _ _ _ _ _ _ _ _ _ _ _ _ _ _ _ _ _ _ _ _ _)
  refine pieces_cons (e := .i32) (fun t => spot (after a0 t)) 32 inb_S1024x33_S1024x1_0_32 _ _ (spot32 a0) ?_
  refine pieces_cons (e := .i32) (fun t => spot (after a0 t)) 31 inb_S1024x33_S1024x1_0_31 _ _ (spot31 a0) ?_
  refine pieces_cons (e := .i32) (fun t => spot (after a0 t)) 30 inb_S1024x33_S1024x1_0_30 _ _ (spot30 a0) ?_
  refine pieces_cons (e := .i32) (fun t => spot (after a0 t)) 29 inb_S1024x33_S1024x1_0_29 _ _ (spot29 a0) ?_
  refine pieces_cons (e := .i32) (fun t => spot (after a0 t)) 28 inb_S1024x33_S1024x1_0_28 _ _ (spot28 a0) ?_
  refine pieces_cons (e := .i32) (fun t => spot (after a0 t)) 27 inb_S1024x33_S1024x1_0_27 _ _ (spot27 a0) ?_
  refine pieces_cons (e := .i32) (fun t => spot (after a0 t)) 26 inb_S1024x33_S1024x1_0_26 _ _ (spot26 a0) ?_
  refine pieces_cons (e := .i32) (fun t => spot (after a0 t)) 25 inb_S1024x33_S1024x1_0_25 _ _ (spot25 a0) ?_
  refine pieces_cons (e := .i32) (fun t => spot (after a0 t)) 24 inb_S1024x33_S1024x1_0_24 _ _ (spot24 a0) ?_
  refine pieces_cons (e := .i32) (fun t => spot (after a0 t)) 23 inb_S1024x33_S1024x1_0_23 _ _ (spot23 a0) ?_
  refine pieces_cons (e := .i32) (fun t => spot (after a0 t)) 22 inb_S1024x33_S1024x1_0_22 _ _ (spot22 a0) ?_
  refine pieces_cons (e := .i32) (fun t => spot (after a0 t)) 21 inb_S1024x33_S1024x1_0_21 _ _ (spot21 a0) ?_
  refine pieces_cons (e := .i32) (fun t => spot (after a0 t)) 20 inb_S1024x33_S1024x1_0_20 _ _ (spot20 a0) ?_
  refine pieces_cons (e := .i32) (fun t => spot (after a0 t)) 19 inb_S1024x33_S1024x1_0_19 _ _ (spot19 a0) ?_
  refine pieces_cons (e := .i32) (fun t => spot (after a0 t)) 18 inb_S1024x33_S1024x1_0_18 _ _ (spot18 a0) ?_
  refine pieces_cons (e := .i32) (fun t => spot (after a0 t)) 17 inb_S1024x33_S1024x1_0_17 _ _ (spot17 a0) ?_
  refine pieces_cons (e := .i32) (fun t => spot (after a0 t)) 16 inb_S1024x33_S1024x1_0_16 _ _ (spot16 a0) ?_
  refine pieces_cons (e := .i32) (fun t => spot (after a0 t)) 15 inb_S1024x33_S1024x1_0_15 _ _ (spot15 a0) ?_
  refine pieces_cons (e := .i32) (fun t => spot (after a0 t)) 14 inb_S1024x33_S1024x1_0_14 _ _ (spot14 a0) ?_
  refine pieces_cons (e := .i32) (fun t => spot (after a0 t)) 13 inb_S1024x33_S1024x1_0_13 _ _ (spot13 a0) ?_
  refine pieces_cons (e := .i32) (fun t => spot (after a0 t)) 12 inb_S1024x33_S1024x1_0_12 _ _ (spot12 a0) ?_
  refine pieces_cons (e := .i32) (fun t => spot (after a0 t)) 11 inb_S1024x33_S1024x1_0_11 _ _ (spot11 a0) ?_
  refine pieces_cons (e := .i32) (fun t => spot (after a0 t)) 10 inb_S1024x33_S1024x1_0_10 _ _ (spot10 a0) ?_
  refine pieces_cons (e := .i32) (fun t => spot (after a0 t)) 9 inb_S1024x33_S1024x1_0_9 _ _ (spot9 a0) ?_
  refine pieces_cons (e := .i32) (fun t => spot (after a0 t)) 8 inb_S1024x33_S1024x1_0_8 _ _ (spot8 a0) ?_
  refine pieces_cons (e := .i32) (fun t => spot (after a0 t)) 7 inb_S1024x33_S1024x1_0_7 _ _ (spot7 a0) ?_
  refine pieces_cons (e := .i32) (fun t => spot (after a0 t)) 6 inb_S1024x33_S1024x1_0_6 _ _ (spot6 a0) ?_
  refine pieces_cons (e := .i32) (fun t => spot (after a0 t)) 5 inb_S1024x33_S1024x1_0_5 _ _ (spot5 a0) ?_
  refine pieces_cons (e := .i32) (fun t => spot (after a0 t)) 4 inb_S1024x33_S1024x1_0_4 _ _ (spot4 a0) ?_
  refine pieces_cons (e := .i32) (fun t => spot (after a0 t)) 3 inb_S1024x33_S1024x1_0_3 _ _ (spot3 a0) ?_
  refine pieces_cons (e := .i32) (fun t => spot (after a0 t)) 2 inb_S1024x33_S1024x1_0_2 _ _ (spot2 a0) ?_
  refine pieces_cons (e := .i32) (fun t => spot (after a0 t)) 1 inb_S1024x33_S1024x1_0_1 _ _ (spot1 a0) ?_
  refine pieces_cons (e := .i32) (fun t => spot (after a0 t)) 0 inb_S1024x33_S1024x1_0_0 _ _ (spot0 a0) ?_
  exact fun p hp => absurd hp List.not_mem_nil

/-- What the body leaves in the third result, a column a round. -/
theorem low_result (r : Fin 1024) (t : Fin 33) : Cert.SelectIdeal.Value.G3 (F := Ideal) a0 (ix2 r t) = low (after a0 t.val) (ix2 r 0) := by
  refine View.canon_apply_of_pieces (Val := Elt Ideal) (e := .f32) (fun y : S1024x33.Idx => low (after a0 (y 1).val) (ix2 (y 0) 0)) _ ?_ (ix2 r t) (cover0_3 (F := Ideal) _ _ _ _ _ _ _ _ _ _ _ _ _ _ _ _ _ _ _ _ _ _ _ _ _ _ _ _ _ _ _ _ _ _)
  refine pieces_cons (e := .f32) (fun t => low (after a0 t)) 32 inb_S1024x33_S1024x1_0_32 _ _ (low32 a0) ?_
  refine pieces_cons (e := .f32) (fun t => low (after a0 t)) 31 inb_S1024x33_S1024x1_0_31 _ _ (low31 a0) ?_
  refine pieces_cons (e := .f32) (fun t => low (after a0 t)) 30 inb_S1024x33_S1024x1_0_30 _ _ (low30 a0) ?_
  refine pieces_cons (e := .f32) (fun t => low (after a0 t)) 29 inb_S1024x33_S1024x1_0_29 _ _ (low29 a0) ?_
  refine pieces_cons (e := .f32) (fun t => low (after a0 t)) 28 inb_S1024x33_S1024x1_0_28 _ _ (low28 a0) ?_
  refine pieces_cons (e := .f32) (fun t => low (after a0 t)) 27 inb_S1024x33_S1024x1_0_27 _ _ (low27 a0) ?_
  refine pieces_cons (e := .f32) (fun t => low (after a0 t)) 26 inb_S1024x33_S1024x1_0_26 _ _ (low26 a0) ?_
  refine pieces_cons (e := .f32) (fun t => low (after a0 t)) 25 inb_S1024x33_S1024x1_0_25 _ _ (low25 a0) ?_
  refine pieces_cons (e := .f32) (fun t => low (after a0 t)) 24 inb_S1024x33_S1024x1_0_24 _ _ (low24 a0) ?_
  refine pieces_cons (e := .f32) (fun t => low (after a0 t)) 23 inb_S1024x33_S1024x1_0_23 _ _ (low23 a0) ?_
  refine pieces_cons (e := .f32) (fun t => low (after a0 t)) 22 inb_S1024x33_S1024x1_0_22 _ _ (low22 a0) ?_
  refine pieces_cons (e := .f32) (fun t => low (after a0 t)) 21 inb_S1024x33_S1024x1_0_21 _ _ (low21 a0) ?_
  refine pieces_cons (e := .f32) (fun t => low (after a0 t)) 20 inb_S1024x33_S1024x1_0_20 _ _ (low20 a0) ?_
  refine pieces_cons (e := .f32) (fun t => low (after a0 t)) 19 inb_S1024x33_S1024x1_0_19 _ _ (low19 a0) ?_
  refine pieces_cons (e := .f32) (fun t => low (after a0 t)) 18 inb_S1024x33_S1024x1_0_18 _ _ (low18 a0) ?_
  refine pieces_cons (e := .f32) (fun t => low (after a0 t)) 17 inb_S1024x33_S1024x1_0_17 _ _ (low17 a0) ?_
  refine pieces_cons (e := .f32) (fun t => low (after a0 t)) 16 inb_S1024x33_S1024x1_0_16 _ _ (low16 a0) ?_
  refine pieces_cons (e := .f32) (fun t => low (after a0 t)) 15 inb_S1024x33_S1024x1_0_15 _ _ (low15 a0) ?_
  refine pieces_cons (e := .f32) (fun t => low (after a0 t)) 14 inb_S1024x33_S1024x1_0_14 _ _ (low14 a0) ?_
  refine pieces_cons (e := .f32) (fun t => low (after a0 t)) 13 inb_S1024x33_S1024x1_0_13 _ _ (low13 a0) ?_
  refine pieces_cons (e := .f32) (fun t => low (after a0 t)) 12 inb_S1024x33_S1024x1_0_12 _ _ (low12 a0) ?_
  refine pieces_cons (e := .f32) (fun t => low (after a0 t)) 11 inb_S1024x33_S1024x1_0_11 _ _ (low11 a0) ?_
  refine pieces_cons (e := .f32) (fun t => low (after a0 t)) 10 inb_S1024x33_S1024x1_0_10 _ _ (low10 a0) ?_
  refine pieces_cons (e := .f32) (fun t => low (after a0 t)) 9 inb_S1024x33_S1024x1_0_9 _ _ (low9 a0) ?_
  refine pieces_cons (e := .f32) (fun t => low (after a0 t)) 8 inb_S1024x33_S1024x1_0_8 _ _ (low8 a0) ?_
  refine pieces_cons (e := .f32) (fun t => low (after a0 t)) 7 inb_S1024x33_S1024x1_0_7 _ _ (low7 a0) ?_
  refine pieces_cons (e := .f32) (fun t => low (after a0 t)) 6 inb_S1024x33_S1024x1_0_6 _ _ (low6 a0) ?_
  refine pieces_cons (e := .f32) (fun t => low (after a0 t)) 5 inb_S1024x33_S1024x1_0_5 _ _ (low5 a0) ?_
  refine pieces_cons (e := .f32) (fun t => low (after a0 t)) 4 inb_S1024x33_S1024x1_0_4 _ _ (low4 a0) ?_
  refine pieces_cons (e := .f32) (fun t => low (after a0 t)) 3 inb_S1024x33_S1024x1_0_3 _ _ (low3 a0) ?_
  refine pieces_cons (e := .f32) (fun t => low (after a0 t)) 2 inb_S1024x33_S1024x1_0_2 _ _ (low2 a0) ?_
  refine pieces_cons (e := .f32) (fun t => low (after a0 t)) 1 inb_S1024x33_S1024x1_0_1 _ _ (low1 a0) ?_
  refine pieces_cons (e := .f32) (fun t => low (after a0 t)) 0 inb_S1024x33_S1024x1_0_0 _ _ (low0 a0) ?_
  exact fun p hp => absurd hp List.not_mem_nil

end Body

end Cert.Proof.Select

end
-- ==== Proof.SelectOrder.lean ====
/-
  Picking the least value over and over, the picked one put out of reach each time, is the stable sort's beginning.
-/
module

public import Idealize.ShloMosaic.Lib.SortPrefix
public import Mathlib.Data.EReal.Basic
public import Mathlib.Data.Fintype.Card

@[expose] public section

namespace Cert.Proof.Select

open Idealize.ShloMosaic

variable {n : Nat}

/-- Whether `c` stands before `d`: a lesser value, or the same value and a lesser place. -/
noncomputable def before (key : Fin n → EReal) (c d : Fin n) : Bool := decide (key c < key d) || (decide (key c = key d) && decide (c < d))

theorem before_total (key : Fin n → EReal) : StrictTotalBefore (before key) :=
  StrictTotalBefore.of_key_then_position (fun a b : EReal => decide (a < b)) key (fun a => decide_eq_false (lt_irrefl a))
    (fun a b c hab hbc => decide_eq_true (lt_trans (of_decide_eq_true hab) (of_decide_eq_true hbc)))
    (fun a b => (lt_trichotomy a b).imp (fun h => decide_eq_true h) (Or.imp id fun h => decide_eq_true h))

/-- A stable sort by the values alone sorts by the values and then the places, where the list goes up. -/
theorem stableSort_values (key : Fin n → EReal) (R : Fin n → Fin n → Bool) (hR : ∀ c d, R c d = decide (key c < key d)) :
    ∀ l : List (Fin n), l.Pairwise (· < ·) → stableSort R l = stableSort (before key) l
  | [], _ => rfl
  | a :: l, h => by
    obtain ⟨ha, hl⟩ := List.pairwise_cons.mp h
    unfold stableSort
    rw [stableSort_values key R hR l hl]
    refine insertBefore_congr _ _ _ _ fun b hb => ?_
    have hab : a < b := ha b ((perm_stableSort _ _).mem_iff.mp hb)
    unfold before
    rw [hR, decide_eq_false (not_lt_of_gt hab), Bool.and_false, Bool.or_false]

theorem sortedFrom_values (key : Fin n → EReal) (R : Fin n → Fin n → Bool) (hR : ∀ c d, R c d = decide (key c < key d)) :
    sortedFrom R = sortedFrom (before key) := by
  have e : sortPositions n R = sortPositions n (before key) := stableSort_values key R hR _ (List.pairwise_lt_finRange n)
  funext k
  unfold sortedFrom
  rw [List.get_of_eq e]
  rfl

/-- The values `state t` after `t` rounds, each of which picks the first of the least values and makes it infinite. -/
structure Rounds (key : Fin n → EReal) (state : Nat → Fin n → EReal) (pick : Nat → Fin n) : Prop where
  start : ∀ c, state 0 c = key c
  step : ∀ t c, state (t + 1) c = if c = pick t then ⊤ else state t c
  least : ∀ t c, state t (pick t) ≤ state t c
  first : ∀ t c, c < pick t → state t c ≠ state t (pick t)

namespace Rounds

variable {key : Fin n → EReal} {state : Nat → Fin n → EReal} {pick : Nat → Fin n} (h : Rounds key state pick)
include h

theorem unpicked (c : Fin n) : ∀ t, (∀ s, s < t → pick s ≠ c) → state t c = key c
  | 0, _ => h.start c
  | t + 1, hs => by
    rw [h.step, if_neg (fun e => hs t (Nat.lt_succ_self t) e.symm)]
    exact unpicked c t fun s hst => hs s (Nat.lt_succ_of_lt hst)

theorem picked (s : Nat) : ∀ t, s < t → state t (pick s) = ⊤
  | 0, hs => absurd hs (Nat.not_lt_zero s)
  | t + 1, hs => by
    rw [h.step]
    by_cases e : pick s = pick t
    · rw [if_pos e]
    · rw [if_neg e]
      refine picked s t (lt_of_le_of_ne (Nat.le_of_lt_succ hs) fun e' => e (by rw [e']))

variable {k : Nat} (hk : k ≤ (Finset.univ.filter fun c => key c < ⊤).card)
include hk

theorem finite (t : Nat) (ht : t < k) : state t (pick t) < ⊤ := by
  have hcard : ((Finset.range t).image pick).card < (Finset.univ.filter fun c => key c < ⊤).card :=
    lt_of_le_of_lt (Finset.card_image_le.trans (Finset.card_range t).le) (lt_of_lt_of_le ht hk)
  obtain ⟨c, hc, hn⟩ := Finset.exists_mem_notMem_of_card_lt_card hcard
  refine lt_of_le_of_lt (h.least t c) ?_
  rw [h.unpicked c t fun s hs e => hn (Finset.mem_image.mpr ⟨s, Finset.mem_range.mpr hs, e⟩)]
  exact (Finset.mem_filter.mp hc).2

theorem fresh (s t : Nat) (hst : s < t) (ht : t < k) : pick s ≠ pick t := fun e => by
  have hf := h.finite hk t ht
  rw [← e, h.picked s t hst] at hf
  exact lt_irrefl _ hf

/-- A round's least value is the picked one's own. -/
theorem value (t : Nat) (ht : t < k) : state t (pick t) = key (pick t) := h.unpicked _ t fun s hs => h.fresh hk s t hs ht

theorem not_before (t : Nat) (ht : t < k) (c : Fin n) (hc : ∀ s, s < t → pick s ≠ c) : before key c (pick t) = false := by
  have hl := h.least t c
  rw [h.value hk t ht, h.unpicked c t hc] at hl
  unfold before
  rw [decide_eq_false (not_lt_of_ge hl), Bool.false_or]
  by_cases e : key c = key (pick t)
  · by_cases hlt : c < pick t
    · refine absurd ?_ (h.first t c hlt)
      rw [h.value hk t ht, h.unpicked c t hc, e]
    · rw [decide_eq_false hlt, Bool.and_false]
  · rw [decide_eq_false e, Bool.false_and]

/-- A round picks the place that the sort puts at its number. -/
theorem sorted (hkn : k ≤ n) (t : Fin k) : sortedFrom (before key) (t.castLE hkn) = pick t.val := by
  refine (before_total key).sortedFrom_eq_of_prefix hkn (fun s : Fin k => pick s.val) (fun a b e => ?_) (fun i j hij => ?_) (fun i p hp => ?_) t
  · rcases lt_trichotomy a.val b.val with hab | hab | hab
    · exact absurd e (h.fresh hk a.val b.val hab b.isLt)
    · exact Fin.ext hab
    · exact absurd e.symm (h.fresh hk b.val a.val hab a.isLt)
  · exact h.not_before hk i.val i.isLt _ fun s hs => h.fresh hk s j.val (lt_trans hs hij) j.isLt
  · exact h.not_before hk i.val i.isLt p fun s hs => hp ⟨s, lt_trans hs i.isLt⟩

end Rounds

end Cert.Proof.Select

end
-- ==== Proof.SelectRounds.lean ====
/-
  A round of the selection, read at a row: its least value, the first place that has it, and the values after it.
-/
module

public import proofs.«01_k».proof.Proof.SelectBody
public import proofs.«01_k».proof.Proof.SelectOrder
public import Idealize.ShloMosaic.Lib.SortNet.Extract

@[expose] public section

noncomputable section

namespace Cert.Proof.Select

open Idealize.ShloMosaic Idealize.ShloMosaic.TcCoe Idealize.SL.Sem

/-! ## A row's least value and its first place -/

theorem exists_first (x : Fin 784 → EReal) : ∃ p : Fin 784, (∀ c, x p ≤ x c) ∧ ∀ c, c < p → x c ≠ x p := by
  obtain ⟨q, -, hq⟩ := Finset.exists_min_image Finset.univ x ⟨0, Finset.mem_univ _⟩
  have hne : (Finset.univ.filter fun c => x c = x q).Nonempty := ⟨q, Finset.mem_filter.mpr ⟨Finset.mem_univ _, rfl⟩⟩
  obtain ⟨p, hp, hmin⟩ := Finset.exists_min_image _ (fun c : Fin 784 => c) hne
  have e : x p = x q := (Finset.mem_filter.mp hp).2
  refine ⟨p, fun c => e ▸ hq c (Finset.mem_univ _), fun c hc h => ?_⟩
  exact absurd (hmin c (Finset.mem_filter.mpr ⟨Finset.mem_univ _, h.trans e⟩)) (not_le_of_gt hc)

/-- The first place of a row's least value. -/
def pick (x : Fin 784 → EReal) : Fin 784 := Classical.choose (exists_first x)

theorem pick_le (x : Fin 784 → EReal) (c : Fin 784) : x (pick x) ≤ x c := (Classical.choose_spec (exists_first x)).1 c

theorem pick_first (x : Fin 784 → EReal) (c : Fin 784) (h : c < pick x) : x c ≠ x (pick x) := (Classical.choose_spec (exists_first x)).2 c h

theorem fold_least (x : Fin 784 → EReal) : Finset.fold min (⊤ : EReal) x Finset.univ = x (pick x) := by
  refine le_antisymm ?_ ?_
  · exact ((Finset.le_fold_min (f := x) (b := ⊤) (s := Finset.univ) _).mp le_rfl).2 _ (Finset.mem_univ _)
  · exact (Finset.le_fold_min _).mpr ⟨le_top, fun c _ => pick_le x c⟩

theorem toInt_column (c : Fin 784) : (BitVec.ofNat 32 c.val).toInt = c.val := by
  have := c.isLt
  rw [BitVec.toInt_ofNat']
  simp only [Int.bmod_def]
  omega

/-- The least of the words of the places that have the least value is the first such place's. -/
theorem fold_place (x : Fin 784 → EReal) (w : Fin 784 → BitVec 32) (hw : ∀ c, w c = if x c = x (pick x) then BitVec.ofNat 32 c.val else 784#32) :
    Finset.fold IntOp.minsi 2147483647#32 w Finset.univ = BitVec.ofNat 32 (pick x).val := by
  have hp : w (pick x) = BitVec.ofNat 32 (pick x).val := by rw [hw, if_pos rfl]
  have hle : ∀ c, (BitVec.ofNat 32 (pick x).val).toInt ≤ (w c).toInt := fun c => by
    rw [hw, toInt_column]
    by_cases h : x c = x (pick x)
    · rw [if_pos h, toInt_column]
      have : ¬c < pick x := fun hc => pick_first x c hc h
      have : (pick x).val ≤ c.val := not_lt.mp this
      omega
    · rw [if_neg h, show (784#32 : BitVec 32).toInt = 784 from rfl]
      have := (pick x).isLt
      omega
  have hr : ∀ {a b c : BitVec 32}, a.toInt ≤ (IntOp.minsi b c).toInt ↔ a.toInt ≤ b.toInt ∧ a.toInt ≤ c.toInt := fun {a b c} => by
    rw [SortNet.toInt_minsi]; exact le_min_iff
  refine BitVec.eq_of_toInt_eq (le_antisymm ?_ ?_)
  · have h := (Finset.fold_op_rel_iff_and (r := fun a b : BitVec 32 => a.toInt ≤ b.toInt) (op := IntOp.minsi) (b := 2147483647#32) (f := w)
      (s := Finset.univ) hr (c := Finset.fold IntOp.minsi 2147483647#32 w Finset.univ)).mp le_rfl
    exact (h.2 (pick x) (Finset.mem_univ _)).trans (le_of_eq (congrArg BitVec.toInt hp))
  · refine (Finset.fold_op_rel_iff_and (r := fun a b : BitVec 32 => a.toInt ≤ b.toInt) (op := IntOp.minsi) (b := 2147483647#32) (f := w)
      (s := Finset.univ) hr (c := BitVec.ofNat 32 (pick x).val)).mpr ⟨?_, fun c _ => hle c⟩
    rw [toInt_column, show (2147483647#32 : BitVec 32).toInt = 2147483647 from rfl]
    have := (pick x).isLt
    omega

section Body

open Cert.SelectIdeal Cert.SelectIdeal.Gen

/-! ## A round at a row -/

/-- A row of values. -/
def row (x : FVec Ideal S1024x784 .f32) (r : Fin 1024) (c : Fin 784) : EReal := x (ix2 r c)

theorem inf_eq : Ideal.ofBits FTy.f32 2139095040#32 = (⊤ : EReal) := by
  show Ideal.ieee 8 23 2139095040#32 = ⊤
  unfold Ideal.ieee
  rw [if_pos (by decide), if_pos (by decide), if_neg (by decide)]

theorem low_apply (x : FVec Ideal S1024x784 .f32) (r : Fin 1024) : low x (ix2 r 0) = row x r (pick (row x r)) := by
  rw [← fold_least (row x r), ← inf_eq]
  unfold low k0_pay1
  simp only [pointwise]
  rfl

theorem spot_apply (x : FVec Ideal S1024x784 .f32) (r : Fin 1024) : spot x (ix2 r 0) = BitVec.ofNat 32 (pick (row x r)).val := by
  refine Eq.trans ?_ (fold_place (row x r) (fun c => if row x r c = row x r (pick (row x r)) then BitVec.ofNat 32 c.val else 784#32) fun c => rfl)
  rw [← fold_least (row x r), ← inf_eq]
  unfold spot columns k0_pay2 k0_pay1
  simp only [pointwise]
  rfl

theorem rest_apply (x : FVec Ideal S1024x784 .f32) (r : Fin 1024) (c : Fin 784) :
    row (rest x) r c = if c = pick (row x r) then ⊤ else row x r c := by
  have hs : k0_pay13 columns x (ix2 r 0) = BitVec.ofNat 32 (pick (row x r)).val := spot_apply x r
  have e : row (rest x) r c = Scalar.select (IntOp.cmpi .eq (BitVec.ofNat 32 c.val) (k0_pay13 columns x (ix2 r 0))) (Ideal.ofBits .f32 2139095040#32) (row x r c) := by
    unfold row rest k0_pay14
    generalize k0_pay13 columns x = p
    unfold columns
    simp only [pointwise]
    show Scalar.select (IntOp.cmpi .eq (BitVec.ofNat 32 (0 * 784 + c.val)) (p (ix2 r 0))) (Ideal.ofBits .f32 2139095040#32) (x (ix2 r c)) = _
    rw [Nat.zero_mul, Nat.zero_add]
  rw [e, hs, inf_eq]
  by_cases h : c = pick (row x r)
  · rw [if_pos h, h]
    simp [Scalar.select, IntOp.cmpi]
  · rw [if_neg h]
    have : BitVec.ofNat 32 c.val ≠ BitVec.ofNat 32 (pick (row x r)).val := fun e' => h (Fin.ext (by
      have := congrArg BitVec.toInt e'
      rw [toInt_column, toInt_column] at this
      omega))
    have hb : (BitVec.ofNat 32 c.val == BitVec.ofNat 32 (pick (row x r)).val) = false := beq_eq_false_iff_ne.mpr this
    simp [Scalar.select, IntOp.cmpi, hb]

theorem line_apply (x : FVec Ideal S1024x784 .f32) (r : Fin 1024) :
    line x (ix2 r 0) = BitVec.ofNat 32 (pick (row x r)).val + 784#32 * BitVec.ofNat 32 r.val := by
  rw [← spot_apply]
  unfold line k0_pay3 queries
  show IntOp.addi (spot x (ix2 r 0)) _ = _
  simp only [pointwise]
  show IntOp.addi (spot x (ix2 r 0)) (IntOp.muli 784#32 (BitVec.ofNat 32 (0 * 1024 + r.val))) = _
  rw [Nat.zero_mul, Nat.zero_add]
  rfl

/-- The rounds over a row. -/
theorem rounds (a0 : FVec Ideal S1024x784 .f32) (r : Fin 1024) :
    Rounds (row a0 r) (fun t => row (after a0 t) r) (fun t => pick (row (after a0 t) r)) where
  start _ := rfl
  step t c := rest_apply (after a0 t) r c
  least t c := pick_le _ c
  first t c h := pick_first _ c h

end Body

end Cert.Proof.Select

end
-- ==== Proof.SelectClaims.lean ====
/-
  The selection's claims: its frames, what its reference computes, and the equality of the two over the extended reals.
-/
module

public import proofs.«01_k».proof.Defs
public import proofs.«01_k».proof.Proof.SelectRounds
public import proofs.«01_k».proof.Proof.Gen.Select
public import proofs.«01_k».proof.Proof.Gen.Select.Frame
public import proofs.«01_k».proof.Proof.Gen.SelectReferenceIdeal
public import proofs.«01_k».proof.Proof.Gen.SelectReferenceIdeal.Run
public import proofs.«01_k».proof.Proof.Gen.Pre_select_pre
public import Idealize.ShloMosaic.Lib.Quiescent
public import Idealize.ShloMosaic.Lib.ReduceAll

@[expose] public section

noncomputable section

namespace Cert.Proof.Select

open Idealize.ShloMosaic Idealize.ShloMosaic.TcCoe Idealize.SL.Sem

theorem frame_select : Cert.quiescent_Select := fun m ρ _ => Cert.Select.Gen.frame m ρ

theorem frame_ideal : Cert.quiescent_SelectIdeal := fun m ρ _ => Cert.SelectIdeal.Gen.frame m ρ

theorem frame_reference : Cert.quiescent_SelectReferenceIdeal := fun m ρ _ =>
  (θ_run Cert.SelectReferenceIdeal.defs _ _).mono (fun r h => ⟨fun c => (h c).2.2.2, sem_eq_zero_of_no_sems (by decide) r.2⟩)
    (Cert.SelectReferenceIdeal.Value.run (F := Ideal) m ρ)

/-! ## The precondition: 33 finite values in a row -/

theorem fold_ones {n : Nat} (p : Fin n → Prop) [DecidablePred p] (w : Fin n → BitVec 32) (hw : ∀ c, w c = if p c then 1#32 else 0#32) (s : Finset (Fin n)) :
    Finset.fold IntOp.addi 0#32 w s = BitVec.ofNat 32 (s.filter p).card := by
  induction s using Finset.induction_on with
  | empty => rfl
  | insert a s ha ih =>
    rw [Finset.fold_insert ha, ih, hw, Finset.filter_insert]
    by_cases h : p a
    · rw [if_pos h, if_pos h, Finset.card_insert_of_notMem (fun hm => ha (Finset.mem_filter.mp hm).1), BitVec.ofNat_add, BitVec.add_comm]
      rfl
    · rw [if_neg h, if_neg h]
      exact BitVec.zero_add _

theorem enough (x : FVec Ideal Cert.Pre_select_pre.S1024x784 .f32) (h : Cert.Pre_select_pre.fn (F := Ideal) x = fun _ => 1#1) (r : Fin 1024) :
    33 ≤ (Finset.univ.filter fun c => row x r c < ⊤).card := by
  have : Subsingleton Cert.Pre_select_pre.S_.Idx := ⟨fun p q => funext fun a => a.elim0⟩
  have e := Host.reduce_andi_all _ _ _ _ _ (congrFun h (fun a => a.elim0)) (ix1 r)
  have hf := fold_ones (fun c : Fin 784 => row x r c < ⊤) (fun c => if row x r c < ⊤ then 1#32 else 0#32) (fun _ => rfl) Finset.univ
  have hc : (Finset.univ.filter fun c => row x r c < ⊤).card ≤ 784 := (Finset.card_filter_le _ _).trans (le_of_eq (Finset.card_univ.trans (Fintype.card_fin 784)))
  have e' : IntOp.cmpi .sge (BitVec.ofNat 32 (Finset.univ.filter fun c => row x r c < ⊤).card) 33#32 = 1#1 := by
    rw [← hf, ← e]
    simp only [pointwise]
    refine congrArg (fun g => IntOp.cmpi .sge (Finset.fold IntOp.addi 0#32 g Finset.univ) 33#32) (funext fun c => ?_)
    rw [inf_eq]
    by_cases hlt : row x r c < ⊤
    · rw [if_pos hlt, show decide (x (ix2 r c) < (⊤ : EReal)) = true from decide_eq_true hlt]
      rfl
    · rw [if_neg hlt, show decide (x (ix2 r c) < (⊤ : EReal)) = false from decide_eq_false hlt]
      rfl
  revert e' hc
  generalize (Finset.univ.filter fun c => row x r c < ⊤).card = n
  intro hc e'
  by_contra hlt
  have hs : (BitVec.ofNat 32 n).toInt = n := by
    rw [BitVec.toInt_ofNat']
    simp only [Int.bmod_def]
    omega
  have e3 : IntOp.cmpi .sge (BitVec.ofNat 32 n) 33#32 = BitVec.ofBool (decide ((33#32 : BitVec 32).toInt ≤ (BitVec.ofNat 32 n).toInt)) := rfl
  rw [e3, hs, show (33#32 : BitVec 32).toInt = 33 from rfl, decide_eq_false (by omega)] at e'
  exact absurd e' (by decide)

/-! ## What the reference picks -/

section Reference

open Cert.SelectReferenceIdeal Cert.SelectReferenceIdeal.Gen

/-- Which of a row's values the stable sort puts at place `t`. -/
def nth (x : FVec Ideal S1024x784 .f32) (r : Fin 1024) (t : Fin 33) : Fin 784 :=
  sortedFrom (fun k k' => FloatOps.cmpfTotal (F := Ideal) (φ := .f32) .gt (x (ix2 r k)) (x (ix2 r k')) == 1#1) (t.castLE (by decide : 33 ≤ 784))

theorem along_row (r : Fin 1024) (k c : Fin 784) : Shape.Idx.along (s := S1024x784) (ix2 r k) (1 : Fin 2) c = ix2 r c := by
  unfold Shape.Idx.along
  funext a
  match a with
  | ⟨0, _⟩ => rfl
  | ⟨1, _⟩ => rfl

theorem sorted_value (x : FVec Ideal S1024x784 .f32) (r : Fin 1024) (q : Fin 784) (f : Fin 784 → S1024x784.Idx) (hf : ∀ c, f c = ix2 r c) :
    x (f (sortedFrom (fun k k' => FloatOps.cmpfTotal (F := Ideal) (φ := .f32) .gt (x (f k)) (x (f k')) == 1#1) q))
      = x (ix2 r (sortedFrom (fun k k' => FloatOps.cmpfTotal (F := Ideal) (φ := .f32) .gt (x (ix2 r k)) (x (ix2 r k')) == 1#1) q)) := by
  obtain rfl : f = fun c => ix2 r c := funext hf
  rfl

theorem sorted_place (x : FVec Ideal S1024x784 .f32) (r : Fin 1024) (q : Fin 784) (f : Fin 784 → S1024x784.Idx) (hf : ∀ c, f c = ix2 r c) :
    iotaInDim S1024x784 32 (1 : Fin 2) (f (sortedFrom (fun k k' => FloatOps.cmpfTotal (F := Ideal) (φ := .f32) .gt (x (f k)) (x (f k')) == 1#1) q))
      = BitVec.ofNat 32 (sortedFrom (fun k k' => FloatOps.cmpfTotal (F := Ideal) (φ := .f32) .gt (x (ix2 r k)) (x (ix2 r k')) == 1#1) q).val := by
  obtain rfl : f = fun c => ix2 r c := funext hf
  rfl

theorem topK_place (x : FVec Ideal S1024x784 .f32) (r : Fin 1024) (t : Fin 33) :
    (Host.topK S1024x33 1 (FloatOps.cmpfTotal (F := Ideal) .gt) x sliceFits_S1024x784_S1024x33).2 (ix2 r t) = BitVec.ofNat 32 (nth x r t).val := by
  unfold Host.topK
  dsimp only
  refine (extractStridedSlice_apply _ _ _ _ (ix2 r (t.castLE (by decide : 33 ≤ 784))) fun a => ?_).trans ?_
  · match a with
    | ⟨0, _⟩ => exact (Nat.zero_add _).symm
    | ⟨1, _⟩ => exact (Nat.zero_add _).symm
  · unfold Host.sort2 nth
    rw [dif_pos (by decide)]
    exact sorted_place x r (t.castLE (by decide : 33 ≤ 784)) (fun c => Shape.Idx.along (s := S1024x784) (ix2 r (t.castLE (by decide : 33 ≤ 784))) (1 : Fin 2) c) (along_row r _)

theorem topK_value (x : FVec Ideal S1024x784 .f32) (r : Fin 1024) (t : Fin 33) :
    (Host.topK S1024x33 1 (FloatOps.cmpfTotal (F := Ideal) .gt) x sliceFits_S1024x784_S1024x33).1 (ix2 r t) = x (ix2 r (nth x r t)) := by
  unfold Host.topK
  dsimp only
  refine (extractStridedSlice_apply _ _ _ _ (ix2 r (t.castLE (by decide : 33 ≤ 784))) fun a => ?_).trans ?_
  · match a with
    | ⟨0, _⟩ => exact (Nat.zero_add _).symm
    | ⟨1, _⟩ => exact (Nat.zero_add _).symm
  · unfold Host.sort2 nth
    rw [dif_pos (by decide)]
    exact sorted_value x r (t.castLE (by decide : 33 ≤ 784)) (fun c => Shape.Idx.along (s := S1024x784) (ix2 r (t.castLE (by decide : 33 ≤ 784))) (1 : Fin 2) c) (along_row r _)

/-- The sort of the negated values picks what the rounds do. -/
theorem nth_neg (x : FVec Ideal S1024x784 .f32) (r : Fin 1024) (t : Fin 33) (h : 33 ≤ (Finset.univ.filter fun c => row x r c < ⊤).card) :
    nth (Host.negf x) r t = pick (row (after x t.val) r) := by
  rw [← (rounds x r).sorted h (by decide) t, ← sortedFrom_values (row x r) _ fun c d => ?_]
  · rfl
  · show (BitVec.ofBool (decide (-(x (ix2 r d) : EReal) < -(x (ix2 r c) : EReal))) == 1#1) = decide (row x r c < row x r d)
    have e : (-(x (ix2 r d) : EReal) < -(x (ix2 r c) : EReal)) ↔ row x r c < row x r d := EReal.neg_lt_neg_iff
    by_cases hlt : row x r c < row x r d
    · rw [decide_eq_true hlt, decide_eq_true (e.mpr hlt)]; rfl
    · rw [decide_eq_false hlt, decide_eq_false (fun h' => hlt (e.mp h'))]; rfl

theorem rows_offset (r : Fin 1024) (t : Fin 33) :
    broadcastInDim S1024x33 ![0, 1] bcast_S1024x1_S1024x33_0_1 (muli (broadcastInDim S1024x1 ![] bcast_S_S1024x1 (constantI S_ 32 784#32))
      (broadcastInDim S1024x1 ![0] bcast_S1024_S1024x1_0 (iotaInDim S1024 32 0))) (ix2 r t) = 784#32 * BitVec.ofNat 32 r.val := by
  simp only [pointwise]
  rfl

end Reference

theorem algebraic : Cert.algebraic_SelectIdeal_SelectReferenceIdeal := by
  intro m ρ m' ρ' hpre hin
  refine ⟨_, _, _, Cert.SelectIdeal.Value.run (F := Ideal) m ρ, ?_⟩
  refine (θ_run Cert.SelectReferenceIdeal.defs _ _).mono (fun r h c => ?_) (Cert.SelectReferenceIdeal.Value.run (F := Ideal) m' ρ')
  obtain ⟨h0, h1, h2, hargs⟩ := h c
  have hn := enough _ (hpre c)
  refine ⟨h0.trans ?_, h1.trans ?_, h2.trans ?_, hargs⟩
  · rw [hin c]
    funext j
    obtain ⟨r, t, rfl⟩ : ∃ (r : Fin 1024) (t : Fin 33), j = ix2 r t := ⟨j 0, j 1, by funext a; fin_cases a <;> rfl⟩
    refine Eq.trans ?_ (line_result _ r t).symm
    rw [line_apply, ← nth_neg _ r t (hn r), ← topK_place, ← rows_offset r t]
    rfl
  · rw [hin c]
    funext j
    obtain ⟨r, t, rfl⟩ : ∃ (r : Fin 1024) (t : Fin 33), j = ix2 r t := ⟨j 0, j 1, by funext a; fin_cases a <;> rfl⟩
    refine Eq.trans ?_ (spot_result _ r t).symm
    rw [spot_apply, ← nth_neg _ r t (hn r)]
    exact topK_place _ r t
  · rw [hin c]
    funext j
    obtain ⟨r, t, rfl⟩ : ∃ (r : Fin 1024) (t : Fin 33), j = ix2 r t := ⟨j 0, j 1, by funext a; fin_cases a <;> rfl⟩
    refine Eq.trans ?_ (low_result _ r t).symm
    rw [low_apply, (rounds _ r).value (hn r) t.val t.isLt, ← nth_neg _ r t (hn r)]
    refine (congrArg (fun v : EReal => -v) (topK_value _ r t)).trans ?_
    exact neg_neg _

end Cert.Proof.Select

end
-- ==== Proof.ThreshLoop.lean ====
/-
  The threshold call's two loops: a halving narrows every row's interval, so each loop ends, and what it then carries.
-/
module

public import proofs.«01_k».proof.Proof.DistBody
public import proofs.«01_k».proof.Proof.Gen.Thresh
public import proofs.«01_k».proof.Proof.Gen.Thresh.Skeleton
public import proofs.«01_k».proof.Proof.Gen.Thresh.Launch
public import proofs.«01_k».proof.Proof.Gen.Thresh.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.Proof.Thresh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Thresh Cert.Thresh.Gen

/-! ## A loop, run a number of times at most -/

section Run

variable {σ : Type} (go : σ → Prop) [DecidablePred go] (next : σ → σ)

def run : Nat → σ → σ
  | 0, x => x
  | n + 1, x => if go x then run n (next x) else x

theorem run_go (n : Nat) (x : σ) (h : go x) : run go next (n + 1) x = run go next n (next x) := if_pos h

theorem run_stop (n : Nat) (x : σ) (h : ¬ go x) : run go next n x = x := by
  cases n with
  | zero => rfl
  | succ n => exact if_neg h

theorem run_keeps (Inv : σ → Prop) (h : ∀ x, Inv x → Inv (next x)) : ∀ (n : Nat) (x : σ), Inv x → Inv (run go next n x)
  | 0, _, hx => hx
  | n + 1, x, hx => by
    unfold run
    by_cases hg : go x
    · rw [if_pos hg]; exact run_keeps Inv h n _ (h x hx)
    · rw [if_neg hg]; exact hx

theorem run_ends (width : σ → Nat) (h : ∀ x, go x → width (next x) < width x) : ∀ (n : Nat) (x : σ), width x ≤ n → ¬ go (run go next n x)
  | 0, x, hx => fun hg => by have := h x hg; omega
  | n + 1, x, hx => by
    unfold run
    by_cases hg : go x
    · rw [if_pos hg]; exact run_ends width h n _ (by have := h x hg; omega)
    · rw [if_neg hg]; exact hg

end Run

/-! ## Words -/

theorem sgt_one {a b : BitVec 32} : IntOp.cmpi .sgt a b = 1#1 ↔ b.toInt < a.toInt := by
  rw [show IntOp.cmpi .sgt a b = BitVec.ofBool (decide (b.toInt < a.toInt)) from rfl]
  by_cases h : b.toInt < a.toInt
  · simp [h]
  · simp [h]

theorem half_toInt (d : BitVec 32) : (IntOp.shrsi .vector d 1#32).toInt = d.toInt / 2 := by
  rw [show IntOp.shrsi .vector d 1#32 = d.sshiftRight 1 from rfl, BitVec.toInt_sshiftRight, Int.shiftRight_eq_div_pow]
  rfl

theorem sub_sum (a b q : BitVec 32) : a - (b + q) = a - b - q := by
  apply BitVec.eq_of_toNat_eq
  simp only [BitVec.toNat_sub, BitVec.toNat_add]
  omega

/-- The two lengths that halving a length leaves. -/
theorem halves (lo hi : BitVec 32) :
    (IntOp.subi (IntOp.addi lo (IntOp.shrsi .vector (IntOp.subi hi lo) 1#32)) lo).toInt = (IntOp.subi hi lo).toInt / 2
      ∧ (IntOp.subi hi (IntOp.addi lo (IntOp.shrsi .vector (IntOp.subi hi lo) 1#32))).toInt = (IntOp.subi hi lo).toInt - (IntOp.subi hi lo).toInt / 2 := by
  have e := half_toInt (IntOp.subi hi lo)
  revert e
  generalize IntOp.shrsi .vector (IntOp.subi hi lo) 1#32 = q
  intro e
  rw [show IntOp.subi (IntOp.addi lo q) lo = q from by simp only [IntOp.subi, IntOp.addi]; rw [BitVec.add_comm, BitVec.add_sub_cancel],
    show IntOp.subi hi (IntOp.addi lo q) = IntOp.subi hi lo - q from by exact sub_sum hi lo q]
  refine ⟨e, ?_⟩
  rw [BitVec.toInt_sub, e]
  have h1 := BitVec.le_toInt (IntOp.subi hi lo)
  have h2 := BitVec.toInt_lt (x := IntOp.subi hi lo)
  rw [Int.bmod_eq_of_le] <;> omega

/-! ## The greatest of a family -/

theorem fold_max_le {ι : Type} (f : ι → BitVec 32) (z : Int) (hz : -2147483648 ≤ z) (s : Finset ι) :
    (Finset.fold IntOp.maxsi 2147483648#32 f s).toInt ≤ z ↔ ∀ k ∈ s, (f k).toInt ≤ z := by
  classical
  induction s using Finset.induction_on with
  | empty => exact ⟨fun _ k hk => absurd hk (Finset.notMem_empty k), fun _ => by rw [Finset.fold_empty]; exact hz⟩
  | insert a s ha ih =>
    rw [Finset.fold_insert ha, Finset.forall_mem_insert, ← ih]
    generalize Finset.fold IntOp.maxsi 2147483648#32 f s = y
    have e : (IntOp.maxsi (f a) y).toInt = max (f a).toInt y.toInt := by
      unfold IntOp.maxsi
      split <;> rename_i h <;> simp only [BitVec.slt, BitVec.sle, decide_eq_true_eq] at h <;> omega
    rw [e]
    omega

abbrev Pair := IVec S128x1 32 × IVec S128x1 32

/-- The lengths of the rows' intervals. -/
def gap (x : Pair) (r : Fin 128) : BitVec 32 := IntOp.subi (x.2 (ix2 r 0)) (x.1 (ix2 r 0))

/-- Where an interval is halved. -/
def mid (x : Pair) (r : Fin 128) : BitVec 32 := IntOp.addi (x.1 (ix2 r 0)) (IntOp.shrsi .vector (gap x r) 1#32)

theorem gap_next (x y : Pair) (r : Fin 128)
    (h : (y.1 (ix2 r 0) = x.1 (ix2 r 0) ∧ y.2 (ix2 r 0) = mid x r) ∨ (y.1 (ix2 r 0) = mid x r ∧ y.2 (ix2 r 0) = x.2 (ix2 r 0))) :
    (1 < (gap x r).toInt → (gap y r).toInt < (gap x r).toInt) ∧ ((gap x r).toInt ≤ 1 → (gap y r).toInt ≤ 1) := by
  obtain ⟨e1, e2⟩ := halves (x.1 (ix2 r 0)) (x.2 (ix2 r 0))
  rcases h with ⟨h1, h2⟩ | ⟨h1, h2⟩
  · have e : (gap y r).toInt = (gap x r).toInt / 2 := by unfold gap; rw [h1, h2]; exact e1
    omega
  · have e : (gap y r).toInt = (gap x r).toInt - (gap x r).toInt / 2 := by unfold gap; rw [h1, h2]; exact e2
    omega

section Loops

variable (s : IVec S128x4224 32) (need : IVec S128x1 32)

def widest1 (x : Pair) : BitVec 32 := extractAt ![0, 0, 0] (k0_pay7 x.1 x.2) inpos_S1x1x1_p0_0_0
def widest2 (x : Pair) : BitVec 32 := extractAt ![0, 0, 0] (k0_pay12 need x.1 x.2) inpos_S1x1x1_p0_0_0

abbrev go1 (x : Pair) : Prop := Scalar.cmpi .sgt (widest1 x) 1#32 = 1#1
abbrev go2 (x : Pair) : Prop := Scalar.cmpi .sgt (widest2 need x) 1#32 = 1#1

abbrev next1 (x : Pair) : Pair := (k0_pay10 s x.1 x.2, k0_pay11 s x.1 x.2)
abbrev next2 (x : Pair) : Pair := (k0_pay15 need s x.1 x.2, k0_pay16 need s x.1 x.2)

theorem widest1_le (x : Pair) (z : Int) (hz : -2147483648 ≤ z) : (widest1 x).toInt ≤ z ↔ ∀ r, (gap x r).toInt ≤ z := by
  unfold widest1 k0_pay7
  simp only [pointwise]
  rw [fold_max_le _ z hz]
  exact ⟨fun h r => h ⟨r, 0⟩ (Finset.mem_univ _), fun h k _ => h k.1⟩

/-- The length that counts in the second loop: nothing where the row's first column is the answer. -/
def part (x : Pair) (r : Fin 128) : BitVec 32 := Scalar.select (IntOp.cmpi .sgt (need (ix2 r 0)) 1#32) (gap x r) 0#32

theorem widest2_le (x : Pair) (z : Int) (hz : -2147483648 ≤ z) : (widest2 need x).toInt ≤ z ↔ ∀ r, (part need x r).toInt ≤ z := by
  unfold widest2 k0_pay12
  simp only [pointwise]
  rw [fold_max_le _ z hz]
  exact ⟨fun h r => h ⟨r, 0⟩ (Finset.mem_univ _), fun h k _ => h k.1⟩

theorem go_iff (w : BitVec 32) : Scalar.cmpi .sgt w 1#32 = 1#1 ↔ 1 < w.toInt := sgt_one

theorem select_cases {α : Type} (b : BitVec 1) (x y : α) : (b = 1#1 ∧ Scalar.select b x y = x) ∨ (b ≠ 1#1 ∧ Scalar.select b x y = y) := by
  unfold Scalar.select
  by_cases h : b = 1#1
  · exact .inl ⟨h, if_pos h⟩
  · exact .inr ⟨h, if_neg h⟩

/-- Whether the first loop finds enough values at the middle. -/
abbrev enough1 (x : Pair) (r : Fin 128) : BitVec 1 := k0_pay9 s x.1 x.2 (ix2 r 0)
abbrev enough2 (x : Pair) (r : Fin 128) : BitVec 1 := k0_pay14 need s x.1 x.2 (ix2 r 0)

theorem next1_row (x : Pair) (r : Fin 128) :
    (enough1 s x r = 1#1 ∧ (next1 s x).1 (ix2 r 0) = x.1 (ix2 r 0) ∧ (next1 s x).2 (ix2 r 0) = mid x r)
      ∨ (enough1 s x r ≠ 1#1 ∧ (next1 s x).1 (ix2 r 0) = mid x r ∧ (next1 s x).2 (ix2 r 0) = x.2 (ix2 r 0)) := by
  have e1 : (next1 s x).1 (ix2 r 0) = Scalar.select (enough1 s x r) (x.1 (ix2 r 0)) (mid x r) := by
    unfold mid gap
    dsimp only [next1]
    unfold k0_pay10 k0_pay8
    simp only [pointwise]
  have e2 : (next1 s x).2 (ix2 r 0) = Scalar.select (enough1 s x r) (mid x r) (x.2 (ix2 r 0)) := by
    unfold mid gap
    dsimp only [next1]
    unfold k0_pay11 k0_pay8
    simp only [pointwise]
  rw [e1, e2]
  generalize enough1 s x r = b
  unfold Scalar.select
  by_cases h : b = 1#1
  · exact .inl ⟨h, if_pos h, if_pos h⟩
  · exact .inr ⟨h, if_neg h, if_neg h⟩

theorem next2_row (x : Pair) (r : Fin 128) :
    (enough2 s need x r = 1#1 ∧ (next2 s need x).1 (ix2 r 0) = x.1 (ix2 r 0) ∧ (next2 s need x).2 (ix2 r 0) = mid x r)
      ∨ (enough2 s need x r ≠ 1#1 ∧ (next2 s need x).1 (ix2 r 0) = mid x r ∧ (next2 s need x).2 (ix2 r 0) = x.2 (ix2 r 0)) := by
  have e1 : (next2 s need x).1 (ix2 r 0) = Scalar.select (enough2 s need x r) (x.1 (ix2 r 0)) (mid x r) := by
    unfold mid gap
    dsimp only [next2]
    unfold k0_pay15 k0_pay13
    simp only [pointwise]
  have e2 : (next2 s need x).2 (ix2 r 0) = Scalar.select (enough2 s need x r) (mid x r) (x.2 (ix2 r 0)) := by
    unfold mid gap
    dsimp only [next2]
    unfold k0_pay16 k0_pay13
    simp only [pointwise]
  rw [e1, e2]
  generalize enough2 s need x r = b
  unfold Scalar.select
  by_cases h : b = 1#1
  · exact .inl ⟨h, if_pos h, if_pos h⟩
  · exact .inr ⟨h, if_neg h, if_neg h⟩

theorem width1 (x : Pair) (h : go1 x) : (widest1 (next1 s x)).toInt.toNat < (widest1 x).toInt.toNat := by
  have hg := (go_iff _).mp h
  have hw : (widest1 (next1 s x)).toInt ≤ (widest1 x).toInt - 1 := by
    refine (widest1_le _ _ (by omega)).mpr fun r => ?_
    have hr := (widest1_le x _ (by omega)).mp le_rfl r
    obtain ⟨h1, h2⟩ := gap_next x (next1 s x) r ((next1_row s x r).imp (fun h => h.2) fun h => h.2)
    by_cases hd : 1 < (gap x r).toInt
    · have := h1 hd; omega
    · have := h2 (by omega); omega
  omega

theorem width2 (x : Pair) (h : go2 need x) : (widest2 need (next2 s need x)).toInt.toNat < (widest2 need x).toInt.toNat := by
  have hg := (go_iff _).mp h
  have hw : (widest2 need (next2 s need x)).toInt ≤ (widest2 need x).toInt - 1 := by
    refine (widest2_le _ _ _ (by omega)).mpr fun r => ?_
    have hr := (widest2_le need x _ (by omega)).mp le_rfl r
    obtain ⟨h1, h2⟩ := gap_next x (next2 s need x) r ((next2_row s need x r).imp (fun h => h.2) fun h => h.2)
    revert hr
    unfold part
    rcases select_cases (IntOp.cmpi .sgt (need (ix2 r 0)) 1#32) (gap x r) 0#32 with ⟨hb, -⟩ | ⟨hb, -⟩
    · rw [hb]
      show (gap x r).toInt ≤ _ → (gap (next2 s need x) r).toInt ≤ _
      intro hr
      by_cases hd : 1 < (gap x r).toInt
      · have := h1 hd; omega
      · have := h2 (by omega); omega
    · rcases select_cases (IntOp.cmpi .sgt (need (ix2 r 0)) 1#32) (gap (next2 s need x) r) 0#32 with ⟨hb', -⟩ | ⟨-, e⟩
      · exact absurd hb' hb
      · intro _
        rw [e]
        show (0 : Int) ≤ _
        omega
  omega

/-- A value that is not to be worked out. -/
theorem has {α : Type} (x : α) : ∃ y, y = x := ⟨x, rfl⟩
def kept {α : Type} (x : α) : α := Classical.choose (has x)
theorem kept_eq {α : Type} (x : α) : kept x = x := Classical.choose_spec (has x)

/-- What the first loop returns, and the second. -/
def loop1 (x : Pair) : Pair := kept (run go1 (next1 s) (widest1 x).toInt.toNat x)
def loop2 (x : Pair) : Pair := kept (run (go2 need) (next2 s need) (widest2 need x).toInt.toNat x)

theorem loop1_run (x : Pair) : loop1 s x = run go1 (next1 s) (widest1 x).toInt.toNat x := by
  unfold loop1
  exact kept_eq _

theorem loop2_run (x : Pair) : loop2 s need x = run (go2 need) (next2 s need) (widest2 need x).toInt.toNat x := by
  unfold loop2
  exact kept_eq _

theorem loop1_ends (x : Pair) (r : Fin 128) : (gap (loop1 s x) r).toInt ≤ 1 := by
  rw [loop1_run]
  exact (widest1_le _ 1 (by decide)).mp (not_lt.mp fun h => run_ends go1 (next1 s) (fun x => (widest1 x).toInt.toNat) (width1 s) _ x le_rfl ((go_iff _).mpr h)) r

theorem loop2_ends (x : Pair) (r : Fin 128) : (part need (loop2 s need x) r).toInt ≤ 1 := by
  rw [loop2_run]
  exact (widest2_le need _ 1 (by decide)).mp (not_lt.mp fun h => run_ends (go2 need) (next2 s need) (fun x => (widest2 need x).toInt.toNat) (width2 s need) _ x le_rfl ((go_iff _).mpr h)) r

end Loops

/-! ## The loops' calls -/

section Calls

variable {F : FTy → Type} [BitOps F]

local notation "𝕄" => MT nD τ sig Unit (Elt F) ℕ (UR sig nD τ) ℕ

/-- A call whose body returns `r`. -/
theorem call_returns (c : Dev nD) (E : Set ℕ) (bd : Option Nat) {ℓ : (Λ₀ F).Label} (a : (Λ₀ F).Args ℓ) {α : Type} (f : (Λ₀ F).Result ℓ → Prog (TpuEff nD τ sig (Elt F) (Λ₀ F) .tc) α)
    (r : (Λ₀ F).Result ℓ) (k : Nat) (hk : ∀ u ∈ bd, k < u)
    (h : ∀ K : (Λ₀ F).Result ℓ → sProp 𝕄, K r ⊢ wp frame (wpE (defs₀ (F := F)) Variants.nat (c : Thread nD τ) (some k)) E (defs₀ (F := F) .tc ℓ a) K)
    (Q : α → sProp 𝕄) :
    wp frame (wpE (defs₀ (F := F)) Variants.nat (c : Thread nD τ) bd) E (f r) Q
      ⊢ wp frame (wpE (defs₀ (F := F)) Variants.nat (c : Thread nD τ) bd) E (.op (.call ℓ a) f) Q :=
  wp_call_spec Variants.nat (c : Thread nD τ) bd E (pure r) k hk (show (pure r : sWPT 𝕄 ((Λ₀ F).Result ℓ)) ≤ _ from h)

theorem call_alone (c : Dev nD) (E : Set ℕ) (bd : Option Nat) {ℓ : (Λ₀ F).Label} (a : (Λ₀ F).Args ℓ) (r : (Λ₀ F).Result ℓ) (k : Nat) (hk : ∀ u ∈ bd, k < u)
    (h : ∀ K : (Λ₀ F).Result ℓ → sProp 𝕄, K r ⊢ wp frame (wpE (defs₀ (F := F)) Variants.nat (c : Thread nD τ) (some k)) E (defs₀ (F := F) .tc ℓ a) K)
    (K : (Λ₀ F).Result ℓ → sProp 𝕄) :
    K r ⊢ wp frame (wpE (defs₀ (F := F)) Variants.nat (c : Thread nD τ) bd) E (Prog.lift (.call ℓ a)) K := by
  refine BIBase.Entails.trans ?_ (call_returns c E bd a _ r k hk h K)
  show K r ⊢ wp frame (wpE (defs₀ (F := F)) Variants.nat (c : Thread nD τ) bd) E (Prog.ret r) K
  rw [wp_ret]
  iintro H
  imodintro
  iexact H

theorem stay1 (c : Dev nD) (E : Set ℕ) (i : grid0.Coords) (s : IVec S128x4224 32) (n : Nat) (x : Pair) (hg : ¬ go1 x) (K : Pair → sProp 𝕄) :
    K x ⊢ wp frame (wpE (defs₀ (F := F)) Variants.nat (c : Thread nD τ) (some n)) E (cc0_while1 i s x.1 x.2) K := by
  rw [cc0_while1_eq_skeleton]
  unfold cc0_while1_skel
  dsimp only
  rw [if_neg (show ¬ Scalar.cmpi .sgt (extractAt ![0, 0, 0] (k0_pay7 x.1 x.2) inpos_S1x1x1_p0_0_0) 1#32 = 1#1 from hg)]
  show K x ⊢ wp _ _ _ (.ret _) K
  rw [wp_ret]
  iintro H
  imodintro
  iexact H

theorem again1 (c : Dev nD) (E : Set ℕ) (i : grid0.Coords) (s : IVec S128x4224 32) (n : Nat) (x : Pair) (hg : go1 x) (K : Pair → sProp 𝕄) :
    wp frame (wpE (defs₀ (F := F)) Variants.nat (c : Thread nD τ) (some n)) E (Prog.lift (.call (1 : (Λ₀ F).Label) ⟨i, s, (next1 s x).1, (next1 s x).2⟩)) K
      ⊢ wp frame (wpE (defs₀ (F := F)) Variants.nat (c : Thread nD τ) (some n)) E (cc0_while1 i s x.1 x.2) K := by
  rw [cc0_while1_eq_skeleton]
  unfold cc0_while1_skel
  dsimp only
  rw [if_pos (show Scalar.cmpi .sgt (extractAt ![0, 0, 0] (k0_pay7 x.1 x.2) inpos_S1x1x1_p0_0_0) 1#32 = 1#1 from hg)]

attribute [local irreducible] cc0_while1 cc0_while2

theorem calls1 (c : Dev nD) (E : Set ℕ) (i : grid0.Coords) (s : IVec S128x4224 32) (a b : IVec S128x1 32) (r : Pair) (k : Nat) (bd : Option Nat) (hk : ∀ u ∈ bd, k < u)
    (h : ∀ K : Pair → sProp 𝕄, K r ⊢ wp frame (wpE (defs₀ (F := F)) Variants.nat (c : Thread nD τ) (some k)) E (cc0_while1 i s a b) K) (K : Pair → sProp 𝕄) :
    K r ⊢ wp frame (wpE (defs₀ (F := F)) Variants.nat (c : Thread nD τ) bd) E (Prog.lift (.call (1 : (Λ₀ F).Label) ⟨i, s, a, b⟩)) K :=
  call_alone c E bd (ℓ := (1 : (Λ₀ F).Label)) ⟨i, s, a, b⟩ r k hk h K

theorem call1 (c : Dev nD) (E : Set ℕ) (i : grid0.Coords) (s : IVec S128x4224 32) (n : Nat) : ∀ x : Pair, (widest1 x).toInt.toNat ≤ n → ∀ K : Pair → sProp 𝕄,
    K (run go1 (next1 s) n x) ⊢ wp frame (wpE (defs₀ (F := F)) Variants.nat (c : Thread nD τ) (some n)) E (cc0_while1 i s x.1 x.2) K := by
  induction n with
  | zero =>
    intro x hn K
    have hg : ¬ go1 x := fun hg => by
      have := width1 s x hg
      omega
    rw [run_stop go1 (next1 s) 0 x hg]
    have e := @stay1 F _ c E i s 0 x hg
    with_reducible exact e K
  | succ k ih =>
    intro x hn K
    rcases Classical.em (go1 x) with hg | hg
    · have hw := width1 s x hg
      rw [run_go go1 (next1 s) k x hg]
      have e := @again1 F _ c E i s (k + 1) x hg
      with_reducible refine BIBase.Entails.trans ?_ (e K)
      have h := ih (next1 s x) (by omega)
      have e' := @calls1 F _ c E i s (next1 s x).1 (next1 s x).2 _ k (some (k + 1)) (fun u hu => by cases hu; exact Nat.lt_succ_self k) h K
      with_reducible exact e'
    · rw [run_stop go1 (next1 s) (k + 1) x hg]
      have e := @stay1 F _ c E i s (k + 1) x hg
      with_reducible exact e K

theorem stay2 (c : Dev nD) (E : Set ℕ) (i : grid0.Coords) (s : IVec S128x4224 32) (need : IVec S128x1 32) (n : Nat) (x : Pair) (hg : ¬ go2 need x) (K : Pair → sProp 𝕄) :
    K x ⊢ wp frame (wpE (defs₀ (F := F)) Variants.nat (c : Thread nD τ) (some n)) E (cc0_while2 i need s x.1 x.2) K := by
  rw [cc0_while2_eq_skeleton]
  unfold cc0_while2_skel
  dsimp only
  rw [if_neg (show ¬ Scalar.cmpi .sgt (extractAt ![0, 0, 0] (k0_pay12 need x.1 x.2) inpos_S1x1x1_p0_0_0) 1#32 = 1#1 from hg)]
  show K x ⊢ wp _ _ _ (.ret _) K
  rw [wp_ret]
  iintro H
  imodintro
  iexact H

theorem again2 (c : Dev nD) (E : Set ℕ) (i : grid0.Coords) (s : IVec S128x4224 32) (need : IVec S128x1 32) (n : Nat) (x : Pair) (hg : go2 need x) (K : Pair → sProp 𝕄) :
    wp frame (wpE (defs₀ (F := F)) Variants.nat (c : Thread nD τ) (some n)) E (Prog.lift (.call (2 : (Λ₀ F).Label) ⟨i, need, s, (next2 s need x).1, (next2 s need x).2⟩)) K
      ⊢ wp frame (wpE (defs₀ (F := F)) Variants.nat (c : Thread nD τ) (some n)) E (cc0_while2 i need s x.1 x.2) K := by
  rw [cc0_while2_eq_skeleton]
  unfold cc0_while2_skel
  dsimp only
  rw [if_pos (show Scalar.cmpi .sgt (extractAt ![0, 0, 0] (k0_pay12 need x.1 x.2) inpos_S1x1x1_p0_0_0) 1#32 = 1#1 from hg)]

theorem calls2 (c : Dev nD) (E : Set ℕ) (i : grid0.Coords) (need : IVec S128x1 32) (s : IVec S128x4224 32) (a b : IVec S128x1 32) (r : Pair) (k : Nat) (bd : Option Nat) (hk : ∀ u ∈ bd, k < u)
    (h : ∀ K : Pair → sProp 𝕄, K r ⊢ wp frame (wpE (defs₀ (F := F)) Variants.nat (c : Thread nD τ) (some k)) E (cc0_while2 i need s a b) K) (K : Pair → sProp 𝕄) :
    K r ⊢ wp frame (wpE (defs₀ (F := F)) Variants.nat (c : Thread nD τ) bd) E (Prog.lift (.call (2 : (Λ₀ F).Label) ⟨i, need, s, a, b⟩)) K :=
  call_alone c E bd (ℓ := (2 : (Λ₀ F).Label)) ⟨i, need, s, a, b⟩ r k hk h K

theorem call2 (c : Dev nD) (E : Set ℕ) (i : grid0.Coords) (s : IVec S128x4224 32) (need : IVec S128x1 32) (n : Nat) : ∀ x : Pair, (widest2 need x).toInt.toNat ≤ n → ∀ K : Pair → sProp 𝕄,
    K (run (go2 need) (next2 s need) n x) ⊢ wp frame (wpE (defs₀ (F := F)) Variants.nat (c : Thread nD τ) (some n)) E (cc0_while2 i need s x.1 x.2) K := by
  induction n with
  | zero =>
    intro x hn K
    have hg : ¬ go2 need x := fun hg => by
      have := width2 s need x hg
      omega
    rw [run_stop (go2 need) (next2 s need) 0 x hg]
    have e := @stay2 F _ c E i s need 0 x hg
    with_reducible exact e K
  | succ k ih =>
    intro x hn K
    rcases Classical.em (go2 need x) with hg | hg
    · have hw := width2 s need x hg
      rw [run_go (go2 need) (next2 s need) k x hg]
      have e := @again2 F _ c E i s need (k + 1) x hg
      with_reducible refine BIBase.Entails.trans ?_ (e K)
      have h := ih (next2 s need x) (by omega)
      have e' := @calls2 F _ c E i need s (next2 s need x).1 (next2 s need x).2 _ k (some (k + 1)) (fun u hu => by cases hu; exact Nat.lt_succ_self k) h K
      with_reducible exact e'
    · rw [run_stop (go2 need) (next2 s need) (k + 1) x hg]
      have e := @stay2 F _ c E i s need (k + 1) x hg
      with_reducible exact e K

/-- The loops' calls return what the loops last carry. -/
theorem first_loop (c : Dev nD) (E : Set ℕ) (i : grid0.Coords) (s : IVec S128x4224 32) (a b : IVec S128x1 32) {α : Type} (f : Pair → Prog (TpuEff nD τ sig (Elt F) (Λ₀ F) .tc) α) (Q : α → sProp 𝕄) (u v : IVec S128x1 32)
    (h : loop1 s (a, b) = (u, v)) :
    wp frame (wpE (defs₀ (F := F)) Variants.nat (c : Thread nD τ) none) E (f (u, v)) Q
      ⊢ wp frame (wpE (defs₀ (F := F)) Variants.nat (c : Thread nD τ) none) E (.op (.call (1 : (Λ₀ F).Label) ⟨i, s, a, b⟩) f) Q :=
  call_returns c E none (ℓ := (1 : (Λ₀ F).Label)) ⟨i, s, a, b⟩ f (u, v) _ (fun u hu => by cases hu) (by rw [← h, loop1_run]; exact call1 c E i s _ (a, b) le_rfl) Q

theorem second_loop (c : Dev nD) (E : Set ℕ) (i : grid0.Coords) (need : IVec S128x1 32) (s : IVec S128x4224 32) (a b : IVec S128x1 32) {α : Type} (f : Pair → Prog (TpuEff nD τ sig (Elt F) (Λ₀ F) .tc) α) (Q : α → sProp 𝕄) (u v : IVec S128x1 32)
    (h : loop2 s need (a, b) = (u, v)) :
    wp frame (wpE (defs₀ (F := F)) Variants.nat (c : Thread nD τ) none) E (f (u, v)) Q
      ⊢ wp frame (wpE (defs₀ (F := F)) Variants.nat (c : Thread nD τ) none) E (.op (.call (2 : (Λ₀ F).Label) ⟨i, need, s, a, b⟩) f) Q :=
  call_returns c E none (ℓ := (2 : (Λ₀ F).Label)) ⟨i, need, s, a, b⟩ f (u, v) _ (fun u hu => by cases hu) (by rw [← h, loop2_run]; exact call2 c E i s need _ (a, b) le_rfl) Q

end Calls

end Cert.Proof.Thresh

end
-- ==== Proof.ThreshFrame.lean ====
/-
  The threshold call's certificate: what its body leaves in each block, its run and its frame.
-/
module

public import proofs.«01_k».proof.Proof.ThreshLoop

@[expose] public section

set_option maxRecDepth 16384

noncomputable section

namespace Cert.Proof.Thresh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Thresh Cert.Thresh.Gen

variable {F : FTy → Type} [BitOps F]

local notation "𝕄" => MT nD τ sig Unit (Elt F) ℕ (UR sig nD τ) ℕ

/-! ## What the body leaves -/

abbrev rAll : Rect S128x4224 := Rect.unit (s := S128x4224) ![0, 0] S128x4224.size inb_S128x4224_S128x4224_0_0
abbrev rFirst : Rect S128x33 := Rect.unit (s := S128x33) ![0, 0] S128x1.size inb_S128x33_S128x1_0_0
abbrev rLast : Rect S128x33 := Rect.unit (s := S128x33) ![0, 32] S128x1.size inb_S128x33_S128x1_0_32
abbrev rOut : Rect S128x16 := Rect.unit (s := S128x16) ![0, 0] S128x16.size inb_S128x16_S128x16_0_0

/-- The candidates' order, and the values between which the first loop looks. -/
def keys (x0 : Vec F S128x4224 .f32) : IVec S128x4224 32 := k0_pay17 (View.ld x0 rAll)
def columns : IVec S128x4224 32 := iota .tc S128x4224 32 [1] iota_S128x4224_d1_w32
def lowest (x1 : Vec F S128x33 .f32) : IVec S128x1 32 := k0_pay18 (View.ld x1 rFirst)
def highest (x1 : Vec F S128x33 .f32) : IVec S128x1 32 := k0_pay19 (View.ld x1 rLast)

/-- What the first loop finds, how many candidates are less, and what the second loop finds. -/
def thresh (x0 : Vec F S128x4224 .f32) (x1 : Vec F S128x33 .f32) : IVec S128x1 32 := (loop1 (keys x0) (lowest x1, highest x1)).2
def fewer (x0 : Vec F S128x4224 .f32) (x1 : Vec F S128x33 .f32) : IVec S128x1 32 := k0_pay20 (View.ld x0 rAll) (thresh x0 x1)
def column (x0 : Vec F S128x4224 .f32) (x1 : Vec F S128x33 .f32) : IVec S128x1 32 :=
  (loop2 (k0_pay2 (keys x0) columns (thresh x0 x1)) (k0_pay1 (fewer x0 x1)) (k0_pay3, k0_pay4)).2

def left0 (x0 : Vec F S128x4224 .f32) (x1 : Vec F S128x33 .f32) : Vec F S128x16 .i32 := View.canon [⟨rOut, k0_pay5 (thresh x0 x1)⟩]
def left1 (x0 : Vec F S128x4224 .f32) (x1 : Vec F S128x33 .f32) : Vec F S128x16 .i32 :=
  View.canon [⟨rOut, k0_pay6 (keys x0) columns (thresh x0 x1) (fewer x0 x1) (column x0 x1)⟩]

theorem covered (p0 : Vec F S128x16 .i32) (y : S128x16.Idx) : ∃ pc ∈ ([⟨rOut, p0⟩] : List (View.Piece (Elt F) S128x16 .i32)), y ∈ pc.1.set :=
  View.cover_of_tiled [⟨rOut, p0⟩] S128x16.size (by rfl) y

attribute [local irreducible] cc0_while1 cc0_while2 loop1 loop2 k0_pay2 k0_pay5 k0_pay6 k0_pay17 k0_pay18 k0_pay19 k0_pay20

set_option maxHeartbeats 1000000 in
theorem sound_values (c : Dev nD) (E : Set ℕ) (i : grid0.Coords) (arg1 : Memref sig .tc .vmem S128x4224 .f32) (harg1 : arg1.IsWhole) (arg2 : Memref sig .tc .vmem S128x33 .f32) (harg2 : arg2.IsWhole)
    (arg3 : Memref sig .tc .vmem S128x16 .i32) (harg3 : arg3.IsWhole) (arg4 : Memref sig .tc .vmem S128x16 .i32) (harg4 : arg4.IsWhole)
    (x0 : Vec F S128x4224 .f32) (x1 : Vec F S128x33 .f32) (u v u' v' : IVec S128x1 32)
    (h : loop1 (keys x0) (lowest x1, highest x1) = (u, v))
    (h' : loop2 (k0_pay2 (keys x0) columns v) (k0_pay1 (k0_pay20 (View.ld x0 rAll) v)) (k0_pay3, k0_pay4) = (u', v')) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (View.canon [⟨rOut, k0_pay5 v⟩] : Vec F S128x16 .i32) ∗ owns (c : Thread nD τ) arg4 fullShare (View.canon [⟨rOut, k0_pay6 (keys x0) columns v (k0_pay20 (View.ld x0 rAll) v) v'⟩] : Vec F S128x16 .i32)) -∗ K ⟨⟩))
      ⊢ wp frame (wpE (defs₀ (F := F)) Variants.nat c none) E (cc0__thresh_kernel i arg1 harg1 arg2 harg2 arg3 harg3 arg4 harg4) K := by
  simp only [cc0__thresh_kernel_eq_skeleton]; unfold cc0__thresh_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  iapply (first_loop (F := F) c E i _ _ _ _ _ u v h)
  sl_exec
  iapply (second_loop (F := F) c E i _ _ _ _ _ _ u' v' h')
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (covered _)).trans ?_
    rfl
  iexists _; isplitr
  swap; · iexact H3
  ipureintro
  refine (View.read_writes_eq_canon _ _ _ (covered _)).trans ?_
  rfl

theorem snd_eq {α β : Type} (p : α × β) (y : β) (h : y = p.2) : p = (p.1, y) := h ▸ rfl

theorem thresh_eq (x0 : Vec F S128x4224 .f32) (x1 : Vec F S128x33 .f32) :
    loop1 (keys x0) (lowest x1, highest x1) = ((loop1 (keys x0) (lowest x1, highest x1)).1, thresh x0 x1) :=
  snd_eq _ _ (thresh.eq_1 x0 x1)

theorem column_eq (x0 : Vec F S128x4224 .f32) (x1 : Vec F S128x33 .f32) :
    loop2 (k0_pay2 (keys x0) columns (thresh x0 x1)) (k0_pay1 (k0_pay20 (View.ld x0 rAll) (thresh x0 x1))) (k0_pay3, k0_pay4)
      = ((loop2 (k0_pay2 (keys x0) columns (thresh x0 x1)) (k0_pay1 (k0_pay20 (View.ld x0 rAll) (thresh x0 x1))) (k0_pay3, k0_pay4)).1, column x0 x1) :=
  snd_eq _ _ (by rw [column.eq_1, fewer.eq_1])

theorem left0_eq (x0 : Vec F S128x4224 .f32) (x1 : Vec F S128x33 .f32) : left0 x0 x1 = View.canon [⟨rOut, k0_pay5 (thresh x0 x1)⟩] := left0.eq_1 x0 x1

theorem left1_eq (x0 : Vec F S128x4224 .f32) (x1 : Vec F S128x33 .f32) :
    left1 x0 x1 = View.canon [⟨rOut, k0_pay6 (keys x0) columns (thresh x0 x1) (k0_pay20 (View.ld x0 rAll) (thresh x0 x1)) (column x0 x1)⟩] := by
  rw [left1.eq_1, fewer.eq_1]

theorem sound_kernel (c : Dev nD) (E : Set ℕ) (i : grid0.Coords) (arg1 : Memref sig .tc .vmem S128x4224 .f32) (harg1 : arg1.IsWhole) (arg2 : Memref sig .tc .vmem S128x33 .f32) (harg2 : arg2.IsWhole)
    (arg3 : Memref sig .tc .vmem S128x16 .i32) (harg3 : arg3.IsWhole) (arg4 : Memref sig .tc .vmem S128x16 .i32) (harg4 : arg4.IsWhole)
    (x0 : Vec F S128x4224 .f32) (x1 : Vec F S128x33 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (left0 x0 x1) ∗ owns (c : Thread nD τ) arg4 fullShare (left1 x0 x1)) -∗ K ⟨⟩))
      ⊢ wp frame (wpE (defs₀ (F := F)) Variants.nat c none) E (cc0__thresh_kernel i arg1 harg1 arg2 harg2 arg3 harg3 arg4 harg4) K := by
  rw [left0_eq, left1_eq]
  exact sound_values c E i arg1 harg1 arg2 harg2 arg3 harg3 arg4 harg4 x0 x1 _ (thresh x0 x1) _ (column x0 x1) (thresh_eq x0 x1) (column_eq x0 x1) K

/-! ## The arrays and the blocks -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_of0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans (hA c 0)),
    ((h c).1 1).trans (((dats 0 c).arrAt_in 1 rfl _).trans (hA c 1))⟩) h

/-! ## The pipeline's proof data -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => left0 (iblk m c 0 t) (iblk m c 1 t)
    | ⟨3, _⟩ => left1 (iblk m c 0 t) (iblk m c 1 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = left0 (iblk m c 0 t) (iblk m c 1 t) := by dsimp only [dats]; rfl
theorem after3 (c : Dev nD) (t : Fin (cfg0 (F := F)).N) : (dats m 0 c).after 3 t = left1 (iblk m c 0 t) (iblk m c 1 t) := by dsimp only [dats]; rfl

theorem before0 (c : Dev nD) (t : Fin (cfg0 (F := F)).N) (d) : (dats m 0 c).before 0 t d = iblk m c 0 t :=
  before_of0 m (dats m 0 c) (A_eq m c 0) (after0 m c) t d
theorem before1 (c : Dev nD) (t : Fin (cfg0 (F := F)).N) (d) : (dats m 0 c).before 1 t d = iblk m c 1 t :=
  before_of1 m (dats m 0 c) (A_eq m c 1) (after1 m c) t d

/-! ## The body at a point -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d)))

def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t))

theorem sound_body (c : Dev nD) (t : Fin (cfg0 (F := F)).N) :
    bodyPre m c t ⊢ wp frame (wpE (defs₀ (F := F)) Variants.nat c none) Set.univ (bodyAt0 (F := F) t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel (F := F) c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 (F := F) t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore is left raised. -/
theorem frame_thresh : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.Thresh
-- ==== Proof.ThreshOrder.lean ====
/-
  The value that a search between two values finds, and the column that a search between two columns finds, are those
  at a place of the stable sort.
-/
module

public import proofs.«01_k».proof.Proof.ThreshLoop
public import Idealize.ShloMosaic.Lib.SortPrefix
public import Idealize.ShloMosaic.Lib.SortFacts
public import Mathlib.Data.Fintype.Card

@[expose] public section

namespace Cert.Proof.Thresh

open Idealize.ShloMosaic

/-! ## The stable sort of integers -/

section Sorting

variable {n : Nat}

/-- Whether `c` stands before `d`: a lesser value, or the same value and a lesser place. -/
def before (key : Fin n → Int) (c d : Fin n) : Bool := decide (key c < key d) || (decide (key c = key d) && decide (c < d))

theorem before_total (key : Fin n → Int) : StrictTotalBefore (before key) :=
  StrictTotalBefore.of_key_then_position (fun a b : Int => decide (a < b)) key (fun a => decide_eq_false (lt_irrefl a))
    (fun a b c hab hbc => decide_eq_true (lt_trans (of_decide_eq_true hab) (of_decide_eq_true hbc)))
    (fun a b => (lt_trichotomy a b).imp (fun h => decide_eq_true h) (Or.imp id fun h => decide_eq_true h))

theorem before_iff (key : Fin n → Int) (c d : Fin n) : before key c d = true ↔ key c < key d ∨ (key c = key d ∧ c < d) := by
  unfold before
  simp

theorem stableSort_values (key : Fin n → Int) (R : Fin n → Fin n → Bool) (hR : ∀ c d, R c d = decide (key c < key d)) :
    ∀ l : List (Fin n), l.Pairwise (· < ·) → stableSort R l = stableSort (before key) l
  | [], _ => rfl
  | a :: l, h => by
    obtain ⟨ha, hl⟩ := List.pairwise_cons.mp h
    unfold stableSort
    rw [stableSort_values key R hR l hl]
    refine insertBefore_congr _ _ _ _ fun b hb => ?_
    have hab : a < b := ha b ((perm_stableSort _ _).mem_iff.mp hb)
    unfold before
    rw [hR, decide_eq_false (not_lt_of_gt hab), Bool.and_false, Bool.or_false]

theorem sortedFrom_values (key : Fin n → Int) (R : Fin n → Fin n → Bool) (hR : ∀ c d, R c d = decide (key c < key d)) :
    sortedFrom R = sortedFrom (before key) := by
  have e : sortPositions n R = sortPositions n (before key) := stableSort_values key R hR _ (List.pairwise_lt_finRange n)
  funext k
  unfold sortedFrom
  rw [List.get_of_eq e]
  rfl

/-- What stands at a place of the sort has as many before it. -/
theorem sorted_rank (key : Fin n → Int) (q : Fin n) (C : Fin n) (h : (Finset.univ.filter fun c => before key c C = true).card = q.val) :
    sortedFrom (before key) q = C := by
  have hB := before_total key
  obtain ⟨i, hi⟩ := sortedFrom_surjective (before key) C
  have hno := sortedFrom_noInversion (before key) (before key) (fun a b => hB.asymm a b) (fun _ _ h => h) hB.negTrans
  have e : (Finset.univ.filter fun c => before key c C = true) = (Finset.univ.filter fun j : Fin n => j < i).image (sortedFrom (before key)) := by
    ext c
    rw [Finset.mem_filter, Finset.mem_image]
    constructor
    · rintro ⟨-, hc⟩
      obtain ⟨j, hj⟩ := sortedFrom_surjective (before key) c
      refine ⟨j, Finset.mem_filter.mpr ⟨Finset.mem_univ _, ?_⟩, hj⟩
      rcases lt_trichotomy j i with hji | hji | hji
      · exact hji
      · rw [← hj, ← hi, hji, hB.irrefl] at hc
        exact absurd hc (by decide)
      · have := hno i j hji
        rw [hj, hi, hc] at this
        exact absurd this (by decide)
    · rintro ⟨j, hj, rfl⟩
      have hji := (Finset.mem_filter.mp hj).2
      refine ⟨Finset.mem_univ _, ?_⟩
      rcases hB.total (sortedFrom (before key) j) C (fun e => absurd (sortedFrom_injective (before key) (e.trans hi.symm)) (ne_of_lt hji)) with h' | h'
      · exact h'
      · rw [← hi, hno j i hji] at h'
        exact absurd h' (by decide)
  rw [e, Finset.card_image_of_injective _ (sortedFrom_injective (before key))] at h
  have hc : (Finset.univ.filter fun j : Fin n => j < i).card = i.val := by
    rw [show (Finset.univ.filter fun j : Fin n => j < i) = Finset.Iio i from by ext j; simp, Fin.card_Iio]
  rw [show q = i from Fin.ext (by omega)]
  exact hi

end Sorting

/-! ## How many are at most a value -/

section Count

variable {n : Nat}

def upTo (key : Fin n → Int) (z : Int) : Nat := (Finset.univ.filter fun c => key c ≤ z).card
def below (key : Fin n → Int) (z : Int) : Nat := (Finset.univ.filter fun c => key c < z).card

theorem below_eq (key : Fin n → Int) (z : Int) : below key z = upTo key (z - 1) := by
  unfold below upTo
  refine congrArg Finset.card (Finset.filter_congr fun c _ => ?_)
  omega

/-- The columns of a value, the others put at the end. -/
def at_ (key : Fin n → Int) (T : Int) (c : Fin n) : Int := if key c = T then (c.val : Int) else n

theorem upTo_at (key : Fin n → Int) (T : Int) (z : Int) (hz : z < n) : upTo (at_ key T) z = (Finset.univ.filter fun c : Fin n => key c = T ∧ (c.val : Int) ≤ z).card := by
  unfold upTo at_
  refine congrArg Finset.card (Finset.filter_congr fun c _ => ?_)
  by_cases h : key c = T
  · rw [if_pos h]; exact ⟨fun h' => ⟨h, h'⟩, fun h' => h'.2⟩
  · rw [if_neg h]; exact ⟨fun h' => by omega, fun h' => absurd h'.1 h⟩

theorem upTo_split (key : Fin n → Int) (T : Int) (z : Int) (hz : z < n) :
    below key T + upTo (at_ key T) z = (Finset.univ.filter fun c : Fin n => key c < T ∨ (key c = T ∧ (c.val : Int) ≤ z)).card := by
  rw [upTo_at key T z hz, Finset.filter_or, Finset.card_union_of_disjoint]
  · rfl
  · rw [Finset.disjoint_filter]
    intro c _ h1 h2
    omega

/-- All of a value's columns. -/
theorem upTo_last (key : Fin n → Int) (T : Int) : below key T + upTo (at_ key T) ((n : Int) - 1) = upTo key T := by
  rw [upTo_split key T _ (by omega)]
  unfold upTo
  refine congrArg Finset.card (Finset.filter_congr fun c _ => ?_)
  have := c.isLt
  omega

/-- A value with less than `q` below it and a column with `q` before it: the sort's place `q`. -/
theorem place_of (key : Fin n → Int) (q : Fin n) (T C : Int) (need : Int) (hneed : need = q.val + 1 - below key T) (h0 : C < n)
    (hC : need ≤ upTo (at_ key T) C) (hC' : (upTo (at_ key T) (C - 1) : Int) < need) :
    key (sortedFrom (before key) q) = T ∧ ((sortedFrom (before key) q).val : Int) = C := by
  obtain ⟨c, hc, hn⟩ := Finset.exists_mem_notMem_of_card_lt_card (s := Finset.univ.filter fun c => at_ key T c ≤ C - 1) (t := Finset.univ.filter fun c => at_ key T c ≤ C)
    (by have : (upTo (at_ key T) (C - 1) : Int) < upTo (at_ key T) C := by omega
        unfold upTo at this
        omega)
  have e : at_ key T c = C := by
    have h1 := (Finset.mem_filter.mp hc).2
    have h2 : ¬ at_ key T c ≤ C - 1 := fun h => hn (Finset.mem_filter.mpr ⟨Finset.mem_univ _, h⟩)
    omega
  have hk : key c = T ∧ (c.val : Int) = C := by
    unfold at_ at e
    by_cases h : key c = T
    · rw [if_pos h] at e; exact ⟨h, e⟩
    · rw [if_neg h] at e; omega
  have hone : upTo (at_ key T) C ≤ upTo (at_ key T) (C - 1) + 1 := by
    rw [upTo_at key T C h0, upTo_at key T (C - 1) (by omega)]
    have hsub : (Finset.univ.filter fun d : Fin n => key d = T ∧ (d.val : Int) ≤ C) ⊆ insert c (Finset.univ.filter fun d : Fin n => key d = T ∧ (d.val : Int) ≤ C - 1) := by
      intro d hd
      obtain ⟨-, h1, h2⟩ := Finset.mem_filter.mp hd
      by_cases h : d = c
      · rw [h]; exact Finset.mem_insert_self _ _
      · refine Finset.mem_insert_of_mem (Finset.mem_filter.mpr ⟨Finset.mem_univ _, h1, ?_⟩)
        have : d.val ≠ c.val := fun h' => h (Fin.ext h')
        omega
    exact (Finset.card_le_card hsub).trans (Finset.card_insert_le _ _)
  have hs : sortedFrom (before key) q = c := by
    refine sorted_rank key q c ?_
    have e2 : (Finset.univ.filter fun d => before key d c = true) = (Finset.univ.filter fun d : Fin n => key d < T ∨ (key d = T ∧ (d.val : Int) ≤ C - 1)) := by
      refine Finset.filter_congr fun d _ => ?_
      rw [before_iff, hk.1, Fin.lt_def]
      have := hk.2
      omega
    rw [e2, ← upTo_split key T (C - 1) (by omega)]
    omega
  rw [hs]
  exact hk

end Count

/-! ## A search between two words -/

section Search

theorem gap_toInt (x : Pair) (r : Fin 128) (h0 : (x.1 (ix2 r 0)).toInt ≤ (x.2 (ix2 r 0)).toInt) (h1 : (x.2 (ix2 r 0)).toInt - (x.1 (ix2 r 0)).toInt < 2147483648) :
    (gap x r).toInt = (x.2 (ix2 r 0)).toInt - (x.1 (ix2 r 0)).toInt := by
  unfold gap IntOp.subi
  rw [BitVec.toInt_sub, Int.bmod_eq_of_le] <;> omega

theorem mid_toInt (x : Pair) (r : Fin 128) (h0 : (x.1 (ix2 r 0)).toInt ≤ (x.2 (ix2 r 0)).toInt) (h1 : (x.2 (ix2 r 0)).toInt - (x.1 (ix2 r 0)).toInt < 2147483648) :
    (mid x r).toInt = (x.1 (ix2 r 0)).toInt + ((x.2 (ix2 r 0)).toInt - (x.1 (ix2 r 0)).toInt) / 2 := by
  have hg := gap_toInt x r h0 h1
  unfold mid IntOp.addi
  have b1 := BitVec.le_toInt (x.1 (ix2 r 0))
  have b2 := BitVec.toInt_lt (x := x.2 (ix2 r 0))
  rw [BitVec.toInt_add, half_toInt, hg, Int.bmod_eq_of_le] <;> omega

/-- The row's answer lies between the two ends. -/
structure Between (P : Int → Prop) (A B : Int) (x : Pair) (r : Fin 128) : Prop where
  no : ¬ P (x.1 (ix2 r 0)).toInt
  yes : P (x.2 (ix2 r 0)).toInt
  order : (x.1 (ix2 r 0)).toInt ≤ (x.2 (ix2 r 0)).toInt
  least : A ≤ (x.1 (ix2 r 0)).toInt
  greatest : (x.2 (ix2 r 0)).toInt ≤ B

variable {P : Int → Prop} {A B : Int} {r : Fin 128}

theorem Between.next (hAB : B - A < 2147483648) {x y : Pair} {b : BitVec 1} (h : Between P A B x r)
    (hb : b = 1#1 ↔ P (mid x r).toInt)
    (hy : (b = 1#1 ∧ y.1 (ix2 r 0) = x.1 (ix2 r 0) ∧ y.2 (ix2 r 0) = mid x r) ∨ (b ≠ 1#1 ∧ y.1 (ix2 r 0) = mid x r ∧ y.2 (ix2 r 0) = x.2 (ix2 r 0))) :
    Between P A B y r := by
  have ho := h.order
  have hl := h.least
  have hg := h.greatest
  have hm := mid_toInt x r ho (by omega)
  rcases hy with ⟨h1, e1, e2⟩ | ⟨h1, e1, e2⟩
  · refine ⟨?_, ?_, ?_, ?_, ?_⟩
    · rw [e1]; exact h.no
    · rw [e2]; exact hb.mp h1
    · rw [e1, e2]; omega
    · rw [e1]; exact hl
    · rw [e2]; omega
  · refine ⟨?_, ?_, ?_, ?_, ?_⟩
    · rw [e1]; exact fun h' => h1 (hb.mpr h')
    · rw [e2]; exact h.yes
    · rw [e1, e2]; omega
    · rw [e1]; omega
    · rw [e2]; exact hg

theorem Between.ends (hAB : B - A < 2147483648) {x : Pair} (h : Between P A B x r) (hx : (gap x r).toInt ≤ 1) :
    P (x.2 (ix2 r 0)).toInt ∧ ¬ P ((x.2 (ix2 r 0)).toInt - 1) := by
  have ho := h.order
  have hl := h.least
  have hg := h.greatest
  rw [gap_toInt x r ho (by omega)] at hx
  have hne : (x.1 (ix2 r 0)).toInt ≠ (x.2 (ix2 r 0)).toInt := fun e => h.no (e ▸ h.yes)
  refine ⟨h.yes, ?_⟩
  rw [show (x.2 (ix2 r 0)).toInt - 1 = (x.1 (ix2 r 0)).toInt from by omega]
  exact h.no

end Search

end Cert.Proof.Thresh

end
-- ==== Proof.ThreshRows.lean ====
/-
  What the threshold call's loops find in a row.
-/
module

public import proofs.«01_k».proof.Proof.ThreshFrame
public import proofs.«01_k».proof.Proof.ThreshOrder

@[expose] public section

noncomputable section

namespace Cert.Proof.Thresh

open Idealize.ShloMosaic Idealize.ShloMosaic.TcCoe
open Cert.Thresh Cert.Thresh.Gen

/-! ## Counts as words -/

theorem fold_count {n : Nat} (p : Fin n → Prop) [DecidablePred p] (w : Fin n → BitVec 32) (hw : ∀ c, w c = if p c then 1#32 else 0#32) (s : Finset (Fin n)) :
    Finset.fold IntOp.addi 0#32 w s = BitVec.ofNat 32 (s.filter p).card := by
  induction s using Finset.induction_on with
  | empty => rfl
  | insert a s ha ih =>
    rw [Finset.fold_insert ha, ih, hw, Finset.filter_insert]
    by_cases h : p a
    · rw [if_pos h, if_pos h, Finset.card_insert_of_notMem (fun hm => ha (Finset.mem_filter.mp hm).1), BitVec.ofNat_add, BitVec.add_comm]
      rfl
    · rw [if_neg h, if_neg h]
      exact BitVec.zero_add _

theorem count_toInt (p : Fin 4224 → Prop) [DecidablePred p] : (BitVec.ofNat 32 (Finset.univ.filter p).card).toInt = ((Finset.univ.filter p).card : Int) := by
  have hc : (Finset.univ.filter p).card ≤ 4224 := (Finset.card_filter_le _ _).trans (le_of_eq (Finset.card_univ.trans (Fintype.card_fin 4224)))
  revert hc
  generalize (Finset.univ.filter p).card = n
  intro hc
  rw [BitVec.toInt_ofNat']
  simp only [Int.bmod_def]
  omega

/-- The sum of a condition's bits over a row. -/
theorem bits_count (b : Fin 4224 → BitVec 1) (p : Fin 4224 → Prop) [DecidablePred p] (hb : ∀ c, b c = 1#1 ↔ p c) (w : Fin 4224 → BitVec 32) (hw : ∀ c, w c = BitVec.setWidth 32 (b c)) :
    (Finset.fold IntOp.addi 0#32 w Finset.univ).toInt = ((Finset.univ.filter p).card : Int) := by
  rw [fold_count p w (fun c => ?_), count_toInt]
  rw [hw c]
  by_cases h : p c
  · rw [if_pos h, (hb c).mpr h]; rfl
  · rw [if_neg h]
    have h' : b c ≠ 1#1 := fun e => h ((hb c).mp e)
    rw [show b c = 0#1 from by revert h'; generalize b c = x; revert x; decide]
    rfl

theorem sle_one {a b : BitVec 32} : IntOp.cmpi .sle a b = 1#1 ↔ a.toInt ≤ b.toInt := by
  rw [show IntOp.cmpi .sle a b = BitVec.ofBool (decide (a.toInt ≤ b.toInt)) from rfl]
  by_cases h : a.toInt ≤ b.toInt
  · simp [h]
  · simp [h]

theorem sge_one {a b : BitVec 32} : IntOp.cmpi .sge a b = 1#1 ↔ b.toInt ≤ a.toInt := by
  rw [show IntOp.cmpi .sge a b = BitVec.ofBool (decide (b.toInt ≤ a.toInt)) from rfl]
  by_cases h : b.toInt ≤ a.toInt
  · simp [h]
  · simp [h]

theorem slt_one {a b : BitVec 32} : IntOp.cmpi .slt a b = 1#1 ↔ a.toInt < b.toInt := by
  rw [show IntOp.cmpi .slt a b = BitVec.ofBool (decide (a.toInt < b.toInt)) from rfl]
  by_cases h : a.toInt < b.toInt
  · simp [h]
  · simp [h]

theorem eq_one {a b : BitVec 32} : IntOp.cmpi .eq a b = 1#1 ↔ a = b := by
  rw [show IntOp.cmpi .eq a b = BitVec.ofBool (decide (a = b)) from rfl]
  by_cases h : a = b
  · simp [h]
  · simp [h]

theorem above_one {a : BitVec 32} : IntOp.cmpi .sgt a 1#32 = 1#1 ↔ 1 < a.toInt := sgt_one

section Rows

variable (s : IVec S128x4224 32) (need : IVec S128x1 32) (r : Fin 128)

/-- A row's values. -/
def row (c : Fin 4224) : Int := (s (ix2 r c)).toInt

theorem enough1_iff (x : Pair) : enough1 s x r = 1#1 ↔ (33 : Int) ≤ upTo (row s r) (mid x r).toInt := by
  unfold enough1 mid gap k0_pay9 k0_pay8
  simp only [pointwise]
  rw [sge_one, bits_count (fun c => IntOp.cmpi .sle (s (ix2 r c)) (IntOp.addi (x.1 (ix2 r 0)) (IntOp.shrsi .vector (IntOp.subi (x.2 (ix2 r 0)) (x.1 (ix2 r 0))) 1#32)))
    (fun c => row s r c ≤ (IntOp.addi (x.1 (ix2 r 0)) (IntOp.shrsi .vector (IntOp.subi (x.2 (ix2 r 0)) (x.1 (ix2 r 0))) 1#32)).toInt) (fun c => sle_one) _ (fun c => ?_)]
  · rfl
  · rfl

theorem enough2_iff (x : Pair) : enough2 s need x r = 1#1 ↔ (need (ix2 r 0)).toInt ≤ upTo (row s r) (mid x r).toInt := by
  unfold enough2 mid gap k0_pay14 k0_pay13
  simp only [pointwise]
  rw [sge_one, bits_count (fun c => IntOp.cmpi .sle (s (ix2 r c)) (IntOp.addi (x.1 (ix2 r 0)) (IntOp.shrsi .vector (IntOp.subi (x.2 (ix2 r 0)) (x.1 (ix2 r 0))) 1#32)))
    (fun c => row s r c ≤ (IntOp.addi (x.1 (ix2 r 0)) (IntOp.shrsi .vector (IntOp.subi (x.2 (ix2 r 0)) (x.1 (ix2 r 0))) 1#32)).toInt) (fun c => sle_one) _ (fun c => ?_)]
  · rfl
  · rfl

variable {s need r}

theorem loop1_row {A B : Int} (hAB : B - A < 2147483648) (x : Pair) (h : Between (fun z => (33 : Int) ≤ upTo (row s r) z) A B x r) :
    (33 : Int) ≤ upTo (row s r) ((loop1 s x).2 (ix2 r 0)).toInt ∧ ¬ (33 : Int) ≤ upTo (row s r) (((loop1 s x).2 (ix2 r 0)).toInt - 1) ∧ ((loop1 s x).2 (ix2 r 0)).toInt ≤ B := by
  have hk : Between (fun z => (33 : Int) ≤ upTo (row s r) z) A B (loop1 s x) r := by
    rw [loop1_run]
    exact run_keeps go1 (next1 s) (fun y => Between (fun z => (33 : Int) ≤ upTo (row s r) z) A B y r) (fun y hy => hy.next hAB (enough1_iff s r y) (next1_row s y r)) _ x h
  have he := hk.ends hAB (loop1_ends s x r)
  exact ⟨he.1, he.2, hk.greatest⟩

theorem loop2_row {A B : Int} (hAB : B - A < 2147483648) (x : Pair) (h : Between (fun z => (need (ix2 r 0)).toInt ≤ upTo (row s r) z) A B x r) (hn : 1 < (need (ix2 r 0)).toInt) :
    (need (ix2 r 0)).toInt ≤ upTo (row s r) ((loop2 s need x).2 (ix2 r 0)).toInt ∧ ¬ (need (ix2 r 0)).toInt ≤ upTo (row s r) (((loop2 s need x).2 (ix2 r 0)).toInt - 1)
      ∧ ((loop2 s need x).2 (ix2 r 0)).toInt ≤ B := by
  have hk : Between (fun z => (need (ix2 r 0)).toInt ≤ upTo (row s r) z) A B (loop2 s need x) r := by
    rw [loop2_run]
    exact run_keeps (go2 need) (next2 s need) (fun y => Between (fun z => (need (ix2 r 0)).toInt ≤ upTo (row s r) z) A B y r) (fun y hy => hy.next hAB (enough2_iff s need r y) (next2_row s need y r)) _ x h
  have hp := loop2_ends s need x r
  rw [show part need (loop2 s need x) r = gap (loop2 s need x) r from if_pos (above_one.mpr hn)] at hp
  have he := hk.ends hAB hp
  exact ⟨he.1, he.2, hk.greatest⟩

end Rows

/-! ## The values between the loops -/

section Between

variable {F : FTy → Type} [BitOps F]

theorem fewer_row (x0 : Vec F S128x4224 .f32) (x1 : Vec F S128x33 .f32) (r : Fin 128) :
    (fewer x0 x1 (ix2 r 0)).toInt = below (row (keys x0) r) (thresh x0 x1 (ix2 r 0)).toInt := by
  unfold fewer k0_pay20
  generalize thresh x0 x1 = t
  have e : k0_pay17 (View.ld x0 rAll) = keys x0 := rfl
  rw [e]
  generalize keys x0 = s
  simp only [pointwise]
  rw [bits_count (fun c => IntOp.cmpi .slt (s (ix2 r c)) (t (ix2 r 0))) (fun c => row s r c < (t (ix2 r 0)).toInt) (fun c => slt_one) _ (fun c => ?_)]
  · rfl
  · rfl

theorem need_toInt (v : IVec S128x1 32) (r : Fin 128) (h0 : 0 ≤ (v (ix2 r 0)).toInt) (h1 : (v (ix2 r 0)).toInt ≤ 33) : (k0_pay1 v (ix2 r 0)).toInt = 33 - (v (ix2 r 0)).toInt := by
  unfold k0_pay1
  simp only [pointwise]
  unfold IntOp.subi
  rw [BitVec.toInt_sub, show (33#32 : BitVec 32).toInt = 33 from rfl, Int.bmod_eq_of_le] <;> omega

theorem cols_word (s : IVec S128x4224 32) (t : IVec S128x1 32) (r : Fin 128) (c : Fin 4224) :
    k0_pay2 s columns t (ix2 r c) = if s (ix2 r c) = t (ix2 r 0) then BitVec.ofNat 32 c.val else 4224#32 := by
  have e : k0_pay2 s columns t (ix2 r c) = Scalar.select (IntOp.cmpi .eq (s (ix2 r c)) (t (ix2 r 0))) (columns (ix2 r c)) 4224#32 := by
    unfold k0_pay2
    simp only [pointwise]
    rfl
  have e' : columns (ix2 r c) = BitVec.ofNat 32 c.val := by
    unfold columns
    simp only [pointwise]
    show BitVec.ofNat 32 (0 * 4224 + c.val) = _
    rw [Nat.zero_mul, Nat.zero_add]
  rw [e, e']
  by_cases h : s (ix2 r c) = t (ix2 r 0)
  · rw [if_pos h]
    exact if_pos (eq_one.mpr h)
  · rw [if_neg h]
    exact if_neg (fun e => h (eq_one.mp e))

theorem cols_row (s : IVec S128x4224 32) (t : IVec S128x1 32) (r : Fin 128) : row (k0_pay2 s columns t) r = at_ (row s r) (t (ix2 r 0)).toInt := by
  funext c
  show (k0_pay2 s columns t (ix2 r c)).toInt = _
  rw [cols_word]
  unfold at_ row
  by_cases h : s (ix2 r c) = t (ix2 r 0)
  · rw [if_pos h, if_pos (by rw [h]), BitVec.toInt_ofNat']
    have := c.isLt
    simp only [Int.bmod_def]
    omega
  · rw [if_neg h, if_neg (fun e => h (BitVec.eq_of_toInt_eq e))]
    rfl

theorem fold_min_le {ι : Type} (f : ι → BitVec 32) (z : Int) (hz : z < 2147483647) (s : Finset ι) :
    (Finset.fold IntOp.minsi 2147483647#32 f s).toInt ≤ z ↔ ∃ k ∈ s, (f k).toInt ≤ z := by
  classical
  induction s using Finset.induction_on with
  | empty =>
    rw [Finset.fold_empty, show (2147483647#32 : BitVec 32).toInt = 2147483647 from rfl]
    constructor
    · intro h; omega
    · rintro ⟨k, hk, -⟩; exact absurd hk (Finset.notMem_empty k)
  | insert a s ha ih =>
    rw [Finset.fold_insert ha, Finset.exists_mem_insert, ← ih]
    generalize Finset.fold IntOp.minsi 2147483647#32 f s = y
    have e : (IntOp.minsi (f a) y).toInt = min (f a).toInt y.toInt := by
      unfold IntOp.minsi
      split <;> rename_i h <;> simp only [BitVec.slt, BitVec.sle, decide_eq_true_eq] at h <;> omega
    rw [e]
    omega

/-- The column that the body stores: the second loop's, or the row's first. -/
def stored (s : IVec S128x4224 32) (t v u : IVec S128x1 32) (r : Fin 128) : BitVec 32 :=
  Scalar.select (IntOp.cmpi .sgt (k0_pay1 v (ix2 r 0)) 1#32) (u (ix2 r 0)) (Finset.fold IntOp.minsi 2147483647#32 (fun c : Fin 4224 => k0_pay2 s columns t (ix2 r c)) Finset.univ)

theorem stored_at (s : IVec S128x4224 32) (t v u : IVec S128x1 32) (r : Fin 128) (l : Fin 16) : k0_pay6 s columns t v u (ix2 r l) = stored s t v u r := by
  unfold k0_pay6 stored
  simp only [pointwise]
  rfl

theorem found_at (t : IVec S128x1 32) (r : Fin 128) (l : Fin 16) : k0_pay5 t (ix2 r l) = t (ix2 r 0) := by
  unfold k0_pay5
  simp only [pointwise]
  rfl

end Between

/-! ## A row's answer -/

section Answer

variable {F : FTy → Type} [BitOps F]

theorem answer (x0 : Vec F S128x4224 .f32) (x1 : Vec F S128x33 .f32) (r : Fin 128) {A B : Int} (hAB : B - A < 2147483648)
    (h : Between (fun z => (33 : Int) ≤ upTo (row (keys x0) r) z) A B (lowest x1, highest x1) r) :
    row (keys x0) r (sortedFrom (before (row (keys x0) r)) (32 : Fin 4224)) = (thresh x0 x1 (ix2 r 0)).toInt
      ∧ ((sortedFrom (before (row (keys x0) r)) (32 : Fin 4224)).val : Int) = (stored (keys x0) (thresh x0 x1) (fewer x0 x1) (column x0 x1) r).toInt := by
  obtain ⟨h1, h2, -⟩ : _ ∧ _ ∧ (thresh x0 x1 (ix2 r 0)).toInt ≤ B := loop1_row hAB _ h
  have hT : loop1 (keys x0) (lowest x1, highest x1) = ((loop1 (keys x0) (lowest x1, highest x1)).1, thresh x0 x1) := thresh_eq x0 x1
  have e2 : (loop1 (keys x0) (lowest x1, highest x1)).2 = thresh x0 x1 := congrArg Prod.snd hT
  rw [e2] at h1 h2
  have hf := fewer_row x0 x1 r
  have hcol : column x0 x1 = (loop2 (k0_pay2 (keys x0) columns (thresh x0 x1)) (k0_pay1 (fewer x0 x1)) (k0_pay3, k0_pay4)).2 := column.eq_1 x0 x1
  rw [hcol]
  revert h1 h2 hf
  generalize keys x0 = s
  generalize thresh x0 x1 = t
  generalize fewer x0 x1 = v
  intro h1 h2 hf
  rw [← below_eq] at h2
  have hn : (k0_pay1 v (ix2 r 0)).toInt = 33 - (v (ix2 r 0)).toInt := need_toInt v r (by omega) (by omega)
  have hlast := upTo_last (row s r) (t (ix2 r 0)).toInt
  have hzero : upTo (at_ (row s r) (t (ix2 r 0)).toInt) (-1) = 0 := by
    rw [upTo_at _ _ _ (by omega), Finset.card_eq_zero, Finset.filter_eq_empty_iff]
    intro c _ hc
    omega
  have key : ∀ C : Int, C < 4224 → (k0_pay1 v (ix2 r 0)).toInt ≤ upTo (at_ (row s r) (t (ix2 r 0)).toInt) C → ¬ (k0_pay1 v (ix2 r 0)).toInt ≤ upTo (at_ (row s r) (t (ix2 r 0)).toInt) (C - 1) →
      row s r (sortedFrom (before (row s r)) (32 : Fin 4224)) = (t (ix2 r 0)).toInt ∧ ((sortedFrom (before (row s r)) (32 : Fin 4224)).val : Int) = C := fun C h0 hC hC' =>
    place_of (row s r) (32 : Fin 4224) _ C _ (by rw [hn, hf]; rfl) h0 hC (not_le.mp hC')
  unfold stored
  by_cases hgt : 1 < (k0_pay1 v (ix2 r 0)).toInt
  · rw [show Scalar.select (IntOp.cmpi .sgt (k0_pay1 v (ix2 r 0)) 1#32) ((loop2 (k0_pay2 s columns t) (k0_pay1 v) (k0_pay3, k0_pay4)).2 (ix2 r 0)) (Finset.fold IntOp.minsi 2147483647#32 (fun c : Fin 4224 => k0_pay2 s columns t (ix2 r c)) Finset.univ)
      = (loop2 (k0_pay2 s columns t) (k0_pay1 v) (k0_pay3, k0_pay4)).2 (ix2 r 0) from if_pos (above_one.mpr hgt)]
    have hb : Between (fun z => (k0_pay1 v (ix2 r 0)).toInt ≤ upTo (row (k0_pay2 s columns t) r) z) (-1) 4223 (k0_pay3, k0_pay4) r := by
      have e3 : ((k0_pay3 : IVec S128x1 32) (ix2 r 0)).toInt = -1 := rfl
      have e4 : ((k0_pay4 : IVec S128x1 32) (ix2 r 0)).toInt = 4223 := rfl
      rw [cols_row]
      refine ⟨?_, ?_, ?_, ?_, ?_⟩
      · show ¬ _ ≤ _
        dsimp only
        rw [e3, hzero]
        omega
      · dsimp only
        rw [e4]
        have : ((4224 : Nat) : Int) - 1 = 4223 := rfl
        rw [this] at hlast
        omega
      · show ((k0_pay3 : IVec S128x1 32) (ix2 r 0)).toInt ≤ ((k0_pay4 : IVec S128x1 32) (ix2 r 0)).toInt
        rw [e3, e4]; decide
      · show -1 ≤ ((k0_pay3 : IVec S128x1 32) (ix2 r 0)).toInt
        rw [e3]
      · show ((k0_pay4 : IVec S128x1 32) (ix2 r 0)).toInt ≤ 4223
        rw [e4]
    obtain ⟨g1, g2, g3⟩ := loop2_row (by decide) _ hb hgt
    rw [cols_row] at g1 g2
    exact key _ (by omega) g1 g2
  · rw [show Scalar.select (IntOp.cmpi .sgt (k0_pay1 v (ix2 r 0)) 1#32) ((loop2 (k0_pay2 s columns t) (k0_pay1 v) (k0_pay3, k0_pay4)).2 (ix2 r 0)) (Finset.fold IntOp.minsi 2147483647#32 (fun c : Fin 4224 => k0_pay2 s columns t (ix2 r c)) Finset.univ)
      = Finset.fold IntOp.minsi 2147483647#32 (fun c : Fin 4224 => k0_pay2 s columns t (ix2 r c)) Finset.univ from if_neg (fun e => hgt (above_one.mp e))]
    have hm : ∀ z : Int, z < 2147483647 → ((Finset.fold IntOp.minsi 2147483647#32 (fun c : Fin 4224 => k0_pay2 s columns t (ix2 r c)) Finset.univ).toInt ≤ z ↔ 0 < upTo (at_ (row s r) (t (ix2 r 0)).toInt) z) := fun z hz => by
      rw [fold_min_le _ z hz, ← cols_row]
      unfold upTo
      rw [Finset.card_pos, Finset.filter_nonempty_iff]
      rfl
    revert hm
    generalize Finset.fold IntOp.minsi 2147483647#32 (fun c : Fin 4224 => k0_pay2 s columns t (ix2 r c)) Finset.univ = w
    intro hm
    have hw : w.toInt ≤ 4223 := by
      rw [hm _ (by decide)]
      have : ((4224 : Nat) : Int) - 1 = 4223 := rfl
      rw [this] at hlast
      omega
    have hw1 := (hm w.toInt (by omega)).mp le_rfl
    have hw2 : ¬ 0 < upTo (at_ (row s r) (t (ix2 r 0)).toInt) (w.toInt - 1) := fun h => by
      have := (hm (w.toInt - 1) (by omega)).mpr h
      omega
    exact key _ (by omega) (by omega) (by omega)

end Answer

end Cert.Proof.Thresh

end
-- ==== Proof.ThreshClaims.lean ====
/-
  The threshold call's claims: its frames, what the precondition says of a row, what its reference picks, and the
  equality of the two, bit for bit.
-/
module

public import proofs.«01_k».proof.Defs
public import proofs.«01_k».proof.Proof.GatherClaims
public import proofs.«01_k».proof.Proof.ThreshRows
public import proofs.«01_k».proof.Proof.Gen.Thresh
public import proofs.«01_k».proof.Proof.Gen.Thresh.Points
public import proofs.«01_k».proof.Proof.Gen.ThreshReference
public import proofs.«01_k».proof.Proof.Gen.ThreshReference.Run
public import proofs.«01_k».proof.Proof.Gen.Pre_thresh_pre
public import Idealize.ShloMosaic.Lib.Quiescent
public import Idealize.ShloMosaic.Lib.ReduceAll
public import Idealize.ShloMosaic.Lib.Pipeline.ValueKit.Geometry

@[expose] public section

noncomputable section

namespace Cert.Proof.Thresh

open Idealize.ShloMosaic Idealize.ShloMosaic.TcCoe Idealize.SL.Sem

theorem frame_claim : Cert.quiescent_Thresh := fun m ρ _ => frame_thresh m ρ

theorem frame_claim_pre : Cert.quiescent_Thresh_pre_thresh_pre := fun m ρ _ => frame_thresh m ρ

theorem frame_reference : Cert.quiescent_ThreshReference := fun m ρ _ =>
  (θ_run Cert.ThreshReference.defs _ _).mono (fun r h => ⟨fun c => (h c).2.2, sem_eq_zero_of_no_sems (by decide) r.2⟩)
    (Cert.ThreshReference.Value.run (F := Bits) m ρ)

theorem frame_reference_pre : Cert.quiescent_ThreshReference_pre_thresh_pre := fun m ρ _ => frame_reference m ρ trivial

/-! ## The order of a value's bits -/

def order (w : BitVec 32) : BitVec 32 := Scalar.select (IntOp.cmpi .sge w 0#32) w (IntOp.xori w 2147483647#32)

def clipped (w : BitVec 32) : BitVec 32 := IntOp.minsi (IntOp.maxsi (order w) 4294967294#32) 1900671690#32

theorem minsi_toInt (a b : BitVec 32) : (IntOp.minsi a b).toInt = min a.toInt b.toInt := by
  unfold IntOp.minsi
  split <;> rename_i h <;> simp only [BitVec.slt, BitVec.sle, decide_eq_true_eq] at h <;> omega

theorem maxsi_toInt (a b : BitVec 32) : (IntOp.maxsi a b).toInt = max a.toInt b.toInt := by
  unfold IntOp.maxsi
  split <;> rename_i h <;> simp only [BitVec.slt, BitVec.sle, decide_eq_true_eq] at h <;> omega

theorem clipped_toInt (w : BitVec 32) : (clipped w).toInt = min (max (order w).toInt (-2)) 1900671690 := by
  unfold clipped
  rw [minsi_toInt, maxsi_toInt]
  rfl

/-- The reference's words. -/
theorem clipped_eq (w : BitVec 32) :
    IntOp.minsi 1900671690#32 (IntOp.maxsi 4294967294#32 (Scalar.select (IntOp.cmpi .slt w 0#32) (IntOp.xori w 2147483647#32) w)) = clipped w := by
  have e : Scalar.select (IntOp.cmpi .slt w 0#32) (IntOp.xori w 2147483647#32) w = order w := by
    unfold order Scalar.select
    by_cases h : w.toInt < (0#32 : BitVec 32).toInt
    · exact (if_pos (slt_one.mpr h)).trans (if_neg (fun e => absurd (sge_one.mp e) (by omega))).symm
    · exact (if_neg (fun e => h (slt_one.mp e))).trans (if_pos (sge_one.mpr (by omega))).symm
  rw [e]
  refine BitVec.eq_of_toInt_eq ?_
  rw [clipped_toInt, minsi_toInt, maxsi_toInt, show (1900671690#32 : BitVec 32).toInt = 1900671690 from rfl, show (4294967294#32 : BitVec 32).toInt = -2 from rfl]
  omega

/-- A value's bits. -/
abbrev word (v : Bits .f32) : BitVec 32 := BitOps.toBits v

/-! ## The precondition -/

theorem row_count (b : Fin 4224 → BitVec 1) (p : Fin 4224 → Prop) [DecidablePred p] (hb : ∀ c, b c = 1#1 ↔ p c) (w : Fin 4224 → BitVec 32) (hw : ∀ c, w c = BitVec.setWidth 32 (b c))
    (h : IntOp.cmpi .sge (Finset.fold IntOp.addi 0#32 w Finset.univ) 33#32 = 1#1) : 33 ≤ (Finset.univ.filter p).card := by
  have := sge_one.mp h
  rw [bits_count b p hb w hw, show (33#32 : BitVec 32).toInt = 33 from rfl] at this
  omega

theorem column_of {α : Type} (y : (⟨2, ![1024, 33]⟩ : Shape).Idx → α) (k : Fin 33) (o : Nat) (ho : k.val = o) (h : (⟨2, ![1024, 33]⟩ : Shape).Slices ![0, o] ⟨2, ![1024, 1]⟩) (r : Fin 1024) :
    extractStridedSlice ⟨2, ![1024, 1]⟩ ![0, o] y h (ix2 r 0) = y (ix2 r k) :=
  extractStridedSlice_apply _ _ _ _ _ fun a => by
    match a with
    | ⟨0, _⟩ => exact (Nat.zero_add _).symm
    | ⟨1, _⟩ => exact ho

section Pre

open Cert.Pre_thresh_pre

theorem pre_row (x : FVec Bits S1024x4224 .f32) (y : FVec Bits S1024x33 .f32) (h : Cert.Pre_thresh_pre.fn (F := Bits) x y = fun _ => 1#1) (r : Fin 1024) :
    -2147483648 < (order (word (y (ix2 r 0)))).toInt ∧ (order (word (y (ix2 r 0)))).toInt ≤ 1900671690
      ∧ (∀ c : Fin 4224, (order (word (y (ix2 r 0)))).toInt ≤ (order (word (x (ix2 r c)))).toInt)
      ∧ 33 ≤ (Finset.univ.filter fun c : Fin 4224 => (order (word (x (ix2 r c)))).toInt ≤ (order (word (y (ix2 r 32)))).toInt).card := by
  have : Subsingleton S_.Idx := ⟨fun p q => funext fun a => a.elim0⟩
  rw [← column_of y 0 0 rfl Cert.Pre_thresh_pre.Gen.slices_S1024x33_S1024x1_0_0 r, ← column_of y 32 32 rfl Cert.Pre_thresh_pre.Gen.slices_S1024x33_S1024x1_0_32 r]
  unfold fn fn_part1 fn_part2 fn_where fn_where_0 at h
  dsimp only at h
  revert h
  generalize extractStridedSlice S1024x1 ![0, 0] y Cert.Pre_thresh_pre.Gen.slices_S1024x33_S1024x1_0_0 = z0
  generalize extractStridedSlice S1024x1 ![0, 32] y Cert.Pre_thresh_pre.Gen.slices_S1024x33_S1024x1_0_32 = z32
  intro h
  obtain ⟨e123, e4⟩ := Gather.and_one (congrFun h (fun a => a.elim0))
  obtain ⟨e12, e3⟩ := Gather.and_one e123
  obtain ⟨e1, e2⟩ := Gather.and_one e12
  refine ⟨?_, ?_, fun c => ?_, ?_⟩
  · have f := Host.reduce_andi_all _ _ _ _ _ e1 (ix2 r 0)
    exact sgt_one.mp f
  · have f := Host.reduce_andi_all _ _ _ _ _ e2 (ix2 r 0)
    exact sle_one.mp f
  · have f := Host.reduce_andi_all _ _ _ _ _ e3 (ix2 r c)
    simp only [pointwise] at f
    exact sle_one.mp f
  · have f := Host.reduce_andi_all _ _ _ _ _ e4 (ix1 r)
    simp only [pointwise] at f
    exact row_count (fun c => IntOp.cmpi .sle (order (word (x (ix2 r c)))) (order (word (z32 (ix2 r 0))))) _ (fun c => sle_one) _ (fun c => rfl) f

end Pre

/-! ## What the kernel finds -/

/-- A row's values, and the one at the sort's place 32. -/
def rowKey (X : (⟨2, ![1024, 4224]⟩ : Shape).Idx → Bits .f32) (r : Fin 1024) (c : Fin 4224) : Int := (clipped (word (X (ix2 r c)))).toInt

def place (X : (⟨2, ![1024, 4224]⟩ : Shape).Idx → Bits .f32) (r : Fin 1024) : Fin 4224 := sortedFrom (before (rowKey X r)) (32 : Fin 4224)

def value0 (X : (⟨2, ![1024, 4224]⟩ : Shape).Idx → Bits .f32) : (⟨2, ![1024, 16]⟩ : Shape).Idx → BitVec 32 :=
  fun j => clipped (word (X (ix2 (j 0) (place X (j 0)))))

def value1 (X : (⟨2, ![1024, 4224]⟩ : Shape).Idx → Bits .f32) : (⟨2, ![1024, 16]⟩ : Shape).Idx → BitVec 32 :=
  fun j => BitVec.ofNat 32 (place X (j 0)).val

section Kernel

open Cert.Thresh Cert.Thresh.Gen

theorem zero2 : (![0, 0] : Fin 2 → Nat) = fun _ => 0 := funext fun a => by fin_cases a <;> rfl

theorem keys_at (x0 : Vec Bits S128x4224 .f32) (i : Fin 128) (c : Fin 4224) : keys x0 (ix2 i c) = clipped (word (x0 (ix2 i c))) := by
  unfold keys rAll
  rw [View.ld_unit_zero zero2]
  rfl

theorem lowest_at (x1 : Vec Bits S128x33 .f32) (i : Fin 128) : lowest x1 (ix2 i 0) = IntOp.maxsi (IntOp.subi (order (word (x1 (ix2 i 0)))) 1#32) 4294967293#32 := by
  have e : View.ld x1 rFirst (ix2 i 0) = x1 (ix2 i 0) := View.ld_unit_apply_of x1 _ _ _ _ _ fun a => by
    match a with
    | ⟨0, _⟩ => exact (Nat.zero_add _).symm
    | ⟨1, _⟩ => rfl
  rw [← e]
  rfl

theorem highest_at (x1 : Vec Bits S128x33 .f32) (i : Fin 128) : highest x1 (ix2 i 0) = clipped (word (x1 (ix2 i 32))) := by
  have e : View.ld x1 rLast (ix2 i 0) = x1 (ix2 i 32) := View.ld_unit_apply_of x1 _ _ _ _ _ fun a => by
    match a with
    | ⟨0, _⟩ => exact (Nat.zero_add _).symm
    | ⟨1, _⟩ => rfl
  rw [← e]
  rfl

/-- The ends from which the first loop starts hold the row's answer between them. -/
theorem starts (x0 : Vec Bits S128x4224 .f32) (x1 : Vec Bits S128x33 .f32) (i : Fin 128)
    (h1 : -2147483648 < (order (word (x1 (ix2 i 0)))).toInt) (h2 : (order (word (x1 (ix2 i 0)))).toInt ≤ 1900671690)
    (h3 : ∀ c : Fin 4224, (order (word (x1 (ix2 i 0)))).toInt ≤ (order (word (x0 (ix2 i c)))).toInt)
    (h4 : 33 ≤ (Finset.univ.filter fun c : Fin 4224 => (order (word (x0 (ix2 i c)))).toInt ≤ (order (word (x1 (ix2 i 32)))).toInt).card) :
    Between (fun z => (33 : Int) ≤ upTo (row (keys x0) i) z) (-3) 1900671690 (lowest x1, highest x1) i := by
  have el : (lowest x1 (ix2 i 0)).toInt = max ((order (word (x1 (ix2 i 0)))).toInt - 1) (-3) := by
    rw [lowest_at, maxsi_toInt]
    unfold IntOp.subi
    have b := BitVec.toInt_lt (x := order (word (x1 (ix2 i 0))))
    rw [BitVec.toInt_sub, show (1#32 : BitVec 32).toInt = 1 from rfl, show (4294967293#32 : BitVec 32).toInt = -3 from rfl, Int.bmod_eq_of_le] <;> omega
  have eh : (highest x1 (ix2 i 0)).toInt = min (max (order (word (x1 (ix2 i 32)))).toInt (-2)) 1900671690 := by rw [highest_at, clipped_toInt]
  have ek : ∀ c, row (keys x0) i c = min (max (order (word (x0 (ix2 i c)))).toInt (-2)) 1900671690 := fun c => by
    unfold row
    rw [keys_at, clipped_toInt]
  have hlow : ∀ c, (lowest x1 (ix2 i 0)).toInt < row (keys x0) i c := fun c => by
    have := h3 c
    rw [el, ek]
    omega
  have hyes : 33 ≤ upTo (row (keys x0) i) (highest x1 (ix2 i 0)).toInt := h4.trans (Finset.card_le_card fun c hc => by
    have := (Finset.mem_filter.mp hc).2
    refine Finset.mem_filter.mpr ⟨Finset.mem_univ _, ?_⟩
    rw [ek, eh]
    omega)
  refine ⟨fun h => ?_, ?_, ?_, ?_, ?_⟩
  · have h0 : upTo (row (keys x0) i) (lowest x1 (ix2 i 0)).toInt = 0 := by
      unfold upTo
      rw [Finset.card_eq_zero, Finset.filter_eq_empty_iff]
      intro c _ hc
      exact absurd (hlow c) (not_lt.mpr hc)
    have h' : (33 : Int) ≤ upTo (row (keys x0) i) (lowest x1 (ix2 i 0)).toInt := h
    omega
  · show (33 : Int) ≤ upTo (row (keys x0) i) (highest x1 (ix2 i 0)).toInt
    omega
  · show (lowest x1 (ix2 i 0)).toInt ≤ (highest x1 (ix2 i 0)).toInt
    obtain ⟨c, hc⟩ := Finset.card_pos.mp (lt_of_lt_of_le (by decide : 0 < 33) hyes)
    exact (hlow c).le.trans (Finset.mem_filter.mp hc).2
  · show -3 ≤ (lowest x1 (ix2 i 0)).toInt
    rw [el]; omega
  · show (highest x1 (ix2 i 0)).toInt ≤ 1900671690
    rw [eh]; omega

theorem out0 (x0 : Vec Bits S128x4224 .f32) (x1 : Vec Bits S128x33 .f32) (i : Fin 128) (l : Fin 16) : left0 x0 x1 (ix2 i l) = thresh x0 x1 (ix2 i 0) := by
  rw [left0_eq]
  unfold rOut
  rw [View.canon_unit_zero zero2]
  exact found_at _ i l

theorem out1 (x0 : Vec Bits S128x4224 .f32) (x1 : Vec Bits S128x33 .f32) (i : Fin 128) (l : Fin 16) :
    left1 x0 x1 (ix2 i l) = stored (keys x0) (thresh x0 x1) (fewer x0 x1) (column x0 x1) i := by
  rw [left1_eq]
  unfold rOut
  rw [View.canon_unit_zero zero2]
  exact stored_at _ _ _ _ i l

variable (m : (ℓ : Loc nD τ sig) → Buf (Elt Bits) ℓ) (c : Dev nD)

theorem index0 : ∀ t : Fin (cfg0 (F := Bits)).N, win0_0.index t = ![t.val, 0] := (by decide +kernel : ∀ t : Fin grid0.N, win0_0.index t = ![t.val, 0])
theorem index1 : ∀ t : Fin (cfg0 (F := Bits)).N, win0_1.index t = ![t.val, 0] := (by decide +kernel : ∀ t : Fin grid0.N, win0_1.index t = ![t.val, 0])
theorem index2 : ∀ t : Fin (cfg0 (F := Bits)).N, win0_2.index t = ![t.val, 0] := (by decide +kernel : ∀ t : Fin grid0.N, win0_2.index t = ![t.val, 0])
theorem index3 : ∀ t : Fin (cfg0 (F := Bits)).N, win0_3.index t = ![t.val, 0] := (by decide +kernel : ∀ t : Fin grid0.N, win0_3.index t = ![t.val, 0])

theorem points (t : Fin (cfg0 (F := Bits)).N) : t.val < 8 := t.isLt

/-- The array's row of a block's. -/
def inArray (t : Fin (cfg0 (F := Bits)).N) (i : Fin 128) : Fin 1024 := ⟨t.val * 128 + i.val, by have := points t; omega⟩

theorem block0 (t : Fin (cfg0 (F := Bits)).N) (i : Fin 128) (k : Fin 4224) :
    iblk m c 0 t (ix2 i k) = m ((c : Thread nD τ).loc main_arg0) (ix2 (inArray t i) k) := by
  blk_simp [iblk]
  refine congrArg _ ?_
  blk_ext [index0]
  rfl

theorem block1 (t : Fin (cfg0 (F := Bits)).N) (i : Fin 128) (k : Fin 33) :
    iblk m c 1 t (ix2 i k) = m ((c : Thread nD τ).loc main_arg1) (ix2 (inArray t i) k) := by
  blk_simp [iblk]
  refine congrArg _ ?_
  blk_ext [index1]
  rfl

variable (hpre : Cert.Pre_thresh_pre.fn (F := Bits) (m ((c : Thread nD τ).loc main_arg0)) (m ((c : Thread nD τ).loc main_arg1)) = fun _ => 1#1)
include hpre

theorem block_answer (t : Fin (cfg0 (F := Bits)).N) (i : Fin 128) :
    thresh (iblk m c 0 t) (iblk m c 1 t) (ix2 i 0) = clipped (word (m ((c : Thread nD τ).loc main_arg0) (ix2 (inArray t i) (place (m ((c : Thread nD τ).loc main_arg0)) (inArray t i)))))
      ∧ stored (keys (iblk m c 0 t)) (thresh (iblk m c 0 t) (iblk m c 1 t)) (fewer (iblk m c 0 t) (iblk m c 1 t)) (column (iblk m c 0 t) (iblk m c 1 t)) i
        = BitVec.ofNat 32 (place (m ((c : Thread nD τ).loc main_arg0)) (inArray t i)).val := by
  obtain ⟨p1, p2, p3, p4⟩ := pre_row _ _ hpre (inArray t i)
  have hr : row (keys (iblk m c 0 t)) i = rowKey (m ((c : Thread nD τ).loc main_arg0)) (inArray t i) := funext fun k => by
    unfold row rowKey
    rw [keys_at, block0]
  have hs := starts (iblk m c 0 t) (iblk m c 1 t) i (by rw [block1]; exact p1) (by rw [block1]; exact p2)
    (fun k => by rw [block1, block0]; exact p3 k) (by
      have e : (fun k : Fin 4224 => (order (word (iblk m c 0 t (ix2 i k)))).toInt ≤ (order (word (iblk m c 1 t (ix2 i 32)))).toInt)
          = fun k => (order (word (m ((c : Thread nD τ).loc main_arg0) (ix2 (inArray t i) k)))).toInt ≤ (order (word (m ((c : Thread nD τ).loc main_arg1) (ix2 (inArray t i) 32)))).toInt :=
        funext fun k => by rw [block0, block1]
      simp only [e]
      exact p4)
  obtain ⟨a1, a2⟩ := answer (iblk m c 0 t) (iblk m c 1 t) i (by decide) hs
  rw [hr] at a1 a2
  refine ⟨BitVec.eq_of_toInt_eq a1.symm, BitVec.eq_of_toInt_eq (a2.symm.trans ?_)⟩
  show ((place (m ((c : Thread nD τ).loc main_arg0)) (inArray t i)).val : Int) = _
  have := (place (m ((c : Thread nD τ).loc main_arg0)) (inArray t i)).isLt
  rw [BitVec.toInt_ofNat']
  simp only [Int.bmod_def]
  omega

theorem final2 : (dats m 0 c).arrAt 2 (cfg0 (F := Bits)).N = value0 (m ((c : Thread nD τ).loc main_arg0)) := by
  refine (dats m 0 c).arrAt_eq_of_covers 2 _ (by decide +kernel) fun t hf y => ?_
  blk_simp
  rw [after2]
  obtain ⟨i, l, rfl⟩ : ∃ (i : Fin 128) (l : Fin 16), y = ix2 i l := ⟨y 0, y 1, by funext a; fin_cases a <;> rfl⟩
  refine (out0 _ _ i l).trans ((block_answer m c hpre t i).1.trans ?_)
  unfold value0
  refine congrArg (fun r => clipped (word (m ((c : Thread nD τ).loc main_arg0) (ix2 r (place (m ((c : Thread nD τ).loc main_arg0)) r))))) (Fin.ext ?_)
  unfold inArray
  blk_simp [index2]

theorem final3 : (dats m 0 c).arrAt 3 (cfg0 (F := Bits)).N = value1 (m ((c : Thread nD τ).loc main_arg0)) := by
  refine (dats m 0 c).arrAt_eq_of_covers 3 _ (by decide +kernel) fun t hf y => ?_
  blk_simp
  rw [after3]
  obtain ⟨i, l, rfl⟩ : ∃ (i : Fin 128) (l : Fin 16), y = ix2 i l := ⟨y 0, y 1, by funext a; fin_cases a <;> rfl⟩
  refine (out1 _ _ i l).trans ((block_answer m c hpre t i).2.trans ?_)
  unfold value1
  refine congrArg (fun r => BitVec.ofNat 32 (place (m ((c : Thread nD τ).loc main_arg0)) r).val) (Fin.ext ?_)
  unfold inArray
  blk_simp [index3]

end Kernel

/-! ## What the reference picks -/

section Reference

open Cert.ThreshReference Cert.ThreshReference.Gen

/-- Which of a row's words the stable sort puts at place 32. -/
def nth (x : IVec S1024x4224 32) (r : Fin 1024) : Fin 4224 :=
  sortedFrom (fun k k' => IntOp.cmpi .sgt (x (ix2 r k)) (x (ix2 r k')) == 1#1) (32 : Fin 4224)

theorem along_row (r : Fin 1024) (k c : Fin 4224) : Shape.Idx.along (s := S1024x4224) (ix2 r k) (1 : Fin 2) c = ix2 r c := by
  unfold Shape.Idx.along
  funext a
  match a with
  | ⟨0, _⟩ => rfl
  | ⟨1, _⟩ => rfl

theorem sorted_value (x : IVec S1024x4224 32) (r : Fin 1024) (q : Fin 4224) (f : Fin 4224 → S1024x4224.Idx) (hf : ∀ c, f c = ix2 r c) :
    x (f (sortedFrom (fun k k' => IntOp.cmpi .sgt (x (f k)) (x (f k')) == 1#1) q))
      = x (ix2 r (sortedFrom (fun k k' => IntOp.cmpi .sgt (x (ix2 r k)) (x (ix2 r k')) == 1#1) q)) := by
  obtain rfl : f = fun c => ix2 r c := funext hf
  rfl

theorem sorted_place (x : IVec S1024x4224 32) (r : Fin 1024) (q : Fin 4224) (f : Fin 4224 → S1024x4224.Idx) (hf : ∀ c, f c = ix2 r c) :
    iotaInDim S1024x4224 32 (1 : Fin 2) (f (sortedFrom (fun k k' => IntOp.cmpi .sgt (x (f k)) (x (f k')) == 1#1) q))
      = BitVec.ofNat 32 (sortedFrom (fun k k' => IntOp.cmpi .sgt (x (ix2 r k)) (x (ix2 r k')) == 1#1) q).val := by
  obtain rfl : f = fun c => ix2 r c := funext hf
  rfl

theorem topK_place (x : IVec S1024x4224 32) (r : Fin 1024) :
    (Host.topK S1024x33 1 (IntOp.cmpi .sgt) x sliceFits_S1024x4224_S1024x33).2 (ix2 r 32) = BitVec.ofNat 32 (nth x r).val := by
  unfold Host.topK
  dsimp only
  refine (extractStridedSlice_apply _ _ _ _ (ix2 r (32 : Fin 4224)) fun a => ?_).trans ?_
  · match a with
    | ⟨0, _⟩ => exact (Nat.zero_add _).symm
    | ⟨1, _⟩ => rfl
  · unfold Host.sort2 nth
    rw [dif_pos (by decide)]
    exact sorted_place x r 32 (fun c => Shape.Idx.along (s := S1024x4224) (ix2 r 32) (1 : Fin 2) c) (along_row r _)

theorem topK_value (x : IVec S1024x4224 32) (r : Fin 1024) :
    (Host.topK S1024x33 1 (IntOp.cmpi .sgt) x sliceFits_S1024x4224_S1024x33).1 (ix2 r 32) = x (ix2 r (nth x r)) := by
  unfold Host.topK
  dsimp only
  refine (extractStridedSlice_apply _ _ _ _ (ix2 r (32 : Fin 4224)) fun a => ?_).trans ?_
  · match a with
    | ⟨0, _⟩ => exact (Nat.zero_add _).symm
    | ⟨1, _⟩ => rfl
  · unfold Host.sort2 nth
    rw [dif_pos (by decide)]
    exact sorted_value x r 32 (fun c => Shape.Idx.along (s := S1024x4224) (ix2 r 32) (1 : Fin 2) c) (along_row r _)

/-- The reference's negated words. -/
def words (x : FVec Bits S1024x4224 .f32) : IVec S1024x4224 32 :=
  negi (minsi (broadcastInDim S1024x4224 ![] bcast_S_S1024x4224 (id (constantI S_ 32 1900671690#32))) (maxsi (broadcastInDim S1024x4224 ![] bcast_S_S1024x4224 (id (constantI S_ 32 4294967294#32)))
    (select (cmpi .slt (bitcastToInt x) (broadcastInDim S1024x4224 ![] bcast_S_S1024x4224 (constantI S_ 32 0#32)))
      (xori (bitcastToInt x) (broadcastInDim S1024x4224 ![] bcast_S_S1024x4224 (constantI S_ 32 2147483647#32))) (bitcastToInt x))))

theorem words_at (x : FVec Bits S1024x4224 .f32) (r : Fin 1024) (c : Fin 4224) : words x (ix2 r c) = -(clipped (word (x (ix2 r c)))) := by
  rw [← clipped_eq]
  rfl

theorem neg_toInt (w : BitVec 32) : (-(clipped w)).toInt = -(clipped w).toInt := by
  have e := clipped_toInt w
  rw [BitVec.toInt_neg, Int.bmod_eq_of_le] <;> omega

theorem nth_words (x : FVec Bits S1024x4224 .f32) (r : Fin 1024) : nth (words x) r = place x r := by
  unfold place
  rw [← sortedFrom_values (rowKey x r) _ fun c d => ?_]
  · rfl
  · show (IntOp.cmpi .sgt (words x (ix2 r c)) (words x (ix2 r d)) == 1#1) = _
    have e : IntOp.cmpi .sgt (words x (ix2 r c)) (words x (ix2 r d)) = 1#1 ↔ rowKey x r c < rowKey x r d := by
      rw [sgt_one, words_at, words_at, neg_toInt, neg_toInt]
      unfold rowKey
      omega
    by_cases h : rowKey x r c < rowKey x r d
    · rw [e.mpr h, decide_eq_true h]
      rfl
    · rw [decide_eq_false h]
      exact beq_false_of_ne (fun h' => h (e.mp h'))

theorem reference0 (x : FVec Bits S1024x4224 .f32) :
    broadcastInDim S1024x16 ![0, 1] bcast_S1024x1_S1024x16_0_1 (negi (extractStridedSlice S1024x1 ![0, 32] ((Host.topK S1024x33 1 (IntOp.cmpi .sgt) (words x) sliceFits_S1024x4224_S1024x33).1)
      slices_S1024x33_S1024x1_0_32)) = value0 x := by
  funext j
  obtain ⟨r, l, rfl⟩ : ∃ (r : Fin 1024) (l : Fin 16), j = ix2 r l := ⟨j 0, j 1, by funext a; fin_cases a <;> rfl⟩
  refine (show _ = -((Host.topK S1024x33 1 (IntOp.cmpi .sgt) (words x) sliceFits_S1024x4224_S1024x33).1 (ix2 r 32)) from ?_).trans ?_
  · generalize (Host.topK S1024x33 1 (IntOp.cmpi .sgt) (words x) sliceFits_S1024x4224_S1024x33).1 = y
    rw [← column_of y 32 32 rfl slices_S1024x33_S1024x1_0_32 r]
    generalize extractStridedSlice S1024x1 ![0, 32] y slices_S1024x33_S1024x1_0_32 = z
    simp only [pointwise]
    rfl
  · rw [topK_value, nth_words, words_at]
    exact BitVec.neg_neg

theorem reference1 (x : FVec Bits S1024x4224 .f32) :
    broadcastInDim S1024x16 ![0, 1] bcast_S1024x1_S1024x16_0_1 (extractStridedSlice S1024x1 ![0, 32] ((Host.topK S1024x33 1 (IntOp.cmpi .sgt) (words x) sliceFits_S1024x4224_S1024x33).2)
      slices_S1024x33_S1024x1_0_32) = value1 x := by
  funext j
  obtain ⟨r, l, rfl⟩ : ∃ (r : Fin 1024) (l : Fin 16), j = ix2 r l := ⟨j 0, j 1, by funext a; fin_cases a <;> rfl⟩
  refine (show _ = (Host.topK S1024x33 1 (IntOp.cmpi .sgt) (words x) sliceFits_S1024x4224_S1024x33).2 (ix2 r 32) from ?_).trans ?_
  · generalize (Host.topK S1024x33 1 (IntOp.cmpi .sgt) (words x) sliceFits_S1024x4224_S1024x33).2 = y
    rw [← column_of y 32 32 rfl slices_S1024x33_S1024x1_0_32 r]
    generalize extractStridedSlice S1024x1 ![0, 32] y slices_S1024x33_S1024x1_0_32 = z
    simp only [pointwise]
    rfl
  · rw [topK_place, nth_words]
    rfl

end Reference

theorem bitexact : Cert.bitexact_Thresh_ThreshReference_pre_thresh_pre := by
  intro m ρ m' ρ' hpre hin
  refine ⟨fun c => value0 (m ((c : Thread Cert.Thresh.nD Cert.Thresh.τ).loc Cert.Thresh.main_arg0)), fun c => value1 (m ((c : Thread Cert.Thresh.nD Cert.Thresh.τ).loc Cert.Thresh.main_arg0)), ?_, ?_⟩
  · refine (θ_run Cert.Thresh.defs _ _).mono (fun r h c => ?_) (run_main (F := Bits) m ρ)
    exact ⟨((h c).1 2).trans (final2 m c (hpre c)), ((h c).1 3).trans (final3 m c (hpre c)),
      ((h c).1 0).trans (((dats m 0 c).arrAt_in 0 rfl _).trans (A_eq m c 0)), ((h c).1 1).trans (((dats m 0 c).arrAt_in 1 rfl _).trans (A_eq m c 1))⟩
  · refine (θ_run Cert.ThreshReference.defs _ _).mono (fun r h c => ?_) (Cert.ThreshReference.Value.run (F := Bits) m' ρ')
    obtain ⟨h0, h1, hargs⟩ := h c
    refine ⟨h0.trans ?_, h1.trans ?_, hargs⟩
    · rw [(hin c).1]
      exact reference0 _
    · rw [(hin c).1]
      exact reference1 _

end Cert.Proof.Thresh

end
-- ==== Proof.lean ====
/-
  The claims of the five calls: the frames of the kernels and of the references, that the gather and its reference leave
  one gathered value (Proof/GatherClaims.lean), that the vote and its reference leave the same shares bit for bit
  (Proof/VoteClaims.lean), that the distances and the selection are equal to their references over the extended reals
  (Proof/DistClaims.lean, Proof/SelectClaims.lean), and that the threshold call and its reference leave the same values and
  columns bit for bit (Proof/ThreshClaims.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pre
public import proofs.«01_k».proof.Proof.GatherClaims
public import proofs.«01_k».proof.Proof.VoteClaims
public import proofs.«01_k».proof.Proof.DistClaims
public import proofs.«01_k».proof.Proof.SelectClaims
public import proofs.«01_k».proof.Proof.ThreshClaims
public import proofs.«01_k».proof.Proof.Gen.Vote
public import proofs.«01_k».proof.Proof.Gen.Vote.Skeleton
public import proofs.«01_k».proof.Proof.Gen.VoteReference
public import proofs.«01_k».proof.Proof.Gen.VoteReference.Frame
public import proofs.«01_k».proof.Proof.Gen.Pre_vote_pre
public import proofs.«01_k».proof.Proof.Gen.Dist
public import proofs.«01_k».proof.Proof.Gen.Dist.Frame
public import proofs.«01_k».proof.Proof.Gen.DistIdeal
public import proofs.«01_k».proof.Proof.Gen.DistIdeal.Frame
public import proofs.«01_k».proof.Proof.Gen.DistIdeal.Value
public import proofs.«01_k».proof.Proof.Gen.DistReferenceIdeal
public import proofs.«01_k».proof.Proof.Gen.DistReferenceIdeal.Run
public import proofs.«01_k».proof.Proof.Gen.Select
public import proofs.«01_k».proof.Proof.Gen.Select.Frame
public import proofs.«01_k».proof.Proof.Gen.SelectIdeal
public import proofs.«01_k».proof.Proof.Gen.SelectIdeal.Frame
public import proofs.«01_k».proof.Proof.Gen.SelectIdeal.Value
public import proofs.«01_k».proof.Proof.Gen.SelectReferenceIdeal
public import proofs.«01_k».proof.Proof.Gen.SelectReferenceIdeal.Run
public import proofs.«01_k».proof.Proof.Gen.Pre_select_pre
public import proofs.«01_k».proof.Proof.Gen.Thresh
public import proofs.«01_k».proof.Proof.Gen.Thresh.Skeleton
public import proofs.«01_k».proof.Proof.Gen.Thresh.Launch
public import proofs.«01_k».proof.Proof.Gen.Thresh.Points
public import proofs.«01_k».proof.Proof.Gen.ThreshReference
public import proofs.«01_k».proof.Proof.Gen.ThreshReference.Run
public import proofs.«01_k».proof.Proof.Gen.Pre_thresh_pre
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Vote.Gen.facts,
  Cert.VoteReference.Gen.facts, Cert.Dist.Gen.facts, Cert.DistIdeal.Gen.facts, Cert.DistReferenceIdeal.Gen.facts, Cert.Select.Gen.facts,
  Cert.SelectIdeal.Gen.facts, Cert.SelectReferenceIdeal.Gen.facts, Cert.Thresh.Gen.facts,
  Cert.ThreshReference.Gen.facts, Cert.Pre_pre.Gen.facts, Cert.Pre_vote_pre.Gen.facts,
  Cert.Pre_select_pre.Gen.facts, Cert.Pre_thresh_pre.Gen.facts, Gather.frame_kernel, Gather.frame_ideal, Gather.frame_reference, Vote.frame_vote, Vote.frame_voteReference,
  Dist.frame_dist, Dist.frame_ideal, Dist.frame_reference, Select.frame_select, Select.frame_ideal,
  Select.frame_reference, Thresh.frame_claim, Thresh.frame_claim_pre, Thresh.frame_reference, Thresh.frame_reference_pre, trivial, Gather.refs_agree, Vote.bitexact, trivial, Dist.algebraic, trivial, Select.algebraic, Thresh.bitexact⟩

end Cert.Proof

end
